-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_RefSquareDxIdeal (m : (ℓ : Loc Cert.RefSquareDxIdeal.nD Cert.RefSquareDxIdeal.τ Cert.RefSquareDxIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_WideDx (m : (ℓ : Loc Cert.WideDx.nD Cert.WideDx.τ Cert.WideDx.sig) → Buf (Elt Bits) ℓ) : Prop :=
  True

def Pre_WideDxIdeal (m : (ℓ : Loc Cert.WideDxIdeal.nD Cert.WideDxIdeal.τ Cert.WideDxIdeal.sig) → Buf (Elt Ideal) ℓ) : Prop :=
  True

def Pre_RefWideDxIdeal (m : (ℓ : Loc Cert.RefWideDxIdeal.nD Cert.RefWideDxIdeal.τ Cert.RefWideDxIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwIdeal_square_core [hPre_square_core : Cert.Pre_square_core.Facts] (m : (ℓ : Loc Cert.SquareDwIdeal.nD Cert.SquareDwIdeal.τ Cert.SquareDwIdeal.sig) → Buf (Elt Ideal) ℓ) : Prop :=
  ∀ c : Dev Cert.SquareDwIdeal.nD,
    (Cert.Pre_square_core.fn (F := Ideal) (m ((c.tc : Thread Cert.SquareDwIdeal.nD Cert.SquareDwIdeal.τ).loc Cert.SquareDwIdeal.main_arg0)) (m ((c.tc : Thread Cert.SquareDwIdeal.nD Cert.SquareDwIdeal.τ).loc Cert.SquareDwIdeal.main_arg1)) (m ((c.tc : Thread Cert.SquareDwIdeal.nD Cert.SquareDwIdeal.τ).loc Cert.SquareDwIdeal.main_arg2))) = (fun _ => 1#1)

def Pre_RefSquareDwIdeal (m : (ℓ : Loc Cert.RefSquareDwIdeal.nD Cert.RefSquareDwIdeal.τ Cert.RefSquareDwIdeal.sig) → Buf (Elt Ideal) ℓ) : Prop :=
  True

def Pre_RefSquareDwIdeal_square_core [hPre_square_core : Cert.Pre_square_core.Facts] (m : (ℓ : Loc Cert.RefSquareDwIdeal.nD Cert.RefSquareDwIdeal.τ Cert.RefSquareDwIdeal.sig) → Buf (Elt Ideal) ℓ) : Prop :=
  ∀ c : Dev Cert.RefSquareDwIdeal.nD,
    (Cert.Pre_square_core.fn (F := Ideal) (m ((c.tc : Thread Cert.RefSquareDwIdeal.nD Cert.RefSquareDwIdeal.τ).loc Cert.RefSquareDwIdeal.main_arg0)) (m ((c.tc : Thread Cert.RefSquareDwIdeal.nD Cert.RefSquareDwIdeal.τ).loc Cert.RefSquareDwIdeal.main_arg1)) (m ((c.tc : Thread Cert.RefSquareDwIdeal.nD Cert.RefSquareDwIdeal.τ).loc Cert.RefSquareDwIdeal.main_arg2))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwIdeal_down_core [hPre_down_core : Cert.Pre_down_core.Facts] (m : (ℓ : Loc Cert.DownDwIdeal.nD Cert.DownDwIdeal.τ Cert.DownDwIdeal.sig) → Buf (Elt Ideal) ℓ) : Prop :=
  ∀ c : Dev Cert.DownDwIdeal.nD,
    (Cert.Pre_down_core.fn (F := Ideal) (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)) (m ((c.tc : Thread Cert.DownDwIdeal.nD Cert.DownDwIdeal.τ).loc Cert.DownDwIdeal.main_arg2))) = (fun _ => 1#1)

def Pre_RefDownDwIdeal (m : (ℓ : Loc Cert.RefDownDwIdeal.nD Cert.RefDownDwIdeal.τ Cert.RefDownDwIdeal.sig) → Buf (Elt Ideal) ℓ) : Prop :=
  True

def Pre_RefDownDwIdeal_down_core [hPre_down_core : Cert.Pre_down_core.Facts] (m : (ℓ : Loc Cert.RefDownDwIdeal.nD Cert.RefDownDwIdeal.τ Cert.RefDownDwIdeal.sig) → Buf (Elt Ideal) ℓ) : Prop :=
  ∀ c : Dev Cert.RefDownDwIdeal.nD,
    (Cert.Pre_down_core.fn (F := Ideal) (m ((c.tc : Thread Cert.RefDownDwIdeal.nD Cert.RefDownDwIdeal.τ).loc Cert.RefDownDwIdeal.main_arg0)) (m ((c.tc : Thread Cert.RefDownDwIdeal.nD Cert.RefDownDwIdeal.τ).loc Cert.RefDownDwIdeal.main_arg1)) (m ((c.tc : Thread Cert.RefDownDwIdeal.nD Cert.RefDownDwIdeal.τ).loc Cert.RefDownDwIdeal.main_arg2))) = (fun _ => 1#1)

def Pre_WideDw (m : (ℓ : Loc Cert.WideDw.nD Cert.WideDw.τ Cert.WideDw.sig) → Buf (Elt Bits) ℓ) : Prop :=
  True

def Pre_WideDwIdeal (m : (ℓ : Loc Cert.WideDwIdeal.nD Cert.WideDwIdeal.τ Cert.WideDwIdeal.sig) → Buf (Elt Ideal) ℓ) : Prop :=
  True

def Pre_WideDwIdeal_wide_core [hPre_wide_core : Cert.Pre_wide_core.Facts] (m : (ℓ : Loc Cert.WideDwIdeal.nD Cert.WideDwIdeal.τ Cert.WideDwIdeal.sig) → Buf (Elt Ideal) ℓ) : Prop :=
  ∀ c : Dev Cert.WideDwIdeal.nD,
    (Cert.Pre_wide_core.fn (F := Ideal) (m ((c.tc : Thread Cert.WideDwIdeal.nD Cert.WideDwIdeal.τ).loc Cert.WideDwIdeal.main_arg0)) (m ((c.tc : Thread Cert.WideDwIdeal.nD Cert.WideDwIdeal.τ).loc Cert.WideDwIdeal.main_arg1)) (m ((c.tc : Thread Cert.WideDwIdeal.nD Cert.WideDwIdeal.τ).loc Cert.WideDwIdeal.main_arg2))) = (fun _ => 1#1)

def Pre_RefWideDwIdeal (m : (ℓ : Loc Cert.RefWideDwIdeal.nD Cert.RefWideDwIdeal.τ Cert.RefWideDwIdeal.sig) → Buf (Elt Ideal) ℓ) : Prop :=
  True

def Pre_RefWideDwIdeal_wide_core [hPre_wide_core : Cert.Pre_wide_core.Facts] (m : (ℓ : Loc Cert.RefWideDwIdeal.nD Cert.RefWideDwIdeal.τ Cert.RefWideDwIdeal.sig) → Buf (Elt Ideal) ℓ) : Prop :=
  ∀ c : Dev Cert.RefWideDwIdeal.nD,
    (Cert.Pre_wide_core.fn (F := Ideal) (m ((c.tc : Thread Cert.RefWideDwIdeal.nD Cert.RefWideDwIdeal.τ).loc Cert.RefWideDwIdeal.main_arg0)) (m ((c.tc : Thread Cert.RefWideDwIdeal.nD Cert.RefWideDwIdeal.τ).loc Cert.RefWideDwIdeal.main_arg1)) (m ((c.tc : Thread Cert.RefWideDwIdeal.nD Cert.RefWideDwIdeal.τ).loc Cert.RefWideDwIdeal.main_arg2))) = (fun _ => 1#1)

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_RefSquareIdeal (m : (ℓ : Loc Cert.RefSquareIdeal.nD Cert.RefSquareIdeal.τ Cert.RefSquareIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_RefWideIdeal (m : (ℓ : Loc Cert.RefWideIdeal.nD Cert.RefWideIdeal.τ Cert.RefWideIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_RefSwigluBwdIdeal (m : (ℓ : Loc Cert.RefSwigluBwdIdeal.nD Cert.RefSwigluBwdIdeal.τ Cert.RefSwigluBwdIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_RefMergeBwdIdeal (m : (ℓ : Loc Cert.RefMergeBwdIdeal.nD Cert.RefMergeBwdIdeal.τ Cert.RefMergeBwdIdeal.sig) → Buf (Elt Ideal) ℓ) : Prop :=
  True

def Pre_ModulateBwd (m : (ℓ : Loc Cert.ModulateBwd.nD Cert.ModulateBwd.τ Cert.ModulateBwd.sig) → Buf (Elt Bits) ℓ) : Prop :=
  True

def Pre_ModulateBwdIdeal (m : (ℓ : Loc Cert.ModulateBwdIdeal.nD Cert.ModulateBwdIdeal.τ Cert.ModulateBwdIdeal.sig) → Buf (Elt Ideal) ℓ) : Prop :=
  True

def Pre_RefModulateBwdIdeal (m : (ℓ : Loc Cert.RefModulateBwdIdeal.nD Cert.RefModulateBwdIdeal.τ Cert.RefModulateBwdIdeal.sig) → Buf (Elt Ideal) ℓ) : Prop :=
  True

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_RefQkvBwdIdeal (m : (ℓ : Loc Cert.RefQkvBwdIdeal.nD Cert.RefQkvBwdIdeal.τ Cert.RefQkvBwdIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_RefSwigluIdeal (m : (ℓ : Loc Cert.RefSwigluIdeal.nD Cert.RefSwigluIdeal.τ Cert.RefSwigluIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_RefModulateIdeal (m : (ℓ : Loc Cert.RefModulateIdeal.nD Cert.RefModulateIdeal.τ Cert.RefModulateIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_RefResLnIdeal (m : (ℓ : Loc Cert.RefResLnIdeal.nD Cert.RefResLnIdeal.τ Cert.RefResLnIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_scores [hPre_finite_scores : Cert.Pre_finite_scores.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_scores.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ r.2.sem = fun _ => 0)

def quiescent_RefSquareDxIdeal [hRefSquareDxIdeal : Cert.RefSquareDxIdeal.Facts] : Prop :=
  ∀ (m : (ℓ : Loc Cert.RefSquareDxIdeal.nD Cert.RefSquareDxIdeal.τ Cert.RefSquareDxIdeal.sig) → Buf (Elt Ideal) ℓ) (g : Dev Cert.RefSquareDxIdeal.nD → PrngReg), Pre_RefSquareDxIdeal m →
    θ_run (Cert.RefSquareDxIdeal.defs (F := Ideal)) (onTc (τ := Cert.RefSquareDxIdeal.τ) (Cert.RefSquareDxIdeal.main (F := Ideal))) ⟨m, fun _ => 0, g⟩ (fun r => (∀ c : Dev Cert.RefSquareDxIdeal.nD,
      r.2.mem ((c.tc : Thread Cert.RefSquareDxIdeal.nD Cert.RefSquareDxIdeal.τ).loc Cert.RefSquareDxIdeal.main_arg0) = m ((c.tc : Thread Cert.RefSquareDxIdeal.nD Cert.RefSquareDxIdeal.τ).loc Cert.RefSquareDxIdeal.main_arg0)
      ∧ r.2.mem ((c.tc : Thread Cert.RefSquareDxIdeal.nD Cert.RefSquareDxIdeal.τ).loc Cert.RefSquareDxIdeal.main_arg1) = m ((c.tc : Thread Cert.RefSquareDxIdeal.nD Cert.RefSquareDxIdeal.τ).loc Cert.RefSquareDxIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_WideDx [hWideDx : Cert.WideDx.Facts] : Prop :=
  ∀ (m : (ℓ : Loc Cert.WideDx.nD Cert.WideDx.τ Cert.WideDx.sig) → Buf (Elt Bits) ℓ) (g : Dev Cert.WideDx.nD → PrngReg), Pre_WideDx m →
    θ_run (Cert.WideDx.defs (F := Bits)) (onTc (τ := Cert.WideDx.τ) (Cert.WideDx.main (F := Bits))) ⟨m, fun _ => 0, g⟩ (fun r => (∀ c : Dev Cert.WideDx.nD,
      r.2.mem ((c.tc : Thread Cert.WideDx.nD Cert.WideDx.τ).loc Cert.WideDx.main_arg0) = m ((c.tc : Thread Cert.WideDx.nD Cert.WideDx.τ).loc Cert.WideDx.main_arg0)
      ∧ r.2.mem ((c.tc : Thread Cert.WideDx.nD Cert.WideDx.τ).loc Cert.WideDx.main_arg1) = m ((c.tc : Thread Cert.WideDx.nD Cert.WideDx.τ).loc Cert.WideDx.main_arg1))
      ∧ r.2.sem = fun _ => 0)

def quiescent_WideDxIdeal [hWideDxIdeal : Cert.WideDxIdeal.Facts] : Prop :=
  ∀ (m : (ℓ : Loc Cert.WideDxIdeal.nD Cert.WideDxIdeal.τ Cert.WideDxIdeal.sig) → Buf (Elt Ideal) ℓ) (g : Dev Cert.WideDxIdeal.nD → PrngReg), Pre_WideDxIdeal m →
    θ_run (Cert.WideDxIdeal.defs (F := Ideal)) (onTc (τ := Cert.WideDxIdeal.τ) (Cert.WideDxIdeal.main (F := Ideal))) ⟨m, fun _ => 0, g⟩ (fun r => (∀ c : Dev Cert.WideDxIdeal.nD,
      r.2.mem ((c.tc : Thread Cert.WideDxIdeal.nD Cert.WideDxIdeal.τ).loc Cert.WideDxIdeal.main_arg0) = m ((c.tc : Thread Cert.WideDxIdeal.nD Cert.WideDxIdeal.τ).loc Cert.WideDxIdeal.main_arg0)
      ∧ r.2.mem ((c.tc : Thread Cert.WideDxIdeal.nD Cert.WideDxIdeal.τ).loc Cert.WideDxIdeal.main_arg1) = m ((c.tc : Thread Cert.WideDxIdeal.nD Cert.WideDxIdeal.τ).loc Cert.WideDxIdeal.main_arg1))
      ∧ r.2.sem = fun _ => 0)

def quiescent_RefWideDxIdeal [hRefWideDxIdeal : Cert.RefWideDxIdeal.Facts] : Prop :=
  ∀ (m : (ℓ : Loc Cert.RefWideDxIdeal.nD Cert.RefWideDxIdeal.τ Cert.RefWideDxIdeal.sig) → Buf (Elt Ideal) ℓ) (g : Dev Cert.RefWideDxIdeal.nD → PrngReg), Pre_RefWideDxIdeal m →
    θ_run (Cert.RefWideDxIdeal.defs (F := Ideal)) (onTc (τ := Cert.RefWideDxIdeal.τ) (Cert.RefWideDxIdeal.main (F := Ideal))) ⟨m, fun _ => 0, g⟩ (fun r => (∀ c : Dev Cert.RefWideDxIdeal.nD,
      r.2.mem ((c.tc : Thread Cert.RefWideDxIdeal.nD Cert.RefWideDxIdeal.τ).loc Cert.RefWideDxIdeal.main_arg0) = m ((c.tc : Thread Cert.RefWideDxIdeal.nD Cert.RefWideDxIdeal.τ).loc Cert.RefWideDxIdeal.main_arg0)
      ∧ r.2.mem ((c.tc : Thread Cert.RefWideDxIdeal.nD Cert.RefWideDxIdeal.τ).loc Cert.RefWideDxIdeal.main_arg1) = m ((c.tc : Thread Cert.RefWideDxIdeal.nD Cert.RefWideDxIdeal.τ).loc Cert.RefWideDxIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1)
      ∧ r.2.mem ((c.tc : Thread Cert.SquareDw.nD Cert.SquareDw.τ).loc Cert.SquareDw.main_arg2) = m ((c.tc : Thread Cert.SquareDw.nD Cert.SquareDw.τ).loc Cert.SquareDw.main_arg2))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
      ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2))
      ∧ r.2.sem = fun _ => 0)

def quiescent_SquareDwIdeal_pre_square_core [hSquareDwIdeal : Cert.SquareDwIdeal.Facts] [hPre_square_core : Cert.Pre_square_core.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal_square_core m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
      ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2))
      ∧ r.2.sem = fun _ => 0)

def quiescent_RefSquareDwIdeal [hRefSquareDwIdeal : Cert.RefSquareDwIdeal.Facts] : Prop :=
  ∀ (m : (ℓ : Loc Cert.RefSquareDwIdeal.nD Cert.RefSquareDwIdeal.τ Cert.RefSquareDwIdeal.sig) → Buf (Elt Ideal) ℓ) (g : Dev Cert.RefSquareDwIdeal.nD → PrngReg), Pre_RefSquareDwIdeal m →
    θ_run (Cert.RefSquareDwIdeal.defs (F := Ideal)) (onTc (τ := Cert.RefSquareDwIdeal.τ) (Cert.RefSquareDwIdeal.main (F := Ideal))) ⟨m, fun _ => 0, g⟩ (fun r => (∀ c : Dev Cert.RefSquareDwIdeal.nD,
      r.2.mem ((c.tc : Thread Cert.RefSquareDwIdeal.nD Cert.RefSquareDwIdeal.τ).loc Cert.RefSquareDwIdeal.main_arg0) = m ((c.tc : Thread Cert.RefSquareDwIdeal.nD Cert.RefSquareDwIdeal.τ).loc Cert.RefSquareDwIdeal.main_arg0)
      ∧ r.2.mem ((c.tc : Thread Cert.RefSquareDwIdeal.nD Cert.RefSquareDwIdeal.τ).loc Cert.RefSquareDwIdeal.main_arg1) = m ((c.tc : Thread Cert.RefSquareDwIdeal.nD Cert.RefSquareDwIdeal.τ).loc Cert.RefSquareDwIdeal.main_arg1)
      ∧ r.2.mem ((c.tc : Thread Cert.RefSquareDwIdeal.nD Cert.RefSquareDwIdeal.τ).loc Cert.RefSquareDwIdeal.main_arg2) = m ((c.tc : Thread Cert.RefSquareDwIdeal.nD Cert.RefSquareDwIdeal.τ).loc Cert.RefSquareDwIdeal.main_arg2))
      ∧ r.2.sem = fun _ => 0)

def quiescent_RefSquareDwIdeal_pre_square_core [hRefSquareDwIdeal : Cert.RefSquareDwIdeal.Facts] [hPre_square_core : Cert.Pre_square_core.Facts] : Prop :=
  ∀ (m : (ℓ : Loc Cert.RefSquareDwIdeal.nD Cert.RefSquareDwIdeal.τ Cert.RefSquareDwIdeal.sig) → Buf (Elt Ideal) ℓ) (g : Dev Cert.RefSquareDwIdeal.nD → PrngReg), Pre_RefSquareDwIdeal_square_core m →
    θ_run (Cert.RefSquareDwIdeal.defs (F := Ideal)) (onTc (τ := Cert.RefSquareDwIdeal.τ) (Cert.RefSquareDwIdeal.main (F := Ideal))) ⟨m, fun _ => 0, g⟩ (fun r => (∀ c : Dev Cert.RefSquareDwIdeal.nD,
      r.2.mem ((c.tc : Thread Cert.RefSquareDwIdeal.nD Cert.RefSquareDwIdeal.τ).loc Cert.RefSquareDwIdeal.main_arg0) = m ((c.tc : Thread Cert.RefSquareDwIdeal.nD Cert.RefSquareDwIdeal.τ).loc Cert.RefSquareDwIdeal.main_arg0)
      ∧ r.2.mem ((c.tc : Thread Cert.RefSquareDwIdeal.nD Cert.RefSquareDwIdeal.τ).loc Cert.RefSquareDwIdeal.main_arg1) = m ((c.tc : Thread Cert.RefSquareDwIdeal.nD Cert.RefSquareDwIdeal.τ).loc Cert.RefSquareDwIdeal.main_arg1)
      ∧ r.2.mem ((c.tc : Thread Cert.RefSquareDwIdeal.nD Cert.RefSquareDwIdeal.τ).loc Cert.RefSquareDwIdeal.main_arg2) = m ((c.tc : Thread Cert.RefSquareDwIdeal.nD Cert.RefSquareDwIdeal.τ).loc Cert.RefSquareDwIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwIdeal_pre_down_core [hDownDwIdeal : Cert.DownDwIdeal.Facts] [hPre_down_core : Cert.Pre_down_core.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal_down_core m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1)
      ∧ r.2.mem ((c.tc : Thread Cert.RefDownDwIdeal.nD Cert.RefDownDwIdeal.τ).loc Cert.RefDownDwIdeal.main_arg2) = m ((c.tc : Thread Cert.RefDownDwIdeal.nD Cert.RefDownDwIdeal.τ).loc Cert.RefDownDwIdeal.main_arg2))
      ∧ r.2.sem = fun _ => 0)

def quiescent_RefDownDwIdeal_pre_down_core [hRefDownDwIdeal : Cert.RefDownDwIdeal.Facts] [hPre_down_core : Cert.Pre_down_core.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal_down_core m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1)
      ∧ r.2.mem ((c.tc : Thread Cert.RefDownDwIdeal.nD Cert.RefDownDwIdeal.τ).loc Cert.RefDownDwIdeal.main_arg2) = m ((c.tc : Thread Cert.RefDownDwIdeal.nD Cert.RefDownDwIdeal.τ).loc Cert.RefDownDwIdeal.main_arg2))
      ∧ r.2.sem = fun _ => 0)

def quiescent_WideDw [hWideDw : Cert.WideDw.Facts] : Prop :=
  ∀ (m : (ℓ : Loc Cert.WideDw.nD Cert.WideDw.τ Cert.WideDw.sig) → Buf (Elt Bits) ℓ) (g : Dev Cert.WideDw.nD → PrngReg), Pre_WideDw m →
    θ_run (Cert.WideDw.defs (F := Bits)) (onTc (τ := Cert.WideDw.τ) (Cert.WideDw.main (F := Bits))) ⟨m, fun _ => 0, g⟩ (fun r => (∀ c : Dev Cert.WideDw.nD,
      r.2.mem ((c.tc : Thread Cert.WideDw.nD Cert.WideDw.τ).loc Cert.WideDw.main_arg0) = m ((c.tc : Thread Cert.WideDw.nD Cert.WideDw.τ).loc Cert.WideDw.main_arg0)
      ∧ r.2.mem ((c.tc : Thread Cert.WideDw.nD Cert.WideDw.τ).loc Cert.WideDw.main_arg1) = m ((c.tc : Thread Cert.WideDw.nD Cert.WideDw.τ).loc Cert.WideDw.main_arg1)
      ∧ r.2.mem ((c.tc : Thread Cert.WideDw.nD Cert.WideDw.τ).loc Cert.WideDw.main_arg2) = m ((c.tc : Thread Cert.WideDw.nD Cert.WideDw.τ).loc Cert.WideDw.main_arg2))
      ∧ r.2.sem = fun _ => 0)

def quiescent_WideDwIdeal [hWideDwIdeal : Cert.WideDwIdeal.Facts] : Prop :=
  ∀ (m : (ℓ : Loc Cert.WideDwIdeal.nD Cert.WideDwIdeal.τ Cert.WideDwIdeal.sig) → Buf (Elt Ideal) ℓ) (g : Dev Cert.WideDwIdeal.nD → PrngReg), Pre_WideDwIdeal m →
    θ_run (Cert.WideDwIdeal.defs (F := Ideal)) (onTc (τ := Cert.WideDwIdeal.τ) (Cert.WideDwIdeal.main (F := Ideal))) ⟨m, fun _ => 0, g⟩ (fun r => (∀ c : Dev Cert.WideDwIdeal.nD,
      r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
      ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1)
      ∧ r.2.mem ((c.tc : Thread Cert.WideDwIdeal.nD Cert.WideDwIdeal.τ).loc Cert.WideDwIdeal.main_arg2) = m ((c.tc : Thread Cert.WideDwIdeal.nD Cert.WideDwIdeal.τ).loc Cert.WideDwIdeal.main_arg2))
      ∧ r.2.sem = fun _ => 0)

def quiescent_WideDwIdeal_pre_wide_core [hWideDwIdeal : Cert.WideDwIdeal.Facts] [hPre_wide_core : Cert.Pre_wide_core.Facts] : Prop :=
  ∀ (m : (ℓ : Loc Cert.WideDwIdeal.nD Cert.WideDwIdeal.τ Cert.WideDwIdeal.sig) → Buf (Elt Ideal) ℓ) (g : Dev Cert.WideDwIdeal.nD → PrngReg), Pre_WideDwIdeal_wide_core m →
    θ_run (Cert.WideDwIdeal.defs (F := Ideal)) (onTc (τ := Cert.WideDwIdeal.τ) (Cert.WideDwIdeal.main (F := Ideal))) ⟨m, fun _ => 0, g⟩ (fun r => (∀ c : Dev Cert.WideDwIdeal.nD,
      r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
      ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1)
      ∧ r.2.mem ((c.tc : Thread Cert.WideDwIdeal.nD Cert.WideDwIdeal.τ).loc Cert.WideDwIdeal.main_arg2) = m ((c.tc : Thread Cert.WideDwIdeal.nD Cert.WideDwIdeal.τ).loc Cert.WideDwIdeal.main_arg2))
      ∧ r.2.sem = fun _ => 0)

def quiescent_RefWideDwIdeal [hRefWideDwIdeal : Cert.RefWideDwIdeal.Facts] : Prop :=
  ∀ (m : (ℓ : Loc Cert.RefWideDwIdeal.nD Cert.RefWideDwIdeal.τ Cert.RefWideDwIdeal.sig) → Buf (Elt Ideal) ℓ) (g : Dev Cert.RefWideDwIdeal.nD → PrngReg), Pre_RefWideDwIdeal m →
    θ_run (Cert.RefWideDwIdeal.defs (F := Ideal)) (onTc (τ := Cert.RefWideDwIdeal.τ) (Cert.RefWideDwIdeal.main (F := Ideal))) ⟨m, fun _ => 0, g⟩ (fun r => (∀ c : Dev Cert.RefWideDwIdeal.nD,
      r.2.mem ((c.tc : Thread Cert.RefWideDwIdeal.nD Cert.RefWideDwIdeal.τ).loc Cert.RefWideDwIdeal.main_arg0) = m ((c.tc : Thread Cert.RefWideDwIdeal.nD Cert.RefWideDwIdeal.τ).loc Cert.RefWideDwIdeal.main_arg0)
      ∧ r.2.mem ((c.tc : Thread Cert.RefWideDwIdeal.nD Cert.RefWideDwIdeal.τ).loc Cert.RefWideDwIdeal.main_arg1) = m ((c.tc : Thread Cert.RefWideDwIdeal.nD Cert.RefWideDwIdeal.τ).loc Cert.RefWideDwIdeal.main_arg1)
      ∧ r.2.mem ((c.tc : Thread Cert.RefWideDwIdeal.nD Cert.RefWideDwIdeal.τ).loc Cert.RefWideDwIdeal.main_arg2) = m ((c.tc : Thread Cert.RefWideDwIdeal.nD Cert.RefWideDwIdeal.τ).loc Cert.RefWideDwIdeal.main_arg2))
      ∧ r.2.sem = fun _ => 0)

def quiescent_RefWideDwIdeal_pre_wide_core [hRefWideDwIdeal : Cert.RefWideDwIdeal.Facts] [hPre_wide_core : Cert.Pre_wide_core.Facts] : Prop :=
  ∀ (m : (ℓ : Loc Cert.RefWideDwIdeal.nD Cert.RefWideDwIdeal.τ Cert.RefWideDwIdeal.sig) → Buf (Elt Ideal) ℓ) (g : Dev Cert.RefWideDwIdeal.nD → PrngReg), Pre_RefWideDwIdeal_wide_core m →
    θ_run (Cert.RefWideDwIdeal.defs (F := Ideal)) (onTc (τ := Cert.RefWideDwIdeal.τ) (Cert.RefWideDwIdeal.main (F := Ideal))) ⟨m, fun _ => 0, g⟩ (fun r => (∀ c : Dev Cert.RefWideDwIdeal.nD,
      r.2.mem ((c.tc : Thread Cert.RefWideDwIdeal.nD Cert.RefWideDwIdeal.τ).loc Cert.RefWideDwIdeal.main_arg0) = m ((c.tc : Thread Cert.RefWideDwIdeal.nD Cert.RefWideDwIdeal.τ).loc Cert.RefWideDwIdeal.main_arg0)
      ∧ r.2.mem ((c.tc : Thread Cert.RefWideDwIdeal.nD Cert.RefWideDwIdeal.τ).loc Cert.RefWideDwIdeal.main_arg1) = m ((c.tc : Thread Cert.RefWideDwIdeal.nD Cert.RefWideDwIdeal.τ).loc Cert.RefWideDwIdeal.main_arg1)
      ∧ r.2.mem ((c.tc : Thread Cert.RefWideDwIdeal.nD Cert.RefWideDwIdeal.τ).loc Cert.RefWideDwIdeal.main_arg2) = m ((c.tc : Thread Cert.RefWideDwIdeal.nD Cert.RefWideDwIdeal.τ).loc Cert.RefWideDwIdeal.main_arg2))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_RefSquareIdeal [hRefSquareIdeal : Cert.RefSquareIdeal.Facts] : Prop :=
  ∀ (m : (ℓ : Loc Cert.RefSquareIdeal.nD Cert.RefSquareIdeal.τ Cert.RefSquareIdeal.sig) → Buf (Elt Ideal) ℓ) (g : Dev Cert.RefSquareIdeal.nD → PrngReg), Pre_RefSquareIdeal m →
    θ_run (Cert.RefSquareIdeal.defs (F := Ideal)) (onTc (τ := Cert.RefSquareIdeal.τ) (Cert.RefSquareIdeal.main (F := Ideal))) ⟨m, fun _ => 0, g⟩ (fun r => (∀ c : Dev Cert.RefSquareIdeal.nD,
      r.2.mem ((c.tc : Thread Cert.RefSquareIdeal.nD Cert.RefSquareIdeal.τ).loc Cert.RefSquareIdeal.main_arg0) = m ((c.tc : Thread Cert.RefSquareIdeal.nD Cert.RefSquareIdeal.τ).loc Cert.RefSquareIdeal.main_arg0)
      ∧ r.2.mem ((c.tc : Thread Cert.RefSquareIdeal.nD Cert.RefSquareIdeal.τ).loc Cert.RefSquareIdeal.main_arg1) = m ((c.tc : Thread Cert.RefSquareIdeal.nD Cert.RefSquareIdeal.τ).loc Cert.RefSquareIdeal.main_arg1))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_RefWideIdeal [hRefWideIdeal : Cert.RefWideIdeal.Facts] : Prop :=
  ∀ (m : (ℓ : Loc Cert.RefWideIdeal.nD Cert.RefWideIdeal.τ Cert.RefWideIdeal.sig) → Buf (Elt Ideal) ℓ) (g : Dev Cert.RefWideIdeal.nD → PrngReg), Pre_RefWideIdeal m →
    θ_run (Cert.RefWideIdeal.defs (F := Ideal)) (onTc (τ := Cert.RefWideIdeal.τ) (Cert.RefWideIdeal.main (F := Ideal))) ⟨m, fun _ => 0, g⟩ (fun r => (∀ c : Dev Cert.RefWideIdeal.nD,
      r.2.mem ((c.tc : Thread Cert.RefWideIdeal.nD Cert.RefWideIdeal.τ).loc Cert.RefWideIdeal.main_arg0) = m ((c.tc : Thread Cert.RefWideIdeal.nD Cert.RefWideIdeal.τ).loc Cert.RefWideIdeal.main_arg0)
      ∧ r.2.mem ((c.tc : Thread Cert.RefWideIdeal.nD Cert.RefWideIdeal.τ).loc Cert.RefWideIdeal.main_arg1) = m ((c.tc : Thread Cert.RefWideIdeal.nD Cert.RefWideIdeal.τ).loc Cert.RefWideIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_RefSwigluBwdIdeal [hRefSwigluBwdIdeal : Cert.RefSwigluBwdIdeal.Facts] : Prop :=
  ∀ (m : (ℓ : Loc Cert.RefSwigluBwdIdeal.nD Cert.RefSwigluBwdIdeal.τ Cert.RefSwigluBwdIdeal.sig) → Buf (Elt Ideal) ℓ) (g : Dev Cert.RefSwigluBwdIdeal.nD → PrngReg), Pre_RefSwigluBwdIdeal m →
    θ_run (Cert.RefSwigluBwdIdeal.defs (F := Ideal)) (onTc (τ := Cert.RefSwigluBwdIdeal.τ) (Cert.RefSwigluBwdIdeal.main (F := Ideal))) ⟨m, fun _ => 0, g⟩ (fun r => (∀ c : Dev Cert.RefSwigluBwdIdeal.nD,
      r.2.mem ((c.tc : Thread Cert.RefSwigluBwdIdeal.nD Cert.RefSwigluBwdIdeal.τ).loc Cert.RefSwigluBwdIdeal.main_arg0) = m ((c.tc : Thread Cert.RefSwigluBwdIdeal.nD Cert.RefSwigluBwdIdeal.τ).loc Cert.RefSwigluBwdIdeal.main_arg0)
      ∧ r.2.mem ((c.tc : Thread Cert.RefSwigluBwdIdeal.nD Cert.RefSwigluBwdIdeal.τ).loc Cert.RefSwigluBwdIdeal.main_arg1) = m ((c.tc : Thread Cert.RefSwigluBwdIdeal.nD Cert.RefSwigluBwdIdeal.τ).loc Cert.RefSwigluBwdIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_RefMergeBwdIdeal [hRefMergeBwdIdeal : Cert.RefMergeBwdIdeal.Facts] : Prop :=
  ∀ (m : (ℓ : Loc Cert.RefMergeBwdIdeal.nD Cert.RefMergeBwdIdeal.τ Cert.RefMergeBwdIdeal.sig) → Buf (Elt Ideal) ℓ) (g : Dev Cert.RefMergeBwdIdeal.nD → PrngReg), Pre_RefMergeBwdIdeal m →
    θ_run (Cert.RefMergeBwdIdeal.defs (F := Ideal)) (onTc (τ := Cert.RefMergeBwdIdeal.τ) (Cert.RefMergeBwdIdeal.main (F := Ideal))) ⟨m, fun _ => 0, g⟩ (fun r => (∀ c : Dev Cert.RefMergeBwdIdeal.nD,
      r.2.mem ((c.tc : Thread Cert.RefMergeBwdIdeal.nD Cert.RefMergeBwdIdeal.τ).loc Cert.RefMergeBwdIdeal.main_arg0) = m ((c.tc : Thread Cert.RefMergeBwdIdeal.nD Cert.RefMergeBwdIdeal.τ).loc Cert.RefMergeBwdIdeal.main_arg0)
      ∧ r.2.mem ((c.tc : Thread Cert.RefMergeBwdIdeal.nD Cert.RefMergeBwdIdeal.τ).loc Cert.RefMergeBwdIdeal.main_arg1) = m ((c.tc : Thread Cert.RefMergeBwdIdeal.nD Cert.RefMergeBwdIdeal.τ).loc Cert.RefMergeBwdIdeal.main_arg1)
      ∧ r.2.mem ((c.tc : Thread Cert.RefMergeBwdIdeal.nD Cert.RefMergeBwdIdeal.τ).loc Cert.RefMergeBwdIdeal.main_arg2) = m ((c.tc : Thread Cert.RefMergeBwdIdeal.nD Cert.RefMergeBwdIdeal.τ).loc Cert.RefMergeBwdIdeal.main_arg2)
      ∧ r.2.mem ((c.tc : Thread Cert.RefMergeBwdIdeal.nD Cert.RefMergeBwdIdeal.τ).loc Cert.RefMergeBwdIdeal.main_arg3) = m ((c.tc : Thread Cert.RefMergeBwdIdeal.nD Cert.RefMergeBwdIdeal.τ).loc Cert.RefMergeBwdIdeal.main_arg3))
      ∧ r.2.sem = fun _ => 0)

def quiescent_ModulateBwd [hModulateBwd : Cert.ModulateBwd.Facts] : Prop :=
  ∀ (m : (ℓ : Loc Cert.ModulateBwd.nD Cert.ModulateBwd.τ Cert.ModulateBwd.sig) → Buf (Elt Bits) ℓ) (g : Dev Cert.ModulateBwd.nD → PrngReg), Pre_ModulateBwd m →
    θ_run (Cert.ModulateBwd.defs (F := Bits)) (onTc (τ := Cert.ModulateBwd.τ) (Cert.ModulateBwd.main (F := Bits))) ⟨m, fun _ => 0, g⟩ (fun r => (∀ c : Dev Cert.ModulateBwd.nD,
      r.2.mem ((c.tc : Thread Cert.ModulateBwd.nD Cert.ModulateBwd.τ).loc Cert.ModulateBwd.main_arg0) = m ((c.tc : Thread Cert.ModulateBwd.nD Cert.ModulateBwd.τ).loc Cert.ModulateBwd.main_arg0)
      ∧ r.2.mem ((c.tc : Thread Cert.ModulateBwd.nD Cert.ModulateBwd.τ).loc Cert.ModulateBwd.main_arg1) = m ((c.tc : Thread Cert.ModulateBwd.nD Cert.ModulateBwd.τ).loc Cert.ModulateBwd.main_arg1)
      ∧ r.2.mem ((c.tc : Thread Cert.ModulateBwd.nD Cert.ModulateBwd.τ).loc Cert.ModulateBwd.main_arg2) = m ((c.tc : Thread Cert.ModulateBwd.nD Cert.ModulateBwd.τ).loc Cert.ModulateBwd.main_arg2)
      ∧ r.2.mem ((c.tc : Thread Cert.ModulateBwd.nD Cert.ModulateBwd.τ).loc Cert.ModulateBwd.main_arg3) = m ((c.tc : Thread Cert.ModulateBwd.nD Cert.ModulateBwd.τ).loc Cert.ModulateBwd.main_arg3))
      ∧ r.2.sem = fun _ => 0)

def quiescent_ModulateBwdIdeal [hModulateBwdIdeal : Cert.ModulateBwdIdeal.Facts] : Prop :=
  ∀ (m : (ℓ : Loc Cert.ModulateBwdIdeal.nD Cert.ModulateBwdIdeal.τ Cert.ModulateBwdIdeal.sig) → Buf (Elt Ideal) ℓ) (g : Dev Cert.ModulateBwdIdeal.nD → PrngReg), Pre_ModulateBwdIdeal m →
    θ_run (Cert.ModulateBwdIdeal.defs (F := Ideal)) (onTc (τ := Cert.ModulateBwdIdeal.τ) (Cert.ModulateBwdIdeal.main (F := Ideal))) ⟨m, fun _ => 0, g⟩ (fun r => (∀ c : Dev Cert.ModulateBwdIdeal.nD,
      r.2.mem ((c.tc : Thread Cert.ModulateBwdIdeal.nD Cert.ModulateBwdIdeal.τ).loc Cert.ModulateBwdIdeal.main_arg0) = m ((c.tc : Thread Cert.ModulateBwdIdeal.nD Cert.ModulateBwdIdeal.τ).loc Cert.ModulateBwdIdeal.main_arg0)
      ∧ r.2.mem ((c.tc : Thread Cert.ModulateBwdIdeal.nD Cert.ModulateBwdIdeal.τ).loc Cert.ModulateBwdIdeal.main_arg1) = m ((c.tc : Thread Cert.ModulateBwdIdeal.nD Cert.ModulateBwdIdeal.τ).loc Cert.ModulateBwdIdeal.main_arg1)
      ∧ r.2.mem ((c.tc : Thread Cert.ModulateBwdIdeal.nD Cert.ModulateBwdIdeal.τ).loc Cert.ModulateBwdIdeal.main_arg2) = m ((c.tc : Thread Cert.ModulateBwdIdeal.nD Cert.ModulateBwdIdeal.τ).loc Cert.ModulateBwdIdeal.main_arg2)
      ∧ r.2.mem ((c.tc : Thread Cert.ModulateBwdIdeal.nD Cert.ModulateBwdIdeal.τ).loc Cert.ModulateBwdIdeal.main_arg3) = m ((c.tc : Thread Cert.ModulateBwdIdeal.nD Cert.ModulateBwdIdeal.τ).loc Cert.ModulateBwdIdeal.main_arg3))
      ∧ r.2.sem = fun _ => 0)

def quiescent_RefModulateBwdIdeal [hRefModulateBwdIdeal : Cert.RefModulateBwdIdeal.Facts] : Prop :=
  ∀ (m : (ℓ : Loc Cert.RefModulateBwdIdeal.nD Cert.RefModulateBwdIdeal.τ Cert.RefModulateBwdIdeal.sig) → Buf (Elt Ideal) ℓ) (g : Dev Cert.RefModulateBwdIdeal.nD → PrngReg), Pre_RefModulateBwdIdeal m →
    θ_run (Cert.RefModulateBwdIdeal.defs (F := Ideal)) (onTc (τ := Cert.RefModulateBwdIdeal.τ) (Cert.RefModulateBwdIdeal.main (F := Ideal))) ⟨m, fun _ => 0, g⟩ (fun r => (∀ c : Dev Cert.RefModulateBwdIdeal.nD,
      r.2.mem ((c.tc : Thread Cert.RefModulateBwdIdeal.nD Cert.RefModulateBwdIdeal.τ).loc Cert.RefModulateBwdIdeal.main_arg0) = m ((c.tc : Thread Cert.RefModulateBwdIdeal.nD Cert.RefModulateBwdIdeal.τ).loc Cert.RefModulateBwdIdeal.main_arg0)
      ∧ r.2.mem ((c.tc : Thread Cert.RefModulateBwdIdeal.nD Cert.RefModulateBwdIdeal.τ).loc Cert.RefModulateBwdIdeal.main_arg1) = m ((c.tc : Thread Cert.RefModulateBwdIdeal.nD Cert.RefModulateBwdIdeal.τ).loc Cert.RefModulateBwdIdeal.main_arg1)
      ∧ r.2.mem ((c.tc : Thread Cert.RefModulateBwdIdeal.nD Cert.RefModulateBwdIdeal.τ).loc Cert.RefModulateBwdIdeal.main_arg2) = m ((c.tc : Thread Cert.RefModulateBwdIdeal.nD Cert.RefModulateBwdIdeal.τ).loc Cert.RefModulateBwdIdeal.main_arg2)
      ∧ r.2.mem ((c.tc : Thread Cert.RefModulateBwdIdeal.nD Cert.RefModulateBwdIdeal.τ).loc Cert.RefModulateBwdIdeal.main_arg3) = m ((c.tc : Thread Cert.RefModulateBwdIdeal.nD Cert.RefModulateBwdIdeal.τ).loc Cert.RefModulateBwdIdeal.main_arg3))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4))
      ∧ r.2.sem = fun _ => 0)

def quiescent_RefQkvBwdIdeal [hRefQkvBwdIdeal : Cert.RefQkvBwdIdeal.Facts] : Prop :=
  ∀ (m : (ℓ : Loc Cert.RefQkvBwdIdeal.nD Cert.RefQkvBwdIdeal.τ Cert.RefQkvBwdIdeal.sig) → Buf (Elt Ideal) ℓ) (g : Dev Cert.RefQkvBwdIdeal.nD → PrngReg), Pre_RefQkvBwdIdeal m →
    θ_run (Cert.RefQkvBwdIdeal.defs (F := Ideal)) (onTc (τ := Cert.RefQkvBwdIdeal.τ) (Cert.RefQkvBwdIdeal.main (F := Ideal))) ⟨m, fun _ => 0, g⟩ (fun r => (∀ c : Dev Cert.RefQkvBwdIdeal.nD,
      r.2.mem ((c.tc : Thread Cert.RefQkvBwdIdeal.nD Cert.RefQkvBwdIdeal.τ).loc Cert.RefQkvBwdIdeal.main_arg0) = m ((c.tc : Thread Cert.RefQkvBwdIdeal.nD Cert.RefQkvBwdIdeal.τ).loc Cert.RefQkvBwdIdeal.main_arg0)
      ∧ r.2.mem ((c.tc : Thread Cert.RefQkvBwdIdeal.nD Cert.RefQkvBwdIdeal.τ).loc Cert.RefQkvBwdIdeal.main_arg1) = m ((c.tc : Thread Cert.RefQkvBwdIdeal.nD Cert.RefQkvBwdIdeal.τ).loc Cert.RefQkvBwdIdeal.main_arg1)
      ∧ r.2.mem ((c.tc : Thread Cert.RefQkvBwdIdeal.nD Cert.RefQkvBwdIdeal.τ).loc Cert.RefQkvBwdIdeal.main_arg2) = m ((c.tc : Thread Cert.RefQkvBwdIdeal.nD Cert.RefQkvBwdIdeal.τ).loc Cert.RefQkvBwdIdeal.main_arg2)
      ∧ r.2.mem ((c.tc : Thread Cert.RefQkvBwdIdeal.nD Cert.RefQkvBwdIdeal.τ).loc Cert.RefQkvBwdIdeal.main_arg3) = m ((c.tc : Thread Cert.RefQkvBwdIdeal.nD Cert.RefQkvBwdIdeal.τ).loc Cert.RefQkvBwdIdeal.main_arg3)
      ∧ r.2.mem ((c.tc : Thread Cert.RefQkvBwdIdeal.nD Cert.RefQkvBwdIdeal.τ).loc Cert.RefQkvBwdIdeal.main_arg4) = m ((c.tc : Thread Cert.RefQkvBwdIdeal.nD Cert.RefQkvBwdIdeal.τ).loc Cert.RefQkvBwdIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_RefSwigluIdeal [hRefSwigluIdeal : Cert.RefSwigluIdeal.Facts] : Prop :=
  ∀ (m : (ℓ : Loc Cert.RefSwigluIdeal.nD Cert.RefSwigluIdeal.τ Cert.RefSwigluIdeal.sig) → Buf (Elt Ideal) ℓ) (g : Dev Cert.RefSwigluIdeal.nD → PrngReg), Pre_RefSwigluIdeal m →
    θ_run (Cert.RefSwigluIdeal.defs (F := Ideal)) (onTc (τ := Cert.RefSwigluIdeal.τ) (Cert.RefSwigluIdeal.main (F := Ideal))) ⟨m, fun _ => 0, g⟩ (fun r => (∀ c : Dev Cert.RefSwigluIdeal.nD,
      r.2.mem ((c.tc : Thread Cert.RefSwigluIdeal.nD Cert.RefSwigluIdeal.τ).loc Cert.RefSwigluIdeal.main_arg0) = m ((c.tc : Thread Cert.RefSwigluIdeal.nD Cert.RefSwigluIdeal.τ).loc Cert.RefSwigluIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_RefModulateIdeal [hRefModulateIdeal : Cert.RefModulateIdeal.Facts] : Prop :=
  ∀ (m : (ℓ : Loc Cert.RefModulateIdeal.nD Cert.RefModulateIdeal.τ Cert.RefModulateIdeal.sig) → Buf (Elt Ideal) ℓ) (g : Dev Cert.RefModulateIdeal.nD → PrngReg), Pre_RefModulateIdeal m →
    θ_run (Cert.RefModulateIdeal.defs (F := Ideal)) (onTc (τ := Cert.RefModulateIdeal.τ) (Cert.RefModulateIdeal.main (F := Ideal))) ⟨m, fun _ => 0, g⟩ (fun r => (∀ c : Dev Cert.RefModulateIdeal.nD,
      r.2.mem ((c.tc : Thread Cert.RefModulateIdeal.nD Cert.RefModulateIdeal.τ).loc Cert.RefModulateIdeal.main_arg0) = m ((c.tc : Thread Cert.RefModulateIdeal.nD Cert.RefModulateIdeal.τ).loc Cert.RefModulateIdeal.main_arg0)
      ∧ r.2.mem ((c.tc : Thread Cert.RefModulateIdeal.nD Cert.RefModulateIdeal.τ).loc Cert.RefModulateIdeal.main_arg1) = m ((c.tc : Thread Cert.RefModulateIdeal.nD Cert.RefModulateIdeal.τ).loc Cert.RefModulateIdeal.main_arg1)
      ∧ r.2.mem ((c.tc : Thread Cert.RefModulateIdeal.nD Cert.RefModulateIdeal.τ).loc Cert.RefModulateIdeal.main_arg2) = m ((c.tc : Thread Cert.RefModulateIdeal.nD Cert.RefModulateIdeal.τ).loc Cert.RefModulateIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3)
      ∧ r.2.mem ((c.tc : Thread Cert.ResLn.nD Cert.ResLn.τ).loc Cert.ResLn.main_arg4) = m ((c.tc : Thread Cert.ResLn.nD Cert.ResLn.τ).loc Cert.ResLn.main_arg4)
      ∧ r.2.mem ((c.tc : Thread Cert.ResLn.nD Cert.ResLn.τ).loc Cert.ResLn.main_arg5) = m ((c.tc : Thread Cert.ResLn.nD Cert.ResLn.τ).loc Cert.ResLn.main_arg5)
      ∧ r.2.mem ((c.tc : Thread Cert.ResLn.nD Cert.ResLn.τ).loc Cert.ResLn.main_arg6) = m ((c.tc : Thread Cert.ResLn.nD Cert.ResLn.τ).loc Cert.ResLn.main_arg6))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
      ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4)
      ∧ r.2.mem ((c.tc : Thread Cert.ResLnIdeal.nD Cert.ResLnIdeal.τ).loc Cert.ResLnIdeal.main_arg5) = m ((c.tc : Thread Cert.ResLnIdeal.nD Cert.ResLnIdeal.τ).loc Cert.ResLnIdeal.main_arg5)
      ∧ r.2.mem ((c.tc : Thread Cert.ResLnIdeal.nD Cert.ResLnIdeal.τ).loc Cert.ResLnIdeal.main_arg6) = m ((c.tc : Thread Cert.ResLnIdeal.nD Cert.ResLnIdeal.τ).loc Cert.ResLnIdeal.main_arg6))
      ∧ r.2.sem = fun _ => 0)

def quiescent_RefResLnIdeal [hRefResLnIdeal : Cert.RefResLnIdeal.Facts] : Prop :=
  ∀ (m : (ℓ : Loc Cert.RefResLnIdeal.nD Cert.RefResLnIdeal.τ Cert.RefResLnIdeal.sig) → Buf (Elt Ideal) ℓ) (g : Dev Cert.RefResLnIdeal.nD → PrngReg), Pre_RefResLnIdeal m →
    θ_run (Cert.RefResLnIdeal.defs (F := Ideal)) (onTc (τ := Cert.RefResLnIdeal.τ) (Cert.RefResLnIdeal.main (F := Ideal))) ⟨m, fun _ => 0, g⟩ (fun r => (∀ c : Dev Cert.RefResLnIdeal.nD,
      r.2.mem ((c.tc : Thread Cert.RefResLnIdeal.nD Cert.RefResLnIdeal.τ).loc Cert.RefResLnIdeal.main_arg0) = m ((c.tc : Thread Cert.RefResLnIdeal.nD Cert.RefResLnIdeal.τ).loc Cert.RefResLnIdeal.main_arg0)
      ∧ r.2.mem ((c.tc : Thread Cert.RefResLnIdeal.nD Cert.RefResLnIdeal.τ).loc Cert.RefResLnIdeal.main_arg1) = m ((c.tc : Thread Cert.RefResLnIdeal.nD Cert.RefResLnIdeal.τ).loc Cert.RefResLnIdeal.main_arg1)
      ∧ r.2.mem ((c.tc : Thread Cert.RefResLnIdeal.nD Cert.RefResLnIdeal.τ).loc Cert.RefResLnIdeal.main_arg2) = m ((c.tc : Thread Cert.RefResLnIdeal.nD Cert.RefResLnIdeal.τ).loc Cert.RefResLnIdeal.main_arg2)
      ∧ r.2.mem ((c.tc : Thread Cert.RefResLnIdeal.nD Cert.RefResLnIdeal.τ).loc Cert.RefResLnIdeal.main_arg3) = m ((c.tc : Thread Cert.RefResLnIdeal.nD Cert.RefResLnIdeal.τ).loc Cert.RefResLnIdeal.main_arg3)
      ∧ r.2.mem ((c.tc : Thread Cert.RefResLnIdeal.nD Cert.RefResLnIdeal.τ).loc Cert.RefResLnIdeal.main_arg4) = m ((c.tc : Thread Cert.RefResLnIdeal.nD Cert.RefResLnIdeal.τ).loc Cert.RefResLnIdeal.main_arg4)
      ∧ r.2.mem ((c.tc : Thread Cert.RefResLnIdeal.nD Cert.RefResLnIdeal.τ).loc Cert.RefResLnIdeal.main_arg5) = m ((c.tc : Thread Cert.RefResLnIdeal.nD Cert.RefResLnIdeal.τ).loc Cert.RefResLnIdeal.main_arg5)
      ∧ r.2.mem ((c.tc : Thread Cert.RefResLnIdeal.nD Cert.RefResLnIdeal.τ).loc Cert.RefResLnIdeal.main_arg6) = m ((c.tc : Thread Cert.RefResLnIdeal.nD Cert.RefResLnIdeal.τ).loc Cert.RefResLnIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_RefAttnIdeal_pre_finite_scores [hRefAttnIdeal : Cert.RefAttnIdeal.Facts] [hPre_finite_scores : Cert.Pre_finite_scores.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_scores m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_SquareDx_SquareDxIdeal : Prop :=
  True

def algebraic_SquareDxIdeal_RefSquareDxIdeal [hSquareDxIdeal : Cert.SquareDxIdeal.Facts] [hRefSquareDxIdeal : Cert.RefSquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.RefSquareDxIdeal.nD Cert.RefSquareDxIdeal.τ Cert.RefSquareDxIdeal.sig) → Buf (Elt Ideal) ℓ) (g' : Dev Cert.RefSquareDxIdeal.nD → PrngReg), Pre_SquareDxIdeal m →
    (∀ c : Dev Cert.SquareDxIdeal.nD,
      m' ((c.tc : Thread Cert.RefSquareDxIdeal.nD Cert.RefSquareDxIdeal.τ).loc Cert.RefSquareDxIdeal.main_arg0) = m ((c.tc : Thread Cert.SquareDxIdeal.nD Cert.SquareDxIdeal.τ).loc Cert.SquareDxIdeal.main_arg0)
      ∧ m' ((c.tc : Thread Cert.RefSquareDxIdeal.nD Cert.RefSquareDxIdeal.τ).loc Cert.RefSquareDxIdeal.main_arg1) = m ((c.tc : Thread Cert.SquareDxIdeal.nD Cert.SquareDxIdeal.τ).loc Cert.SquareDxIdeal.main_arg1)) →
    ∃ (v0 : (c : Dev Cert.SquareDxIdeal.nD) → Buf (Elt Ideal) ((c.tc : Thread Cert.SquareDxIdeal.nD Cert.SquareDxIdeal.τ).loc Cert.SquareDxIdeal.main_v0)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v0) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ θ_run (Cert.RefSquareDxIdeal.defs (F := Ideal)) (onTc (τ := Cert.RefSquareDxIdeal.τ) (Cert.RefSquareDxIdeal.main (F := Ideal))) ⟨m', fun _ => 0, g'⟩ (fun r => ∀ c : Dev Cert.RefSquareDxIdeal.nD,
          r.2.mem ((c.tc : Thread Cert.RefSquareDxIdeal.nD Cert.RefSquareDxIdeal.τ).loc Cert.RefSquareDxIdeal.main_v4) = v0 c
          ∧ r.2.mem ((c.tc : Thread Cert.RefSquareDxIdeal.nD Cert.RefSquareDxIdeal.τ).loc Cert.RefSquareDxIdeal.main_arg0) = m' ((c.tc : Thread Cert.RefSquareDxIdeal.nD Cert.RefSquareDxIdeal.τ).loc Cert.RefSquareDxIdeal.main_arg0)
          ∧ r.2.mem ((c.tc : Thread Cert.RefSquareDxIdeal.nD Cert.RefSquareDxIdeal.τ).loc Cert.RefSquareDxIdeal.main_arg1) = m' ((c.tc : Thread Cert.RefSquareDxIdeal.nD Cert.RefSquareDxIdeal.τ).loc Cert.RefSquareDxIdeal.main_arg1))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v4) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_WideDx_WideDxIdeal : Prop :=
  True

def algebraic_WideDxIdeal_RefWideDxIdeal [hWideDxIdeal : Cert.WideDxIdeal.Facts] [hRefWideDxIdeal : Cert.RefWideDxIdeal.Facts] : Prop :=
  ∀ (m : (ℓ : Loc Cert.WideDxIdeal.nD Cert.WideDxIdeal.τ Cert.WideDxIdeal.sig) → Buf (Elt Ideal) ℓ) (g : Dev Cert.WideDxIdeal.nD → PrngReg)
    (m' : (ℓ : Loc Cert.RefWideDxIdeal.nD Cert.RefWideDxIdeal.τ Cert.RefWideDxIdeal.sig) → Buf (Elt Ideal) ℓ) (g' : Dev Cert.RefWideDxIdeal.nD → PrngReg), Pre_WideDxIdeal m →
    (∀ c : Dev Cert.WideDxIdeal.nD,
      m' ((c.tc : Thread Cert.RefWideDxIdeal.nD Cert.RefWideDxIdeal.τ).loc Cert.RefWideDxIdeal.main_arg0) = m ((c.tc : Thread Cert.WideDxIdeal.nD Cert.WideDxIdeal.τ).loc Cert.WideDxIdeal.main_arg0)
      ∧ m' ((c.tc : Thread Cert.RefWideDxIdeal.nD Cert.RefWideDxIdeal.τ).loc Cert.RefWideDxIdeal.main_arg1) = m ((c.tc : Thread Cert.WideDxIdeal.nD Cert.WideDxIdeal.τ).loc Cert.WideDxIdeal.main_arg1)) →
    ∃ (v0 : (c : Dev Cert.WideDxIdeal.nD) → Buf (Elt Ideal) ((c.tc : Thread Cert.WideDxIdeal.nD Cert.WideDxIdeal.τ).loc Cert.WideDxIdeal.main_v0)),
      θ_run (Cert.WideDxIdeal.defs (F := Ideal)) (onTc (τ := Cert.WideDxIdeal.τ) (Cert.WideDxIdeal.main (F := Ideal))) ⟨m, fun _ => 0, g⟩ (fun r => ∀ c : Dev Cert.WideDxIdeal.nD,
          r.2.mem ((c.tc : Thread Cert.WideDxIdeal.nD Cert.WideDxIdeal.τ).loc Cert.WideDxIdeal.main_v0) = v0 c
          ∧ r.2.mem ((c.tc : Thread Cert.WideDxIdeal.nD Cert.WideDxIdeal.τ).loc Cert.WideDxIdeal.main_arg0) = m ((c.tc : Thread Cert.WideDxIdeal.nD Cert.WideDxIdeal.τ).loc Cert.WideDxIdeal.main_arg0)
          ∧ r.2.mem ((c.tc : Thread Cert.WideDxIdeal.nD Cert.WideDxIdeal.τ).loc Cert.WideDxIdeal.main_arg1) = m ((c.tc : Thread Cert.WideDxIdeal.nD Cert.WideDxIdeal.τ).loc Cert.WideDxIdeal.main_arg1))
      ∧ θ_run (Cert.RefWideDxIdeal.defs (F := Ideal)) (onTc (τ := Cert.RefWideDxIdeal.τ) (Cert.RefWideDxIdeal.main (F := Ideal))) ⟨m', fun _ => 0, g'⟩ (fun r => ∀ c : Dev Cert.RefWideDxIdeal.nD,
          r.2.mem ((c.tc : Thread Cert.RefWideDxIdeal.nD Cert.RefWideDxIdeal.τ).loc Cert.RefWideDxIdeal.main_v4) = v0 c
          ∧ r.2.mem ((c.tc : Thread Cert.RefWideDxIdeal.nD Cert.RefWideDxIdeal.τ).loc Cert.RefWideDxIdeal.main_arg0) = m' ((c.tc : Thread Cert.RefWideDxIdeal.nD Cert.RefWideDxIdeal.τ).loc Cert.RefWideDxIdeal.main_arg0)
          ∧ r.2.mem ((c.tc : Thread Cert.RefWideDxIdeal.nD Cert.RefWideDxIdeal.τ).loc Cert.RefWideDxIdeal.main_arg1) = m' ((c.tc : Thread Cert.RefWideDxIdeal.nD Cert.RefWideDxIdeal.τ).loc Cert.RefWideDxIdeal.main_arg1))

def preserves_SquareDw_SquareDwIdeal : Prop :=
  True

def algebraic_SquareDwIdeal_RefSquareDwIdeal_pre_square_core [hSquareDwIdeal : Cert.SquareDwIdeal.Facts] [hRefSquareDwIdeal : Cert.RefSquareDwIdeal.Facts] [hPre_square_core : Cert.Pre_square_core.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.RefSquareDwIdeal.nD Cert.RefSquareDwIdeal.τ Cert.RefSquareDwIdeal.sig) → Buf (Elt Ideal) ℓ) (g' : Dev Cert.RefSquareDwIdeal.nD → PrngReg), Pre_SquareDwIdeal_square_core m →
    (∀ c : Dev Cert.SquareDwIdeal.nD,
      m' ((c.tc : Thread Cert.RefSquareDwIdeal.nD Cert.RefSquareDwIdeal.τ).loc Cert.RefSquareDwIdeal.main_arg0) = m ((c.tc : Thread Cert.SquareDwIdeal.nD Cert.SquareDwIdeal.τ).loc Cert.SquareDwIdeal.main_arg0)
      ∧ m' ((c.tc : Thread Cert.RefSquareDwIdeal.nD Cert.RefSquareDwIdeal.τ).loc Cert.RefSquareDwIdeal.main_arg1) = m ((c.tc : Thread Cert.SquareDwIdeal.nD Cert.SquareDwIdeal.τ).loc Cert.SquareDwIdeal.main_arg1)
      ∧ m' ((c.tc : Thread Cert.RefSquareDwIdeal.nD Cert.RefSquareDwIdeal.τ).loc Cert.RefSquareDwIdeal.main_arg2) = m ((c.tc : Thread Cert.SquareDwIdeal.nD Cert.SquareDwIdeal.τ).loc Cert.SquareDwIdeal.main_arg2)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1)
          ∧ r.2.mem ((c.tc : Thread Cert.SquareDwIdeal.nD Cert.SquareDwIdeal.τ).loc Cert.SquareDwIdeal.main_arg2) = m ((c.tc : Thread Cert.SquareDwIdeal.nD Cert.SquareDwIdeal.τ).loc Cert.SquareDwIdeal.main_arg2))
      ∧ θ_run (Cert.RefSquareDwIdeal.defs (F := Ideal)) (onTc (τ := Cert.RefSquareDwIdeal.τ) (Cert.RefSquareDwIdeal.main (F := Ideal))) ⟨m', fun _ => 0, g'⟩ (fun r => ∀ c : Dev Cert.RefSquareDwIdeal.nD,
          r.2.mem ((c.tc : Thread Cert.RefSquareDwIdeal.nD Cert.RefSquareDwIdeal.τ).loc Cert.RefSquareDwIdeal.main_v15) = v0 c
          ∧ r.2.mem ((c.tc : Thread Cert.RefSquareDwIdeal.nD Cert.RefSquareDwIdeal.τ).loc Cert.RefSquareDwIdeal.main_arg0) = m' ((c.tc : Thread Cert.RefSquareDwIdeal.nD Cert.RefSquareDwIdeal.τ).loc Cert.RefSquareDwIdeal.main_arg0)
          ∧ r.2.mem ((c.tc : Thread Cert.RefSquareDwIdeal.nD Cert.RefSquareDwIdeal.τ).loc Cert.RefSquareDwIdeal.main_arg1) = m' ((c.tc : Thread Cert.RefSquareDwIdeal.nD Cert.RefSquareDwIdeal.τ).loc Cert.RefSquareDwIdeal.main_arg1)
          ∧ r.2.mem ((c.tc : Thread Cert.RefSquareDwIdeal.nD Cert.RefSquareDwIdeal.τ).loc Cert.RefSquareDwIdeal.main_arg2) = m' ((c.tc : Thread Cert.RefSquareDwIdeal.nD Cert.RefSquareDwIdeal.τ).loc Cert.RefSquareDwIdeal.main_arg2))

def preserves_DownDw_DownDwIdeal : Prop :=
  True

def algebraic_DownDwIdeal_RefDownDwIdeal_pre_down_core [hDownDwIdeal : Cert.DownDwIdeal.Facts] [hRefDownDwIdeal : Cert.RefDownDwIdeal.Facts] [hPre_down_core : Cert.Pre_down_core.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal_down_core m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)
      ∧ m' ((c.tc : Thread Cert.RefDownDwIdeal.nD Cert.RefDownDwIdeal.τ).loc Cert.RefDownDwIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v15) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1)
          ∧ r.2.mem ((c.tc : Thread Cert.RefDownDwIdeal.nD Cert.RefDownDwIdeal.τ).loc Cert.RefDownDwIdeal.main_arg2) = m' ((c.tc : Thread Cert.RefDownDwIdeal.nD Cert.RefDownDwIdeal.τ).loc Cert.RefDownDwIdeal.main_arg2))

def preserves_WideDw_WideDwIdeal : Prop :=
  True

def algebraic_WideDwIdeal_RefWideDwIdeal_pre_wide_core [hWideDwIdeal : Cert.WideDwIdeal.Facts] [hRefWideDwIdeal : Cert.RefWideDwIdeal.Facts] [hPre_wide_core : Cert.Pre_wide_core.Facts] : Prop :=
  ∀ (m : (ℓ : Loc Cert.WideDwIdeal.nD Cert.WideDwIdeal.τ Cert.WideDwIdeal.sig) → Buf (Elt Ideal) ℓ) (g : Dev Cert.WideDwIdeal.nD → PrngReg)
    (m' : (ℓ : Loc Cert.RefWideDwIdeal.nD Cert.RefWideDwIdeal.τ Cert.RefWideDwIdeal.sig) → Buf (Elt Ideal) ℓ) (g' : Dev Cert.RefWideDwIdeal.nD → PrngReg), Pre_WideDwIdeal_wide_core m →
    (∀ c : Dev Cert.WideDwIdeal.nD,
      m' ((c.tc : Thread Cert.RefWideDwIdeal.nD Cert.RefWideDwIdeal.τ).loc Cert.RefWideDwIdeal.main_arg0) = m ((c.tc : Thread Cert.WideDwIdeal.nD Cert.WideDwIdeal.τ).loc Cert.WideDwIdeal.main_arg0)
      ∧ m' ((c.tc : Thread Cert.RefWideDwIdeal.nD Cert.RefWideDwIdeal.τ).loc Cert.RefWideDwIdeal.main_arg1) = m ((c.tc : Thread Cert.WideDwIdeal.nD Cert.WideDwIdeal.τ).loc Cert.WideDwIdeal.main_arg1)
      ∧ m' ((c.tc : Thread Cert.RefWideDwIdeal.nD Cert.RefWideDwIdeal.τ).loc Cert.RefWideDwIdeal.main_arg2) = m ((c.tc : Thread Cert.WideDwIdeal.nD Cert.WideDwIdeal.τ).loc Cert.WideDwIdeal.main_arg2)) →
    ∃ (v0 : (c : Dev Cert.WideDwIdeal.nD) → Buf (Elt Ideal) ((c.tc : Thread Cert.WideDwIdeal.nD Cert.WideDwIdeal.τ).loc Cert.WideDwIdeal.main_v0)),
      θ_run (Cert.WideDwIdeal.defs (F := Ideal)) (onTc (τ := Cert.WideDwIdeal.τ) (Cert.WideDwIdeal.main (F := Ideal))) ⟨m, fun _ => 0, g⟩ (fun r => ∀ c : Dev Cert.WideDwIdeal.nD,
          r.2.mem ((c.tc : Thread Cert.WideDwIdeal.nD Cert.WideDwIdeal.τ).loc Cert.WideDwIdeal.main_v0) = v0 c
          ∧ r.2.mem ((c.tc : Thread Cert.WideDwIdeal.nD Cert.WideDwIdeal.τ).loc Cert.WideDwIdeal.main_arg0) = m ((c.tc : Thread Cert.WideDwIdeal.nD Cert.WideDwIdeal.τ).loc Cert.WideDwIdeal.main_arg0)
          ∧ r.2.mem ((c.tc : Thread Cert.WideDwIdeal.nD Cert.WideDwIdeal.τ).loc Cert.WideDwIdeal.main_arg1) = m ((c.tc : Thread Cert.WideDwIdeal.nD Cert.WideDwIdeal.τ).loc Cert.WideDwIdeal.main_arg1)
          ∧ r.2.mem ((c.tc : Thread Cert.WideDwIdeal.nD Cert.WideDwIdeal.τ).loc Cert.WideDwIdeal.main_arg2) = m ((c.tc : Thread Cert.WideDwIdeal.nD Cert.WideDwIdeal.τ).loc Cert.WideDwIdeal.main_arg2))
      ∧ θ_run (Cert.RefWideDwIdeal.defs (F := Ideal)) (onTc (τ := Cert.RefWideDwIdeal.τ) (Cert.RefWideDwIdeal.main (F := Ideal))) ⟨m', fun _ => 0, g'⟩ (fun r => ∀ c : Dev Cert.RefWideDwIdeal.nD,
          r.2.mem ((c.tc : Thread Cert.RefWideDwIdeal.nD Cert.RefWideDwIdeal.τ).loc Cert.RefWideDwIdeal.main_v15) = v0 c
          ∧ r.2.mem ((c.tc : Thread Cert.RefWideDwIdeal.nD Cert.RefWideDwIdeal.τ).loc Cert.RefWideDwIdeal.main_arg0) = m' ((c.tc : Thread Cert.RefWideDwIdeal.nD Cert.RefWideDwIdeal.τ).loc Cert.RefWideDwIdeal.main_arg0)
          ∧ r.2.mem ((c.tc : Thread Cert.RefWideDwIdeal.nD Cert.RefWideDwIdeal.τ).loc Cert.RefWideDwIdeal.main_arg1) = m' ((c.tc : Thread Cert.RefWideDwIdeal.nD Cert.RefWideDwIdeal.τ).loc Cert.RefWideDwIdeal.main_arg1)
          ∧ r.2.mem ((c.tc : Thread Cert.RefWideDwIdeal.nD Cert.RefWideDwIdeal.τ).loc Cert.RefWideDwIdeal.main_arg2) = m' ((c.tc : Thread Cert.RefWideDwIdeal.nD Cert.RefWideDwIdeal.τ).loc Cert.RefWideDwIdeal.main_arg2))

def preserves_Square_SquareIdeal : Prop :=
  True

def algebraic_SquareIdeal_RefSquareIdeal [hSquareIdeal : Cert.SquareIdeal.Facts] [hRefSquareIdeal : Cert.RefSquareIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.RefSquareIdeal.nD Cert.RefSquareIdeal.τ Cert.RefSquareIdeal.sig) → Buf (Elt Ideal) ℓ) (g' : Dev Cert.RefSquareIdeal.nD → PrngReg), Pre_SquareIdeal m →
    (∀ c : Dev Cert.SquareIdeal.nD,
      m' ((c.tc : Thread Cert.RefSquareIdeal.nD Cert.RefSquareIdeal.τ).loc Cert.RefSquareIdeal.main_arg0) = m ((c.tc : Thread Cert.SquareIdeal.nD Cert.SquareIdeal.τ).loc Cert.SquareIdeal.main_arg0)
      ∧ m' ((c.tc : Thread Cert.RefSquareIdeal.nD Cert.RefSquareIdeal.τ).loc Cert.RefSquareIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.RefSquareIdeal.defs (F := Ideal)) (onTc (τ := Cert.RefSquareIdeal.τ) (Cert.RefSquareIdeal.main (F := Ideal))) ⟨m', fun _ => 0, g'⟩ (fun r => ∀ c : Dev Cert.RefSquareIdeal.nD,
          r.2.mem ((c.tc : Thread Cert.RefSquareIdeal.nD Cert.RefSquareIdeal.τ).loc Cert.RefSquareIdeal.main_v3) = v0 c
          ∧ r.2.mem ((c.tc : Thread Cert.RefSquareIdeal.nD Cert.RefSquareIdeal.τ).loc Cert.RefSquareIdeal.main_arg0) = m' ((c.tc : Thread Cert.RefSquareIdeal.nD Cert.RefSquareIdeal.τ).loc Cert.RefSquareIdeal.main_arg0)
          ∧ r.2.mem ((c.tc : Thread Cert.RefSquareIdeal.nD Cert.RefSquareIdeal.τ).loc Cert.RefSquareIdeal.main_arg1) = m' ((c.tc : Thread Cert.RefSquareIdeal.nD Cert.RefSquareIdeal.τ).loc Cert.RefSquareIdeal.main_arg1))

def preserves_Wide_WideIdeal : Prop :=
  True

def algebraic_WideIdeal_RefWideIdeal [hWideIdeal : Cert.WideIdeal.Facts] [hRefWideIdeal : Cert.RefWideIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.RefWideIdeal.nD Cert.RefWideIdeal.τ Cert.RefWideIdeal.sig) → Buf (Elt Ideal) ℓ) (g' : Dev Cert.RefWideIdeal.nD → PrngReg), Pre_WideIdeal m →
    (∀ c : Dev Cert.WideIdeal.nD,
      m' ((c.tc : Thread Cert.RefWideIdeal.nD Cert.RefWideIdeal.τ).loc Cert.RefWideIdeal.main_arg0) = m ((c.tc : Thread Cert.WideIdeal.nD Cert.WideIdeal.τ).loc Cert.WideIdeal.main_arg0)
      ∧ m' ((c.tc : Thread Cert.RefWideIdeal.nD Cert.RefWideIdeal.τ).loc Cert.RefWideIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.RefWideIdeal.defs (F := Ideal)) (onTc (τ := Cert.RefWideIdeal.τ) (Cert.RefWideIdeal.main (F := Ideal))) ⟨m', fun _ => 0, g'⟩ (fun r => ∀ c : Dev Cert.RefWideIdeal.nD,
          r.2.mem ((c.tc : Thread Cert.RefWideIdeal.nD Cert.RefWideIdeal.τ).loc Cert.RefWideIdeal.main_v3) = v0 c
          ∧ r.2.mem ((c.tc : Thread Cert.RefWideIdeal.nD Cert.RefWideIdeal.τ).loc Cert.RefWideIdeal.main_arg0) = m' ((c.tc : Thread Cert.RefWideIdeal.nD Cert.RefWideIdeal.τ).loc Cert.RefWideIdeal.main_arg0)
          ∧ r.2.mem ((c.tc : Thread Cert.RefWideIdeal.nD Cert.RefWideIdeal.τ).loc Cert.RefWideIdeal.main_arg1) = m' ((c.tc : Thread Cert.RefWideIdeal.nD Cert.RefWideIdeal.τ).loc Cert.RefWideIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_SwigluBwd_SwigluBwdIdeal : Prop :=
  True

def algebraic_SwigluBwdIdeal_RefSwigluBwdIdeal [hSwigluBwdIdeal : Cert.SwigluBwdIdeal.Facts] [hRefSwigluBwdIdeal : Cert.RefSwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.RefSwigluBwdIdeal.nD Cert.RefSwigluBwdIdeal.τ Cert.RefSwigluBwdIdeal.sig) → Buf (Elt Ideal) ℓ) (g' : Dev Cert.RefSwigluBwdIdeal.nD → PrngReg), Pre_SwigluBwdIdeal m →
    (∀ c : Dev Cert.SwigluBwdIdeal.nD,
      m' ((c.tc : Thread Cert.RefSwigluBwdIdeal.nD Cert.RefSwigluBwdIdeal.τ).loc Cert.RefSwigluBwdIdeal.main_arg0) = m ((c.tc : Thread Cert.SwigluBwdIdeal.nD Cert.SwigluBwdIdeal.τ).loc Cert.SwigluBwdIdeal.main_arg0)
      ∧ m' ((c.tc : Thread Cert.RefSwigluBwdIdeal.nD Cert.RefSwigluBwdIdeal.τ).loc Cert.RefSwigluBwdIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.RefSwigluBwdIdeal.defs (F := Ideal)) (onTc (τ := Cert.RefSwigluBwdIdeal.τ) (Cert.RefSwigluBwdIdeal.main (F := Ideal))) ⟨m', fun _ => 0, g'⟩ (fun r => ∀ c : Dev Cert.RefSwigluBwdIdeal.nD,
          r.2.mem ((c.tc : Thread Cert.RefSwigluBwdIdeal.nD Cert.RefSwigluBwdIdeal.τ).loc Cert.RefSwigluBwdIdeal.main_v10) = v0 c
          ∧ r.2.mem ((c.tc : Thread Cert.RefSwigluBwdIdeal.nD Cert.RefSwigluBwdIdeal.τ).loc Cert.RefSwigluBwdIdeal.main_arg0) = m' ((c.tc : Thread Cert.RefSwigluBwdIdeal.nD Cert.RefSwigluBwdIdeal.τ).loc Cert.RefSwigluBwdIdeal.main_arg0)
          ∧ r.2.mem ((c.tc : Thread Cert.RefSwigluBwdIdeal.nD Cert.RefSwigluBwdIdeal.τ).loc Cert.RefSwigluBwdIdeal.main_arg1) = m' ((c.tc : Thread Cert.RefSwigluBwdIdeal.nD Cert.RefSwigluBwdIdeal.τ).loc Cert.RefSwigluBwdIdeal.main_arg1))

def preserves_MergeBwd_MergeBwdIdeal : Prop :=
  True

def algebraic_MergeBwdIdeal_RefMergeBwdIdeal [hMergeBwdIdeal : Cert.MergeBwdIdeal.Facts] [hRefMergeBwdIdeal : Cert.RefMergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.RefMergeBwdIdeal.nD Cert.RefMergeBwdIdeal.τ Cert.RefMergeBwdIdeal.sig) → Buf (Elt Ideal) ℓ) (g' : Dev Cert.RefMergeBwdIdeal.nD → PrngReg), Pre_MergeBwdIdeal m →
    (∀ c : Dev Cert.MergeBwdIdeal.nD,
      m' ((c.tc : Thread Cert.RefMergeBwdIdeal.nD Cert.RefMergeBwdIdeal.τ).loc Cert.RefMergeBwdIdeal.main_arg0) = m ((c.tc : Thread Cert.MergeBwdIdeal.nD Cert.MergeBwdIdeal.τ).loc Cert.MergeBwdIdeal.main_arg0)
      ∧ m' ((c.tc : Thread Cert.RefMergeBwdIdeal.nD Cert.RefMergeBwdIdeal.τ).loc Cert.RefMergeBwdIdeal.main_arg1) = m ((c.tc : Thread Cert.MergeBwdIdeal.nD Cert.MergeBwdIdeal.τ).loc Cert.MergeBwdIdeal.main_arg1)
      ∧ m' ((c.tc : Thread Cert.RefMergeBwdIdeal.nD Cert.RefMergeBwdIdeal.τ).loc Cert.RefMergeBwdIdeal.main_arg2) = m ((c.tc : Thread Cert.MergeBwdIdeal.nD Cert.MergeBwdIdeal.τ).loc Cert.MergeBwdIdeal.main_arg2)
      ∧ m' ((c.tc : Thread Cert.RefMergeBwdIdeal.nD Cert.RefMergeBwdIdeal.τ).loc Cert.RefMergeBwdIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.RefMergeBwdIdeal.defs (F := Ideal)) (onTc (τ := Cert.RefMergeBwdIdeal.τ) (Cert.RefMergeBwdIdeal.main (F := Ideal))) ⟨m', fun _ => 0, g'⟩ (fun r => ∀ c : Dev Cert.RefMergeBwdIdeal.nD,
          r.2.mem ((c.tc : Thread Cert.RefMergeBwdIdeal.nD Cert.RefMergeBwdIdeal.τ).loc Cert.RefMergeBwdIdeal.main_v34) = v0 c
          ∧ r.2.mem ((c.tc : Thread Cert.RefMergeBwdIdeal.nD Cert.RefMergeBwdIdeal.τ).loc Cert.RefMergeBwdIdeal.main_v35) = v1 c
          ∧ r.2.mem ((c.tc : Thread Cert.RefMergeBwdIdeal.nD Cert.RefMergeBwdIdeal.τ).loc Cert.RefMergeBwdIdeal.main_v37) = v2 c
          ∧ r.2.mem ((c.tc : Thread Cert.RefMergeBwdIdeal.nD Cert.RefMergeBwdIdeal.τ).loc Cert.RefMergeBwdIdeal.main_arg0) = m' ((c.tc : Thread Cert.RefMergeBwdIdeal.nD Cert.RefMergeBwdIdeal.τ).loc Cert.RefMergeBwdIdeal.main_arg0)
          ∧ r.2.mem ((c.tc : Thread Cert.RefMergeBwdIdeal.nD Cert.RefMergeBwdIdeal.τ).loc Cert.RefMergeBwdIdeal.main_arg1) = m' ((c.tc : Thread Cert.RefMergeBwdIdeal.nD Cert.RefMergeBwdIdeal.τ).loc Cert.RefMergeBwdIdeal.main_arg1)
          ∧ r.2.mem ((c.tc : Thread Cert.RefMergeBwdIdeal.nD Cert.RefMergeBwdIdeal.τ).loc Cert.RefMergeBwdIdeal.main_arg2) = m' ((c.tc : Thread Cert.RefMergeBwdIdeal.nD Cert.RefMergeBwdIdeal.τ).loc Cert.RefMergeBwdIdeal.main_arg2)
          ∧ r.2.mem ((c.tc : Thread Cert.RefMergeBwdIdeal.nD Cert.RefMergeBwdIdeal.τ).loc Cert.RefMergeBwdIdeal.main_arg3) = m' ((c.tc : Thread Cert.RefMergeBwdIdeal.nD Cert.RefMergeBwdIdeal.τ).loc Cert.RefMergeBwdIdeal.main_arg3))

def preserves_ModulateBwd_ModulateBwdIdeal : Prop :=
  True

def algebraic_ModulateBwdIdeal_RefModulateBwdIdeal [hModulateBwdIdeal : Cert.ModulateBwdIdeal.Facts] [hRefModulateBwdIdeal : Cert.RefModulateBwdIdeal.Facts] : Prop :=
  ∀ (m : (ℓ : Loc Cert.ModulateBwdIdeal.nD Cert.ModulateBwdIdeal.τ Cert.ModulateBwdIdeal.sig) → Buf (Elt Ideal) ℓ) (g : Dev Cert.ModulateBwdIdeal.nD → PrngReg)
    (m' : (ℓ : Loc Cert.RefModulateBwdIdeal.nD Cert.RefModulateBwdIdeal.τ Cert.RefModulateBwdIdeal.sig) → Buf (Elt Ideal) ℓ) (g' : Dev Cert.RefModulateBwdIdeal.nD → PrngReg), Pre_ModulateBwdIdeal m →
    (∀ c : Dev Cert.ModulateBwdIdeal.nD,
      m' ((c.tc : Thread Cert.RefModulateBwdIdeal.nD Cert.RefModulateBwdIdeal.τ).loc Cert.RefModulateBwdIdeal.main_arg0) = m ((c.tc : Thread Cert.ModulateBwdIdeal.nD Cert.ModulateBwdIdeal.τ).loc Cert.ModulateBwdIdeal.main_arg0)
      ∧ m' ((c.tc : Thread Cert.RefModulateBwdIdeal.nD Cert.RefModulateBwdIdeal.τ).loc Cert.RefModulateBwdIdeal.main_arg1) = m ((c.tc : Thread Cert.ModulateBwdIdeal.nD Cert.ModulateBwdIdeal.τ).loc Cert.ModulateBwdIdeal.main_arg1)
      ∧ m' ((c.tc : Thread Cert.RefModulateBwdIdeal.nD Cert.RefModulateBwdIdeal.τ).loc Cert.RefModulateBwdIdeal.main_arg2) = m ((c.tc : Thread Cert.ModulateBwdIdeal.nD Cert.ModulateBwdIdeal.τ).loc Cert.ModulateBwdIdeal.main_arg2)
      ∧ m' ((c.tc : Thread Cert.RefModulateBwdIdeal.nD Cert.RefModulateBwdIdeal.τ).loc Cert.RefModulateBwdIdeal.main_arg3) = m ((c.tc : Thread Cert.ModulateBwdIdeal.nD Cert.ModulateBwdIdeal.τ).loc Cert.ModulateBwdIdeal.main_arg3)) →
    ∃ (v0 : (c : Dev Cert.ModulateBwdIdeal.nD) → Buf (Elt Ideal) ((c.tc : Thread Cert.ModulateBwdIdeal.nD Cert.ModulateBwdIdeal.τ).loc Cert.ModulateBwdIdeal.main_v0_0)) (v1 : (c : Dev Cert.ModulateBwdIdeal.nD) → Buf (Elt Ideal) ((c.tc : Thread Cert.ModulateBwdIdeal.nD Cert.ModulateBwdIdeal.τ).loc Cert.ModulateBwdIdeal.main_v0_1)) (v2 : (c : Dev Cert.ModulateBwdIdeal.nD) → Buf (Elt Ideal) ((c.tc : Thread Cert.ModulateBwdIdeal.nD Cert.ModulateBwdIdeal.τ).loc Cert.ModulateBwdIdeal.main_v0_2)),
      θ_run (Cert.ModulateBwdIdeal.defs (F := Ideal)) (onTc (τ := Cert.ModulateBwdIdeal.τ) (Cert.ModulateBwdIdeal.main (F := Ideal))) ⟨m, fun _ => 0, g⟩ (fun r => ∀ c : Dev Cert.ModulateBwdIdeal.nD,
          r.2.mem ((c.tc : Thread Cert.ModulateBwdIdeal.nD Cert.ModulateBwdIdeal.τ).loc Cert.ModulateBwdIdeal.main_v0_0) = v0 c
          ∧ r.2.mem ((c.tc : Thread Cert.ModulateBwdIdeal.nD Cert.ModulateBwdIdeal.τ).loc Cert.ModulateBwdIdeal.main_v0_1) = v1 c
          ∧ r.2.mem ((c.tc : Thread Cert.ModulateBwdIdeal.nD Cert.ModulateBwdIdeal.τ).loc Cert.ModulateBwdIdeal.main_v0_2) = v2 c
          ∧ r.2.mem ((c.tc : Thread Cert.ModulateBwdIdeal.nD Cert.ModulateBwdIdeal.τ).loc Cert.ModulateBwdIdeal.main_arg0) = m ((c.tc : Thread Cert.ModulateBwdIdeal.nD Cert.ModulateBwdIdeal.τ).loc Cert.ModulateBwdIdeal.main_arg0)
          ∧ r.2.mem ((c.tc : Thread Cert.ModulateBwdIdeal.nD Cert.ModulateBwdIdeal.τ).loc Cert.ModulateBwdIdeal.main_arg1) = m ((c.tc : Thread Cert.ModulateBwdIdeal.nD Cert.ModulateBwdIdeal.τ).loc Cert.ModulateBwdIdeal.main_arg1)
          ∧ r.2.mem ((c.tc : Thread Cert.ModulateBwdIdeal.nD Cert.ModulateBwdIdeal.τ).loc Cert.ModulateBwdIdeal.main_arg2) = m ((c.tc : Thread Cert.ModulateBwdIdeal.nD Cert.ModulateBwdIdeal.τ).loc Cert.ModulateBwdIdeal.main_arg2)
          ∧ r.2.mem ((c.tc : Thread Cert.ModulateBwdIdeal.nD Cert.ModulateBwdIdeal.τ).loc Cert.ModulateBwdIdeal.main_arg3) = m ((c.tc : Thread Cert.ModulateBwdIdeal.nD Cert.ModulateBwdIdeal.τ).loc Cert.ModulateBwdIdeal.main_arg3))
      ∧ θ_run (Cert.RefModulateBwdIdeal.defs (F := Ideal)) (onTc (τ := Cert.RefModulateBwdIdeal.τ) (Cert.RefModulateBwdIdeal.main (F := Ideal))) ⟨m', fun _ => 0, g'⟩ (fun r => ∀ c : Dev Cert.RefModulateBwdIdeal.nD,
          r.2.mem ((c.tc : Thread Cert.RefModulateBwdIdeal.nD Cert.RefModulateBwdIdeal.τ).loc Cert.RefModulateBwdIdeal.main_v15) = v0 c
          ∧ r.2.mem ((c.tc : Thread Cert.RefModulateBwdIdeal.nD Cert.RefModulateBwdIdeal.τ).loc Cert.RefModulateBwdIdeal.main_v12) = v1 c
          ∧ r.2.mem ((c.tc : Thread Cert.RefModulateBwdIdeal.nD Cert.RefModulateBwdIdeal.τ).loc Cert.RefModulateBwdIdeal.main_v9) = v2 c
          ∧ r.2.mem ((c.tc : Thread Cert.RefModulateBwdIdeal.nD Cert.RefModulateBwdIdeal.τ).loc Cert.RefModulateBwdIdeal.main_arg0) = m' ((c.tc : Thread Cert.RefModulateBwdIdeal.nD Cert.RefModulateBwdIdeal.τ).loc Cert.RefModulateBwdIdeal.main_arg0)
          ∧ r.2.mem ((c.tc : Thread Cert.RefModulateBwdIdeal.nD Cert.RefModulateBwdIdeal.τ).loc Cert.RefModulateBwdIdeal.main_arg1) = m' ((c.tc : Thread Cert.RefModulateBwdIdeal.nD Cert.RefModulateBwdIdeal.τ).loc Cert.RefModulateBwdIdeal.main_arg1)
          ∧ r.2.mem ((c.tc : Thread Cert.RefModulateBwdIdeal.nD Cert.RefModulateBwdIdeal.τ).loc Cert.RefModulateBwdIdeal.main_arg2) = m' ((c.tc : Thread Cert.RefModulateBwdIdeal.nD Cert.RefModulateBwdIdeal.τ).loc Cert.RefModulateBwdIdeal.main_arg2)
          ∧ r.2.mem ((c.tc : Thread Cert.RefModulateBwdIdeal.nD Cert.RefModulateBwdIdeal.τ).loc Cert.RefModulateBwdIdeal.main_arg3) = m' ((c.tc : Thread Cert.RefModulateBwdIdeal.nD Cert.RefModulateBwdIdeal.τ).loc Cert.RefModulateBwdIdeal.main_arg3))

def preserves_QkvBwd_QkvBwdIdeal : Prop :=
  True

def algebraic_QkvBwdIdeal_RefQkvBwdIdeal [hQkvBwdIdeal : Cert.QkvBwdIdeal.Facts] [hRefQkvBwdIdeal : Cert.RefQkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.RefQkvBwdIdeal.nD Cert.RefQkvBwdIdeal.τ Cert.RefQkvBwdIdeal.sig) → Buf (Elt Ideal) ℓ) (g' : Dev Cert.RefQkvBwdIdeal.nD → PrngReg), Pre_QkvBwdIdeal m →
    (∀ c : Dev Cert.QkvBwdIdeal.nD,
      m' ((c.tc : Thread Cert.RefQkvBwdIdeal.nD Cert.RefQkvBwdIdeal.τ).loc Cert.RefQkvBwdIdeal.main_arg0) = m ((c.tc : Thread Cert.QkvBwdIdeal.nD Cert.QkvBwdIdeal.τ).loc Cert.QkvBwdIdeal.main_arg0)
      ∧ m' ((c.tc : Thread Cert.RefQkvBwdIdeal.nD Cert.RefQkvBwdIdeal.τ).loc Cert.RefQkvBwdIdeal.main_arg1) = m ((c.tc : Thread Cert.QkvBwdIdeal.nD Cert.QkvBwdIdeal.τ).loc Cert.QkvBwdIdeal.main_arg1)
      ∧ m' ((c.tc : Thread Cert.RefQkvBwdIdeal.nD Cert.RefQkvBwdIdeal.τ).loc Cert.RefQkvBwdIdeal.main_arg2) = m ((c.tc : Thread Cert.QkvBwdIdeal.nD Cert.QkvBwdIdeal.τ).loc Cert.QkvBwdIdeal.main_arg2)
      ∧ m' ((c.tc : Thread Cert.RefQkvBwdIdeal.nD Cert.RefQkvBwdIdeal.τ).loc Cert.RefQkvBwdIdeal.main_arg3) = m ((c.tc : Thread Cert.QkvBwdIdeal.nD Cert.QkvBwdIdeal.τ).loc Cert.QkvBwdIdeal.main_arg3)
      ∧ m' ((c.tc : Thread Cert.RefQkvBwdIdeal.nD Cert.RefQkvBwdIdeal.τ).loc Cert.RefQkvBwdIdeal.main_arg4) = m ((c.tc : Thread Cert.QkvBwdIdeal.nD Cert.QkvBwdIdeal.τ).loc Cert.QkvBwdIdeal.main_arg4)) →
    ∃ (v0 : (c : Dev Cert.QkvBwdIdeal.nD) → Buf (Elt Ideal) ((c.tc : Thread Cert.QkvBwdIdeal.nD Cert.QkvBwdIdeal.τ).loc Cert.QkvBwdIdeal.main_v8)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v8) = v0 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4))
      ∧ θ_run (Cert.RefQkvBwdIdeal.defs (F := Ideal)) (onTc (τ := Cert.RefQkvBwdIdeal.τ) (Cert.RefQkvBwdIdeal.main (F := Ideal))) ⟨m', fun _ => 0, g'⟩ (fun r => ∀ c : Dev Cert.RefQkvBwdIdeal.nD,
          r.2.mem ((c.tc : Thread Cert.RefQkvBwdIdeal.nD Cert.RefQkvBwdIdeal.τ).loc Cert.RefQkvBwdIdeal.main_v81) = v0 c
          ∧ r.2.mem ((c.tc : Thread Cert.RefQkvBwdIdeal.nD Cert.RefQkvBwdIdeal.τ).loc Cert.RefQkvBwdIdeal.main_arg0) = m' ((c.tc : Thread Cert.RefQkvBwdIdeal.nD Cert.RefQkvBwdIdeal.τ).loc Cert.RefQkvBwdIdeal.main_arg0)
          ∧ r.2.mem ((c.tc : Thread Cert.RefQkvBwdIdeal.nD Cert.RefQkvBwdIdeal.τ).loc Cert.RefQkvBwdIdeal.main_arg1) = m' ((c.tc : Thread Cert.RefQkvBwdIdeal.nD Cert.RefQkvBwdIdeal.τ).loc Cert.RefQkvBwdIdeal.main_arg1)
          ∧ r.2.mem ((c.tc : Thread Cert.RefQkvBwdIdeal.nD Cert.RefQkvBwdIdeal.τ).loc Cert.RefQkvBwdIdeal.main_arg2) = m' ((c.tc : Thread Cert.RefQkvBwdIdeal.nD Cert.RefQkvBwdIdeal.τ).loc Cert.RefQkvBwdIdeal.main_arg2)
          ∧ r.2.mem ((c.tc : Thread Cert.RefQkvBwdIdeal.nD Cert.RefQkvBwdIdeal.τ).loc Cert.RefQkvBwdIdeal.main_arg3) = m' ((c.tc : Thread Cert.RefQkvBwdIdeal.nD Cert.RefQkvBwdIdeal.τ).loc Cert.RefQkvBwdIdeal.main_arg3)
          ∧ r.2.mem ((c.tc : Thread Cert.RefQkvBwdIdeal.nD Cert.RefQkvBwdIdeal.τ).loc Cert.RefQkvBwdIdeal.main_arg4) = m' ((c.tc : Thread Cert.RefQkvBwdIdeal.nD Cert.RefQkvBwdIdeal.τ).loc Cert.RefQkvBwdIdeal.main_arg4))

def preserves_Swiglu_SwigluIdeal : Prop :=
  True

def algebraic_SwigluIdeal_RefSwigluIdeal [hSwigluIdeal : Cert.SwigluIdeal.Facts] [hRefSwigluIdeal : Cert.RefSwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.RefSwigluIdeal.nD Cert.RefSwigluIdeal.τ Cert.RefSwigluIdeal.sig) → Buf (Elt Ideal) ℓ) (g' : Dev Cert.RefSwigluIdeal.nD → PrngReg), Pre_SwigluIdeal m →
    (∀ c : Dev Cert.SwigluIdeal.nD,
      m' ((c.tc : Thread Cert.RefSwigluIdeal.nD Cert.RefSwigluIdeal.τ).loc Cert.RefSwigluIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.RefSwigluIdeal.defs (F := Ideal)) (onTc (τ := Cert.RefSwigluIdeal.τ) (Cert.RefSwigluIdeal.main (F := Ideal))) ⟨m', fun _ => 0, g'⟩ (fun r => ∀ c : Dev Cert.RefSwigluIdeal.nD,
          r.2.mem ((c.tc : Thread Cert.RefSwigluIdeal.nD Cert.RefSwigluIdeal.τ).loc Cert.RefSwigluIdeal.main_v5) = v0 c
          ∧ r.2.mem ((c.tc : Thread Cert.RefSwigluIdeal.nD Cert.RefSwigluIdeal.τ).loc Cert.RefSwigluIdeal.main_arg0) = m' ((c.tc : Thread Cert.RefSwigluIdeal.nD Cert.RefSwigluIdeal.τ).loc Cert.RefSwigluIdeal.main_arg0))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v21) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v10) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0))

def preserves_Modulate_ModulateIdeal : Prop :=
  True

def algebraic_ModulateIdeal_RefModulateIdeal [hModulateIdeal : Cert.ModulateIdeal.Facts] [hRefModulateIdeal : Cert.RefModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.RefModulateIdeal.nD Cert.RefModulateIdeal.τ Cert.RefModulateIdeal.sig) → Buf (Elt Ideal) ℓ) (g' : Dev Cert.RefModulateIdeal.nD → PrngReg), Pre_ModulateIdeal m →
    (∀ c : Dev Cert.ModulateIdeal.nD,
      m' ((c.tc : Thread Cert.RefModulateIdeal.nD Cert.RefModulateIdeal.τ).loc Cert.RefModulateIdeal.main_arg0) = m ((c.tc : Thread Cert.ModulateIdeal.nD Cert.ModulateIdeal.τ).loc Cert.ModulateIdeal.main_arg0)
      ∧ m' ((c.tc : Thread Cert.RefModulateIdeal.nD Cert.RefModulateIdeal.τ).loc Cert.RefModulateIdeal.main_arg1) = m ((c.tc : Thread Cert.ModulateIdeal.nD Cert.ModulateIdeal.τ).loc Cert.ModulateIdeal.main_arg1)
      ∧ m' ((c.tc : Thread Cert.RefModulateIdeal.nD Cert.RefModulateIdeal.τ).loc Cert.RefModulateIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.RefModulateIdeal.defs (F := Ideal)) (onTc (τ := Cert.RefModulateIdeal.τ) (Cert.RefModulateIdeal.main (F := Ideal))) ⟨m', fun _ => 0, g'⟩ (fun r => ∀ c : Dev Cert.RefModulateIdeal.nD,
          r.2.mem ((c.tc : Thread Cert.RefModulateIdeal.nD Cert.RefModulateIdeal.τ).loc Cert.RefModulateIdeal.main_v6) = v0 c
          ∧ r.2.mem ((c.tc : Thread Cert.RefModulateIdeal.nD Cert.RefModulateIdeal.τ).loc Cert.RefModulateIdeal.main_arg0) = m' ((c.tc : Thread Cert.RefModulateIdeal.nD Cert.RefModulateIdeal.τ).loc Cert.RefModulateIdeal.main_arg0)
          ∧ r.2.mem ((c.tc : Thread Cert.RefModulateIdeal.nD Cert.RefModulateIdeal.τ).loc Cert.RefModulateIdeal.main_arg1) = m' ((c.tc : Thread Cert.RefModulateIdeal.nD Cert.RefModulateIdeal.τ).loc Cert.RefModulateIdeal.main_arg1)
          ∧ r.2.mem ((c.tc : Thread Cert.RefModulateIdeal.nD Cert.RefModulateIdeal.τ).loc Cert.RefModulateIdeal.main_arg2) = m' ((c.tc : Thread Cert.RefModulateIdeal.nD Cert.RefModulateIdeal.τ).loc Cert.RefModulateIdeal.main_arg2))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v8_0)) (v1 : (c : Dev Cert.QkvIdeal.nD) → Buf (Elt Ideal) ((c.tc : Thread Cert.QkvIdeal.nD Cert.QkvIdeal.τ).loc Cert.QkvIdeal.main_v8_1)) (v2 : (c : Dev Cert.QkvIdeal.nD) → Buf (Elt Ideal) ((c.tc : Thread Cert.QkvIdeal.nD Cert.QkvIdeal.τ).loc Cert.QkvIdeal.main_v8_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8_0) = v0 c
          ∧ r.2.mem ((c.tc : Thread Cert.QkvIdeal.nD Cert.QkvIdeal.τ).loc Cert.QkvIdeal.main_v8_1) = v1 c
          ∧ r.2.mem ((c.tc : Thread Cert.QkvIdeal.nD Cert.QkvIdeal.τ).loc Cert.QkvIdeal.main_v8_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v22) = v0 c
          ∧ r.2.mem ((c.tc : Thread Cert.RefQkvIdeal.nD Cert.RefQkvIdeal.τ).loc Cert.RefQkvIdeal.main_v41) = v1 c
          ∧ r.2.mem ((c.tc : Thread Cert.RefQkvIdeal.nD Cert.RefQkvIdeal.τ).loc Cert.RefQkvIdeal.main_v42) = v2 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_ResLn_ResLnIdeal : Prop :=
  True

def algebraic_ResLnIdeal_RefResLnIdeal [hResLnIdeal : Cert.ResLnIdeal.Facts] [hRefResLnIdeal : Cert.RefResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.RefResLnIdeal.nD Cert.RefResLnIdeal.τ Cert.RefResLnIdeal.sig) → Buf (Elt Ideal) ℓ) (g' : Dev Cert.RefResLnIdeal.nD → PrngReg), Pre_ResLnIdeal m →
    (∀ c : Dev Cert.ResLnIdeal.nD,
      m' ((c.tc : Thread Cert.RefResLnIdeal.nD Cert.RefResLnIdeal.τ).loc Cert.RefResLnIdeal.main_arg0) = m ((c.tc : Thread Cert.ResLnIdeal.nD Cert.ResLnIdeal.τ).loc Cert.ResLnIdeal.main_arg0)
      ∧ m' ((c.tc : Thread Cert.RefResLnIdeal.nD Cert.RefResLnIdeal.τ).loc Cert.RefResLnIdeal.main_arg1) = m ((c.tc : Thread Cert.ResLnIdeal.nD Cert.ResLnIdeal.τ).loc Cert.ResLnIdeal.main_arg1)
      ∧ m' ((c.tc : Thread Cert.RefResLnIdeal.nD Cert.RefResLnIdeal.τ).loc Cert.RefResLnIdeal.main_arg2) = m ((c.tc : Thread Cert.ResLnIdeal.nD Cert.ResLnIdeal.τ).loc Cert.ResLnIdeal.main_arg2)
      ∧ m' ((c.tc : Thread Cert.RefResLnIdeal.nD Cert.RefResLnIdeal.τ).loc Cert.RefResLnIdeal.main_arg3) = m ((c.tc : Thread Cert.ResLnIdeal.nD Cert.ResLnIdeal.τ).loc Cert.ResLnIdeal.main_arg3)
      ∧ m' ((c.tc : Thread Cert.RefResLnIdeal.nD Cert.RefResLnIdeal.τ).loc Cert.RefResLnIdeal.main_arg4) = m ((c.tc : Thread Cert.ResLnIdeal.nD Cert.ResLnIdeal.τ).loc Cert.ResLnIdeal.main_arg4)
      ∧ m' ((c.tc : Thread Cert.RefResLnIdeal.nD Cert.RefResLnIdeal.τ).loc Cert.RefResLnIdeal.main_arg5) = m ((c.tc : Thread Cert.ResLnIdeal.nD Cert.ResLnIdeal.τ).loc Cert.ResLnIdeal.main_arg5)
      ∧ m' ((c.tc : Thread Cert.RefResLnIdeal.nD Cert.RefResLnIdeal.τ).loc Cert.RefResLnIdeal.main_arg6) = m ((c.tc : Thread Cert.ResLnIdeal.nD Cert.ResLnIdeal.τ).loc Cert.ResLnIdeal.main_arg6)) →
    ∃ (v0 : (c : Dev Cert.ResLnIdeal.nD) → Buf (Elt Ideal) ((c.tc : Thread Cert.ResLnIdeal.nD Cert.ResLnIdeal.τ).loc Cert.ResLnIdeal.main_v0_0)) (v1 : (c : Dev Cert.ResLnIdeal.nD) → Buf (Elt Ideal) ((c.tc : Thread Cert.ResLnIdeal.nD Cert.ResLnIdeal.τ).loc Cert.ResLnIdeal.main_v0_1)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v0_0) = v0 c
          ∧ r.2.mem ((c.tc : Thread Cert.ResLnIdeal.nD Cert.ResLnIdeal.τ).loc Cert.ResLnIdeal.main_v0_1) = v1 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
          ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4)
          ∧ r.2.mem ((c.tc : Thread Cert.ResLnIdeal.nD Cert.ResLnIdeal.τ).loc Cert.ResLnIdeal.main_arg5) = m ((c.tc : Thread Cert.ResLnIdeal.nD Cert.ResLnIdeal.τ).loc Cert.ResLnIdeal.main_arg5)
          ∧ r.2.mem ((c.tc : Thread Cert.ResLnIdeal.nD Cert.ResLnIdeal.τ).loc Cert.ResLnIdeal.main_arg6) = m ((c.tc : Thread Cert.ResLnIdeal.nD Cert.ResLnIdeal.τ).loc Cert.ResLnIdeal.main_arg6))
      ∧ θ_run (Cert.RefResLnIdeal.defs (F := Ideal)) (onTc (τ := Cert.RefResLnIdeal.τ) (Cert.RefResLnIdeal.main (F := Ideal))) ⟨m', fun _ => 0, g'⟩ (fun r => ∀ c : Dev Cert.RefResLnIdeal.nD,
          r.2.mem ((c.tc : Thread Cert.RefResLnIdeal.nD Cert.RefResLnIdeal.τ).loc Cert.RefResLnIdeal.main_v27) = v0 c
          ∧ r.2.mem ((c.tc : Thread Cert.RefResLnIdeal.nD Cert.RefResLnIdeal.τ).loc Cert.RefResLnIdeal.main_v34) = v1 c
          ∧ r.2.mem ((c.tc : Thread Cert.RefResLnIdeal.nD Cert.RefResLnIdeal.τ).loc Cert.RefResLnIdeal.main_arg0) = m' ((c.tc : Thread Cert.RefResLnIdeal.nD Cert.RefResLnIdeal.τ).loc Cert.RefResLnIdeal.main_arg0)
          ∧ r.2.mem ((c.tc : Thread Cert.RefResLnIdeal.nD Cert.RefResLnIdeal.τ).loc Cert.RefResLnIdeal.main_arg1) = m' ((c.tc : Thread Cert.RefResLnIdeal.nD Cert.RefResLnIdeal.τ).loc Cert.RefResLnIdeal.main_arg1)
          ∧ r.2.mem ((c.tc : Thread Cert.RefResLnIdeal.nD Cert.RefResLnIdeal.τ).loc Cert.RefResLnIdeal.main_arg2) = m' ((c.tc : Thread Cert.RefResLnIdeal.nD Cert.RefResLnIdeal.τ).loc Cert.RefResLnIdeal.main_arg2)
          ∧ r.2.mem ((c.tc : Thread Cert.RefResLnIdeal.nD Cert.RefResLnIdeal.τ).loc Cert.RefResLnIdeal.main_arg3) = m' ((c.tc : Thread Cert.RefResLnIdeal.nD Cert.RefResLnIdeal.τ).loc Cert.RefResLnIdeal.main_arg3)
          ∧ r.2.mem ((c.tc : Thread Cert.RefResLnIdeal.nD Cert.RefResLnIdeal.τ).loc Cert.RefResLnIdeal.main_arg4) = m' ((c.tc : Thread Cert.RefResLnIdeal.nD Cert.RefResLnIdeal.τ).loc Cert.RefResLnIdeal.main_arg4)
          ∧ r.2.mem ((c.tc : Thread Cert.RefResLnIdeal.nD Cert.RefResLnIdeal.τ).loc Cert.RefResLnIdeal.main_arg5) = m' ((c.tc : Thread Cert.RefResLnIdeal.nD Cert.RefResLnIdeal.τ).loc Cert.RefResLnIdeal.main_arg5)
          ∧ r.2.mem ((c.tc : Thread Cert.RefResLnIdeal.nD Cert.RefResLnIdeal.τ).loc Cert.RefResLnIdeal.main_arg6) = m' ((c.tc : Thread Cert.RefResLnIdeal.nD Cert.RefResLnIdeal.τ).loc Cert.RefResLnIdeal.main_arg6))

def preserves_Attn_AttnIdeal : Prop :=
  IdealRules.named_const.Statement Cert.AttnIdeal.κ "mask" .f32 0xF149F2CA#32 ⊥

def algebraic_AttnIdeal_RefAttnIdeal_pre_finite_scores [hAttnIdeal : Cert.AttnIdeal.Facts] [hRefAttnIdeal : Cert.RefAttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_scores m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v39) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3))

def Claim : Prop :=
  ∃ (hKernel : Cert.Kernel.Facts) (hKernelIdeal : Cert.KernelIdeal.Facts) (hReferenceIdeal : Cert.ReferenceIdeal.Facts) (hSquareDx : Cert.SquareDx.Facts) (hSquareDxIdeal : Cert.SquareDxIdeal.Facts) (hRefSquareDxIdeal : Cert.RefSquareDxIdeal.Facts) (hDownDx : Cert.DownDx.Facts) (hDownDxIdeal : Cert.DownDxIdeal.Facts) (hRefDownDxIdeal : Cert.RefDownDxIdeal.Facts) (hWideDx : Cert.WideDx.Facts) (hWideDxIdeal : Cert.WideDxIdeal.Facts) (hRefWideDxIdeal : Cert.RefWideDxIdeal.Facts) (hSquareDw : Cert.SquareDw.Facts) (hSquareDwIdeal : Cert.SquareDwIdeal.Facts) (hRefSquareDwIdeal : Cert.RefSquareDwIdeal.Facts) (hDownDw : Cert.DownDw.Facts) (hDownDwIdeal : Cert.DownDwIdeal.Facts) (hRefDownDwIdeal : Cert.RefDownDwIdeal.Facts) (hWideDw : Cert.WideDw.Facts) (hWideDwIdeal : Cert.WideDwIdeal.Facts) (hRefWideDwIdeal : Cert.RefWideDwIdeal.Facts) (hSquare : Cert.Square.Facts) (hSquareIdeal : Cert.SquareIdeal.Facts) (hRefSquareIdeal : Cert.RefSquareIdeal.Facts) (hWide : Cert.Wide.Facts) (hWideIdeal : Cert.WideIdeal.Facts) (hRefWideIdeal : Cert.RefWideIdeal.Facts) (hDown : Cert.Down.Facts) (hDownIdeal : Cert.DownIdeal.Facts) (hRefDownIdeal : Cert.RefDownIdeal.Facts) (hSwigluBwd : Cert.SwigluBwd.Facts) (hSwigluBwdIdeal : Cert.SwigluBwdIdeal.Facts) (hRefSwigluBwdIdeal : Cert.RefSwigluBwdIdeal.Facts) (hMergeBwd : Cert.MergeBwd.Facts) (hMergeBwdIdeal : Cert.MergeBwdIdeal.Facts) (hRefMergeBwdIdeal : Cert.RefMergeBwdIdeal.Facts) (hModulateBwd : Cert.ModulateBwd.Facts) (hModulateBwdIdeal : Cert.ModulateBwdIdeal.Facts) (hRefModulateBwdIdeal : Cert.RefModulateBwdIdeal.Facts) (hQkvBwd : Cert.QkvBwd.Facts) (hQkvBwdIdeal : Cert.QkvBwdIdeal.Facts) (hRefQkvBwdIdeal : Cert.RefQkvBwdIdeal.Facts) (hSwiglu : Cert.Swiglu.Facts) (hSwigluIdeal : Cert.SwigluIdeal.Facts) (hRefSwigluIdeal : Cert.RefSwigluIdeal.Facts) (hMerge : Cert.Merge.Facts) (hMergeIdeal : Cert.MergeIdeal.Facts) (hRefMergeIdeal : Cert.RefMergeIdeal.Facts) (hGlu : Cert.Glu.Facts) (hGluIdeal : Cert.GluIdeal.Facts) (hRefGluIdeal : Cert.RefGluIdeal.Facts) (hModulate : Cert.Modulate.Facts) (hModulateIdeal : Cert.ModulateIdeal.Facts) (hRefModulateIdeal : Cert.RefModulateIdeal.Facts) (hQkv : Cert.Qkv.Facts) (hQkvIdeal : Cert.QkvIdeal.Facts) (hRefQkvIdeal : Cert.RefQkvIdeal.Facts) (hResLn : Cert.ResLn.Facts) (hResLnIdeal : Cert.ResLnIdeal.Facts) (hRefResLnIdeal : Cert.RefResLnIdeal.Facts) (hAttn : Cert.Attn.Facts) (hAttnIdeal : Cert.AttnIdeal.Facts) (hRefAttnIdeal : Cert.RefAttnIdeal.Facts) (hPre_finite : Cert.Pre_finite.Facts) (hPre_square_core : Cert.Pre_square_core.Facts) (hPre_down_core : Cert.Pre_down_core.Facts) (hPre_wide_core : Cert.Pre_wide_core.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SquareDx (hSquareDx := hSquareDx)
    ∧ quiescent_SquareDxIdeal (hSquareDxIdeal := hSquareDxIdeal)
    ∧ quiescent_RefSquareDxIdeal (hRefSquareDxIdeal := hRefSquareDxIdeal)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_WideDx (hWideDx := hWideDx)
    ∧ quiescent_WideDxIdeal (hWideDxIdeal := hWideDxIdeal)
    ∧ quiescent_RefWideDxIdeal (hRefWideDxIdeal := hRefWideDxIdeal)
    ∧ quiescent_SquareDw (hSquareDw := hSquareDw)
    ∧ quiescent_SquareDwIdeal (hSquareDwIdeal := hSquareDwIdeal)
    ∧ quiescent_SquareDwIdeal_pre_square_core (hSquareDwIdeal := hSquareDwIdeal) (hPre_square_core := hPre_square_core)
    ∧ quiescent_RefSquareDwIdeal (hRefSquareDwIdeal := hRefSquareDwIdeal)
    ∧ quiescent_RefSquareDwIdeal_pre_square_core (hRefSquareDwIdeal := hRefSquareDwIdeal) (hPre_square_core := hPre_square_core)
    ∧ quiescent_DownDw (hDownDw := hDownDw)
    ∧ quiescent_DownDwIdeal (hDownDwIdeal := hDownDwIdeal)
    ∧ quiescent_DownDwIdeal_pre_down_core (hDownDwIdeal := hDownDwIdeal) (hPre_down_core := hPre_down_core)
    ∧ quiescent_RefDownDwIdeal (hRefDownDwIdeal := hRefDownDwIdeal)
    ∧ quiescent_RefDownDwIdeal_pre_down_core (hRefDownDwIdeal := hRefDownDwIdeal) (hPre_down_core := hPre_down_core)
    ∧ quiescent_WideDw (hWideDw := hWideDw)
    ∧ quiescent_WideDwIdeal (hWideDwIdeal := hWideDwIdeal)
    ∧ quiescent_WideDwIdeal_pre_wide_core (hWideDwIdeal := hWideDwIdeal) (hPre_wide_core := hPre_wide_core)
    ∧ quiescent_RefWideDwIdeal (hRefWideDwIdeal := hRefWideDwIdeal)
    ∧ quiescent_RefWideDwIdeal_pre_wide_core (hRefWideDwIdeal := hRefWideDwIdeal) (hPre_wide_core := hPre_wide_core)
    ∧ quiescent_Square (hSquare := hSquare)
    ∧ quiescent_SquareIdeal (hSquareIdeal := hSquareIdeal)
    ∧ quiescent_RefSquareIdeal (hRefSquareIdeal := hRefSquareIdeal)
    ∧ quiescent_Wide (hWide := hWide)
    ∧ quiescent_WideIdeal (hWideIdeal := hWideIdeal)
    ∧ quiescent_RefWideIdeal (hRefWideIdeal := hRefWideIdeal)
    ∧ quiescent_Down (hDown := hDown)
    ∧ quiescent_DownIdeal (hDownIdeal := hDownIdeal)
    ∧ quiescent_RefDownIdeal (hRefDownIdeal := hRefDownIdeal)
    ∧ quiescent_SwigluBwd (hSwigluBwd := hSwigluBwd)
    ∧ quiescent_SwigluBwdIdeal (hSwigluBwdIdeal := hSwigluBwdIdeal)
    ∧ quiescent_RefSwigluBwdIdeal (hRefSwigluBwdIdeal := hRefSwigluBwdIdeal)
    ∧ quiescent_MergeBwd (hMergeBwd := hMergeBwd)
    ∧ quiescent_MergeBwdIdeal (hMergeBwdIdeal := hMergeBwdIdeal)
    ∧ quiescent_RefMergeBwdIdeal (hRefMergeBwdIdeal := hRefMergeBwdIdeal)
    ∧ quiescent_ModulateBwd (hModulateBwd := hModulateBwd)
    ∧ quiescent_ModulateBwdIdeal (hModulateBwdIdeal := hModulateBwdIdeal)
    ∧ quiescent_RefModulateBwdIdeal (hRefModulateBwdIdeal := hRefModulateBwdIdeal)
    ∧ quiescent_QkvBwd (hQkvBwd := hQkvBwd)
    ∧ quiescent_QkvBwdIdeal (hQkvBwdIdeal := hQkvBwdIdeal)
    ∧ quiescent_RefQkvBwdIdeal (hRefQkvBwdIdeal := hRefQkvBwdIdeal)
    ∧ quiescent_Swiglu (hSwiglu := hSwiglu)
    ∧ quiescent_SwigluIdeal (hSwigluIdeal := hSwigluIdeal)
    ∧ quiescent_RefSwigluIdeal (hRefSwigluIdeal := hRefSwigluIdeal)
    ∧ quiescent_Merge (hMerge := hMerge)
    ∧ quiescent_MergeIdeal (hMergeIdeal := hMergeIdeal)
    ∧ quiescent_RefMergeIdeal (hRefMergeIdeal := hRefMergeIdeal)
    ∧ quiescent_Glu (hGlu := hGlu)
    ∧ quiescent_GluIdeal (hGluIdeal := hGluIdeal)
    ∧ quiescent_RefGluIdeal (hRefGluIdeal := hRefGluIdeal)
    ∧ quiescent_Modulate (hModulate := hModulate)
    ∧ quiescent_ModulateIdeal (hModulateIdeal := hModulateIdeal)
    ∧ quiescent_RefModulateIdeal (hRefModulateIdeal := hRefModulateIdeal)
    ∧ quiescent_Qkv (hQkv := hQkv)
    ∧ quiescent_QkvIdeal (hQkvIdeal := hQkvIdeal)
    ∧ quiescent_RefQkvIdeal (hRefQkvIdeal := hRefQkvIdeal)
    ∧ quiescent_ResLn (hResLn := hResLn)
    ∧ quiescent_ResLnIdeal (hResLnIdeal := hResLnIdeal)
    ∧ quiescent_RefResLnIdeal (hRefResLnIdeal := hRefResLnIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_RefAttnIdeal (hRefAttnIdeal := hRefAttnIdeal)
    ∧ quiescent_RefAttnIdeal_pre_finite_scores (hRefAttnIdeal := hRefAttnIdeal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_SquareDx_SquareDxIdeal
    ∧ algebraic_SquareDxIdeal_RefSquareDxIdeal (hSquareDxIdeal := hSquareDxIdeal) (hRefSquareDxIdeal := hRefSquareDxIdeal)
    ∧ preserves_DownDx_DownDxIdeal
    ∧ algebraic_DownDxIdeal_RefDownDxIdeal (hDownDxIdeal := hDownDxIdeal) (hRefDownDxIdeal := hRefDownDxIdeal)
    ∧ preserves_WideDx_WideDxIdeal
    ∧ algebraic_WideDxIdeal_RefWideDxIdeal (hWideDxIdeal := hWideDxIdeal) (hRefWideDxIdeal := hRefWideDxIdeal)
    ∧ preserves_SquareDw_SquareDwIdeal
    ∧ algebraic_SquareDwIdeal_RefSquareDwIdeal_pre_square_core (hSquareDwIdeal := hSquareDwIdeal) (hRefSquareDwIdeal := hRefSquareDwIdeal) (hPre_square_core := hPre_square_core)
    ∧ preserves_DownDw_DownDwIdeal
    ∧ algebraic_DownDwIdeal_RefDownDwIdeal_pre_down_core (hDownDwIdeal := hDownDwIdeal) (hRefDownDwIdeal := hRefDownDwIdeal) (hPre_down_core := hPre_down_core)
    ∧ preserves_WideDw_WideDwIdeal
    ∧ algebraic_WideDwIdeal_RefWideDwIdeal_pre_wide_core (hWideDwIdeal := hWideDwIdeal) (hRefWideDwIdeal := hRefWideDwIdeal) (hPre_wide_core := hPre_wide_core)
    ∧ preserves_Square_SquareIdeal
    ∧ algebraic_SquareIdeal_RefSquareIdeal (hSquareIdeal := hSquareIdeal) (hRefSquareIdeal := hRefSquareIdeal)
    ∧ preserves_Wide_WideIdeal
    ∧ algebraic_WideIdeal_RefWideIdeal (hWideIdeal := hWideIdeal) (hRefWideIdeal := hRefWideIdeal)
    ∧ preserves_Down_DownIdeal
    ∧ algebraic_DownIdeal_RefDownIdeal (hDownIdeal := hDownIdeal) (hRefDownIdeal := hRefDownIdeal)
    ∧ preserves_SwigluBwd_SwigluBwdIdeal
    ∧ algebraic_SwigluBwdIdeal_RefSwigluBwdIdeal (hSwigluBwdIdeal := hSwigluBwdIdeal) (hRefSwigluBwdIdeal := hRefSwigluBwdIdeal)
    ∧ preserves_MergeBwd_MergeBwdIdeal
    ∧ algebraic_MergeBwdIdeal_RefMergeBwdIdeal (hMergeBwdIdeal := hMergeBwdIdeal) (hRefMergeBwdIdeal := hRefMergeBwdIdeal)
    ∧ preserves_ModulateBwd_ModulateBwdIdeal
    ∧ algebraic_ModulateBwdIdeal_RefModulateBwdIdeal (hModulateBwdIdeal := hModulateBwdIdeal) (hRefModulateBwdIdeal := hRefModulateBwdIdeal)
    ∧ preserves_QkvBwd_QkvBwdIdeal
    ∧ algebraic_QkvBwdIdeal_RefQkvBwdIdeal (hQkvBwdIdeal := hQkvBwdIdeal) (hRefQkvBwdIdeal := hRefQkvBwdIdeal)
    ∧ preserves_Swiglu_SwigluIdeal
    ∧ algebraic_SwigluIdeal_RefSwigluIdeal (hSwigluIdeal := hSwigluIdeal) (hRefSwigluIdeal := hRefSwigluIdeal)
    ∧ preserves_Merge_MergeIdeal
    ∧ algebraic_MergeIdeal_RefMergeIdeal (hMergeIdeal := hMergeIdeal) (hRefMergeIdeal := hRefMergeIdeal)
    ∧ preserves_Glu_GluIdeal
    ∧ algebraic_GluIdeal_RefGluIdeal (hGluIdeal := hGluIdeal) (hRefGluIdeal := hRefGluIdeal)
    ∧ preserves_Modulate_ModulateIdeal
    ∧ algebraic_ModulateIdeal_RefModulateIdeal (hModulateIdeal := hModulateIdeal) (hRefModulateIdeal := hRefModulateIdeal)
    ∧ preserves_Qkv_QkvIdeal
    ∧ algebraic_QkvIdeal_RefQkvIdeal (hQkvIdeal := hQkvIdeal) (hRefQkvIdeal := hRefQkvIdeal)
    ∧ preserves_ResLn_ResLnIdeal
    ∧ algebraic_ResLnIdeal_RefResLnIdeal (hResLnIdeal := hResLnIdeal) (hRefResLnIdeal := hRefResLnIdeal)
    ∧ preserves_Attn_AttnIdeal
    ∧ algebraic_AttnIdeal_RefAttnIdeal_pre_finite_scores (hAttnIdeal := hAttnIdeal) (hRefAttnIdeal := hRefAttnIdeal) (hPre_finite_scores := hPre_finite_scores)
-- ==== Pre_down_core.lean ====
abbrev S4096x5632 : Shape := ⟨2, ![4096, 5632]⟩
abbrev S4096x2048 : Shape := ⟨2, ![4096, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x5632 .bf16) (main_arg1 : FVec F S4096x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_finite.lean ====
abbrev S4096x2048 : Shape := ⟨2, ![4096, 2048]⟩
abbrev S4096x512 : Shape := ⟨2, ![4096, 512]⟩
abbrev S16 : Shape := ⟨1, ![16]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x2048 .bf16) (main_v16 : IVec S_ 1) (main_v17 : FVec F S16 .f32) : IVec S_ 1 :=
  let main_cst_4 : FVec F S_ .f32 := constant S_ .f32 0x7F800000#32
  let main_v18 : FVec F S16 .f32 := broadcastInDim S16 ![] bcast_S_S16 main_cst_4
  let main_v19 : IVec S16 1 := cmpf .olt main_v17 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v16 main_v20
  let main_v22 : FVec F S4096x2048 .f32 := (extf .f32 · bitsLt_bf16_f32) main_arg4
  let main_v23 : FVec F S4096x2048 .f32 := Host.absf main_v22
  let main_cst_6 : FVec F S_ .f32 := constant S_ .f32 0x7F800000#32
  let main_v24 : FVec F S4096x2048 .f32 := broadcastInDim S4096x2048 ![] bcast_S_S4096x2048 main_cst_6
  let main_v25 : IVec S4096x2048 1 := cmpf .olt main_v23 main_v24
  let main_c_7 : IVec S_ 1 := constantI S_ 1 1#1
  let main_v26 : IVec S_ 1 := (fun x v => Host.reduce IntOp.andi x v reducesTo_S4096x2048_S_d0_1 h_S_) main_v25 main_c_7
  let main_v27 : IVec S_ 1 := andi main_v21 main_v26
  main_v27

def fn {F : FTy → Type} [FloatOps F] (main_arg0 : FVec F S4096x2048 .bf16) (main_arg1 : FVec F S4096x512 .bf16) (main_arg2 : FVec F S4096x512 .bf16) (main_arg3 : FVec F S16 .f32) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S16 .f32 := Host.absf main_arg3
  fn_part1 (F := F) main_arg4 main_v16 main_v17
-- ==== Pre_finite_scores.lean ====
abbrev S4096x2048 : Shape := ⟨2, ![4096, 2048]⟩
abbrev S4096x512 : Shape := ⟨2, ![4096, 512]⟩
abbrev S16 : Shape := ⟨1, ![16]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4096x2048 .bf16) (main_arg1 : FVec F S4096x512 .bf16) (main_arg2 : FVec F S4096x512 .bf16) (main_arg3 : FVec F S16 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_square_core.lean ====
abbrev S4096x2048 : Shape := ⟨2, ![4096, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x2048 .bf16) (main_arg1 : FVec F S4096x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_wide_core.lean ====
abbrev S4096x2048 : Shape := ⟨2, ![4096, 2048]⟩
abbrev S4096x11264 : Shape := ⟨2, ![4096, 11264]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x2048 .bf16) (main_arg1 : FVec F S4096x11264 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Kernel.lean ====
abbrev S4096x2048 : Shape := ⟨2, ![4096, 2048]⟩
abbrev S4096x512 : Shape := ⟨2, ![4096, 512]⟩
abbrev S16 : Shape := ⟨1, ![16]⟩
abbrev S16x1 : Shape := ⟨2, ![16, 1]⟩
abbrev S16x128 : Shape := ⟨2, ![16, 128]⟩
abbrev S256x512 : Shape := ⟨2, ![256, 512]⟩
abbrev S4096x128 : Shape := ⟨2, ![4096, 128]⟩
abbrev S384x128 : Shape := ⟨2, ![384, 128]⟩
abbrev S512x384 : Shape := ⟨2, ![512, 384]⟩
abbrev S128x128 : Shape := ⟨2, ![128, 128]⟩
abbrev S512x128 : Shape := ⟨2, ![512, 128]⟩
abbrev S1x128 : Shape := ⟨2, ![1, 128]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1 : Shape := ⟨1, ![1]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S16, .f32⟩
  | .hbm, ⟨4, _⟩ => ⟨S4096x2048, .bf16⟩
  | .hbm, ⟨5, _⟩ => ⟨S16x1, .f32⟩
  | .hbm, ⟨6, _⟩ => ⟨S16x128, .f32⟩
  | .hbm, ⟨7, _⟩ => ⟨S4096x2048, .f32⟩
  | .hbm, ⟨8, _⟩ => ⟨S4096x512, .f32⟩
  | .hbm, ⟨9, _⟩ => ⟨S4096x512, .f32⟩
  | .hbm, ⟨10, _⟩ => ⟨S16x128, .f32⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S16x128, .f32⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S16x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c3712_i32 : BitVec 32 := 3712#32
  let c0_i32_5 : BitVec 32 := 0#32
  let arg1 : BitVec 32 := BitVec.ofNat 32 (i 1).val
  let c256_i32 : BitVec 32 := 256#32
  let v8 : BitVec 32 := Scalar.muli arg1 c256_i32
  let c0_i32_4 : BitVec 32 := 0#32
  let v9 : BitVec 32 := Scalar.addi v8 c0_i32_4
  let c128_i32 : BitVec 32 := 128#32
  let v10 : BitVec 32 := Scalar.subi v9 c128_i32
  let v11 : BitVec 32 := Scalar.maxsi c0_i32_5 v10
  let v12 : BitVec 32 := Scalar.minsi c3712_i32 v11
  v12
def k0_off1 (i : grid0.Coords) (c0_i32_4 : BitVec 32) : Fin 2 → Nat :=
  let c3712_i32 : BitVec 32 := 3712#32
  let c0_i32_5 : BitVec 32 := 0#32
  let arg1 : BitVec 32 := BitVec.ofNat 32 (i 1).val
  let c256_i32 : BitVec 32 := 256#32
  let v8 : BitVec 32 := Scalar.muli arg1 c256_i32
  let v9 : BitVec 32 := Scalar.addi v8 c0_i32_4
  let c128_i32 : BitVec 32 := 128#32
  let v10 : BitVec 32 := Scalar.subi v9 c128_i32
  let v11 : BitVec 32 := Scalar.maxsi c0_i32_5 v10
  let v12 : BitVec 32 := Scalar.minsi c3712_i32 v11
  let v13 : BitVec 32 := v12
  let v14 : Index := Scalar.indexCast v13
  let c0 : Index := 0#32
  ![v14.toNat, 0]
def k0_off2 (i : grid0.Coords) (c0_i32_15 : BitVec 32) : Fin 2 → Nat :=
  let arg0 : BitVec 32 := BitVec.ofNat 32 (i 0).val
  let c4_i32 : BitVec 32 := 4#32
  let v40 : BitVec 32 := Scalar.muli arg0 c4_i32
  let v41 : BitVec 32 := Scalar.addi v40 c0_i32_15
  let v42 : Index := Scalar.indexCast v41
  let c0_16 : Index := 0#32
  ![v42.toNat, 0]
def k0_mult2 (i : grid0.Coords) : BitVec 32 :=
  let c3712_i32_79 : BitVec 32 := 3712#32
  let c0_i32_78 : BitVec 32 := 0#32
  let arg1 : BitVec 32 := BitVec.ofNat 32 (i 1).val
  let c256_i32_75 : BitVec 32 := 256#32
  let v187 : BitVec 32 := Scalar.muli arg1 c256_i32_75
  let c128_i32_76 : BitVec 32 := 128#32
  let v188 : BitVec 32 := Scalar.addi v187 c128_i32_76
  let c128_i32_77 : BitVec 32 := 128#32
  let v189 : BitVec 32 := Scalar.subi v188 c128_i32_77
  let v190 : BitVec 32 := Scalar.maxsi c0_i32_78 v189
  let v191 : BitVec 32 := Scalar.minsi c3712_i32_79 v190
  v191
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x512 : Shape := ⟨2, ![4096, 512]⟩
abbrev S16 : Shape := ⟨1, ![16]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x1 : Shape := ⟨3, ![4, 4, 1]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4096 : Shape := ⟨3, ![4, 128, 4096]⟩
abbrev S4x4 : Shape := ⟨2, ![4, 4]⟩
abbrev S4x4096x4x128 : Shape := ⟨4, ![4, 4096, 4, 128]⟩
abbrev S4x4096x128 : Shape := ⟨3, ![4, 4096, 128]⟩
abbrev S16x1 : Shape := ⟨2, ![16, 1]⟩
abbrev S16x128 : Shape := ⟨2, ![16, 128]⟩

abbrev nBuf : Space → Nat
  | .hbm => 147
  | .vmem => 0
  | .smem => 0
  | _ => 0

abbrev hbmTy0_0 (i : Nat) : BufTy := match i % 128 with
  | 0 => ⟨S4096x2048, .bf16⟩
  | 1 => ⟨S4096x512, .bf16⟩
  | 2 => ⟨S4096x512, .bf16⟩
  | 3 => ⟨S16, .f32⟩
  | 4 => ⟨S4096x2048, .bf16⟩
  | 5 => ⟨S4096x2048, .f32⟩
  | 6 => ⟨S4096x512, .f32⟩
  | 7 => ⟨S4096x512, .f32⟩
  | 8 => ⟨S4096x4x4x128, .f32⟩
  | 9 => ⟨S4096x4x128, .f32⟩
  | 10 => ⟨S4096x4x128, .f32⟩
  | 11 => ⟨S4x4096x4096x4, .f32⟩
  | 12 => ⟨S4x4x4096x4096, .f32⟩
  | 13 => ⟨S_, .f32⟩
  | 14 => ⟨S4x4x4096x4096, .f32⟩
  | 15 => ⟨S4x4x4096x4096, .f32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i32⟩
  | 22 => ⟨S4096x4096, .i32⟩
  | 23 => ⟨S_, .i32⟩
  | 24 => ⟨S4096x4096, .i32⟩
  | 25 => ⟨S4096x4096, .i1⟩
  | 26 => ⟨S_, .f32⟩
  | 27 => ⟨S_, .f32⟩
  | 28 => ⟨S4x4x4096x4096, .i1⟩
  | 29 => ⟨S4x4x4096x4096, .f32⟩
  | 30 => ⟨S4x4x4096x4096, .f32⟩
  | 31 => ⟨S_, .f32⟩
  | 32 => ⟨S4x4x4096x4096, .f32⟩
  | 33 => ⟨S4x4x1, .f32⟩
  | 34 => ⟨S_, .f32⟩
  | 35 => ⟨S4x4x4096, .f32⟩
  | 36 => ⟨S4x4x4096x1, .f32⟩
  | 37 => ⟨S4x4x4096x4096, .f32⟩
  | 38 => ⟨S4x4x4096x4096, .i1⟩
  | 39 => ⟨S4x4x4096x4096, .f32⟩
  | 40 => ⟨S_, .f32⟩
  | 41 => ⟨S4x4x4096, .f32⟩
  | 42 => ⟨S4x4x4096, .f32⟩
  | 43 => ⟨S4x4x4096, .f32⟩
  | 44 => ⟨S4x4x4096, .f32⟩
  | 45 => ⟨S4x4x4096, .i1⟩
  | 46 => ⟨S4x4x4096, .f32⟩
  | 47 => ⟨S4x4x4096, .i1⟩
  | 48 => ⟨S_, .f32⟩
  | 49 => ⟨S4x4x4096, .f32⟩
  | 50 => ⟨S_, .f32⟩
  | 51 => ⟨S4x4x4096, .f32⟩
  | 52 => ⟨S_, .f32⟩
  | 53 => ⟨S4x4x4096, .f32⟩
  | 54 => ⟨S4x4x4096, .f32⟩
  | 55 => ⟨S4x4x4096, .f32⟩
  | 56 => ⟨S4x4x4096, .f32⟩
  | 57 => ⟨S4x4x4096, .i1⟩
  | 58 => ⟨S4x4x4096, .f32⟩
  | 59 => ⟨S4x4x4096, .i1⟩
  | 60 => ⟨S_, .f32⟩
  | 61 => ⟨S4x4x4096, .f32⟩
  | 62 => ⟨S_, .f32⟩
  | 63 => ⟨S4x4x4096, .f32⟩
  | 64 => ⟨S_, .f32⟩
  | 65 => ⟨S4x4x4096, .f32⟩
  | 66 => ⟨S4x4x4096, .f32⟩
  | 67 => ⟨S4x4x4096, .f32⟩
  | 68 => ⟨S4x4x4096x1, .f32⟩
  | 69 => ⟨S4x4x4096x4096, .f32⟩
  | 70 => ⟨S4x4x4096x4096, .f32⟩
  | 71 => ⟨S4x4x4096x4096, .f32⟩
  | 72 => ⟨S_, .f32⟩
  | 73 => ⟨S4x4x4096, .f32⟩
  | 74 => ⟨S4x4x4096, .f32⟩
  | 75 => ⟨S4x4x4096, .f32⟩
  | 76 => ⟨S4x4x4096, .f32⟩
  | 77 => ⟨S4x4x4096, .f32⟩
  | 78 => ⟨S4x4x4096x1, .f32⟩
  | 79 => ⟨S4x4x4096x4096, .f32⟩
  | 80 => ⟨S4x4x4096x4096, .f32⟩
  | 81 => ⟨S4x4x4096x1, .f32⟩
  | 82 => ⟨S_, .f32⟩
  | 83 => ⟨S4x4x4096x1, .f32⟩
  | 84 => ⟨S4x4x4096x1, .f32⟩
  | 85 => ⟨S4x128x4x4096, .f32⟩
  | 86 => ⟨S4096x4x4x128, .f32⟩
  | 87 => ⟨S4096x2048, .f32⟩
  | 88 => ⟨S4096x2048, .f32⟩
  | 89 => ⟨S4096x4x4x128, .f32⟩
  | 90 => ⟨S4x128x4x4096, .f32⟩
  | 91 => ⟨S4x4x4096x4096, .f32⟩
  | 92 => ⟨S4x128x4096, .f32⟩
  | 93 => ⟨S4096x4x128, .f32⟩
  | 94 => ⟨S4x4x4096x4096, .f32⟩
  | 95 => ⟨S4x4x4096x4096, .f32⟩
  | 96 => ⟨S4x4x4096x4096, .f32⟩
  | 97 => ⟨S_, .f32⟩
  | 98 => ⟨S4x4x4096, .f32⟩
  | 99 => ⟨S4x4x4096x1, .f32⟩
  | 100 => ⟨S4x4x4096x1, .f32⟩
  | 101 => ⟨S4x4x4096x4096, .f32⟩
  | 102 => ⟨S4x4x4096x4096, .f32⟩
  | 103 => ⟨S_, .f32⟩
  | 104 => ⟨S4x4x4096, .f32⟩
  | 105 => ⟨S4x4x4096, .f32⟩
  | 106 => ⟨S_, .f32⟩
  | 107 => ⟨S4x4, .f32⟩
  | 108 => ⟨S4x4x1, .f32⟩
  | 109 => ⟨S4x4x4096, .f32⟩
  | 110 => ⟨S4x4x4096x4096, .f32⟩
  | 111 => ⟨S4x4x4096x4096, .f32⟩
  | 112 => ⟨S4x4x4096x4096, .f32⟩
  | 113 => ⟨S4x4x4096x4096, .f32⟩
  | 114 => ⟨S_, .f32⟩
  | 115 => ⟨S4x4x4096, .f32⟩
  | 116 => ⟨S4x4x4096x1, .f32⟩
  | 117 => ⟨S_, .f32⟩
  | 118 => ⟨S4x4x4096, .f32⟩
  | 119 => ⟨S4x4x4096, .f32⟩
  | 120 => ⟨S4x4x4096, .f32⟩
  | 121 => ⟨S_, .f32⟩
  | 122 => ⟨S4x4, .f32⟩
  | 123 => ⟨S4x4x1, .f32⟩
  | 124 => ⟨S4x4x1, .f32⟩
  | 125 => ⟨S4x4x4096, .f32⟩
  | 126 => ⟨S4x4x4096, .f32⟩
  | 127 => ⟨S4x4x4096x4096, .f32⟩
  | _ => ⟨S4096x2048, .bf16⟩

abbrev hbmTy0_1 (i : Nat) : BufTy := match i % 128 with
  | 0 => ⟨S4x4x4096x4096, .f32⟩
  | 1 => ⟨S4x4x4096x4096, .f32⟩
  | 2 => ⟨S16, .f32⟩
  | 3 => ⟨S_, .f32⟩
  | 4 => ⟨S4x4x4096x4096, .f32⟩
  | 5 => ⟨S4x4x4096x4096, .f32⟩
  | 6 => ⟨S_, .f32⟩
  | 7 => ⟨S4x4x4096x4096, .f32⟩
  | 8 => ⟨S4x4x4096x4096, .f32⟩
  | 9 => ⟨S4x4096x4096x4, .f32⟩
  | 10 => ⟨S4x4096x4x128, .f32⟩
  | 11 => ⟨S4096x4x4x128, .f32⟩
  | 12 => ⟨S4x4096x128, .f32⟩
  | 13 => ⟨S4096x4x128, .f32⟩
  | 14 => ⟨S4096x512, .f32⟩
  | 15 => ⟨S4096x512, .f32⟩
  | 16 => ⟨S4096x2048, .f32⟩
  | 17 => ⟨S16x1, .f32⟩
  | 18 => ⟨S16x128, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_16 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call1_cst : Ref sig .tc := ⟨.hbm, 131, rfl⟩
abbrev main_call1_v0 : Ref sig .tc := ⟨.hbm, 132, rfl⟩
abbrev main_v102 : Ref sig .tc := ⟨.hbm, 133, rfl⟩
abbrev main_cst_17 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== SquareDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSquareDxIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownDx.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDxIdeal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S2048x5632, .f32⟩
  | .hbm, ⟨5, _⟩ => ⟨S4096x5632, .f32⟩
  | .hbm, ⟨6, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== WideDx.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWideDxIdeal.lean ====
abbrev S4096x11264 : Shape := ⟨2, ![4096, 11264]⟩
abbrev S2048x11264 : Shape := ⟨2, ![2048, 11264]⟩
abbrev S11264x2048 : Shape := ⟨2, ![11264, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x11264, .f32⟩
  | .hbm, ⟨3, _⟩ => ⟨S2048x11264, .f32⟩
  | .hbm, ⟨4, _⟩ => ⟨S11264x2048, .f32⟩
  | .hbm, ⟨5, _⟩ => ⟨S4096x2048, .f32⟩
  | .hbm, ⟨6, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SquareDw.lean ====
abbrev S4096x2048 : Shape := ⟨2, ![4096, 2048]⟩
abbrev S1 : Shape := ⟨1, ![1]⟩
abbrev S2x2048x1024 : Shape := ⟨3, ![2, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_5 : BitVec 32 := 0#32
  let c1_i32_6 : BitVec 32 := 1#32
  let v19 : BitVec 32 := Scalar.select v18 c0_i32_5 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg0.toNat, v29.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSquareDwIdeal.lean ====
abbrev S4096x2048 : Shape := ⟨2, ![4096, 2048]⟩
abbrev S1 : Shape := ⟨1, ![1]⟩
abbrev S2048x4096 : Shape := ⟨2, ![2048, 4096]⟩
abbrev S2048x2048 : Shape := ⟨2, ![2048, 2048]⟩
abbrev S2048x1024 : Shape := ⟨2, ![2048, 1024]⟩
abbrev S_ : Shape := ⟨0, ![]⟩
abbrev S1x2048x1024 : Shape := ⟨3, ![1, 2048, 1024]⟩
abbrev S2x2048x1024 : Shape := ⟨3, ![2, 2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1, .i32⟩
  | .hbm, ⟨3, _⟩ => ⟨S4096x2048, .f32⟩
  | .hbm, ⟨4, _⟩ => ⟨S2048x4096, .f32⟩
  | .hbm, ⟨5, _⟩ => ⟨S4096x2048, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x2048x1024, .f32⟩
  | .hbm, ⟨13, _⟩ => ⟨S1x2048x1024, .f32⟩
  | .hbm, ⟨14, _⟩ => ⟨S2x2048x1024, .f32⟩
  | .hbm, ⟨15, _⟩ => ⟨S1x2048x1024, .f32⟩
  | .hbm, ⟨16, _⟩ => ⟨S1x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S1 : Shape := ⟨1, ![1]⟩
abbrev S2x5632x1024 : Shape := ⟨3, ![2, 5632, 1024]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S2x5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .smem, ⟨0, _⟩ => ⟨S1, .i32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_5 : BitVec 32 := 0#32
  let c1_i32_6 : BitVec 32 := 1#32
  let v19 : BitVec 32 := Scalar.select v18 c0_i32_5 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg1 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, arg0.toNat, v29.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownDwIdeal.lean ====
abbrev S4096x5632 : Shape := ⟨2, ![4096, 5632]⟩
abbrev S4096x2048 : Shape := ⟨2, ![4096, 2048]⟩
abbrev S1 : Shape := ⟨1, ![1]⟩
abbrev S5632x4096 : Shape := ⟨2, ![5632, 4096]⟩
abbrev S5632x2048 : Shape := ⟨2, ![5632, 2048]⟩
abbrev S5632x1024 : Shape := ⟨2, ![5632, 1024]⟩
abbrev S_ : Shape := ⟨0, ![]⟩
abbrev S1x5632x1024 : Shape := ⟨3, ![1, 5632, 1024]⟩
abbrev S2x5632x1024 : Shape := ⟨3, ![2, 5632, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1, .i32⟩
  | .hbm, ⟨3, _⟩ => ⟨S4096x5632, .f32⟩
  | .hbm, ⟨4, _⟩ => ⟨S5632x4096, .f32⟩
  | .hbm, ⟨5, _⟩ => ⟨S4096x2048, .f32⟩
  | .hbm, ⟨6, _⟩ => ⟨S5632x2048, .f32⟩
  | .hbm, ⟨7, _⟩ => ⟨S5632x1024, .f32⟩
  | .hbm, ⟨8, _⟩ => ⟨S5632x1024, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x5632x1024, .f32⟩
  | .hbm, ⟨13, _⟩ => ⟨S1x5632x1024, .f32⟩
  | .hbm, ⟨14, _⟩ => ⟨S2x5632x1024, .f32⟩
  | .hbm, ⟨15, _⟩ => ⟨S1x5632x1024, .f32⟩
  | .hbm, ⟨16, _⟩ => ⟨S1x5632x1024, .f32⟩
  | .hbm, ⟨17, _⟩ => ⟨S2x5632x1024, .f32⟩
  | .hbm, ⟨18, _⟩ => ⟨S2x5632x1024, .f32⟩
  | .hbm, ⟨19, _⟩ => ⟨S2x5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== WideDw.lean ====
abbrev S4096x2048 : Shape := ⟨2, ![4096, 2048]⟩
abbrev S4096x11264 : Shape := ⟨2, ![4096, 11264]⟩
abbrev S1 : Shape := ⟨1, ![1]⟩
abbrev S2x1024x11264 : Shape := ⟨3, ![2, 1024, 11264]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2x1024x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0 : Index := 0#32
  let v17 : BitVec 32 := pf.at 0 (Rect.unit (s := S1) ![0] S1.size inb_S1_S1_0) numel1_S1
  let v18 : BitVec 1 := Scalar.cmpi .eq v16 v17
  let c0_i32_5 : BitVec 32 := 0#32
  let c1_i32_6 : BitVec 32 := 1#32
  let v19 : BitVec 32 := Scalar.select v18 c0_i32_5 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let c0_i32_13 : BitVec 32 := 0#32
  ![v19.toNat, v29.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWideDwIdeal.lean ====
abbrev S4096x2048 : Shape := ⟨2, ![4096, 2048]⟩
abbrev S4096x11264 : Shape := ⟨2, ![4096, 11264]⟩
abbrev S1 : Shape := ⟨1, ![1]⟩
abbrev S2048x4096 : Shape := ⟨2, ![2048, 4096]⟩
abbrev S2048x11264 : Shape := ⟨2, ![2048, 11264]⟩
abbrev S1024x11264 : Shape := ⟨2, ![1024, 11264]⟩
abbrev S_ : Shape := ⟨0, ![]⟩
abbrev S1x1024x11264 : Shape := ⟨3, ![1, 1024, 11264]⟩
abbrev S2x1024x11264 : Shape := ⟨3, ![2, 1024, 11264]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S1, .i32⟩
  | .hbm, ⟨3, _⟩ => ⟨S4096x2048, .f32⟩
  | .hbm, ⟨4, _⟩ => ⟨S2048x4096, .f32⟩
  | .hbm, ⟨5, _⟩ => ⟨S4096x11264, .f32⟩
  | .hbm, ⟨6, _⟩ => ⟨S2048x11264, .f32⟩
  | .hbm, ⟨7, _⟩ => ⟨S1024x11264, .f32⟩
  | .hbm, ⟨8, _⟩ => ⟨S1024x11264, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x1024x11264, .f32⟩
  | .hbm, ⟨13, _⟩ => ⟨S1x1024x11264, .f32⟩
  | .hbm, ⟨14, _⟩ => ⟨S2x1024x11264, .f32⟩
  | .hbm, ⟨15, _⟩ => ⟨S1x1024x11264, .f32⟩
  | .hbm, ⟨16, _⟩ => ⟨S1x1024x11264, .f32⟩
  | .hbm, ⟨17, _⟩ => ⟨S2x1024x11264, .f32⟩
  | .hbm, ⟨18, _⟩ => ⟨S2x1024x11264, .f32⟩
  | .hbm, ⟨19, _⟩ => ⟨S2x1024x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Square.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefSquareIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Wide.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefWideIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | .hbm, ⟨5, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SwigluBwd.lean ====
abbrev S4096x5632 : Shape := ⟨2, ![4096, 5632]⟩
abbrev S4096x11264 : Shape := ⟨2, ![4096, 11264]⟩
abbrev S128x5632 : Shape := ⟨2, ![128, 5632]⟩
abbrev S128x11264 : Shape := ⟨2, ![128, 11264]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .bf16⟩
  | .hbm, ⟨2, _⟩ => ⟨S4096x11264, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x11264, .bf16⟩
  | .local _ .vmem, ⟨7, _⟩ => ⟨S128x11264, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefSwigluBwdIdeal.lean ====
abbrev S4096x5632 : Shape := ⟨2, ![4096, 5632]⟩
abbrev S4096x11264 : Shape := ⟨2, ![4096, 11264]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x11264, .bf16⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x11264, .f32⟩
  | .hbm, ⟨27, _⟩ => ⟨S4096x11264, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== MergeBwd.lean ====
abbrev S4096x2048 : Shape := ⟨2, ![4096, 2048]⟩
abbrev S4096x11264 : Shape := ⟨2, ![4096, 11264]⟩
abbrev S4096x4096 : Shape := ⟨2, ![4096, 4096]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 7
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x11264, .bf16⟩
  | .hbm, ⟨4, _⟩ => ⟨S4096x2048, .bf16⟩
  | .hbm, ⟨5, _⟩ => ⟨S4096x2048, .bf16⟩
  | .hbm, ⟨6, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x4096, .bf16⟩
  | .local _ .vmem, ⟨19, _⟩ => ⟨S256x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefMergeBwdIdeal.lean ====
abbrev S4096x2048 : Shape := ⟨2, ![4096, 2048]⟩
abbrev S4096x11264 : Shape := ⟨2, ![4096, 11264]⟩
abbrev S4096x4096 : Shape := ⟨2, ![4096, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x11264, .bf16⟩
  | .hbm, ⟨4, _⟩ => ⟨S4096x4096, .bf16⟩
  | .hbm, ⟨5, _⟩ => ⟨S4096x4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .bf16⟩
  | .hbm, ⟨45, _⟩ => ⟨S4096x2048, .bf16⟩
  | .hbm, ⟨46, _⟩ => ⟨S4096x4096, .f32⟩
  | .hbm, ⟨47, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== ModulateBwd.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefModulateBwdIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== QkvBwd.lean ====
abbrev S4096x2048 : Shape := ⟨2, ![4096, 2048]⟩
abbrev S4096x512 : Shape := ⟨2, ![4096, 512]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4096x112 : Shape := ⟨2, ![4096, 112]⟩
abbrev S4096x3072 : Shape := ⟨2, ![4096, 3072]⟩
abbrev S256x2048 : Shape := ⟨2, ![256, 2048]⟩
abbrev S256x512 : Shape := ⟨2, ![256, 512]⟩
abbrev S256x128 : Shape := ⟨2, ![256, 128]⟩
abbrev S256x3072 : Shape := ⟨2, ![256, 3072]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x16, .f32⟩
  | .hbm, ⟨4, _⟩ => ⟨S4096x16, .f32⟩
  | .hbm, ⟨5, _⟩ => ⟨S_, .f32⟩
  | .hbm, ⟨6, _⟩ => ⟨S4096x96, .f32⟩
  | .hbm, ⟨7, _⟩ => ⟨S4096x128, .f32⟩
  | .hbm, ⟨8, _⟩ => ⟨S4096x16, .f32⟩
  | .hbm, ⟨9, _⟩ => ⟨S_, .f32⟩
  | .hbm, ⟨10, _⟩ => ⟨S4096x112, .f32⟩
  | .hbm, ⟨11, _⟩ => ⟨S4096x128, .f32⟩
  | .hbm, ⟨12, _⟩ => ⟨S_, .f32⟩
  | .hbm, ⟨13, _⟩ => ⟨S4096x16, .f32⟩
  | .hbm, ⟨14, _⟩ => ⟨S_, .f32⟩
  | .hbm, ⟨15, _⟩ => ⟨S4096x96, .f32⟩
  | .hbm, ⟨16, _⟩ => ⟨S4096x128, .f32⟩
  | .hbm, ⟨17, _⟩ => ⟨S4096x3072, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x3072, .bf16⟩
  | .local _ .vmem, ⟨13, _⟩ => ⟨S256x3072, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefQkvBwdIdeal.lean ====
abbrev S4096x2048 : Shape := ⟨2, ![4096, 2048]⟩
abbrev S4096x512 : Shape := ⟨2, ![4096, 512]⟩
abbrev S4096x16 : Shape := ⟨2, ![4096, 16]⟩
abbrev S_ : Shape := ⟨0, ![]⟩
abbrev S4096x16x128 : Shape := ⟨3, ![4096, 16, 128]⟩
abbrev S4096x16x16 : Shape := ⟨3, ![4096, 16, 16]⟩
abbrev S4096x1x16 : Shape := ⟨3, ![4096, 1, 16]⟩
abbrev S4096x16x96 : Shape := ⟨3, ![4096, 16, 96]⟩
abbrev S4096x4x128 : Shape := ⟨3, ![4096, 4, 128]⟩
abbrev S4096x4x16 : Shape := ⟨3, ![4096, 4, 16]⟩
abbrev S4096x4x96 : Shape := ⟨3, ![4096, 4, 96]⟩
abbrev S4096x3072 : Shape := ⟨2, ![4096, 3072]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x16, .f32⟩
  | .hbm, ⟨4, _⟩ => ⟨S4096x16, .f32⟩
  | .hbm, ⟨5, _⟩ => ⟨S_, .f32⟩
  | .hbm, ⟨6, _⟩ => ⟨S4096x2048, .f32⟩
  | .hbm, ⟨7, _⟩ => ⟨S4096x16x128, .f32⟩
  | .hbm, ⟨8, _⟩ => ⟨S4096x16x16, .f32⟩
  | .hbm, ⟨9, _⟩ => ⟨S4096x16x16, .f32⟩
  | .hbm, ⟨10, _⟩ => ⟨S4096x1x16, .f32⟩
  | .hbm, ⟨11, _⟩ => ⟨S4096x1x16, .f32⟩
  | .hbm, ⟨12, _⟩ => ⟨S4096x16x16, .f32⟩
  | .hbm, ⟨13, _⟩ => ⟨S4096x16x16, .f32⟩
  | .hbm, ⟨14, _⟩ => ⟨S4096x16x16, .f32⟩
  | .hbm, ⟨15, _⟩ => ⟨S4096x16x16, .f32⟩
  | .hbm, ⟨16, _⟩ => ⟨S4096x16x16, .f32⟩
  | .hbm, ⟨17, _⟩ => ⟨S4096x16x16, .f32⟩
  | .hbm, ⟨18, _⟩ => ⟨S4096x16x16, .f32⟩
  | .hbm, ⟨19, _⟩ => ⟨S4096x16x16, .f32⟩
  | .hbm, ⟨20, _⟩ => ⟨S4096x16x16, .f32⟩
  | .hbm, ⟨21, _⟩ => ⟨S4096x16x16, .f32⟩
  | .hbm, ⟨22, _⟩ => ⟨S4096x16x96, .f32⟩
  | .hbm, ⟨23, _⟩ => ⟨S4096x16x128, .f32⟩
  | .hbm, ⟨24, _⟩ => ⟨S4096x2048, .f32⟩
  | .hbm, ⟨25, _⟩ => ⟨S4096x16x128, .f32⟩
  | .hbm, ⟨26, _⟩ => ⟨S4096x16x16, .f32⟩
  | .hbm, ⟨27, _⟩ => ⟨S4096x16x16, .f32⟩
  | .hbm, ⟨28, _⟩ => ⟨S4096x16x96, .f32⟩
  | .hbm, ⟨29, _⟩ => ⟨S_, .f32⟩
  | .hbm, ⟨30, _⟩ => ⟨S4096x16x128, .f32⟩
  | .hbm, ⟨31, _⟩ => ⟨S4096x16x16, .f32⟩
  | .hbm, ⟨32, _⟩ => ⟨S4096x16x16, .f32⟩
  | .hbm, ⟨33, _⟩ => ⟨S4096x16x16, .f32⟩
  | .hbm, ⟨34, _⟩ => ⟨S4096x16x16, .f32⟩
  | .hbm, ⟨35, _⟩ => ⟨S4096x16x16, .f32⟩
  | .hbm, ⟨36, _⟩ => ⟨S4096x16x16, .f32⟩
  | .hbm, ⟨37, _⟩ => ⟨S4096x16x16, .f32⟩
  | .hbm, ⟨38, _⟩ => ⟨S4096x16x16, .f32⟩
  | .hbm, ⟨39, _⟩ => ⟨S4096x16x16, .f32⟩
  | .hbm, ⟨40, _⟩ => ⟨S4096x16x16, .f32⟩
  | .hbm, ⟨41, _⟩ => ⟨S4096x16x16, .f32⟩
  | .hbm, ⟨42, _⟩ => ⟨S_, .f32⟩
  | .hbm, ⟨43, _⟩ => ⟨S4096x16x128, .f32⟩
  | .hbm, ⟨44, _⟩ => ⟨S4096x16x128, .f32⟩
  | .hbm, ⟨45, _⟩ => ⟨S_, .f32⟩
  | .hbm, ⟨46, _⟩ => ⟨S4096x16x128, .f32⟩
  | .hbm, ⟨47, _⟩ => ⟨S4096x16x128, .f32⟩
  | .hbm, ⟨48, _⟩ => ⟨S4096x2048, .f32⟩
  | .hbm, ⟨49, _⟩ => ⟨S_, .f32⟩
  | .hbm, ⟨50, _⟩ => ⟨S4096x512, .f32⟩
  | .hbm, ⟨51, _⟩ => ⟨S4096x4x128, .f32⟩
  | .hbm, ⟨52, _⟩ => ⟨S4096x4x16, .f32⟩
  | .hbm, ⟨53, _⟩ => ⟨S4096x4x16, .f32⟩
  | .hbm, ⟨54, _⟩ => ⟨S4096x1x16, .f32⟩
  | .hbm, ⟨55, _⟩ => ⟨S4096x1x16, .f32⟩
  | .hbm, ⟨56, _⟩ => ⟨S4096x4x16, .f32⟩
  | .hbm, ⟨57, _⟩ => ⟨S4096x4x16, .f32⟩
  | .hbm, ⟨58, _⟩ => ⟨S4096x4x16, .f32⟩
  | .hbm, ⟨59, _⟩ => ⟨S4096x4x16, .f32⟩
  | .hbm, ⟨60, _⟩ => ⟨S4096x4x16, .f32⟩
  | .hbm, ⟨61, _⟩ => ⟨S4096x4x16, .f32⟩
  | .hbm, ⟨62, _⟩ => ⟨S4096x4x16, .f32⟩
  | .hbm, ⟨63, _⟩ => ⟨S4096x4x16, .f32⟩
  | .hbm, ⟨64, _⟩ => ⟨S4096x4x16, .f32⟩
  | .hbm, ⟨65, _⟩ => ⟨S4096x4x16, .f32⟩
  | .hbm, ⟨66, _⟩ => ⟨S4096x4x96, .f32⟩
  | .hbm, ⟨67, _⟩ => ⟨S4096x4x128, .f32⟩
  | .hbm, ⟨68, _⟩ => ⟨S4096x512, .f32⟩
  | .hbm, ⟨69, _⟩ => ⟨S4096x4x128, .f32⟩
  | .hbm, ⟨70, _⟩ => ⟨S4096x4x16, .f32⟩
  | .hbm, ⟨71, _⟩ => ⟨S4096x4x16, .f32⟩
  | .hbm, ⟨72, _⟩ => ⟨S4096x4x96, .f32⟩
  | .hbm, ⟨73, _⟩ => ⟨S_, .f32⟩
  | .hbm, ⟨74, _⟩ => ⟨S4096x4x128, .f32⟩
  | .hbm, ⟨75, _⟩ => ⟨S4096x4x16, .f32⟩
  | .hbm, ⟨76, _⟩ => ⟨S4096x4x16, .f32⟩
  | .hbm, ⟨77, _⟩ => ⟨S4096x4x16, .f32⟩
  | .hbm, ⟨78, _⟩ => ⟨S4096x4x16, .f32⟩
  | .hbm, ⟨79, _⟩ => ⟨S4096x4x16, .f32⟩
  | .hbm, ⟨80, _⟩ => ⟨S4096x4x16, .f32⟩
  | .hbm, ⟨81, _⟩ => ⟨S4096x4x16, .f32⟩
  | .hbm, ⟨82, _⟩ => ⟨S4096x4x16, .f32⟩
  | .hbm, ⟨83, _⟩ => ⟨S4096x4x16, .f32⟩
  | .hbm, ⟨84, _⟩ => ⟨S4096x4x16, .f32⟩
  | .hbm, ⟨85, _⟩ => ⟨S4096x4x16, .f32⟩
  | .hbm, ⟨86, _⟩ => ⟨S_, .f32⟩
  | .hbm, ⟨87, _⟩ => ⟨S4096x4x128, .f32⟩
  | .hbm, ⟨88, _⟩ => ⟨S4096x4x128, .f32⟩
  | .hbm, ⟨89, _⟩ => ⟨S_, .f32⟩
  | .hbm, ⟨90, _⟩ => ⟨S4096x4x128, .f32⟩
  | .hbm, ⟨91, _⟩ => ⟨S4096x4x128, .f32⟩
  | .hbm, ⟨92, _⟩ => ⟨S4096x512, .f32⟩
  | .hbm, ⟨93, _⟩ => ⟨S4096x3072, .f32⟩
  | .hbm, ⟨94, _⟩ => ⟨S4096x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_4 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_5 : Ref sig .tc := ⟨.hbm, 86, rfl⟩
abbrev main_v75 : Ref sig .tc := ⟨.hbm, 87, rfl⟩
abbrev main_v76 : Ref sig .tc := ⟨.hbm, 88, rfl⟩
abbrev main_cst_6 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Swiglu.lean ====
abbrev S4096x11264 : Shape := ⟨2, ![4096, 11264]⟩
abbrev S4096x5632 : Shape := ⟨2, ![4096, 5632]⟩
abbrev S256x5632 : Shape := ⟨2, ![256, 5632]⟩

abbrev nBuf : Space → Nat
  | .hbm => 2
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefSwigluIdeal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Merge.lean ====
abbrev S4096x2048 : Shape := ⟨2, ![4096, 2048]⟩
abbrev S4096x11264 : Shape := ⟨2, ![4096, 11264]⟩
abbrev S256x2048 : Shape := ⟨2, ![256, 2048]⟩
abbrev S256x1024 : Shape := ⟨2, ![256, 1024]⟩

abbrev nBuf : Space → Nat
  | .hbm => 4
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x11264, .bf16⟩
  | .hbm, ⟨3, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMergeIdeal.lean ====
abbrev S4096x2048 : Shape := ⟨2, ![4096, 2048]⟩
abbrev S4096x11264 : Shape := ⟨2, ![4096, 11264]⟩
abbrev S4096x4096 : Shape := ⟨2, ![4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x11264, .bf16⟩
  | .hbm, ⟨3, _⟩ => ⟨S4096x4096, .bf16⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Glu.lean ====
abbrev S4096x11264 : Shape := ⟨2, ![4096, 11264]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 2
  | .vmem => 10
  | .smem => 0
  | _ => 0

abbrev bufTy : (tb : Table) → Fin (tcTables nBuf tb) → BufTy
  | .hbm, ⟨0, _⟩ => ⟨S4096x11264, .bf16⟩
  | .hbm, ⟨1, _⟩ => ⟨S4096x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefGluIdeal.lean ====
abbrev S4096x11264 : Shape := ⟨2, ![4096, 11264]⟩
abbrev S4096x4096 : Shape := ⟨2, ![4096, 4096]⟩
abbrev S4096x2048 : Shape := ⟨2, ![4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Modulate.lean ====
abbrev S4096x2048 : Shape := ⟨2, ![4096, 2048]⟩
abbrev S1x2048 : Shape := ⟨2, ![1, 2048]⟩
abbrev S256x2048 : Shape := ⟨2, ![256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefModulateIdeal.lean ====
abbrev S4096x2048 : Shape := ⟨2, ![4096, 2048]⟩
abbrev S1x2048 : Shape := ⟨2, ![1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Qkv.lean ====
abbrev S4096x11264 : Shape := ⟨2, ![4096, 11264]⟩
abbrev S4096x16 : Shape := ⟨2, ![4096, 16]⟩
abbrev S_ : Shape := ⟨0, ![]⟩
abbrev S4096x96 : Shape := ⟨2, ![4096, 96]⟩
abbrev S4096x128 : Shape := ⟨2, ![4096, 128]⟩
abbrev S4096x112 : Shape := ⟨2, ![4096, 112]⟩
abbrev S4096x2048 : Shape := ⟨2, ![4096, 2048]⟩
abbrev S4096x512 : Shape := ⟨2, ![4096, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 18
  | .vmem => 18
  | .smem => 0
  | _ => 0

abbrev bufTy : (tb : Table) → Fin (tcTables nBuf tb) → BufTy
  | .hbm, ⟨0, _⟩ => ⟨S4096x11264, .bf16⟩
  | .hbm, ⟨1, _⟩ => ⟨S4096x16, .f32⟩
  | .hbm, ⟨2, _⟩ => ⟨S4096x16, .f32⟩
  | .hbm, ⟨3, _⟩ => ⟨S_, .f32⟩
  | .hbm, ⟨4, _⟩ => ⟨S4096x96, .f32⟩
  | .hbm, ⟨5, _⟩ => ⟨S4096x128, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x128, .f32⟩
  | .hbm, ⟨10, _⟩ => ⟨S_, .f32⟩
  | .hbm, ⟨11, _⟩ => ⟨S4096x16, .f32⟩
  | .hbm, ⟨12, _⟩ => ⟨S_, .f32⟩
  | .hbm, ⟨13, _⟩ => ⟨S4096x96, .f32⟩
  | .hbm, ⟨14, _⟩ => ⟨S4096x128, .f32⟩
  | .hbm, ⟨15, _⟩ => ⟨S4096x2048, .bf16⟩
  | .hbm, ⟨16, _⟩ => ⟨S4096x512, .bf16⟩
  | .hbm, ⟨17, _⟩ => ⟨S4096x512, .bf16⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .bf16⟩
  | .local _ .vmem, ⟨13, _⟩ => ⟨S256x2048, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefQkvIdeal.lean ====
abbrev S4096x11264 : Shape := ⟨2, ![4096, 11264]⟩
abbrev S4096x16 : Shape := ⟨2, ![4096, 16]⟩
abbrev S4096x2048 : Shape := ⟨2, ![4096, 2048]⟩
abbrev S4096x512 : Shape := ⟨2, ![4096, 512]⟩
abbrev S4096x16x128 : Shape := ⟨3, ![4096, 16, 128]⟩
abbrev S4096x16x16 : Shape := ⟨3, ![4096, 16, 16]⟩
abbrev S4096x1x16 : Shape := ⟨3, ![4096, 1, 16]⟩
abbrev S4096x16x96 : Shape := ⟨3, ![4096, 16, 96]⟩
abbrev S4096x4x128 : Shape := ⟨3, ![4096, 4, 128]⟩
abbrev S4096x4x16 : Shape := ⟨3, ![4096, 4, 16]⟩
abbrev S4096x4x96 : Shape := ⟨3, ![4096, 4, 96]⟩

abbrev nBuf : Space → Nat
  | .hbm => 46
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x16, .f32⟩
  | .hbm, ⟨2, _⟩ => ⟨S4096x16, .f32⟩
  | .hbm, ⟨3, _⟩ => ⟨S4096x11264, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S4096x16x128, .f32⟩
  | .hbm, ⟨8, _⟩ => ⟨S4096x16x16, .f32⟩
  | .hbm, ⟨9, _⟩ => ⟨S4096x16x16, .f32⟩
  | .hbm, ⟨10, _⟩ => ⟨S4096x1x16, .f32⟩
  | .hbm, ⟨11, _⟩ => ⟨S4096x1x16, .f32⟩
  | .hbm, ⟨12, _⟩ => ⟨S4096x16x16, .f32⟩
  | .hbm, ⟨13, _⟩ => ⟨S4096x16x16, .f32⟩
  | .hbm, ⟨14, _⟩ => ⟨S4096x16x16, .f32⟩
  | .hbm, ⟨15, _⟩ => ⟨S4096x16x16, .f32⟩
  | .hbm, ⟨16, _⟩ => ⟨S4096x16x16, .f32⟩
  | .hbm, ⟨17, _⟩ => ⟨S4096x16x16, .f32⟩
  | .hbm, ⟨18, _⟩ => ⟨S4096x16x16, .f32⟩
  | .hbm, ⟨19, _⟩ => ⟨S4096x16x16, .f32⟩
  | .hbm, ⟨20, _⟩ => ⟨S4096x16x16, .f32⟩
  | .hbm, ⟨21, _⟩ => ⟨S4096x16x16, .f32⟩
  | .hbm, ⟨22, _⟩ => ⟨S4096x16x96, .f32⟩
  | .hbm, ⟨23, _⟩ => ⟨S4096x16x128, .f32⟩
  | .hbm, ⟨24, _⟩ => ⟨S4096x2048, .f32⟩
  | .hbm, ⟨25, _⟩ => ⟨S4096x2048, .bf16⟩
  | .hbm, ⟨26, _⟩ => ⟨S4096x4x128, .f32⟩
  | .hbm, ⟨27, _⟩ => ⟨S4096x4x16, .f32⟩
  | .hbm, ⟨28, _⟩ => ⟨S4096x4x16, .f32⟩
  | .hbm, ⟨29, _⟩ => ⟨S4096x1x16, .f32⟩
  | .hbm, ⟨30, _⟩ => ⟨S4096x1x16, .f32⟩
  | .hbm, ⟨31, _⟩ => ⟨S4096x4x16, .f32⟩
  | .hbm, ⟨32, _⟩ => ⟨S4096x4x16, .f32⟩
  | .hbm, ⟨33, _⟩ => ⟨S4096x4x16, .f32⟩
  | .hbm, ⟨34, _⟩ => ⟨S4096x4x16, .f32⟩
  | .hbm, ⟨35, _⟩ => ⟨S4096x4x16, .f32⟩
  | .hbm, ⟨36, _⟩ => ⟨S4096x4x16, .f32⟩
  | .hbm, ⟨37, _⟩ => ⟨S4096x4x16, .f32⟩
  | .hbm, ⟨38, _⟩ => ⟨S4096x4x16, .f32⟩
  | .hbm, ⟨39, _⟩ => ⟨S4096x4x16, .f32⟩
  | .hbm, ⟨40, _⟩ => ⟨S4096x4x16, .f32⟩
  | .hbm, ⟨41, _⟩ => ⟨S4096x4x96, .f32⟩
  | .hbm, ⟨42, _⟩ => ⟨S4096x4x128, .f32⟩
  | .hbm, ⟨43, _⟩ => ⟨S4096x512, .f32⟩
  | .hbm, ⟨44, _⟩ => ⟨S4096x512, .bf16⟩
  | .hbm, ⟨45, _⟩ => ⟨S4096x512, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩

abbrev nD : Nat := 1
abbrev τ : Topo := Topo.v7x

variable {F : FTy → Type} [FloatOps F]
-- ==== ResLn.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefResLnIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Attn.lean ====
abbrev S4096x2048 : Shape := ⟨2, ![4096, 2048]⟩
abbrev S4096x512 : Shape := ⟨2, ![4096, 512]⟩
abbrev S16 : Shape := ⟨1, ![16]⟩
abbrev S16x1 : Shape := ⟨2, ![16, 1]⟩
abbrev S16x128 : Shape := ⟨2, ![16, 128]⟩
abbrev S256x512 : Shape := ⟨2, ![256, 512]⟩
abbrev S4096x128 : Shape := ⟨2, ![4096, 128]⟩
abbrev S384x128 : Shape := ⟨2, ![384, 128]⟩
abbrev S512x384 : Shape := ⟨2, ![512, 384]⟩
abbrev S128x128 : Shape := ⟨2, ![128, 128]⟩
abbrev S512x128 : Shape := ⟨2, ![512, 128]⟩
abbrev S1x128 : Shape := ⟨2, ![1, 128]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S16, .f32⟩
  | .hbm, ⟨4, _⟩ => ⟨S16x1, .f32⟩
  | .hbm, ⟨5, _⟩ => ⟨S16x128, .f32⟩
  | .hbm, ⟨6, _⟩ => ⟨S4096x2048, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S16x128, .f32⟩
  | .local _ .vmem, ⟨7, _⟩ => ⟨S256x512, .bf16⟩
  | .local _ .vmem, ⟨8, _⟩ => ⟨S256x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c3712_i32 : BitVec 32 := 3712#32
  let c0_i32_0 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c128_i32 : BitVec 32 := 128#32
  let v2 : BitVec 32 := Scalar.subi v1 c128_i32
  let v3 : BitVec 32 := Scalar.maxsi c0_i32_0 v2
  let v4 : BitVec 32 := Scalar.minsi c3712_i32 v3
  v4
def k0_off1 (i : grid0.Coords) (c0_i32 : BitVec 32) : Fin 2 → Nat :=
  let c3712_i32 : BitVec 32 := 3712#32
  let c0_i32_0 : BitVec 32 := 0#32
  let arg1 : BitVec 32 := BitVec.ofNat 32 (i 1).val
  let c256_i32 : BitVec 32 := 256#32
  let v0 : BitVec 32 := Scalar.muli arg1 c256_i32
  let v1 : BitVec 32 := Scalar.addi v0 c0_i32
  let c128_i32 : BitVec 32 := 128#32
  let v2 : BitVec 32 := Scalar.subi v1 c128_i32
  let v3 : BitVec 32 := Scalar.maxsi c0_i32_0 v2
  let v4 : BitVec 32 := Scalar.minsi c3712_i32 v3
  let v5 : BitVec 32 := v4
  let v6 : Index := Scalar.indexCast v5
  let c0 : Index := 0#32
  ![v6.toNat, 0]
def k0_off2 (i : grid0.Coords) (c0_i32_10 : BitVec 32) : Fin 2 → Nat :=
  let arg0 : BitVec 32 := BitVec.ofNat 32 (i 0).val
  let c4_i32 : BitVec 32 := 4#32
  let v32 : BitVec 32 := Scalar.muli arg0 c4_i32
  let v33 : BitVec 32 := Scalar.addi v32 c0_i32_10
  let v34 : Index := Scalar.indexCast v33
  let c0_11 : Index := 0#32
  ![v34.toNat, 0]
def k0_mult2 (i : grid0.Coords) : BitVec 32 :=
  let c3712_i32_33 : BitVec 32 := 3712#32
  let c0_i32_32 : BitVec 32 := 0#32
  let arg1 : BitVec 32 := BitVec.ofNat 32 (i 1).val
  let c256_i32_29 : BitVec 32 := 256#32
  let v89 : BitVec 32 := Scalar.muli arg1 c256_i32_29
  let c128_i32_30 : BitVec 32 := 128#32
  let v90 : BitVec 32 := Scalar.addi v89 c128_i32_30
  let c128_i32_31 : BitVec 32 := 128#32
  let v91 : BitVec 32 := Scalar.subi v90 c128_i32_31
  let v92 : BitVec 32 := Scalar.maxsi c0_i32_32 v91
  let v93 : BitVec 32 := Scalar.minsi c3712_i32_33 v92
  v93
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== RefAttnIdeal.lean ====
abbrev S4096x2048 : Shape := ⟨2, ![4096, 2048]⟩
abbrev S4096x512 : Shape := ⟨2, ![4096, 512]⟩
abbrev S16 : Shape := ⟨1, ![16]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x1 : Shape := ⟨3, ![4, 4, 1]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S16, .f32⟩
  | .hbm, ⟨4, _⟩ => ⟨S4096x2048, .f32⟩
  | .hbm, ⟨5, _⟩ => ⟨S4096x512, .f32⟩
  | .hbm, ⟨6, _⟩ => ⟨S4096x512, .f32⟩
  | .hbm, ⟨7, _⟩ => ⟨S4096x4x4x128, .f32⟩
  | .hbm, ⟨8, _⟩ => ⟨S4096x4x128, .f32⟩
  | .hbm, ⟨9, _⟩ => ⟨S4096x4x128, .f32⟩
  | .hbm, ⟨10, _⟩ => ⟨S4x4096x4096x4, .f32⟩
  | .hbm, ⟨11, _⟩ => ⟨S4x4x4096x4096, .f32⟩
  | .hbm, ⟨12, _⟩ => ⟨S_, .f32⟩
  | .hbm, ⟨13, _⟩ => ⟨S4x4x4096x4096, .f32⟩
  | .hbm, ⟨14, _⟩ => ⟨S4x4x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x4x4096x4096, .i1⟩
  | .hbm, ⟨28, _⟩ => ⟨S4x4x4096x4096, .f32⟩
  | .hbm, ⟨29, _⟩ => ⟨S4x4x4096x4096, .f32⟩
  | .hbm, ⟨30, _⟩ => ⟨S4x4x1, .f32⟩
  | .hbm, ⟨31, _⟩ => ⟨S_, .f32⟩
  | .hbm, ⟨32, _⟩ => ⟨S4x4x4096, .f32⟩
  | .hbm, ⟨33, _⟩ => ⟨S4x4x4096, .f32⟩
  | .hbm, ⟨34, _⟩ => ⟨S4x4x4096, .f32⟩
  | .hbm, ⟨35, _⟩ => ⟨S4x4x4096x1, .f32⟩
  | .hbm, ⟨36, _⟩ => ⟨S4x4x4096x4096, .f32⟩
  | .hbm, ⟨37, _⟩ => ⟨S4x4x4096x4096, .f32⟩
  | .hbm, ⟨38, _⟩ => ⟨S4x4x4096x4096, .f32⟩
  | .hbm, ⟨39, _⟩ => ⟨S_, .f32⟩
  | .hbm, ⟨40, _⟩ => ⟨S4x4x4096, .f32⟩
  | .hbm, ⟨41, _⟩ => ⟨S4x4x4096, .f32⟩
  | .hbm, ⟨42, _⟩ => ⟨S4x4x4096, .f32⟩
  | .hbm, ⟨43, _⟩ => ⟨S4x4x4096, .f32⟩
  | .hbm, ⟨44, _⟩ => ⟨S4x4x4096, .f32⟩
  | .hbm, ⟨45, _⟩ => ⟨S4x4x4096x1, .f32⟩
  | .hbm, ⟨46, _⟩ => ⟨S4x4x4096x4096, .f32⟩
  | .hbm, ⟨47, _⟩ => ⟨S4x4x4096x4096, .f32⟩
  | .hbm, ⟨48, _⟩ => ⟨S4x128x4x4096, .f32⟩
  | .hbm, ⟨49, _⟩ => ⟨S4096x4x4x128, .f32⟩
  | .hbm, ⟨50, _⟩ => ⟨S4096x2048, .f32⟩
  | .hbm, ⟨51, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.Offsets.lean ====
/-
  Where the kernel's key windows start: at grid step `n` of sixteen along the queries, the sub-block `r` of two
  (128 queries each) reads and updates the 384 rows that start at `koff n r`: one block of 128 before the sub-block's
  own, moved inside the 4096 rows at either end.
-/
module

public import proofs.«01_k».proof.Proof.Gen.KernelIdeal.Frame

@[expose] public section

noncomputable section

namespace Cert.KernelIdeal

open Idealize.ShloMosaic

/-- The first row of the window of keys of sub-block `r` at step `n`. -/
def koff (n r : Nat) : Nat := min 3712 (256 * n + 128 * r - 128)

/-- The kernel's offsets for the first sub-block are `koff`'s. -/
theorem off1_zero (i : grid0.Coords) : k0_off1 i 0#32 = ![koff (i 1).val 0, 0] := by
  have h : ∀ n : Fin 16, (Scalar.indexCast (Scalar.minsi 3712#32 (Scalar.maxsi 0#32 (Scalar.subi (Scalar.addi (Scalar.muli
      (BitVec.ofNat 32 n.val) 256#32) 0#32) 128#32)))).toNat = koff n.val 0 := by decide
  show ![_, _] = _
  rw [h (i 1)]

/-- The kernel's offsets for the second sub-block are `koff`'s. -/
theorem off1_one (i : grid0.Coords) : k0_off1 i 128#32 = ![koff (i 1).val 1, 0] := by
  have h : ∀ n : Fin 16, (Scalar.indexCast (Scalar.minsi 3712#32 (Scalar.maxsi 0#32 (Scalar.subi (Scalar.addi (Scalar.muli
      (BitVec.ofNat 32 n.val) 256#32) 128#32) 128#32)))).toNat = koff n.val 1 := by decide
  show ![_, _] = _
  rw [h (i 1)]

instance closedOff_zero (i : grid0.Coords) : ClosedOff (k0_off1 i 0#32) := ⟨![koff (i 1).val 0, 0], off1_zero i⟩
instance closedOff_one (i : grid0.Coords) : ClosedOff (k0_off1 i 128#32) := ⟨![koff (i 1).val 1, 0], off1_one i⟩

end Cert.KernelIdeal

end
-- ==== Proof.Tile.lean ====
/-
  One sub-block of the kernel: 128 queries of four heads that share their keys, stacked to 512 rows, against a window of
  384 keys. From what the sub-block loads (`Ins`) its scores, its softmax with the sink, the gradients of the scores, and
  what it contributes to the four results, each as the kernel computes it, over any reading of the floats.
-/
module

public import proofs.«01_k».proof.Proof.Offsets
public import proofs.«01_k».proof.Proof.Gen.KernelIdeal.Skeleton
public import Idealize.ShloMosaic.Lib.VecWindow

@[expose] public section

noncomputable section

namespace Cert.KernelIdeal

open Cert.KernelIdeal.Gen
open Idealize.ShloMosaic

variable {F : FTy → Type} [FloatOps F] [Named F]

/-- What a sub-block loads: the queries and the cotangents of its four heads, the window of keys and of values, the rows of
    the sink, and the mask it computes from the positions. -/
structure Ins (F : FTy → Type) where
  q : Fin 4 → Vec F S128x128 .bf16
  k : Vec F S384x128 .bf16
  v : Vec F S384x128 .bf16
  s : Fin 4 → Vec F S1x128 .f32
  d : Fin 4 → Vec F S128x128 .bf16
  mask : IVec S512x384 1

namespace Ins

variable (T : Ins F)

/-- The queries of the four heads, one under the other. -/
def Q : FVec F S512x128 .bf16 := k0_pay7 (T.q 0) (T.q 1) (T.q 2) (T.q 3)

/-- The cotangents of the four heads, one under the other. -/
def D : FVec F S512x128 .bf16 := k0_pay16 (T.d 0) (T.d 1) (T.d 2) (T.d 3)

/-- The scores: the scaled products of queries and keys inside the band, the mask's value outside it. -/
def S : FVec F S512x384 .f32 := k0_pay8 T.k T.mask (T.q 0) (T.q 1) (T.q 2) (T.q 3)

/-- The sinks of the stacked rows. -/
def C : FVec F S512x1 .f32 := k0_pay9 (T.s 0) (T.s 1) (T.s 2) (T.s 3)

/-- The maximum of each row's scores and its sink. -/
def M : FVec F S512x1 .f32 := k0_pay10 T.k T.mask (T.q 0) (T.q 1) (T.q 2) (T.q 3) (T.s 0) (T.s 1) (T.s 2) (T.s 3)

/-- The scores less the maximum. -/
def N : FVec F S512x384 .f32 := k0_pay11 T.k T.mask (T.q 0) (T.q 1) (T.q 2) (T.q 3) (T.s 0) (T.s 1) (T.s 2) (T.s 3)

/-- The probabilities of the keys. -/
def P : FVec F S512x384 .f32 := k0_pay15 T.C T.M T.N

/-- The gradient with respect to the products of queries and keys. -/
def DS : FVec F S512x384 .bf16 := k0_pay19 T.v T.C T.M T.N (T.d 0) (T.d 1) (T.d 2) (T.d 3)

/-- The gradient of the stacked queries. -/
def DQ : FVec F S512x128 .f32 := k0_pay20 T.k T.v T.C T.M T.N (T.d 0) (T.d 1) (T.d 2) (T.d 3)

/-- The sink's probability times the row's sum of probability times gradient. -/
def W : FVec F S512x1 .f32 := k0_pay21 T.v T.C T.M T.N (T.d 0) (T.d 1) (T.d 2) (T.d 3)

/-- The window of the keys' gradient with the sub-block's contribution added. -/
def dk (x : Vec F S384x128 .f32) : FVec F S384x128 .f32 := k0_pay32 T.Q T.DS x

/-- The window of the values' gradient with the sub-block's contribution added. -/
def dv (x : Vec F S384x128 .f32) : FVec F S384x128 .f32 := k0_pay33 T.P T.D x

/-- Head `g`'s rows of the queries' gradient. -/
def dq : Fin 4 → FVec F S128x128 .f32
  | 0 => k0_pay22 T.k T.v T.C T.M T.N (T.d 0) (T.d 1) (T.d 2) (T.d 3)
  | 1 => k0_pay26 T.DQ
  | 2 => k0_pay28 T.DQ
  | 3 => k0_pay30 T.DQ

/-- Head `g`'s row of the sink's gradient with the sub-block's contribution added. -/
def ds : Fin 4 → Vec F S1x128 .f32 → FVec F S1x128 .f32
  | 0 => fun x => k0_pay25 (k0_pay23 x) (k0_pay24 T.v T.C T.M T.N (T.d 0) (T.d 1) (T.d 2) (T.d 3))
  | 1 => k0_pay27 T.W
  | 2 => k0_pay29 T.W
  | 3 => k0_pay31 T.W

end Ins

/-- The mask of a sub-block whose queries start at `a` and whose window of keys starts at `b`: key and query at most 128 apart. -/
def maskW (a b : BitVec 32) : IVec S512x384 1 :=
  cmpi .sle (absi (subi (addi (broadcast S512x384 b) (iota .tc S512x384 32 [1] iota_S512x384_d1_w32))
    (addi (broadcast S512x384 a) (andi (iota .tc S512x384 32 [0] iota_S512x384_d0_w32) (broadcast S512x384 127#32)))))
    (broadcast S512x384 128#32)

/-- Where a sub-block that starts `o` queries into grid step `i` starts, and where its window of keys does, in the kernel's words. -/
def baseW (i : grid0.Coords) (o : BitVec 32) : BitVec 32 := Scalar.addi (Scalar.muli (BitVec.ofNat 32 (i 1).val) 256#32) o

def keysW (i : grid0.Coords) (o : BitVec 32) : BitVec 32 := Scalar.minsi 3712#32 (Scalar.maxsi 0#32 (Scalar.subi (baseW i o) 128#32))

/-- The mask of a sub-block that starts `o` queries into grid step `i`. -/
def maskAt (i : grid0.Coords) (o : BitVec 32) : IVec S512x384 1 := maskW (baseW i o) (keysW i o)

section Second

/-! The second sub-block's values are the first's, of what it loads. -/

variable (a b : BitVec 32) (m : IVec S512x384 1) (k v : Vec F S384x128 .bf16) (q0 q1 q2 q3 d0 d1 d2 d3 : Vec F S128x128 .bf16) (s0 s1 s2 s3 x : Vec F S1x128 .f32)
  (z : FVec F S512x128 .f32) (u : FVec F S512x1 .f32) (y : Vec F S384x128 .f32)
  (Q : FVec F S512x128 .bf16) (D : FVec F S512x384 .bf16) (P : FVec F S512x384 .f32)

theorem pay6_eq (i : grid0.Coords) : k0_pay6 i = maskAt i 0#32 := by exact rfl
theorem pay34_eq : k0_pay34 q0 q1 q2 q3 = k0_pay7 q0 q1 q2 q3 := by exact rfl
theorem pay35_eq : k0_pay35 a b k q0 q1 q2 q3 = k0_pay8 k (maskW a b) q0 q1 q2 q3 := by exact rfl
theorem pay42_eq : k0_pay42 (k0_pay8 k m q0 q1 q2 q3) (k0_pay36 s0) s1 s2 s3 = k0_pay15 (k0_pay9 s0 s1 s2 s3) (k0_pay10 k m q0 q1 q2 q3 s0 s1 s2 s3) (k0_pay11 k m q0 q1 q2 q3 s0 s1 s2 s3) := by exact rfl
theorem pay44_eq : k0_pay44 d0 d1 d2 d3 = k0_pay16 d0 d1 d2 d3 := by exact rfl
theorem pay48_eq : k0_pay48 (k0_pay15 (k0_pay9 s0 s1 s2 s3) (k0_pay10 k m q0 q1 q2 q3 s0 s1 s2 s3) (k0_pay11 k m q0 q1 q2 q3 s0 s1 s2 s3)) (k0_pay45 v d0 d1 d2 d3) (k0_pay46 v (k0_pay8 k m q0 q1 q2 q3) (k0_pay36 s0) s1 s2 s3 d0 d1 d2 d3)
    = k0_pay19 v (k0_pay9 s0 s1 s2 s3) (k0_pay10 k m q0 q1 q2 q3 s0 s1 s2 s3) (k0_pay11 k m q0 q1 q2 q3 s0 s1 s2 s3) d0 d1 d2 d3 := by exact rfl
theorem pay49_eq : k0_pay49 k (k0_pay15 (k0_pay9 s0 s1 s2 s3) (k0_pay10 k m q0 q1 q2 q3 s0 s1 s2 s3) (k0_pay11 k m q0 q1 q2 q3 s0 s1 s2 s3)) (k0_pay45 v d0 d1 d2 d3) (k0_pay46 v (k0_pay8 k m q0 q1 q2 q3) (k0_pay36 s0) s1 s2 s3 d0 d1 d2 d3)
    = k0_pay20 k v (k0_pay9 s0 s1 s2 s3) (k0_pay10 k m q0 q1 q2 q3 s0 s1 s2 s3) (k0_pay11 k m q0 q1 q2 q3 s0 s1 s2 s3) d0 d1 d2 d3 := by exact rfl
theorem pay50_eq : k0_pay50 (k0_pay43 (k0_pay8 k m q0 q1 q2 q3) (k0_pay36 s0) s1 s2 s3) (k0_pay46 v (k0_pay8 k m q0 q1 q2 q3) (k0_pay36 s0) s1 s2 s3 d0 d1 d2 d3)
    = k0_pay21 v (k0_pay9 s0 s1 s2 s3) (k0_pay10 k m q0 q1 q2 q3 s0 s1 s2 s3) (k0_pay11 k m q0 q1 q2 q3 s0 s1 s2 s3) d0 d1 d2 d3 := by exact rfl
theorem pay51_eq : k0_pay51 k (k0_pay15 (k0_pay9 s0 s1 s2 s3) (k0_pay10 k m q0 q1 q2 q3 s0 s1 s2 s3) (k0_pay11 k m q0 q1 q2 q3 s0 s1 s2 s3)) (k0_pay45 v d0 d1 d2 d3) (k0_pay46 v (k0_pay8 k m q0 q1 q2 q3) (k0_pay36 s0) s1 s2 s3 d0 d1 d2 d3)
    = k0_pay22 k v (k0_pay9 s0 s1 s2 s3) (k0_pay10 k m q0 q1 q2 q3 s0 s1 s2 s3) (k0_pay11 k m q0 q1 q2 q3 s0 s1 s2 s3) d0 d1 d2 d3 := by exact rfl
theorem pay52_eq : k0_pay52 (k0_pay43 (k0_pay8 k m q0 q1 q2 q3) (k0_pay36 s0) s1 s2 s3) (k0_pay46 v (k0_pay8 k m q0 q1 q2 q3) (k0_pay36 s0) s1 s2 s3 d0 d1 d2 d3) x
    = k0_pay25 (k0_pay23 x) (k0_pay24 v (k0_pay9 s0 s1 s2 s3) (k0_pay10 k m q0 q1 q2 q3 s0 s1 s2 s3) (k0_pay11 k m q0 q1 q2 q3 s0 s1 s2 s3) d0 d1 d2 d3) := by exact rfl
theorem pay53_eq : k0_pay53 k (k0_pay15 (k0_pay9 s0 s1 s2 s3) (k0_pay10 k m q0 q1 q2 q3 s0 s1 s2 s3) (k0_pay11 k m q0 q1 q2 q3 s0 s1 s2 s3)) (k0_pay45 v d0 d1 d2 d3) (k0_pay46 v (k0_pay8 k m q0 q1 q2 q3) (k0_pay36 s0) s1 s2 s3 d0 d1 d2 d3)
    = k0_pay26 (k0_pay20 k v (k0_pay9 s0 s1 s2 s3) (k0_pay10 k m q0 q1 q2 q3 s0 s1 s2 s3) (k0_pay11 k m q0 q1 q2 q3 s0 s1 s2 s3) d0 d1 d2 d3) := by exact rfl
theorem pay56_eq : k0_pay56 (k0_pay54 x) (k0_pay55 (k0_pay43 (k0_pay8 k m q0 q1 q2 q3) (k0_pay36 s0) s1 s2 s3) (k0_pay46 v (k0_pay8 k m q0 q1 q2 q3) (k0_pay36 s0) s1 s2 s3 d0 d1 d2 d3))
    = k0_pay27 (k0_pay21 v (k0_pay9 s0 s1 s2 s3) (k0_pay10 k m q0 q1 q2 q3 s0 s1 s2 s3) (k0_pay11 k m q0 q1 q2 q3 s0 s1 s2 s3) d0 d1 d2 d3) x := by exact rfl
theorem pay57_eq : k0_pay57 z = k0_pay28 z := by exact rfl
theorem pay58_eq : k0_pay58 u x = k0_pay29 u x := by exact rfl
theorem pay59_eq : k0_pay59 z = k0_pay30 z := by exact rfl
theorem pay60_eq : k0_pay60 u x = k0_pay31 u x := by exact rfl
theorem pay1_eq : k0_pay1 Q D y = k0_pay32 Q D y := by exact rfl
theorem pay2_eq : k0_pay2 P Q y = k0_pay33 P Q y := by exact rfl

end Second

theorem qbox (r : Fin 2) (g : Fin 4) : ∀ a, (![128 * r.val, 128 * g.val] : Fin 2 → ℕ) a + S128x128.size a ≤ S256x512.size a := by
  revert r g; decide

theorem kbox (n : Fin 16) (r : Fin 2) : ∀ a, (![koff n.val r.val, 0] : Fin 2 → ℕ) a + S384x128.size a ≤ S4096x128.size a := by
  revert n r; decide

theorem sbox (h g : Fin 4) : ∀ a, (![4 * h.val + g.val, 0] : Fin 2 → ℕ) a + S1x128.size a ≤ S16x128.size a := by
  revert h g; decide

/-- The kernel's offsets of head `g`'s row are `4 * h + g` at key head `h`. -/
theorem off2_eq (i : grid0.Coords) (g : Fin 4) : k0_off2 i (BitVec.ofNat 32 g.val) = ![4 * (i 0).val + g.val, 0] := by
  have e : ∀ h g : Fin 4, (Scalar.indexCast (Scalar.addi (Scalar.muli (BitVec.ofNat 32 h.val) 4#32) (BitVec.ofNat 32 g.val))).toNat = 4 * h.val + g.val := by decide
  show ![_, _] = _
  rw [e (i 0) g]

/-- What sub-block `r` of grid step `i` loads, of the blocks the step is given. -/
def insOf (i : grid0.Coords) (r : Fin 2) (q : Vec F S256x512 .bf16) (k v : Vec F S4096x128 .bf16) (s : Vec F S16x128 .f32) (d : Vec F S256x512 .bf16) : Ins F where
  q g := VecWindow.window q ![128 * r.val, 128 * g.val] S128x128.size (qbox r g)
  k := VecWindow.window k ![koff (i 1).val r.val, 0] S384x128.size (kbox (i 1) r)
  v := VecWindow.window v ![koff (i 1).val r.val, 0] S384x128.size (kbox (i 1) r)
  s g := VecWindow.window s ![4 * (i 0).val + g.val, 0] S1x128.size (sbox (i 0) g)
  d g := VecWindow.window d ![128 * r.val, 128 * g.val] S128x128.size (qbox r g)
  mask := maskAt i (BitVec.ofNat 32 (128 * r.val))

/-- A block of 4096 rows after both sub-blocks of grid step `i` updated, one after the other, their windows of 384 rows:
    sub-block `r` puts `u r` of what its window held. -/
def keyOut (i : grid0.Coords) (u : Fin 2 → Vec F S384x128 .f32 → FVec F S384x128 .f32) (x : Vec F S4096x128 .f32) : Vec F S4096x128 .f32 :=
  let y := VecWindow.put x ![koff (i 1).val 0, 0] S384x128.size (u 0 (VecWindow.window x ![koff (i 1).val 0, 0] S384x128.size (kbox (i 1) 0)))
  VecWindow.put y ![koff (i 1).val 1, 0] S384x128.size (u 1 (VecWindow.window y ![koff (i 1).val 1, 0] S384x128.size (kbox (i 1) 1)))

/-- Head `g`'s row of the sink's gradient after a sub-block, the other rows as they were. -/
def dsRow (i : grid0.Coords) (T : Ins F) (g : Fin 4) (x : Vec F S16x128 .f32) : Vec F S16x128 .f32 :=
  VecWindow.put x ![4 * (i 0).val + g.val, 0] S1x128.size (T.ds g (VecWindow.window x ![4 * (i 0).val + g.val, 0] S1x128.size (sbox (i 0) g)))

/-- The block of the sink's gradient after grid step `i`, from what it held. -/
def dsOut (i : grid0.Coords) (T : Fin 2 → Ins F) (x : Vec F S16x128 .f32) : Vec F S16x128 .f32 :=
  dsRow i (T 1) 3 (dsRow i (T 1) 2 (dsRow i (T 1) 1 (dsRow i (T 1) 0 (dsRow i (T 0) 3 (dsRow i (T 0) 2 (dsRow i (T 0) 1 (dsRow i (T 0) 0 x)))))))

/-- The stores of the queries' gradient of grid step `i`, the last first. -/
def dqPieces (T : Fin 2 → Ins F) : List (View.Piece (Elt F) S256x512 .f32) :=
  [⟨Rect.unit ![128, 384] S128x128.size (qbox 1 3), (T 1).dq 3⟩, ⟨Rect.unit ![128, 256] S128x128.size (qbox 1 2), (T 1).dq 2⟩,
   ⟨Rect.unit ![128, 128] S128x128.size (qbox 1 1), (T 1).dq 1⟩, ⟨Rect.unit ![128, 0] S128x128.size (qbox 1 0), (T 1).dq 0⟩,
   ⟨Rect.unit ![0, 384] S128x128.size (qbox 0 3), (T 0).dq 3⟩, ⟨Rect.unit ![0, 256] S128x128.size (qbox 0 2), (T 0).dq 2⟩,
   ⟨Rect.unit ![0, 128] S128x128.size (qbox 0 1), (T 0).dq 1⟩, ⟨Rect.unit ![0, 0] S128x128.size (qbox 0 0), (T 0).dq 0⟩]

end Cert.KernelIdeal

end
-- ==== Proof.Body.lean ====
/-
  The kernel's body, run once for each way its two conditions go: at the first grid step (all three accumulators are
  zeroed), at the first step of another key head (the keys' and values' gradients are zeroed), and at every other step.
  Each run finds what the body leaves in the four results' blocks.
-/
module

public import proofs.«01_k».proof.Proof.Tile

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body at the first grid step. -/
def kernelRunA (c : Dev nD) (i : grid0.Coords)
    (h1 : (Scalar.cmpi .ne (Scalar.extui (Scalar.cmpi .eq (BitVec.ofNat 32 (i 1).val) 0#32) : BitVec 32) 0#32 = 1#1))
    (h2 : (Scalar.cmpi .ne (Scalar.extui (Scalar.andi (Scalar.cmpi .eq (BitVec.ofNat 32 (i 1).val) 0#32) (Scalar.cmpi .eq (BitVec.ofNat 32 (i 0).val) 0#32)) : BitVec 32) 0#32 = 1#1))
    (M2 : Memref sig .tc .vmem S256x512 .bf16) (w2 : M2.IsWhole) (M3 : Memref sig .tc .vmem S4096x128 .bf16) (w3 : M3.IsWhole)
    (M4 : Memref sig .tc .vmem S4096x128 .bf16) (w4 : M4.IsWhole) (M5 : Memref sig .tc .vmem S16x128 .f32) (w5 : M5.IsWhole)
    (M6 : Memref sig .tc .vmem S256x512 .bf16) (w6 : M6.IsWhole) (M7 : Memref sig .tc .vmem S256x512 .f32) (w7 : M7.IsWhole)
    (M8 : Memref sig .tc .vmem S4096x128 .f32) (w8 : M8.IsWhole) (M9 : Memref sig .tc .vmem S4096x128 .f32) (w9 : M9.IsWhole)
    (M10 : Memref sig .tc .vmem S16x128 .f32) (w10 : M10.IsWhole)
    (f2 : Bf (F := F) c M2) (f3 : Bf (F := F) c M3) (f4 : Bf (F := F) c M4) (f5 : Bf (F := F) c M5) (f6 : Bf (F := F) c M6)
    (f8 : Bf (F := F) c M8) (f9 : Bf (F := F) c M9) (f10 : Bf (F := F) c M10) :
    { W : Bf (F := F) c M7 × Bf (F := F) c M8 × Bf (F := F) c M9 × Bf (F := F) c M10 //
      ∀ (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M2 f2 ∗ pt c M3 f3 ∗ pt c M4 f4 ∗ pt c M5 f5 ∗ pt c M6 f6 ∗ pt c M7 W.1 ∗ pt c M8 W.2.1 ∗ pt c M9 W.2.2.1 ∗ pt c M10 W.2.2.2) -∗ Q ⟨⟩))
        ⊢ wp frame (wpE (defs₀ (F := F)) 𝒱₀ c none) E (cc0_attn_bwd i M2 w2 M3 w3 M4 w4 M5 w5 M6 w6 M7 w7 M8 w8 M9 w9 M10 w10) Q } := by
  refine ⟨⟨?_, ?_, ?_, ?_⟩, fun f7 E Q => ?run⟩
  case run =>
    iintro ⟨H2, H3, H4, H5, H6, H7, H8, H9, H10, Hk⟩
    rw [cc0_attn_bwd_eq_skeleton]
    unfold cc0_attn_bwd_skel
    rw [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton]
    unfold k0_part1_skel k0_part2_skel k0_part3_skel k0_part4_skel k0_part5_skel k0_part6_skel k0_part7_skel k0_part8_skel k0_part9_skel
    sl_exec! (disch := sl_exact h1 h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body at the first step of another key head. -/
def kernelRunB (c : Dev nD) (i : grid0.Coords)
    (h1 : (Scalar.cmpi .ne (Scalar.extui (Scalar.cmpi .eq (BitVec.ofNat 32 (i 1).val) 0#32) : BitVec 32) 0#32 = 1#1))
    (h2 : ¬ (Scalar.cmpi .ne (Scalar.extui (Scalar.andi (Scalar.cmpi .eq (BitVec.ofNat 32 (i 1).val) 0#32) (Scalar.cmpi .eq (BitVec.ofNat 32 (i 0).val) 0#32)) : BitVec 32) 0#32 = 1#1))
    (M2 : Memref sig .tc .vmem S256x512 .bf16) (w2 : M2.IsWhole) (M3 : Memref sig .tc .vmem S4096x128 .bf16) (w3 : M3.IsWhole)
    (M4 : Memref sig .tc .vmem S4096x128 .bf16) (w4 : M4.IsWhole) (M5 : Memref sig .tc .vmem S16x128 .f32) (w5 : M5.IsWhole)
    (M6 : Memref sig .tc .vmem S256x512 .bf16) (w6 : M6.IsWhole) (M7 : Memref sig .tc .vmem S256x512 .f32) (w7 : M7.IsWhole)
    (M8 : Memref sig .tc .vmem S4096x128 .f32) (w8 : M8.IsWhole) (M9 : Memref sig .tc .vmem S4096x128 .f32) (w9 : M9.IsWhole)
    (M10 : Memref sig .tc .vmem S16x128 .f32) (w10 : M10.IsWhole)
    (f2 : Bf (F := F) c M2) (f3 : Bf (F := F) c M3) (f4 : Bf (F := F) c M4) (f5 : Bf (F := F) c M5) (f6 : Bf (F := F) c M6)
    (f8 : Bf (F := F) c M8) (f9 : Bf (F := F) c M9) (f10 : Bf (F := F) c M10) :
    { W : Bf (F := F) c M7 × Bf (F := F) c M8 × Bf (F := F) c M9 × Bf (F := F) c M10 //
      ∀ (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M2 f2 ∗ pt c M3 f3 ∗ pt c M4 f4 ∗ pt c M5 f5 ∗ pt c M6 f6 ∗ pt c M7 W.1 ∗ pt c M8 W.2.1 ∗ pt c M9 W.2.2.1 ∗ pt c M10 W.2.2.2) -∗ Q ⟨⟩))
        ⊢ wp frame (wpE (defs₀ (F := F)) 𝒱₀ c none) E (cc0_attn_bwd i M2 w2 M3 w3 M4 w4 M5 w5 M6 w6 M7 w7 M8 w8 M9 w9 M10 w10) Q } := by
  refine ⟨⟨?_, ?_, ?_, ?_⟩, fun f7 E Q => ?run⟩
  case run =>
    iintro ⟨H2, H3, H4, H5, H6, H7, H8, H9, H10, Hk⟩
    rw [cc0_attn_bwd_eq_skeleton]
    unfold cc0_attn_bwd_skel
    rw [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton]
    unfold k0_part1_skel k0_part2_skel k0_part3_skel k0_part4_skel k0_part5_skel k0_part6_skel k0_part7_skel k0_part8_skel k0_part9_skel
    sl_exec! (disch := sl_exact h1 h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body at any other step. -/
def kernelRunC (c : Dev nD) (i : grid0.Coords)
    (h1 : ¬ (Scalar.cmpi .ne (Scalar.extui (Scalar.cmpi .eq (BitVec.ofNat 32 (i 1).val) 0#32) : BitVec 32) 0#32 = 1#1))
    (h2 : ¬ (Scalar.cmpi .ne (Scalar.extui (Scalar.andi (Scalar.cmpi .eq (BitVec.ofNat 32 (i 1).val) 0#32) (Scalar.cmpi .eq (BitVec.ofNat 32 (i 0).val) 0#32)) : BitVec 32) 0#32 = 1#1))
    (M2 : Memref sig .tc .vmem S256x512 .bf16) (w2 : M2.IsWhole) (M3 : Memref sig .tc .vmem S4096x128 .bf16) (w3 : M3.IsWhole)
    (M4 : Memref sig .tc .vmem S4096x128 .bf16) (w4 : M4.IsWhole) (M5 : Memref sig .tc .vmem S16x128 .f32) (w5 : M5.IsWhole)
    (M6 : Memref sig .tc .vmem S256x512 .bf16) (w6 : M6.IsWhole) (M7 : Memref sig .tc .vmem S256x512 .f32) (w7 : M7.IsWhole)
    (M8 : Memref sig .tc .vmem S4096x128 .f32) (w8 : M8.IsWhole) (M9 : Memref sig .tc .vmem S4096x128 .f32) (w9 : M9.IsWhole)
    (M10 : Memref sig .tc .vmem S16x128 .f32) (w10 : M10.IsWhole)
    (f2 : Bf (F := F) c M2) (f3 : Bf (F := F) c M3) (f4 : Bf (F := F) c M4) (f5 : Bf (F := F) c M5) (f6 : Bf (F := F) c M6)
    (f8 : Bf (F := F) c M8) (f9 : Bf (F := F) c M9) (f10 : Bf (F := F) c M10) :
    { W : Bf (F := F) c M7 × Bf (F := F) c M8 × Bf (F := F) c M9 × Bf (F := F) c M10 //
      ∀ (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M2 f2 ∗ pt c M3 f3 ∗ pt c M4 f4 ∗ pt c M5 f5 ∗ pt c M6 f6 ∗ pt c M7 W.1 ∗ pt c M8 W.2.1 ∗ pt c M9 W.2.2.1 ∗ pt c M10 W.2.2.2) -∗ Q ⟨⟩))
        ⊢ wp frame (wpE (defs₀ (F := F)) 𝒱₀ c none) E (cc0_attn_bwd i M2 w2 M3 w3 M4 w4 M5 w5 M6 w6 M7 w7 M8 w8 M9 w9 M10 w10) Q } := by
  refine ⟨⟨?_, ?_, ?_, ?_⟩, fun f7 E Q => ?run⟩
  case run =>
    iintro ⟨H2, H3, H4, H5, H6, H7, H8, H9, H10, Hk⟩
    rw [cc0_attn_bwd_eq_skeleton]
    unfold cc0_attn_bwd_skel
    rw [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton]
    unfold k0_part1_skel k0_part2_skel k0_part3_skel k0_part4_skel k0_part5_skel k0_part6_skel k0_part7_skel k0_part8_skel k0_part9_skel
    sl_exec! (disch := sl_exact h1 h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal

end
-- ==== Proof.BodyRead.lean ====
/-
  What the body leaves in the four results' blocks, read back: the kernel's stores, one after the other, in the words of
  `Tile.lean`, from what the blocks held before.
-/
module

public import proofs.«01_k».proof.Proof.Body

@[expose] public section

noncomputable section

namespace Cert.KernelIdeal

open Cert.KernelIdeal.Gen
open Idealize.ShloMosaic
open Idealize.ShloMosaic.TcCoe
open Idealize.SL.Sem

variable {F : FTy → Type} [FloatOps F] [Named F]

/-- The key head of a grid step. -/
def hd (i : grid0.Coords) : Fin 4 := i 0

/-- Row `4 * n + g` of the sink's block. -/
def rowGet {α : Type} (n g : Fin 4) (x : S16x128.Idx → α) : S1x128.Idx → α := VecWindow.window x ![4 * n.val + g.val, 0] S1x128.size (sbox n g)

/-- The sink's block with row `4 * n + g` replaced. -/
def rowPut {α : Type} (n g : Fin 4) (x : S16x128.Idx → α) (w : S1x128.Idx → α) : S16x128.Idx → α := VecWindow.put x ![4 * n.val + g.val, 0] S1x128.size w

theorem rowGet_put {α : Type} (n g : Fin 4) (x : S16x128.Idx → α) (w : S1x128.Idx → α) : rowGet n g (rowPut n g x w) = w :=
  VecWindow.window_put_same _ _ _ _ _

theorem rowGet_skip {α : Type} (n g g' : Fin 4) (h : g ≠ g') (x : S16x128.Idx → α) (w : S1x128.Idx → α) :
    rowGet n g' (rowPut n g x w) = rowGet n g' x := by
  refine VecWindow.window_put_of_disjoint _ _ _ _ _ _ _ 0 ?_
  show 4 * n.val + g'.val + 1 ≤ 4 * n.val + g.val ∨ 4 * n.val + g.val + 1 ≤ 4 * n.val + g'.val
  omega

theorem dsRow_eq (i : grid0.Coords) (T : Ins F) (g : Fin 4) (x : Vec F S16x128 .f32) : dsRow i T g x = rowPut (hd i) g x (T.ds g (rowGet (hd i) g x)) := rfl

/-- The kernel's box of keys of a sub-block. -/
theorem box1 (i : grid0.Coords) (r : Fin 2) : ∀ a, k0_off1 i (BitVec.ofNat 32 (128 * r.val)) a + S384x128.size a ≤ S4096x128.size a := by
  have e : k0_off1 i (BitVec.ofNat 32 (128 * r.val)) = ![koff (i 1).val r.val, 0] := by
    fin_cases r
    · exact off1_zero i
    · exact off1_one i
  rw [e]
  exact kbox (i 1) r

/-- The kernel's box of a head's row. -/
theorem box2 (i : grid0.Coords) (g : Fin 4) : ∀ a, k0_off2 i (BitVec.ofNat 32 g.val) a + S1x128.size a ≤ S16x128.size a := by
  rw [off2_eq]
  exact sbox (i 0) g

/-- The rows of keys of a sub-block, at the kernel's offsets. -/
abbrev rect1 (i : grid0.Coords) (r : Fin 2) : Rect S4096x128 := Rect.unit (k0_off1 i (BitVec.ofNat 32 (128 * r.val))) S384x128.size (box1 i r)

/-- A head's row, at the kernel's offsets. -/
abbrev rect2 (i : grid0.Coords) (g : Fin 4) : Rect S16x128 := Rect.unit (k0_off2 i (BitVec.ofNat 32 g.val)) S1x128.size (box2 i g)

section Stores

variable (c : Dev nD) (i : grid0.Coords) (T0 T1 : Ins F)

/-- Two stores over the sub-blocks' rows of keys, each of what `u r` makes of the rows loaded just before, over earlier stores `L`. -/
def keyStores (u : Fin 2 → Vec F S384x128 .f32 → FVec F S384x128 .f32) (M : Memref sig .tc .vmem S4096x128 .f32) (f : Bf (F := F) c M)
    (L : List (View.Piece (Elt F) S4096x128 .f32)) : Bf (F := F) c M :=
  let p0 : View.Piece (Elt F) S4096x128 .f32 := ⟨rect1 i 0, u 0 (M.view.readAt (Elt F) (rect1 i 0).toLoadRect (M.view.writes (Elt F) f L))⟩
  M.view.writes (Elt F) f (⟨rect1 i 1, u 1 (M.view.readAt (Elt F) (rect1 i 1).toLoadRect (M.view.writes (Elt F) f (p0 :: L)))⟩ :: p0 :: L)

theorem keyStores_read (u : Fin 2 → Vec F S384x128 .f32 → FVec F S384x128 .f32) (M : Memref sig .tc .vmem S4096x128 .f32) (f : Bf (F := F) c M)
    (L : List (View.Piece (Elt F) S4096x128 .f32)) :
    M.view.read (Elt F) (keyStores c i u M f L) = keyOut i u (M.view.read (Elt F) (M.view.writes (Elt F) f L)) := by
  have e0 : k0_off1 i (BitVec.ofNat 32 (128 * (0 : Fin 2).val)) = ![koff (i 1).val 0, 0] := off1_zero i
  have e1 : k0_off1 i (BitVec.ofNat 32 (128 * (1 : Fin 2).val)) = ![koff (i 1).val 1, 0] := off1_one i
  unfold keyStores keyOut rect1
  rw [View.read_writes_cons_put M.view f _ _ _ e1, View.read_writes_cons_put M.view f _ _ _ e0, View.readAt_unit M.view _ _ e1 (kbox (i 1) 1),
    View.readAt_unit M.view _ _ e0 (kbox (i 1) 0), View.read_writes_cons_put M.view f _ _ _ e0]

/-- A store over head `g`'s row, of what sub-block `T` makes of the row loaded from contents `x`, over earlier stores `L`. -/
def rowStore (T : Ins F) (g : Fin 4) (M : Memref sig .tc .vmem S16x128 .f32) (x : Bf (F := F) c M) (L : List (View.Piece (Elt F) S16x128 .f32)) :
    List (View.Piece (Elt F) S16x128 .f32) :=
  ⟨rect2 i g, T.ds g (M.view.readAt (Elt F) (rect2 i g).toLoadRect x)⟩ :: L

theorem rowStore_read (T : Ins F) (g : Fin 4) (M : Memref sig .tc .vmem S16x128 .f32) (f x : Bf (F := F) c M) (L : List (View.Piece (Elt F) S16x128 .f32)) :
    M.view.read (Elt F) (M.view.writes (Elt F) f (rowStore c i T g M x L))
      = rowPut (hd i) g (M.view.read (Elt F) (M.view.writes (Elt F) f L)) (T.ds g (rowGet (hd i) g (M.view.read (Elt F) x))) := by
  unfold rowStore rect2 rowPut rowGet
  have e : k0_off2 i (BitVec.ofNat 32 g.val) = ![4 * (hd i).val + g.val, 0] := off2_eq i g
  rw [View.read_writes_cons_put M.view f _ _ _ e, View.readAt_unit M.view _ _ e (sbox (hd i) g)]

/-- What sub-block `r` loads, of the blocks' contents. -/
def insL (r : Fin 2) (M2 : Memref sig .tc .vmem S256x512 .bf16) (M3 M4 : Memref sig .tc .vmem S4096x128 .bf16) (M5 : Memref sig .tc .vmem S16x128 .f32)
    (M6 : Memref sig .tc .vmem S256x512 .bf16) (f2 : Bf (F := F) c M2) (f3 : Bf (F := F) c M3) (f4 : Bf (F := F) c M4) (f5 : Bf (F := F) c M5)
    (f6 : Bf (F := F) c M6) : Ins F where
  q g := M2.view.readAt (Elt F) (Rect.unit (s := S256x512) ![128 * r.val, 128 * g.val] S128x128.size (qbox r g)).toLoadRect f2
  k := M3.view.readAt (Elt F) (rect1 i r).toLoadRect f3
  v := M4.view.readAt (Elt F) (rect1 i r).toLoadRect f4
  s g := M5.view.readAt (Elt F) (rect2 i g).toLoadRect f5
  d g := M6.view.readAt (Elt F) (Rect.unit (s := S256x512) ![128 * r.val, 128 * g.val] S128x128.size (qbox r g)).toLoadRect f6
  mask := maskAt i (BitVec.ofNat 32 (128 * r.val))

theorem insL_eq (r : Fin 2) (M2 : Memref sig .tc .vmem S256x512 .bf16) (M3 M4 : Memref sig .tc .vmem S4096x128 .bf16) (M5 : Memref sig .tc .vmem S16x128 .f32)
    (M6 : Memref sig .tc .vmem S256x512 .bf16) (f2 : Bf (F := F) c M2) (f3 : Bf (F := F) c M3) (f4 : Bf (F := F) c M4) (f5 : Bf (F := F) c M5)
    (f6 : Bf (F := F) c M6) :
    insL c i r M2 M3 M4 M5 M6 f2 f3 f4 f5 f6
      = insOf i r (M2.view.read (Elt F) f2) (M3.view.read (Elt F) f3) (M4.view.read (Elt F) f4) (M5.view.read (Elt F) f5) (M6.view.read (Elt F) f6) := by
  have e : k0_off1 i (BitVec.ofNat 32 (128 * r.val)) = ![koff (i 1).val r.val, 0] := by
    fin_cases r
    · exact off1_zero i
    · exact off1_one i
  unfold insL insOf rect1 rect2
  rw [View.readAt_unit M3.view _ _ e (kbox (i 1) r), View.readAt_unit M4.view _ _ e (kbox (i 1) r)]
  congr 1
  funext g
  exact View.readAt_unit M5.view _ _ (off2_eq i g) (sbox (i 0) g)

end Stores

section Runs

variable (c : Dev nD) (i : grid0.Coords)
  (M2 : Memref sig .tc .vmem S256x512 .bf16) (w2 : M2.IsWhole) (M3 : Memref sig .tc .vmem S4096x128 .bf16) (w3 : M3.IsWhole)
  (M4 : Memref sig .tc .vmem S4096x128 .bf16) (w4 : M4.IsWhole) (M5 : Memref sig .tc .vmem S16x128 .f32) (w5 : M5.IsWhole)
  (M6 : Memref sig .tc .vmem S256x512 .bf16) (w6 : M6.IsWhole) (M7 : Memref sig .tc .vmem S256x512 .f32) (w7 : M7.IsWhole)
  (M8 : Memref sig .tc .vmem S4096x128 .f32) (w8 : M8.IsWhole) (M9 : Memref sig .tc .vmem S4096x128 .f32) (w9 : M9.IsWhole)
  (M10 : Memref sig .tc .vmem S16x128 .f32) (w10 : M10.IsWhole)
  (f2 : Bf (F := F) c M2) (f3 : Bf (F := F) c M3) (f4 : Bf (F := F) c M4) (f5 : Bf (F := F) c M5) (f6 : Bf (F := F) c M6)
  (f8 : Bf (F := F) c M8) (f9 : Bf (F := F) c M9) (f10 : Bf (F := F) c M10)

/-- The stores to the sink's rows: four of the first sub-block, of rows loaded from `x`, then four of the second, of the rows the first left. -/
def rowStores (T : Fin 2 → Ins F) (M : Memref sig .tc .vmem S16x128 .f32) (x : Fin 4 → Bf (F := F) c M) (L : List (View.Piece (Elt F) S16x128 .f32)) :
    List (View.Piece (Elt F) S16x128 .f32) :=
  let s4 := rowStore c i (T 0) 3 M (x 3) (rowStore c i (T 0) 2 M (x 2) (rowStore c i (T 0) 1 M (x 1) (rowStore c i (T 0) 0 M (x 0) L)))
  let s5 := rowStore c i (T 1) 0 M (M.view.writes (Elt F) M.view.junk s4) s4
  let s6 := rowStore c i (T 1) 1 M (M.view.writes (Elt F) M.view.junk s5) s5
  let s7 := rowStore c i (T 1) 2 M (M.view.writes (Elt F) M.view.junk s6) s6
  rowStore c i (T 1) 3 M (M.view.writes (Elt F) M.view.junk s7) s7

/-- Where the first sub-block's rows are loaded from contents whose rows are those the stores go over, the stores are `dsOut`'s. -/
theorem rowStores_read (T : Fin 2 → Ins F) (M : Memref sig .tc .vmem S16x128 .f32) (x : Fin 4 → Bf (F := F) c M) (f : Bf (F := F) c M)
    (L : List (View.Piece (Elt F) S16x128 .f32))
    (hx : ∀ g : Fin 4, rowGet (hd i) g (M.view.read (Elt F) (x g)) = rowGet (hd i) g (M.view.read (Elt F) (M.view.writes (Elt F) f L))) :
    M.view.read (Elt F) (M.view.writes (Elt F) f (rowStores c i T M x L)) = dsOut i T (M.view.read (Elt F) (M.view.writes (Elt F) f L)) := by
  unfold rowStores dsOut
  simp (disch := decide) only [dsRow_eq, rowStore_read, rowGet_skip, rowGet_put, hx]

/-- The stores to the first `n` rows where each row is loaded after the stores to the rows before it. -/
def rowPre (T : Ins F) (M : Memref sig .tc .vmem S16x128 .f32) (f : Bf (F := F) c M) (L : List (View.Piece (Elt F) S16x128 .f32)) : ℕ → List (View.Piece (Elt F) S16x128 .f32)
  | 0 => L
  | n + 1 => rowStore c i T (Fin.ofNat 4 n) M (M.view.writes (Elt F) f (rowPre T M f L n)) (rowPre T M f L n)

/-- The contents the first sub-block's rows are loaded from, in that order of loads and stores. -/
def rowLoads (T : Ins F) (M : Memref sig .tc .vmem S16x128 .f32) (f : Bf (F := F) c M) (L : List (View.Piece (Elt F) S16x128 .f32)) (g : Fin 4) : Bf (F := F) c M :=
  M.view.writes (Elt F) f (rowPre c i T M f L g.val)

theorem rowLoads_row (T : Ins F) (M : Memref sig .tc .vmem S16x128 .f32) (f : Bf (F := F) c M) (L : List (View.Piece (Elt F) S16x128 .f32)) (g : Fin 4) :
    rowGet (hd i) g (M.view.read (Elt F) (rowLoads c i T M f L g)) = rowGet (hd i) g (M.view.read (Elt F) (M.view.writes (Elt F) f L)) := by
  have e0 : rowPre c i T M f L 0 = L := rfl
  have e1 : rowPre c i T M f L 1 = rowStore c i T 0 M (M.view.writes (Elt F) f L) L := rfl
  have e2 : rowPre c i T M f L 2 = rowStore c i T 1 M (M.view.writes (Elt F) f (rowPre c i T M f L 1)) (rowPre c i T M f L 1) := rfl
  have e3 : rowPre c i T M f L 3 = rowStore c i T 2 M (M.view.writes (Elt F) f (rowPre c i T M f L 2)) (rowPre c i T M f L 2) := rfl
  unfold rowLoads
  have s1 : ∀ g' : Fin 4, (0 : Fin 4) ≠ g' → rowGet (hd i) g' (M.view.read (Elt F) (M.view.writes (Elt F) f (rowPre c i T M f L 1))) = rowGet (hd i) g' (M.view.read (Elt F) (M.view.writes (Elt F) f L)) :=
    fun g' h => by rw [e1, rowStore_read, rowGet_skip _ _ _ h]
  have s2 : ∀ g' : Fin 4, (0 : Fin 4) ≠ g' → (1 : Fin 4) ≠ g' → rowGet (hd i) g' (M.view.read (Elt F) (M.view.writes (Elt F) f (rowPre c i T M f L 2))) = rowGet (hd i) g' (M.view.read (Elt F) (M.view.writes (Elt F) f L)) :=
    fun g' h h' => by rw [e2, rowStore_read, rowGet_skip _ _ _ h', s1 _ h]
  fin_cases g
  · exact congrArg (fun z => rowGet (hd i) 0 (M.view.read (Elt F) (M.view.writes (Elt F) f z))) e0
  · exact s1 1 (by decide)
  · exact s2 2 (by decide) (by decide)
  · refine (congrArg (fun z => rowGet (hd i) 3 (M.view.read (Elt F) (M.view.writes (Elt F) f z))) e3).trans ?_
    rw [rowStore_read, rowGet_skip _ _ _ (by decide), s2 _ (by decide) (by decide)]
    rfl

/-- What both sub-blocks load. -/
abbrev insT (r : Fin 2) : Ins F := insL c i r M2 M3 M4 M5 M6 f2 f3 f4 f5 f6

/-- A store of zeros over a whole block of 4096 rows. -/
abbrev zeroKeys : List (View.Piece (Elt F) S4096x128 .f32) := [⟨Rect.unit ![0, 0] S4096x128.size (by decide), broadcast S4096x128 (Scalar.ofBits .f32 0x00000000#32)⟩]

/-- A store of zeros over the sink's block. -/
abbrev zeroRows : List (View.Piece (Elt F) S16x128 .f32) := [⟨Rect.unit ![0, 0] S16x128.size (by decide), broadcast S16x128 (Scalar.ofBits .f32 0x00000000#32)⟩]

set_option maxHeartbeats 8000000 in
theorem foundA (h1) (h2) : (kernelRunA c i h1 h2 M2 w2 M3 w3 M4 w4 M5 w5 M6 w6 M7 w7 M8 w8 M9 w9 M10 w10 f2 f3 f4 f5 f6 f8 f9 f10).1
    = (M7.view.writes (Elt F) M7.view.junk (dqPieces (insT c i M2 M3 M4 M5 M6 f2 f3 f4 f5 f6)),
       keyStores c i (fun r => (insT c i M2 M3 M4 M5 M6 f2 f3 f4 f5 f6 r).dk) M8 M8.view.junk zeroKeys,
       keyStores c i (fun r => (insT c i M2 M3 M4 M5 M6 f2 f3 f4 f5 f6 r).dv) M9 M9.view.junk zeroKeys,
       M10.view.writes (Elt F) M10.view.junk (rowStores c i (insT c i M2 M3 M4 M5 M6 f2 f3 f4 f5 f6) M10
         (rowLoads c i (insT c i M2 M3 M4 M5 M6 f2 f3 f4 f5 f6 0) M10 M10.view.junk zeroRows) zeroRows)) := by
  unfold kernelRunA
  simp only [kernelRunA.sl.H10_1, kernelRunA.sl.H10_2, kernelRunA.sl.H10_3, kernelRunA.sl.H10_4, kernelRunA.sl.H10_5, kernelRunA.sl.H10_6, kernelRunA.sl.H10_7, kernelRunA.sl.H10_8, kernelRunA.sl.H7_8, kernelRunA.sl.H8_1, kernelRunA.sl.H8_2, kernelRunA.sl.H9_1, kernelRunA.sl.H9_2, kernelRunA.sl.v293, kernelRunA.sl.v308, kernelRunA.sl.v310, kernelRunA.sl.v327, kernelRunA.sl.v344, pay6_eq, pay34_eq, pay35_eq, pay42_eq]
  simp only [pay44_eq, pay48_eq, pay49_eq, pay50_eq, pay51_eq, pay52_eq, pay53_eq, pay56_eq, pay57_eq, pay58_eq, pay59_eq, pay60_eq, pay1_eq, pay2_eq]
  rfl

set_option maxHeartbeats 8000000 in
theorem foundB (h1) (h2) : (kernelRunB c i h1 h2 M2 w2 M3 w3 M4 w4 M5 w5 M6 w6 M7 w7 M8 w8 M9 w9 M10 w10 f2 f3 f4 f5 f6 f8 f9 f10).1
    = (M7.view.writes (Elt F) M7.view.junk (dqPieces (insT c i M2 M3 M4 M5 M6 f2 f3 f4 f5 f6)),
       keyStores c i (fun r => (insT c i M2 M3 M4 M5 M6 f2 f3 f4 f5 f6 r).dk) M8 M8.view.junk zeroKeys,
       keyStores c i (fun r => (insT c i M2 M3 M4 M5 M6 f2 f3 f4 f5 f6 r).dv) M9 M9.view.junk zeroKeys,
       M10.view.writes (Elt F) f10 (rowStores c i (insT c i M2 M3 M4 M5 M6 f2 f3 f4 f5 f6) M10 (fun _ => f10) [])) := by
  unfold kernelRunB
  simp only [kernelRunB.sl.H10_4, kernelRunB.sl.H10_5, kernelRunB.sl.H10_6, kernelRunB.sl.H10_7, kernelRunB.sl.H7_8, kernelRunB.sl.H8_1, kernelRunB.sl.H8_2, kernelRunB.sl.H9_1, kernelRunB.sl.H9_2, kernelRunB.sl.v131, kernelRunB.sl.v148, kernelRunB.sl.v165, kernelRunB.sl.v293, kernelRunB.sl.v308, kernelRunB.sl.v310, kernelRunB.sl.v327, kernelRunB.sl.v344, pay6_eq, pay34_eq, pay35_eq, pay42_eq]
  simp only [pay44_eq, pay48_eq, pay49_eq, pay50_eq, pay51_eq, pay52_eq, pay53_eq, pay56_eq, pay57_eq, pay58_eq, pay59_eq, pay60_eq, pay1_eq, pay2_eq]
  rfl

set_option maxHeartbeats 8000000 in
theorem foundC (h1) (h2) : (kernelRunC c i h1 h2 M2 w2 M3 w3 M4 w4 M5 w5 M6 w6 M7 w7 M8 w8 M9 w9 M10 w10 f2 f3 f4 f5 f6 f8 f9 f10).1
    = (M7.view.writes (Elt F) M7.view.junk (dqPieces (insT c i M2 M3 M4 M5 M6 f2 f3 f4 f5 f6)),
       keyStores c i (fun r => (insT c i M2 M3 M4 M5 M6 f2 f3 f4 f5 f6 r).dk) M8 f8 [],
       keyStores c i (fun r => (insT c i M2 M3 M4 M5 M6 f2 f3 f4 f5 f6 r).dv) M9 f9 [],
       M10.view.writes (Elt F) f10 (rowStores c i (insT c i M2 M3 M4 M5 M6 f2 f3 f4 f5 f6) M10 (fun _ => f10) [])) := by
  unfold kernelRunC
  simp only [kernelRunC.sl.H10_4, kernelRunC.sl.H10_5, kernelRunC.sl.H10_6, kernelRunC.sl.H10_7, kernelRunC.sl.H7_8, kernelRunC.sl.H8_1, kernelRunC.sl.H9_1, kernelRunC.sl.v131, kernelRunC.sl.v148, kernelRunC.sl.v165, kernelRunC.sl.v293, kernelRunC.sl.v308, kernelRunC.sl.v310, kernelRunC.sl.v327, kernelRunC.sl.v344, pay6_eq, pay34_eq, pay35_eq, pay42_eq]
  simp only [pay44_eq, pay48_eq, pay49_eq, pay50_eq, pay51_eq, pay52_eq, pay53_eq, pay56_eq, pay57_eq, pay58_eq, pay59_eq, pay60_eq, pay1_eq, pay2_eq]
  rfl

end Runs

end Cert.KernelIdeal

end
-- ==== Proof.Region.lean ====
/-
  One grid step as a whole: from the blocks the step is given, and from what the accumulating blocks held, what it leaves
  in the four results' blocks. The three ways the body's conditions go are put together here.
-/
module

public import proofs.«01_k».proof.Proof.BodyRead

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A block of zeros. -/
abbrev zeroK : Vec F S4096x128 .f32 := broadcast S4096x128 (Scalar.ofBits .f32 0x00000000#32)

/-- A block of zeros, of the sink's size. -/
abbrev zeroS : Vec F S16x128 .f32 := broadcast S16x128 (Scalar.ofBits .f32 0x00000000#32)

theorem owns_pt (c : Dev nD) {sp : Space} {S : Shape} {e : EltTy} (M : Memref sig .tc sp S e) (h : M.IsWhole) (x : S.Idx → Elt F e) :
    (owns (c : Thread nD τ) M fullShare x : sProp 𝕄) = iprop(∃ f, ⌜M.view.read (Elt F) f = x⌝ ∗ pt c M f) := by
  unfold owns
  rw [h.set_eq_univ]

/-- The stores of the queries' gradient reach every element of its block. -/
theorem dq_cover (T : Fin 2 → Ins F) : ∀ y : S256x512.Idx, ∃ p ∈ dqPieces T, y ∈ p.1.set :=
  View.cover_of_tiled _ S128x128.size (by exact rfl)

variable (c : Dev nD) (i : grid0.Coords)
  (M2 : Memref sig .tc .vmem S256x512 .bf16) (w2 : M2.IsWhole) (M3 : Memref sig .tc .vmem S4096x128 .bf16) (w3 : M3.IsWhole)
  (M4 : Memref sig .tc .vmem S4096x128 .bf16) (w4 : M4.IsWhole) (M5 : Memref sig .tc .vmem S16x128 .f32) (w5 : M5.IsWhole)
  (M6 : Memref sig .tc .vmem S256x512 .bf16) (w6 : M6.IsWhole) (M7 : Memref sig .tc .vmem S256x512 .f32) (w7 : M7.IsWhole)
  (M8 : Memref sig .tc .vmem S4096x128 .f32) (w8 : M8.IsWhole) (M9 : Memref sig .tc .vmem S4096x128 .f32) (w9 : M9.IsWhole)
  (M10 : Memref sig .tc .vmem S16x128 .f32) (w10 : M10.IsWhole)
  (x2 : Vec F S256x512 .bf16) (x3 x4 : Vec F S4096x128 .bf16) (x5 : Vec F S16x128 .f32) (x6 : Vec F S256x512 .bf16)
  (x8 x9 : Vec F S4096x128 .f32) (x10 : Vec F S16x128 .f32)

/-- The body's triple in terms of blocks: the inputs stay, the four results are left at `y7`, `y8`, `y9`, `y10`. -/
def BodyTriple (y7 : Vec F S256x512 .f32) (y8 y9 : Vec F S4096x128 .f32) (y10 : Vec F S16x128 .f32) : Prop :=
  ∀ (E : Set ℕ) (K : PUnit → sProp 𝕄),
    iprop(owns (c : Thread nD τ) M2 fullShare x2 ∗ owns (c : Thread nD τ) M3 fullShare x3 ∗ owns (c : Thread nD τ) M4 fullShare x4
        ∗ owns (c : Thread nD τ) M5 fullShare x5 ∗ owns (c : Thread nD τ) M6 fullShare x6 ∗ (∃ d, owns (c : Thread nD τ) M7 fullShare d)
        ∗ owns (c : Thread nD τ) M8 fullShare x8 ∗ owns (c : Thread nD τ) M9 fullShare x9 ∗ owns (c : Thread nD τ) M10 fullShare x10
        ∗ (iprop(owns (c : Thread nD τ) M2 fullShare x2 ∗ owns (c : Thread nD τ) M3 fullShare x3 ∗ owns (c : Thread nD τ) M4 fullShare x4
            ∗ owns (c : Thread nD τ) M5 fullShare x5 ∗ owns (c : Thread nD τ) M6 fullShare x6 ∗ owns (c : Thread nD τ) M7 fullShare y7
            ∗ owns (c : Thread nD τ) M8 fullShare y8 ∗ owns (c : Thread nD τ) M9 fullShare y9 ∗ owns (c : Thread nD τ) M10 fullShare y10) -∗ K ⟨⟩))
      ⊢ wp frame (wpE (defs₀ (F := F)) 𝒱₀ c none) E (cc0_attn_bwd i M2 w2 M3 w3 M4 w4 M5 w5 M6 w6 M7 w7 M8 w8 M9 w9 M10 w10) K

/-- A run that finds contents reading `y7`, `y8`, `y9`, `y10`, whatever contents read the blocks, is the triple. -/
theorem bodyTriple_of_run (y7 : Vec F S256x512 .f32) (y8 y9 : Vec F S4096x128 .f32) (y10 : Vec F S16x128 .f32)
    (run : ∀ (f2 : Bf (F := F) c M2) (f3 : Bf (F := F) c M3) (f4 : Bf (F := F) c M4) (f5 : Bf (F := F) c M5) (f6 : Bf (F := F) c M6)
        (f8 : Bf (F := F) c M8) (f9 : Bf (F := F) c M9) (f10 : Bf (F := F) c M10),
      { W : Bf (F := F) c M7 × Bf (F := F) c M8 × Bf (F := F) c M9 × Bf (F := F) c M10 //
        ∀ (f7 : Bf (F := F) c M7) (E : Set ℕ) (Q : PUnit → sProp 𝕄),
          iprop(pt c M2 f2 ∗ pt c M3 f3 ∗ pt c M4 f4 ∗ pt c M5 f5 ∗ pt c M6 f6 ∗ pt c M7 f7 ∗ pt c M8 f8 ∗ pt c M9 f9 ∗ pt c M10 f10
            ∗ (iprop(pt c M2 f2 ∗ pt c M3 f3 ∗ pt c M4 f4 ∗ pt c M5 f5 ∗ pt c M6 f6 ∗ pt c M7 W.1 ∗ pt c M8 W.2.1 ∗ pt c M9 W.2.2.1 ∗ pt c M10 W.2.2.2) -∗ Q ⟨⟩))
          ⊢ wp frame (wpE (defs₀ (F := F)) 𝒱₀ c none) E (cc0_attn_bwd i M2 w2 M3 w3 M4 w4 M5 w5 M6 w6 M7 w7 M8 w8 M9 w9 M10 w10) Q })
    (W : ∀ (_ : Bf (F := F) c M2) (_ : Bf (F := F) c M3) (_ : Bf (F := F) c M4) (_ : Bf (F := F) c M5) (_ : Bf (F := F) c M6)
        (_ : Bf (F := F) c M8) (_ : Bf (F := F) c M9) (_ : Bf (F := F) c M10), Bf (F := F) c M7 × Bf (F := F) c M8 × Bf (F := F) c M9 × Bf (F := F) c M10)
    (found : ∀ f2 f3 f4 f5 f6 f8 f9 f10, (run f2 f3 f4 f5 f6 f8 f9 f10).1 = W f2 f3 f4 f5 f6 f8 f9 f10)
    (reads : ∀ f2 f3 f4 f5 f6 f8 f9 f10, M2.view.read (Elt F) f2 = x2 → M3.view.read (Elt F) f3 = x3 → M4.view.read (Elt F) f4 = x4 →
      M5.view.read (Elt F) f5 = x5 → M6.view.read (Elt F) f6 = x6 → M8.view.read (Elt F) f8 = x8 → M9.view.read (Elt F) f9 = x9 →
      M10.view.read (Elt F) f10 = x10 →
      M7.view.read (Elt F) (W f2 f3 f4 f5 f6 f8 f9 f10).1 = y7 ∧ M8.view.read (Elt F) (W f2 f3 f4 f5 f6 f8 f9 f10).2.1 = y8
        ∧ M9.view.read (Elt F) (W f2 f3 f4 f5 f6 f8 f9 f10).2.2.1 = y9 ∧ M10.view.read (Elt F) (W f2 f3 f4 f5 f6 f8 f9 f10).2.2.2 = y10) :
    BodyTriple c i M2 w2 M3 w3 M4 w4 M5 w5 M6 w6 M7 w7 M8 w8 M9 w9 M10 w10 x2 x3 x4 x5 x6 x8 x9 x10 y7 y8 y9 y10 := by
  intro E K
  rw [owns_pt c M2 w2, owns_pt c M3 w3, owns_pt c M4 w4, owns_pt c M5 w5, owns_pt c M6 w6, owns_pt c M8 w8, owns_pt c M9 w9, owns_pt c M10 w10,
    owns_pt c M8 w8, owns_pt c M9 w9, owns_pt c M10 w10]
  simp only [owns_pt c M7 w7]
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, %h8, H8⟩, ⟨%f9, %h9, H9⟩, ⟨%f10, %h10, H10⟩, Hk⟩
  obtain ⟨r7, r8, r9, r10⟩ := reads f2 f3 f4 f5 f6 f8 f9 f10 h2 h3 h4 h5 h6 h8 h9 h10
  rw [← found] at r7 r8 r9 r10
  iapply ((run f2 f3 f4 f5 f6 f8 f9 f10).2 f7 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H2, H3, H4, H5, H6, H7, H8, H9, H10⟩
  iapply Hk
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists _; isplitr; · ipureintro; exact r7
                  iexact H7
  isplitl [H8]; · iexists _; isplitr; · ipureintro; exact r8
                  iexact H8
  isplitl [H9]; · iexists _; isplitr; · ipureintro; exact r9
                  iexact H9
  iexists _; isplitr; · ipureintro; exact r10
  iexact H10

/-- The first condition: the first step of a key head. -/
theorem cond1 (n : Fin 16) : (Scalar.cmpi .ne (Scalar.extui (Scalar.cmpi .eq (BitVec.ofNat 32 n.val) 0#32) : BitVec 32) 0#32 = 1#1) ↔ n.val = 0 := by
  revert n; decide

/-- The second condition: the first step of all. -/
theorem cond2 (n : Fin 16) (h : Fin 4) :
    (Scalar.cmpi .ne (Scalar.extui (Scalar.andi (Scalar.cmpi .eq (BitVec.ofNat 32 n.val) 0#32) (Scalar.cmpi .eq (BitVec.ofNat 32 h.val) 0#32)) : BitVec 32) 0#32 = 1#1)
      ↔ n.val = 0 ∧ h.val = 0 := by
  revert n h; decide

/-- The body at any grid step. -/
theorem bodyTriple (T : Fin 2 → Ins F) (hT : ∀ r, T r = insOf i r x2 x3 x4 x5 x6) : BodyTriple c i M2 w2 M3 w3 M4 w4 M5 w5 M6 w6 M7 w7 M8 w8 M9 w9 M10 w10 x2 x3 x4 x5 x6 x8 x9 x10
    (View.canon (dqPieces T))
    (keyOut i (fun r => (T r).dk) (if (i 1).val = 0 then zeroK else x8))
    (keyOut i (fun r => (T r).dv) (if (i 1).val = 0 then zeroK else x9))
    (dsOut i (T) (if (i 1).val = 0 ∧ (i 0).val = 0 then zeroS else x10)) := by
  have zk : ∀ (M : Memref sig .tc .vmem S4096x128 .f32) (f : Bf (F := F) c M), M.view.read (Elt F) (M.view.writes (Elt F) f zeroKeys) = zeroK :=
    fun M f => View.read_writes_full M.view f _ _ _
  have zs : ∀ (M : Memref sig .tc .vmem S16x128 .f32) (f : Bf (F := F) c M), M.view.read (Elt F) (M.view.writes (Elt F) f zeroRows) = zeroS :=
    fun M f => View.read_writes_full M.view f _ _ _
  have eT : ∀ (f2 : Bf (F := F) c M2) (f3 : Bf (F := F) c M3) (f4 : Bf (F := F) c M4) (f5 : Bf (F := F) c M5) (f6 : Bf (F := F) c M6),
      M2.view.read (Elt F) f2 = x2 → M3.view.read (Elt F) f3 = x3 → M4.view.read (Elt F) f4 = x4 →
      M5.view.read (Elt F) f5 = x5 → M6.view.read (Elt F) f6 = x6 → insT c i M2 M3 M4 M5 M6 f2 f3 f4 f5 f6 = T := by
    intro f2 f3 f4 f5 f6 h2 h3 h4 h5 h6
    funext r
    show insL c i r M2 M3 M4 M5 M6 f2 f3 f4 f5 f6 = _
    rw [insL_eq, h2, h3, h4, h5, h6, hT]
  by_cases h1 : (Scalar.cmpi .ne (Scalar.extui (Scalar.cmpi .eq (BitVec.ofNat 32 (i 1).val) 0#32) : BitVec 32) 0#32 = 1#1)
  · have e1 : (i 1).val = 0 := (cond1 (i 1)).mp h1
    by_cases h2 : (Scalar.cmpi .ne (Scalar.extui (Scalar.andi (Scalar.cmpi .eq (BitVec.ofNat 32 (i 1).val) 0#32) (Scalar.cmpi .eq (BitVec.ofNat 32 (i 0).val) 0#32)) : BitVec 32) 0#32 = 1#1)
    · have e2 := (cond2 (i 1) (i 0)).mp h2
      rw [if_pos e1, if_pos e1, if_pos e2]
      refine bodyTriple_of_run c i M2 w2 M3 w3 M4 w4 M5 w5 M6 w6 M7 w7 M8 w8 M9 w9 M10 w10 x2 x3 x4 x5 x6 x8 x9 x10 _ _ _ _
        (fun f2 f3 f4 f5 f6 f8 f9 f10 => kernelRunA c i h1 h2 M2 w2 M3 w3 M4 w4 M5 w5 M6 w6 M7 w7 M8 w8 M9 w9 M10 w10 f2 f3 f4 f5 f6 f8 f9 f10) _
        (fun f2 f3 f4 f5 f6 f8 f9 f10 => foundA c i M2 w2 M3 w3 M4 w4 M5 w5 M6 w6 M7 w7 M8 w8 M9 w9 M10 w10 f2 f3 f4 f5 f6 f8 f9 f10 h1 h2) ?_
      intro f2 f3 f4 f5 f6 f8 f9 f10 g2 g3 g4 g5 g6 g8 g9 g10
      rw [eT f2 f3 f4 f5 f6 g2 g3 g4 g5 g6]
      dsimp only
      refine ⟨View.read_writes_eq_canon _ _ _ (dq_cover T), ?_, ?_, ?_⟩
      · rw [keyStores_read, zk]
      · rw [keyStores_read, zk]
      · rw [rowStores_read c i T M10 _ _ zeroRows (fun g => rowLoads_row c i (T 0) M10 M10.view.junk zeroRows g), zs]
    · have e2 := mt (cond2 (i 1) (i 0)).mpr h2
      rw [if_pos e1, if_pos e1, if_neg e2]
      refine bodyTriple_of_run c i M2 w2 M3 w3 M4 w4 M5 w5 M6 w6 M7 w7 M8 w8 M9 w9 M10 w10 x2 x3 x4 x5 x6 x8 x9 x10 _ _ _ _
        (fun f2 f3 f4 f5 f6 f8 f9 f10 => kernelRunB c i h1 h2 M2 w2 M3 w3 M4 w4 M5 w5 M6 w6 M7 w7 M8 w8 M9 w9 M10 w10 f2 f3 f4 f5 f6 f8 f9 f10) _
        (fun f2 f3 f4 f5 f6 f8 f9 f10 => foundB c i M2 w2 M3 w3 M4 w4 M5 w5 M6 w6 M7 w7 M8 w8 M9 w9 M10 w10 f2 f3 f4 f5 f6 f8 f9 f10 h1 h2) ?_
      intro f2 f3 f4 f5 f6 f8 f9 f10 g2 g3 g4 g5 g6 g8 g9 g10
      rw [eT f2 f3 f4 f5 f6 g2 g3 g4 g5 g6]
      dsimp only
      refine ⟨View.read_writes_eq_canon _ _ _ (dq_cover T), ?_, ?_, ?_⟩
      · rw [keyStores_read, zk]
      · rw [keyStores_read, zk]
      · rw [rowStores_read c i T M10 (fun _ => f10) f10 [] (fun g => rfl), View.writes_nil, g10]
  · have e1 : ¬ (i 1).val = 0 := mt (cond1 (i 1)).mpr h1
    have e2 : ¬ ((i 1).val = 0 ∧ (i 0).val = 0) := fun h => e1 h.1
    have h2 := mt (cond2 (i 1) (i 0)).mp e2
    rw [if_neg e1, if_neg e1, if_neg e2]
    refine bodyTriple_of_run c i M2 w2 M3 w3 M4 w4 M5 w5 M6 w6 M7 w7 M8 w8 M9 w9 M10 w10 x2 x3 x4 x5 x6 x8 x9 x10 _ _ _ _
      (fun f2 f3 f4 f5 f6 f8 f9 f10 => kernelRunC c i h1 h2 M2 w2 M3 w3 M4 w4 M5 w5 M6 w6 M7 w7 M8 w8 M9 w9 M10 w10 f2 f3 f4 f5 f6 f8 f9 f10) _
        (fun f2 f3 f4 f5 f6 f8 f9 f10 => foundC c i M2 w2 M3 w3 M4 w4 M5 w5 M6 w6 M7 w7 M8 w8 M9 w9 M10 w10 f2 f3 f4 f5 f6 f8 f9 f10 h1 h2) ?_
    intro f2 f3 f4 f5 f6 f8 f9 f10 g2 g3 g4 g5 g6 g8 g9 g10
    rw [eT f2 f3 f4 f5 f6 g2 g3 g4 g5 g6]
    dsimp only
    refine ⟨View.read_writes_eq_canon _ _ _ (dq_cover T), ?_, ?_, ?_⟩
    · rw [keyStores_read, View.writes_nil, g8]
    · rw [keyStores_read, View.writes_nil, g9]
    · rw [rowStores_read c i T M10 (fun _ => f10) f10 [] (fun g => rfl), View.writes_nil, g10]

end Cert.KernelIdeal

end
-- ==== Proof.Run.lean ====
/-
  The grid's run: the three accumulating blocks by recursion on the grid step, the proof data of the pipeline, and the run
  of the whole program with what it leaves in the four results' arrays, over any reading of the floats.
-/
module

public import proofs.«01_k».proof.Proof.Region
public import proofs.«01_k».proof.Proof.Gen.KernelIdeal.Frame

@[expose] public section

set_option maxRecDepth 8192

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A quantity stepped by `g` at each grid step, set to `z` before the first of every `J`. -/
def accBy {α : Type} (J : ℕ) (z : α) (g : (n : ℕ) → n < cfg0.N → α → α) : (n : ℕ) → n < cfg0.N → α
  | 0, h => g 0 h z
  | n + 1, h => g (n + 1) h (if (n + 1) % J = 0 then z else accBy J z g n (Nat.lt_of_succ_lt h))

theorem accBy_reset {α : Type} (J : ℕ) (z : α) (g : (n : ℕ) → n < cfg0.N → α → α) (n : ℕ) (h : n < cfg0.N) (hn : n % J = 0) : accBy J z g n h = g n h z := by
  cases n with
  | zero => rfl
  | succ n => exact congrArg (g (n + 1) h) (if_pos hn)

theorem accBy_step {α : Type} (J : ℕ) (z : α) (g : (n : ℕ) → n < cfg0.N → α → α) (n : ℕ) (h : n < cfg0.N) (hn : ¬ n % J = 0) :
    accBy J z g n h = g n h (accBy J z g (n - 1) (Nat.lt_of_le_of_lt (Nat.sub_le _ _) h)) := by
  cases n with
  | zero => exact absurd (Nat.zero_mod J) hn
  | succ n => exact congrArg (g (n + 1) h) (if_neg hn)

/-- The coordinates of grid step `t`: key head `t / 16`, block of queries `t % 16`. -/
theorem coords0 : ∀ t : Fin cfg0.N, (grid0.coords t 0).val = t.val / 16 := by decide

theorem coords1 : ∀ t : Fin cfg0.N, (grid0.coords t 1).val = t.val % 16 := by decide

/-- What sub-block `r` of grid step `t` loads. -/
def insAt (c : Dev nD) (t : Fin cfg0.N) (r : Fin 2) : Ins F :=
  insOf (grid0.coords t) r (iblk m c 0 t) (iblk m c 1 t) (iblk m c 2 t) (iblk m c 3 t) (iblk m c 4 t)

/-- The block of the keys' gradient after each grid step. -/
def dkAt (c : Dev nD) : (n : ℕ) → n < cfg0.N → Vec F S4096x128 .f32 :=
  accBy 16 zeroK fun n h => keyOut (grid0.coords ⟨n, h⟩) fun r => (insAt m c ⟨n, h⟩ r).dk

/-- The block of the values' gradient after each grid step. -/
def dvAt (c : Dev nD) : (n : ℕ) → n < cfg0.N → Vec F S4096x128 .f32 :=
  accBy 16 zeroK fun n h => keyOut (grid0.coords ⟨n, h⟩) fun r => (insAt m c ⟨n, h⟩ r).dv

/-- The block of the sink's gradient after each grid step. -/
def dsAt (c : Dev nD) : (n : ℕ) → n < cfg0.N → Vec F S16x128 .f32 :=
  accBy 64 zeroS fun n h => dsOut (grid0.coords ⟨n, h⟩) (insAt m c ⟨n, h⟩)

/-- The pipeline's proof data: the inputs' blocks stay, the queries' gradient is each step's stores, the others accumulate. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (dqPieces (insAt m c t))
    | ⟨6, _⟩ => dkAt m c t.val t.isLt
    | ⟨7, _⟩ => dvAt m c t.val t.isLt
    | ⟨8, _⟩ => dsAt m c t.val t.isLt
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = View.canon (dqPieces (insAt m c t)) := by dsimp only [dats]
theorem after0_6 (c : Dev nD) (t : Fin cfg0.N) : (dats m 0 c).after 6 t = dkAt m c t.val t.isLt := by dsimp only [dats]
theorem after0_7 (c : Dev nD) (t : Fin cfg0.N) : (dats m 0 c).after 7 t = dvAt m c t.val t.isLt := by dsimp only [dats]
theorem after0_8 (c : Dev nD) (t : Fin cfg0.N) : (dats m 0 c).after 8 t = dsAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A step that does not start a run finds what the step before left. -/
theorem before0_6 (c : Dev nD) (t : Fin cfg0.N) (h : ¬ t.val % 16 = 0) (d) :
    (dats m 0 c).before 6 t d = dkAt m c (t.val - 1) (Nat.lt_of_le_of_lt (Nat.sub_le _ _) t.isLt) :=
  ((dats m 0 c).before_out_kept 6 rfl t (fun h0 => h (by rw [h0])) (by
    rw [Bool.eq_false_iff, ne_eq, flush0_6]; show ¬ (t.val - 1) % 16 = 15; omega) (fun _ => rfl) (fun _ _ => rfl) d).trans (after0_6 m c _)
theorem before0_7 (c : Dev nD) (t : Fin cfg0.N) (h : ¬ t.val % 16 = 0) (d) :
    (dats m 0 c).before 7 t d = dvAt m c (t.val - 1) (Nat.lt_of_le_of_lt (Nat.sub_le _ _) t.isLt) :=
  ((dats m 0 c).before_out_kept 7 rfl t (fun h0 => h (by rw [h0])) (by
    rw [Bool.eq_false_iff, ne_eq, flush0_7]; show ¬ (t.val - 1) % 16 = 15; omega) (fun _ => rfl) (fun _ _ => rfl) d).trans (after0_7 m c _)
theorem before0_8 (c : Dev nD) (t : Fin cfg0.N) (h : ¬ t.val % 64 = 0) (d) :
    (dats m 0 c).before 8 t d = dsAt m c (t.val - 1) (Nat.lt_of_le_of_lt (Nat.sub_le _ _) t.isLt) :=
  ((dats m 0 c).before_out_kept 8 rfl t (fun h0 => h (by rw [h0])) (by
    rw [Bool.eq_false_iff, ne_eq, flush0_8]; show ¬ (t.val - 1) % 64 = 63; omega) (fun _ => rfl) (fun _ _ => rfl) d).trans (after0_8 m c _)

/-- What step `t` makes of what it finds is the recursion's value. -/
theorem dk_step (c : Dev nD) (t : Fin cfg0.N) (d) :
    keyOut (grid0.coords t) (fun r => (insAt m c t r).dk) (if (grid0.coords t 1).val = 0 then zeroK else (dats m 0 c).before 6 t d) = dkAt m c t.val t.isLt := by
  rw [coords1]
  by_cases h : t.val % 16 = 0
  · rw [if_pos h]; unfold dkAt; rw [accBy_reset _ _ _ _ _ h]
  · rw [if_neg h, before0_6 m c t h]; unfold dkAt; rw [accBy_step _ _ _ _ _ h]
theorem dv_step (c : Dev nD) (t : Fin cfg0.N) (d) :
    keyOut (grid0.coords t) (fun r => (insAt m c t r).dv) (if (grid0.coords t 1).val = 0 then zeroK else (dats m 0 c).before 7 t d) = dvAt m c t.val t.isLt := by
  rw [coords1]
  by_cases h : t.val % 16 = 0
  · rw [if_pos h]; unfold dvAt; rw [accBy_reset _ _ _ _ _ h]
  · rw [if_neg h, before0_7 m c t h]; unfold dvAt; rw [accBy_step _ _ _ _ _ h]
theorem ds_step (c : Dev nD) (t : Fin cfg0.N) (d) :
    dsOut (grid0.coords t) (insAt m c t) (if (grid0.coords t 1).val = 0 ∧ (grid0.coords t 0).val = 0 then zeroS else (dats m 0 c).before 8 t d)
      = dsAt m c t.val t.isLt := by
  rw [coords1, coords0]
  have ht : t.val < 64 := t.isLt
  by_cases h : t.val % 64 = 0
  · rw [if_pos ⟨by omega, by omega⟩]; unfold dsAt; rw [accBy_reset _ _ _ _ _ h]
  · rw [if_neg (by omega), before0_8 m c t h]; unfold dsAt; rw [accBy_step _ _ _ _ _ h]

/-- The body keeps the pipeline's contract at every grid step. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← dk_step m c t d6, ← dv_step m c t d7, ← ds_step m c t d8]
  iapply (bodyTriple c (grid0.coords t) _ _ _ _ _ _ _ _ _ _ _ _ _ _ _ _ _ _ (iblk m c 0 t) (iblk m c 1 t) (iblk m c 2 t) (iblk m c 3 t) (iblk m c 4 t)
    ((dats m 0 c).before 6 t d6) ((dats m 0 c).before 7 t d7) ((dats m 0 c).before 8 t d8) (insAt m c t) (fun _ => rfl) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

-- the run theorem's implicit arguments are found by unifying its conclusion with this one
set_option backward.isDefEq.respectTransparency.types false in
/-- From any memory with zero counters every execution of the program ends, with every array of the pipeline at what the
    proof data computes and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program ends with its five arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal

end
-- ==== Proof.Frames.lean ====
/-
  The frames of the two kernel programs, from one run. The program with the named mask and the program as given are the same
  text but for the mask's constant; read over the machine's floats with the name standing for the constant's own word they
  are the same program.
-/
module

public import proofs.«01_k».proof.Proof.Run
public import proofs.«01_k».proof.Proof.Gen.Kernel
public import proofs.«01_k».proof.Proof.Gen.KernelIdeal
public import proofs.«01_k».proof.Proof.Gen.ReferenceIdeal.Run
public import proofs.«01_k».proof.Defs

@[expose] public section

noncomputable section

namespace Cert.Proof

open Idealize.ShloMosaic Idealize.SL.Sem

/-- Over the machine's floats every name stands for its constant's word. -/
@[reducible] def namedBits : Named Bits where
  named _ _ {φ} b := Scalar.ofBits φ b

attribute [local instance] namedBits

/-- The kernel bodies the two programs call are the same. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact rfl

/-- So are their tables of calls. -/
theorem defs_same : Cert.Kernel.defs (F := Bits) = Cert.KernelIdeal.defs (F := Bits) :=
  congrArg (Pipeline.defs Cert.Kernel.pcfgs) defs₀_same

set_option backward.isDefEq.respectTransparency.types false in
/-- The kernel as given runs to its end, with its arguments unchanged and its counters at zero. -/
theorem frame_kernel : Cert.quiescent_Kernel := fun m ρ _ => by
  have h := Cert.KernelIdeal.frame_main (F := Bits) m ρ
  rw [← defs_same] at h
  exact h

/-- So does the kernel with the mask named. -/
theorem frame_kernelIdeal : Cert.quiescent_KernelIdeal := fun m ρ _ => Cert.KernelIdeal.frame_main m ρ

/-- And so does the reference, which has no counters. -/
theorem frame_referenceIdeal : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The mask's constant may be named. -/
theorem preserves : Cert.preserves_Kernel_KernelIdeal :=
  IdealRules.named_const.statement Cert.KernelIdeal.κ "mask" .f32 0xF149F2CA#32 ⊥ rfl

end Cert.Proof

end
-- ==== Proof.Rows.lean ====
/-
  One row of attention with a sink, over the real numbers: the scores of one query against a set of keys, those that are
  near enough to count, the sink, and the gradient of each probability. Its softmax, the gradient of its scores, and the
  same computed from exponentials that were shifted by any number.
-/
module

public import Idealize.ShloMosaic.PureOps.Ideal
public import Mathlib.Tactic.FieldSimp
public import Mathlib.Tactic.Positivity
public import Mathlib.Tactic.Ring

@[expose] public section

noncomputable section

namespace Attention

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A query's scores `s` against keys `K`, the keys that count, the score `c` of the sink, and the gradients `u` of the
    probabilities. -/
structure Row (K : Type) where
  near : K → Prop
  s : K → ℝ
  c : ℝ
  u : K → ℝ

namespace Row

variable {K L : Type} [Fintype K] [Fintype L] (R : Row K)

open scoped Classical in
/-- The exponential of a score, zero for a key that does not count. -/
def e (k : K) : ℝ := if R.near k then Real.exp (R.s k) else 0

/-- The sum of the exponentials, the sink's with them. -/
def z : ℝ := ∑ k, R.e k + Real.exp R.c

/-- The probability of a key. -/
def p (k : K) : ℝ := R.e k / R.z

/-- The sum of probability times gradient. -/
def delta : ℝ := ∑ k, R.p k * R.u k

/-- The gradient of a score. -/
def ds (k : K) : ℝ := R.p k * (R.u k - R.delta)

/-- What the row takes off the sink's gradient: the probability of the sink times the sum of probability times gradient. -/
def w : ℝ := Real.exp R.c / R.z * R.delta

theorem e_nonneg (k : K) : 0 ≤ R.e k := by unfold e; split <;> positivity

theorem z_pos : 0 < R.z := add_pos_of_nonneg_of_pos (Finset.sum_nonneg fun k _ => R.e_nonneg k) (Real.exp_pos _)

theorem e_of_not (k : K) (h : ¬R.near k) : R.e k = 0 := if_neg h

theorem p_of_not (k : K) (h : ¬R.near k) : R.p k = 0 := by rw [p, R.e_of_not k h, zero_div]

theorem ds_of_not (k : K) (h : ¬R.near k) : R.ds k = 0 := by rw [ds, R.p_of_not k h, zero_mul]

section Pull

/-! The keys that count are all among the images of `f`: the row over its domain is the row. -/

variable (f : L → K)

/-- The row over the keys `f` names. -/
def pull : Row L := ⟨fun j => R.near (f j), fun j => R.s (f j), R.c, fun j => R.u (f j)⟩

variable (hf : Function.Injective f) (hr : ∀ k, R.near k → ∃ j, f j = k)

include hf hr

theorem sum_pull (φ : K → ℝ) (h0 : ∀ k, ¬R.near k → φ k = 0) : ∑ j, φ (f j) = ∑ k, φ k :=
  Fintype.sum_of_injective f hf _ _ (fun k hk => h0 k fun hn => hk (hr k hn)) fun _ => rfl

theorem pull_z : (R.pull f).z = R.z := by
  unfold z
  rw [← R.sum_pull f hf hr _ R.e_of_not]
  rfl

theorem pull_p (j : L) : (R.pull f).p j = R.p (f j) := by
  unfold p
  rw [R.pull_z f hf hr]
  rfl

theorem pull_delta : (R.pull f).delta = R.delta := by
  unfold delta
  rw [← R.sum_pull f hf hr (fun k => R.p k * R.u k) fun k h => by rw [R.p_of_not k h, zero_mul]]
  exact Finset.sum_congr rfl fun j _ => by rw [R.pull_p f hf hr]; rfl

theorem pull_ds (j : L) : (R.pull f).ds j = R.ds (f j) := by
  unfold ds
  rw [R.pull_p f hf hr, R.pull_delta f hf hr]
  rfl

theorem pull_w : (R.pull f).w = R.w := by
  unfold w
  rw [R.pull_z f hf hr, R.pull_delta f hf hr]
  rfl

end Pull

section Shift

/-! The exponentials, shifted by `μ`. -/

variable (μ : ℝ)

open scoped Classical in
/-- A score as an extended real: minus infinity for a key that does not count. -/
def x (k : K) : EReal := if R.near k then (R.s k : EReal) else ⊥

theorem x_ne_top (k : K) : R.x k ≠ ⊤ := by unfold x; split <;> simp

theorem exp_x (k : K) : Ideal.exp (R.x k - (μ : EReal)) = ((R.e k * Real.exp (-μ) : ℝ) : EReal) := by
  unfold x e
  split
  · rw [← EReal.coe_sub, Ideal.exp_coe, ← Real.exp_add, sub_eq_add_neg]
  · rw [EReal.bot_sub, zero_mul]
    rfl

theorem exp_c : Ideal.exp ((R.c : EReal) - (μ : EReal)) = ((Real.exp R.c * Real.exp (-μ) : ℝ) : EReal) := by
  rw [← EReal.coe_sub, Ideal.exp_coe, ← Real.exp_add, sub_eq_add_neg]

theorem sum_shift : ∑ k, ((R.e k * Real.exp (-μ) : ℝ) : EReal) + ((Real.exp R.c * Real.exp (-μ) : ℝ) : EReal)
    = ((R.z * Real.exp (-μ) : ℝ) : EReal) := by
  rw [← coe_sum, ← EReal.coe_add, ← Finset.sum_mul, ← add_mul]
  rfl

theorem shift_ne : R.z * Real.exp (-μ) ≠ 0 := mul_ne_zero R.z_pos.ne' (Real.exp_pos _).ne'

theorem div_p (k : K) : Ideal.div ((R.e k * Real.exp (-μ) : ℝ) : EReal) ((R.z * Real.exp (-μ) : ℝ) : EReal) = (R.p k : EReal) := by
  rw [Ideal.div_coe (R.shift_ne μ), ← EReal.coe_mul]
  congr 1
  have := R.z_pos.ne'
  have := (Real.exp_pos (-μ)).ne'
  unfold p
  field_simp

theorem div_sink : Ideal.div ((Real.exp R.c * Real.exp (-μ) : ℝ) : EReal) ((R.z * Real.exp (-μ) : ℝ) : EReal) = ((Real.exp R.c / R.z : ℝ) : EReal) := by
  rw [Ideal.div_coe (R.shift_ne μ), ← EReal.coe_mul]
  congr 1
  have := R.z_pos.ne'
  have := (Real.exp_pos (-μ)).ne'
  field_simp

/-- The gradient of the shifted denominator. -/
theorem shift_delta : -(∑ k, R.u k * (1 * (1 / (R.z * Real.exp (-μ) * (R.z * Real.exp (-μ))))) * (R.e k * Real.exp (-μ)))
    = -(R.delta / (R.z * Real.exp (-μ))) := by
  have := R.z_pos.ne'
  have := (Real.exp_pos (-μ)).ne'
  unfold delta p
  rw [Finset.sum_div]
  congr 1
  refine Finset.sum_congr rfl fun k _ => ?_
  field_simp

theorem shift_ds (k : K) : (R.u k * (1 / (R.z * Real.exp (-μ))) + -(R.delta / (R.z * Real.exp (-μ)))) * (R.e k * Real.exp (-μ)) = R.ds k := by
  have := R.z_pos.ne'
  have := (Real.exp_pos (-μ)).ne'
  unfold ds p
  field_simp
  ring

theorem shift_w : -(R.delta / (R.z * Real.exp (-μ))) * (Real.exp R.c * Real.exp (-μ)) = -R.w := by
  have := R.z_pos.ne'
  have := (Real.exp_pos (-μ)).ne'
  unfold w
  field_simp

/-- The gradients of the scores and of the sink sum to zero: nothing is left for the maximum. -/
theorem shift_max : R.w + ∑ k, -R.ds k = 0 := by
  have hz := R.z_pos.ne'
  have h : ∑ k, R.ds k = R.delta - (∑ k, R.e k) / R.z * R.delta := by
    unfold ds
    simp only [mul_sub, Finset.sum_sub_distrib]
    rw [← Finset.sum_mul]
    congr 2
    exact (Finset.sum_div _ _ _).symm
  have hs : Real.exp R.c = R.z - ∑ k, R.e k := by unfold z; ring
  rw [Finset.sum_neg_distrib, h, w, hs]
  field_simp
  ring

end Shift

end Row

end Attention

end
-- ==== Proof.Dense.lean ====
/-
  The gradient of windowed grouped attention with a sink, over the real numbers: every query against every key, the window
  of 128 positions to either side a condition on the key. And three small readings of what the programs compute with: the
  scale, the test for the window in words, the position of a head's column.
-/
module

public import proofs.«01_k».proof.Proof.Rows

@[expose] public section

noncomputable section

namespace Attention

open Idealize.ShloMosaic
open scoped BigOperators

/-- The scale of the scores, the number the programs hold for the inverse root of 128. -/
def scale : ℝ := (Ideal.ofBits .f32 0x3DB504F3#32).toReal

theorem scale_eq : Ideal.ofBits .f32 0x3DB504F3#32 = (scale : EReal) := by
  have h : ∃ r : ℝ, Ideal.ofBits .f32 0x3DB504F3#32 = (r : EReal) := ⟨_, by simp [Ideal.ofBits, Ideal.ieee, -EReal.coe_mul]; rfl⟩
  obtain ⟨r, hr⟩ := h
  rw [scale, hr, EReal.toReal_coe]

theorem one_eq : Ideal.ofBits .f32 0x3F800000#32 = ((1 : ℝ) : EReal) := by
  simp [Ideal.ofBits, Ideal.ieee, -EReal.coe_mul]; norm_num

theorem bot_eq : Ideal.ofBits .f32 0xFF800000#32 = ⊥ := by simp [Ideal.ofBits, Ideal.ieee]

theorem top_eq : Ideal.ofBits .f32 0x7F800000#32 = ⊤ := by simp [Ideal.ofBits, Ideal.ieee]

/-- Two positions at most 128 apart. -/
def near (t p : ℕ) : Prop := p ≤ t + 128 ∧ t ≤ p + 128

open scoped Classical in
/-- The programs' test for the window: the difference of the positions in words, its absolute value, at most 128. -/
theorem near_word (t p : ℕ) (ht : t < 2 ^ 20) (hp : p < 2 ^ 20) (x y : BitVec 32) (hx : x.toNat = p) (hy : y.toNat = t) :
    IntOp.cmpi .sle (IntOp.absi (x - y)) 128#32 = if near t p then 1#1 else 0#1 := by
  have e : (x - y).toNat = (2 ^ 32 - t + p) % 2 ^ 32 := by rw [BitVec.toNat_sub, hx, hy]
  have h : (IntOp.absi (x - y)).sle 128#32 = decide (near t p) := by
    rw [Bool.eq_iff_iff, decide_eq_true_iff, BitVec.sle_iff_toInt_le, BitVec.toInt_eq_toNat_cond, BitVec.toInt_eq_toNat_cond]
    unfold IntOp.absi near
    have m : (x - y).msb = decide (2 ^ 31 ≤ (x - y).toNat) := BitVec.msb_eq_decide _
    by_cases c : 2 ^ 31 ≤ (x - y).toNat
    · rw [m, decide_eq_true c, if_pos rfl, BitVec.toNat_neg, e]
      rw [e] at c
      simp only [BitVec.toNat_ofNat]
      split <;> split <;> constructor <;> intro h <;> omega
    · rw [m, decide_eq_false c]
      simp only [Bool.false_eq_true, if_false]
      rw [e]
      rw [e] at c
      simp only [BitVec.toNat_ofNat]
      split <;> split <;> constructor <;> intro h <;> omega
  show BitVec.ofBool ((IntOp.absi (x - y)).sle 128#32) = _
  rw [h]
  by_cases c : near t p <;> simp [c]

/-- The column of key head `h`, query head `g` of its four, component `d`. -/
def col (h g : Fin 4) (d : Fin 128) : Fin 2048 := ⟨512 * h.val + 128 * g.val + d.val, by omega⟩

/-- The column of key head `h`, component `d`. -/
def kcol (h : Fin 4) (d : Fin 128) : Fin 512 := ⟨128 * h.val + d.val, by omega⟩

/-- The query head of key head `h` and place `g` of its four. -/
def head (h g : Fin 4) : Fin 16 := ⟨4 * h.val + g.val, by omega⟩

theorem exists_col (x : Fin 2048) : ∃ h g d, x = col h g d :=
  ⟨⟨x.val / 512, by omega⟩, ⟨x.val / 128 % 4, by omega⟩, ⟨x.val % 128, by omega⟩, Fin.ext (by show x.val = 512 * (x.val / 512) + 128 * (x.val / 128 % 4) + x.val % 128; omega)⟩

theorem exists_kcol (x : Fin 512) : ∃ h d, x = kcol h d :=
  ⟨⟨x.val / 128, by omega⟩, ⟨x.val % 128, by omega⟩, Fin.ext (by show x.val = 128 * (x.val / 128) + x.val % 128; omega)⟩

theorem exists_head (x : Fin 16) : ∃ h g, x = head h g :=
  ⟨⟨x.val / 4, by omega⟩, ⟨x.val % 4, by omega⟩, Fin.ext (by show x.val = 4 * (x.val / 4) + x.val % 4; omega)⟩

/-- The arguments as real numbers: queries, keys, values, sinks and the cotangent of the attention's output. -/
structure Data where
  q : Fin 4096 → Fin 4 → Fin 4 → Fin 128 → ℝ
  k : Fin 4096 → Fin 4 → Fin 128 → ℝ
  v : Fin 4096 → Fin 4 → Fin 128 → ℝ
  c : Fin 4 → Fin 4 → ℝ
  o : Fin 4096 → Fin 4 → Fin 4 → Fin 128 → ℝ

namespace Data

variable (A : Data)

/-- Query `t` of head `h`, `g` against every key. -/
def row (h g : Fin 4) (t : Fin 4096) : Row (Fin 4096) where
  near p := near t.val p.val
  s p := (∑ d, A.k p h d * A.q t h g d) * scale
  c := A.c h g
  u p := ∑ d, A.o t h g d * A.v p h d

/-- The gradient of the queries. -/
def dq (t : Fin 4096) (h g : Fin 4) (d : Fin 128) : ℝ := ∑ p, (A.row h g t).ds p * scale * A.k p h d

/-- The gradient of the keys. -/
def dk (p : Fin 4096) (h : Fin 4) (d : Fin 128) : ℝ := ∑ t, ∑ g, (A.row h g t).ds p * scale * A.q t h g d

/-- The gradient of the values. -/
def dv (p : Fin 4096) (h : Fin 4) (d : Fin 128) : ℝ := ∑ t, ∑ g, (A.row h g t).p p * A.o t h g d

/-- The gradient of the sinks. -/
def dc (h g : Fin 4) : ℝ := -∑ t, (A.row h g t).w

end Data

/-- A number that is neither infinity, as a real number. -/
theorem coe_of_max {a : EReal} {c : ℝ} (h : a ≠ ⊤) : ∃ μ : ℝ, max a (c : EReal) = (μ : EReal) := by
  induction a using EReal.rec with
  | bot => exact ⟨c, by simp⟩
  | coe a => exact ⟨max a c, (EReal.coe_strictMono.monotone.map_max).symm⟩
  | top => exact absurd rfl h

end Attention

end
-- ==== Proof.RefScores.lean ====
/-
  The reference, read at an index: its masked scores, their maximum with the sink, and the probabilities, as the rows of
  `Proof.Dense` give them.
-/
module

public import proofs.«01_k».proof.Proof.Dense
public import proofs.«01_k».proof.Proof.Gen.ReferenceIdeal.Read
public import Idealize.ShloMosaic.Lib.ValueIdx

@[expose] public section

noncomputable section

namespace Attention

open Idealize.ShloMosaic Idealize.ShloMosaic.ValueIdx
open scoped BigOperators

/-- The arguments hold the real numbers `A`. -/
structure Reads (A : Data) (x0 : (⟨2, ![4096, 2048]⟩ : Shape).Idx → EReal) (x1 x2 : (⟨2, ![4096, 512]⟩ : Shape).Idx → EReal)
    (x3 : (⟨1, ![16]⟩ : Shape).Idx → EReal) (x4 : (⟨2, ![4096, 2048]⟩ : Shape).Idx → EReal) : Prop where
  q : ∀ t h g d, x0 (ix2 t (col h g d)) = (A.q t h g d : EReal)
  k : ∀ t h d, x1 (ix2 t (kcol h d)) = (A.k t h d : EReal)
  v : ∀ t h d, x2 (ix2 t (kcol h d)) = (A.v t h d : EReal)
  c : ∀ h g, x3 (ix1 (head h g)) = (A.c h g : EReal)
  o : ∀ t h g d, x4 (ix2 t (col h g d)) = (A.o t h g d : EReal)

section Ext

variable {n0 n1 n2 n3 : ℕ}

theorem ext1 (i : (⟨1, ![n0]⟩ : Shape).Idx) (a : Fin n0) (h0 : (i 0).val = a.val) : i = ix1 a := by
  funext d; match d with | ⟨0, _⟩ => exact Fin.ext h0

theorem ext2 (i : (⟨2, ![n0, n1]⟩ : Shape).Idx) (a : Fin n0) (b : Fin n1) (h0 : (i 0).val = a.val) (h1 : (i 1).val = b.val) : i = ix2 a b := by
  funext d; match d with | ⟨0, _⟩ => exact Fin.ext h0 | ⟨1, _⟩ => exact Fin.ext h1

theorem ext3 (i : (⟨3, ![n0, n1, n2]⟩ : Shape).Idx) (a : Fin n0) (b : Fin n1) (c : Fin n2) (h0 : (i 0).val = a.val) (h1 : (i 1).val = b.val)
    (h2 : (i 2).val = c.val) : i = ix3 a b c := by
  funext d; match d with | ⟨0, _⟩ => exact Fin.ext h0 | ⟨1, _⟩ => exact Fin.ext h1 | ⟨2, _⟩ => exact Fin.ext h2

theorem ext4 (i : (⟨4, ![n0, n1, n2, n3]⟩ : Shape).Idx) (a : Fin n0) (b : Fin n1) (c : Fin n2) (d : Fin n3) (h0 : (i 0).val = a.val)
    (h1 : (i 1).val = b.val) (h2 : (i 2).val = c.val) (h3 : (i 3).val = d.val) : i = ix4 a b c d := by
  funext e; match e with | ⟨0, _⟩ => exact Fin.ext h0 | ⟨1, _⟩ => exact Fin.ext h1 | ⟨2, _⟩ => exact Fin.ext h2 | ⟨3, _⟩ => exact Fin.ext h3

end Ext

theorem zero_bits : (FloatOps.ofBits .f32 0x00000000#32 : Ideal .f32) = 0 := Ideal.ofBits_zero_f32

/-- The fold of a maximum from minus infinity is the value of one of its members, once one of them is a real number. -/
theorem exists_of_fold {ι : Type} (f : ι → EReal) : ∀ (l : List ι) (b : EReal),
    (l.foldl (fun r n => max r (f n)) b = b ∨ ∃ n ∈ l, l.foldl (fun r n => max r (f n)) b = f n)
      ∧ b ≤ l.foldl (fun r n => max r (f n)) b ∧ ∀ n ∈ l, f n ≤ l.foldl (fun r n => max r (f n)) b
  | [], b => ⟨Or.inl rfl, le_rfl, fun _ h => absurd h (by simp)⟩
  | a :: l, b => by
    obtain ⟨h1, h2, h3⟩ := exists_of_fold f l (max b (f a))
    rw [List.foldl_cons]
    refine ⟨?_, (le_max_left _ _).trans h2, fun n hn => ?_⟩
    · rcases h1 with h1 | ⟨n, hn, h1⟩
      · rcases max_choice b (f a) with h | h
        · exact Or.inl (h1.trans h)
        · exact Or.inr ⟨a, by simp, h1.trans h⟩
      · exact Or.inr ⟨n, by simp [hn], h1⟩
    · rcases List.mem_cons.mp hn with rfl | hn
      · exact (le_max_right _ _).trans h2
      · exact h3 n hn

namespace Ref

open Cert.ReferenceIdeal Cert.ReferenceIdeal.Read Cert.ReferenceIdeal.Gen

variable {A : Data} {x0 : FVec Ideal S4096x2048 .bf16} {x1 x2 : FVec Ideal S4096x512 .bf16} {x3 : FVec Ideal S16 .f32}
  {x4 : FVec Ideal S4096x2048 .bf16} (H : Reads A x0 x1 x2 x3 x4) (h g : Fin 4) (t p : Fin 4096) (d : Fin 128)

include H

theorem q3 : val_main_v3 (F := Ideal) x0 (ix4 t h g d) = (A.q t h g d : EReal) := by
  rw [val_main_v3_apply, val_main_v0_apply, ext2 (idx_main_v3 (ix4 t h g d)) t (col h g d)
    (by show (((t.val * 4 + h.val) * 4 + g.val) * 128 + d.val) / 2048 = t.val; omega)
    (by show (((t.val * 4 + h.val) * 4 + g.val) * 128 + d.val) % 2048 = 512 * h.val + 128 * g.val + d.val; omega)]
  exact H.q t h g d

theorem k4 : val_main_v4 (F := Ideal) x1 (ix3 t h d) = (A.k t h d : EReal) := by
  rw [val_main_v4_apply, val_main_v1_apply, ext2 (idx_main_v4 (ix3 t h d)) t (kcol h d)
    (by show ((t.val * 4 + h.val) * 128 + d.val) / 512 = t.val; omega)
    (by show ((t.val * 4 + h.val) * 128 + d.val) % 512 = 128 * h.val + d.val; omega)]
  exact H.k t h d

theorem v5 : val_main_v5 (F := Ideal) x2 (ix3 t h d) = (A.v t h d : EReal) := by
  rw [val_main_v5_apply, val_main_v2_apply, ext2 (idx_main_v5 (ix3 t h d)) t (kcol h d)
    (by show ((t.val * 4 + h.val) * 128 + d.val) / 512 = t.val; omega)
    (by show ((t.val * 4 + h.val) * 128 + d.val) % 512 = 128 * h.val + d.val; omega)]
  exact H.v t h d

theorem o67 : val_main_v67 (F := Ideal) x4 (ix4 h d g t) = (A.o t h g d : EReal) := by
  rw [val_main_v67_apply, ext4 (idx_main_v67 (ix4 h d g t)) t h g d rfl rfl rfl rfl, val_main_v66_apply, val_main_v65_apply,
    ext2 (idx_main_v66 (ix4 t h g d)) t (col h g d)
    (by show (((t.val * 4 + h.val) * 4 + g.val) * 128 + d.val) / 2048 = t.val; omega)
    (by show (((t.val * 4 + h.val) * 4 + g.val) * 128 + d.val) % 2048 = 512 * h.val + 128 * g.val + d.val; omega)]
  exact H.o t h g d

theorem c20 : val_main_v20 (F := Ideal) x3 (ix3 h g 0) = (A.c h g : EReal) := by
  rw [val_main_v20_apply, ext1 (idx_main_v20 (ix3 h g 0)) (head h g) (by show (h.val * 4 + g.val) * 1 + 0 = 4 * h.val + g.val; omega)]
  exact H.c h g

/-- The scaled product of a query and a key. -/
theorem s9 : val_main_v9 (F := Ideal) x0 x1 (ix4 h g t p) = ((A.row h g t).s p : EReal) := by
  rw [val_main_v9_apply, val_main_v8_apply, val_main_cst_apply, val_main_v7_apply, ext4 (idx_main_v7 (ix4 h g t p)) h p t g rfl rfl rfl rfl,
    val_main_v6_apply, Ideal.mulf_def]
  have e : ∀ k : Fin 128, val_main_v4 (F := Ideal) x1 (lidx_main_v6 (ix4 h p t g) k) * val_main_v3 (F := Ideal) x0 (ridx_main_v6 (ix4 h p t g) k)
      = ((A.k p h k * A.q t h g k : ℝ) : EReal) := fun k => by
    rw [ext3 (lidx_main_v6 (ix4 h p t g) k) p h k rfl rfl rfl, ext4 (ridx_main_v6 (ix4 h p t g) k) t h g k rfl rfl rfl rfl, k4 H, q3 H, EReal.coe_mul]
  rw [Finset.sum_congr rfl fun k _ => e k, ← coe_sum]
  show _ * Ideal.ofBits .f32 0x3DB504F3#32 = _
  rw [scale_eq, ← EReal.coe_mul]
  rfl

omit H in
open scoped Classical in
/-- The mask: the key is near the query. -/
theorem mask19 : val_main_v19_1 (F := Ideal) (ix4 h g t p) = if near t.val p.val then 1#1 else 0#1 := by
  rw [val_main_v19_1_apply, val_main_v18_apply, val_main_v17_apply, val_main_c_apply, val_main_v16_apply, val_main_v15_apply,
    val_main_v14_apply, val_main_v13_apply, val_main_v12_apply, val_main_v11_apply, val_main_v10_apply, val_main_v10_apply]
  refine near_word t.val p.val (by omega) (by omega) _ _ ?_ ?_
  · show (BitVec.ofNat 32 p.val).toNat = p.val
    rw [BitVec.toNat_ofNat]; omega
  · show (BitVec.ofNat 32 t.val).toNat = t.val
    rw [BitVec.toNat_ofNat]; omega

/-- The masked score. -/
theorem x19 : val_main_v19_0 (F := Ideal) x0 x1 (ix4 h g t p) = (A.row h g t).x p := by
  rw [val_main_v19_0_apply, mask19, s9 H, val_main_call0_v2_apply, val_main_call0_v0_apply, val_main_cst_0_apply]
  unfold Row.x
  by_cases c : near t.val p.val
  · rw [if_pos c, if_pos (show (A.row h g t).near p from c)]
    rfl
  · rw [if_neg c, if_neg (show ¬(A.row h g t).near p from c)]
    exact bot_eq

/-- The maximum of a row's scores is one of them. -/
theorem max21 : ∃ k : Fin 4096, val_main_v21 (F := Ideal) x0 x1 (ix3 h g t) = (A.row h g t).x k := by
  have hr : S4x4x4096x4096.Reduces [3] S4x4x4096 := by decide
  unfold val_main_v21 Host.reduce
  rw [Shape.ReducesTo.drop_eq_drop reducesTo_S4x4x4096x4096_S4x4x4096_d3 hr]
  have hl : ∀ k : Fin 4096, hr.lift (ix3 h g t) k = ix4 h g t k := fun k => ext4 _ _ _ _ _ rfl rfl rfl rfl
  obtain ⟨h1, -, h3⟩ := exists_of_fold (fun n => val_main_v19_0 (F := Ideal) x0 x1 (S4x4x4096x4096.rowMajor.symm n))
    ((List.finRange S4x4x4096x4096.numel).filter fun n => hr.drop (S4x4x4096x4096.rowMajor.symm n) = ix3 h g t) ⊥
  have hs : val_main_cst_1 (F := Ideal) (Shape.Idx.first h_S_) = ⊥ := bot_eq
  rw [hs]
  rcases h1 with h1 | ⟨n, hn, h1⟩
  · have hm := h3 (S4x4x4096x4096.rowMajor (ix4 h g t t)) (by
      rw [List.mem_filter]
      refine ⟨List.mem_finRange _, ?_⟩
      rw [decide_eq_true_iff, Equiv.symm_apply_apply, ← hl t]
      exact hr.drop_lift _ _)
    simp only [Equiv.symm_apply_apply] at hm
    rw [h1, x19 H, le_bot_iff, Row.x, if_pos (show (A.row h g t).near t from ⟨by omega, by omega⟩)] at hm
    exact absurd hm (EReal.coe_ne_bot _)
  · have hd : hr.drop (S4x4x4096x4096.rowMajor.symm n) = ix3 h g t := of_decide_eq_true (List.mem_filter.mp hn).2
    refine ⟨S4x4x4096x4096.rowMajor.symm n 3, ?_⟩
    have he := hr.lift_drop (S4x4x4096x4096.rowMajor.symm n)
    rw [hd] at he
    exact h1.trans ((congrArg (val_main_v19_0 (F := Ideal) x0 x1) (he.symm.trans (hl (S4x4x4096x4096.rowMajor.symm n 3)))).trans (x19 H h g t _))

/-- The maximum of a row's scores and its sink is a real number. -/
theorem max28 : ∃ μ : ℝ, val_main_v28 (F := Ideal) x0 x1 x3 (ix3 h g t) = (μ : EReal) := by
  obtain ⟨k, hk⟩ := max21 H h g t
  rw [val_main_v28_apply, Ideal.maximumf_def, hk, val_main_v27_apply, ext3 (idx_main_v27 (ix3 h g t)) h g 0 rfl rfl rfl, c20 H]
  exact coe_of_max ((A.row h g t).x_ne_top k)

/-- Some score of a row is its maximum: their number is not zero. -/
theorem count26 : val_main_v26 (F := Ideal) x0 x1 (ix3 h g t) ≠ 0 := by
  obtain ⟨k, hk⟩ := max21 H h g t
  rw [val_main_v26_apply, val_main_cst_2_apply, zero_bits, zero_add]
  have e : ∀ j : Fin 4096, val_main_v25 (F := Ideal) x0 x1 (idx_main_v26 (ix3 h g t) j) = if (A.row h g t).x j = (A.row h g t).x k then ((1 : ℝ) : EReal) else ((0 : ℝ) : EReal) := fun j => by
    rw [ext4 (idx_main_v26 (ix3 h g t) j) h g t j rfl rfl rfl rfl, val_main_v25_apply, val_main_v24_apply, x19 H, val_main_v23_apply, val_main_v22_apply,
      ext3 (idx_main_v22 (idx_main_v23 (ix4 h g t j))) h g t
        (by show (((h.val * 4 + g.val) * 4096 + t.val) * 1 + 0) / 16384 = h.val; omega)
        (by show (((h.val * 4 + g.val) * 4096 + t.val) * 1 + 0) / 4096 % 4 = g.val; omega)
        (by show (((h.val * 4 + g.val) * 4096 + t.val) * 1 + 0) % 4096 = t.val; omega), hk]
    show (((BitVec.ofBool (decide ((A.row h g t).x j = (A.row h g t).x k))).toNat : ℝ) : EReal) = _
    by_cases c : (A.row h g t).x j = (A.row h g t).x k
    · rw [if_pos c, decide_eq_true c]; simp
    · rw [if_neg c, decide_eq_false c]; simp
  rw [Finset.sum_congr rfl fun j _ => e j]
  refine ne_of_gt (lt_of_lt_of_le (b := ((1 : ℝ) : EReal)) (by norm_num) ?_)
  refine le_trans (le_of_eq ?_) (Finset.single_le_sum (f := fun j => if (A.row h g t).x j = (A.row h g t).x k then ((1 : ℝ) : EReal) else ((0 : ℝ) : EReal)) (fun j _ => ?_) (Finset.mem_univ k))
  · simp only [if_true]
  · split <;> norm_num

end Ref

end Attention

end
-- ==== Proof.TileValue.lean ====
/-
  The values of one sub-block of the kernel: from arguments that are real numbers, its probabilities, the gradients of its
  scores and what it adds to each result are those of the rows of `Proof.Dense`, every query of the sub-block against its
  window of keys.
-/
module

public import proofs.«01_k».proof.Proof.RefScores
public import proofs.«01_k».proof.Proof.Tile

@[expose] public section

noncomputable section

namespace Attention

open Idealize.ShloMosaic Idealize.ShloMosaic.ValueIdx
open scoped BigOperators

/-- An index of one axis, its extent given as a list, is its coordinate. -/
def single (n : ℕ) : (Shape.ofList [n]).Idx ≃ Fin n where
  toFun i := i ⟨0, Nat.zero_lt_one⟩
  invFun k := fun a => match a with
    | ⟨0, _⟩ => k
  left_inv i := by funext a; match a with | ⟨0, _⟩ => rfl
  right_inv _ := rfl

/-- A sum over a product of two extents, the first the slower. -/
theorem sum_blocks {M : Type} [AddCommMonoid M] {n m N : ℕ} (hN : n * m = N) (f : Fin N → M) :
    ∑ x, f x = ∑ a : Fin n, ∑ b : Fin m, f ⟨m * a.val + b.val, by
      have := a.isLt; have := b.isLt
      calc m * a.val + b.val < m * a.val + m := by omega
        _ = (a.val + 1) * m := by ring
        _ ≤ n * m := Nat.mul_le_mul_right _ (by omega)
        _ = N := hN⟩ := by
  subst hN
  rw [← Equiv.sum_comp finProdFinEquiv f, Fintype.sum_prod_type]
  refine Finset.sum_congr rfl fun a _ => Finset.sum_congr rfl fun b _ => congrArg f (Fin.ext ?_)
  show b.val + m * a.val = m * a.val + b.val
  omega

/-- Row `a` of head `g` among the 512 rows of four heads. -/
def stack (g : Fin 4) (a : Fin 128) : Fin 512 := ⟨128 * g.val + a.val, by omega⟩

theorem sum_stack {M : Type} [AddCommMonoid M] (f : Fin 512 → M) : ∑ x, f x = ∑ g : Fin 4, ∑ a : Fin 128, f (stack g a) :=
  sum_blocks (n := 4) (m := 128) rfl f

theorem concat_stack {α : Type} {n : ℕ} (f : Fin 4 → (⟨2, ![128, n]⟩ : Shape).Idx → α)
    (hc : Shape.Concatenates ((List.ofFn fun m : Fin 4 => (⟨⟨2, ![128, n]⟩, f m⟩ : (s : Shape) × (s.Idx → α))).map (·.1)) ⟨2, ![512, n]⟩ 0)
    (g : Fin 4) (a : Fin 128) (d : Fin n) :
    concatenate ⟨2, ![512, n]⟩ 0 (List.ofFn fun m : Fin 4 => (⟨⟨2, ![128, n]⟩, f m⟩ : (s : Shape) × (s.Idx → α))) hc (ix2 (stack g a) d) = f g (ix2 a d) :=
  concatenate_ofFn_apply (t := ⟨2, ![512, n]⟩) 0 f hc rfl 128 rfl (ix2 (stack g a) d) g (by show (128 * g.val + a.val) / 128 = g.val; omega) (ix2 a d)
    (by show a.val = (128 * g.val + a.val) % 128; omega)
    (fun b hb => match b, hb with
      | ⟨0, _⟩, hb => absurd rfl hb
      | ⟨1, _⟩, _ => rfl)

namespace Tile

open Cert.KernelIdeal Cert.KernelIdeal.Gen

/-- A sub-block whose queries are at the positions `t0` and whose window of keys is at the positions `p0` loads the real
    numbers `A` of key head `h`; every key near one of its queries is in its window. -/
structure Loads (A : Data) (h : Fin 4) (t0 : Fin 128 → Fin 4096) (p0 : Fin 384 → Fin 4096) (T : Ins Ideal) : Prop where
  q : ∀ g a d, T.q g (ix2 a d) = (A.q (t0 a) h g d : EReal)
  k : ∀ j d, T.k (ix2 j d) = (A.k (p0 j) h d : EReal)
  v : ∀ j d, T.v (ix2 j d) = (A.v (p0 j) h d : EReal)
  s : ∀ g j, T.s g (ix2 0 j) = (A.c h g : EReal)
  d : ∀ g a d, T.d g (ix2 a d) = (A.o (t0 a) h g d : EReal)
  mask : ∀ g a j, near (t0 a).val (p0 j).val ∧ T.mask (ix2 (stack g a) j) = 1#1 ∨ ¬near (t0 a).val (p0 j).val ∧ T.mask (ix2 (stack g a) j) = 0#1
  inj : Function.Injective p0
  cover : ∀ a p, near (t0 a).val p.val → ∃ j, p0 j = p

variable {A : Data} {h : Fin 4} {t0 : Fin 128 → Fin 4096} {p0 : Fin 384 → Fin 4096} {T : Ins Ideal} (H : Loads A h t0 p0 T)
  (g : Fin 4) (a : Fin 128) (j : Fin 384) (d : Fin 128)

/-- The row of query `a` of head `g` over the window. -/
def tileRow (A : Data) (h : Fin 4) (t0 : Fin 128 → Fin 4096) (p0 : Fin 384 → Fin 4096) (g : Fin 4) (a : Fin 128) : Row (Fin 384) :=
  (A.row h g (t0 a)).pull p0

/-! The layout operations a sub-block uses, at an index. -/

theorem column_apply {α : Type} (v : S512.Idx → α) (hc : S512.ShapeCasts S512x1) (x : Fin 512) : shapeCast S512x1 v hc (ix2 x 0) = v (ix1 x) :=
  shapeCast_apply v hc (ix2 x 0) (ix1 x) (by rw [Shape.rowMajor_val_one, Shape.rowMajor_val_two]; show x.val = x.val * 1 + 0; omega)

theorem spread_apply {α : Type} (v : S512x1.Idx → α) (hb : S512x1.Broadcasts S512x384) (x : Fin 512) (j : Fin 384) :
    broadcastTo S512x384 v hb (ix2 x j) = v (ix2 x 0) :=
  broadcastTo_apply v hb (ix2 x j) (ix2 x 0) (fun b => match b with
    | ⟨0, _⟩ => rfl
    | ⟨1, _⟩ => rfl)

/-- A row's sum. -/
theorem rowSum_apply (v : FVec Ideal S512x384 .f32) (x : Fin 512) :
    multiReduction .add [1] S512 v 0x00000000#32 reduces_S512x384_S512 (.inl rfl) rfl (ix1 x) = ∑ j : Fin 384, v (ix2 x j) := by
  refine (Ideal.multiReduction_add_single v _ _ _ _ (ix1 x)).trans ?_
  exact Finset.sum_congr rfl fun j _ => congrArg v (ext2 _ x j rfl rfl)

/-- The products of rows with rows. -/
theorem rows_apply (l : FVec Ideal S512x128 .bf16) (r : FVec Ideal S384x128 .bf16) (x : Fin 512) (j : Fin 384) :
    matmul dot_S512x128_S384x128_S512x384_1_1_0_0_n_n none l r (constant S512x384 .f32 0x00000000#32) (ix2 x j) = ∑ d : Fin 128, l (ix2 x d) * r (ix2 j d) := by
  refine (Ideal.matmul_constant_zero_apply _ none l r (ix2 x j)).trans ((Equiv.sum_comp (single 128).symm _).symm.trans ?_)
  exact Finset.sum_congr rfl fun d _ => congrArg₂ (· * ·) (congrArg l (ext2 _ x d rfl rfl)) (congrArg r (ext2 _ j d rfl rfl))

/-- The products of rows with columns. -/
theorem cols_apply (l : FVec Ideal S512x384 .bf16) (r : FVec Ideal S384x128 .bf16) (x : Fin 512) (d : Fin 128) :
    matmul dot_S512x384_S384x128_S512x128_1_0_0_1_n_n none l r (constant S512x128 .f32 0x00000000#32) (ix2 x d) = ∑ j : Fin 384, l (ix2 x j) * r (ix2 j d) := by
  refine (Ideal.matmul_constant_zero_apply _ none l r (ix2 x d)).trans ((Equiv.sum_comp (single 384).symm _).symm.trans ?_)
  exact Finset.sum_congr rfl fun j _ => congrArg₂ (· * ·) (congrArg l (ext2 _ x j rfl rfl)) (congrArg r (ext2 _ j d rfl rfl))

/-- The products of columns with columns. -/
theorem turned_apply (l : FVec Ideal S512x384 .bf16) (r : FVec Ideal S512x128 .bf16) (j : Fin 384) (d : Fin 128) :
    matmul dot_S512x384_S512x128_S384x128_0_0_1_1_n_n none l r (constant S384x128 .f32 0x00000000#32) (ix2 j d) = ∑ x : Fin 512, l (ix2 x j) * r (ix2 x d) := by
  refine (Ideal.matmul_constant_zero_apply _ none l r (ix2 j d)).trans ((Equiv.sum_comp (single 512).symm _).symm.trans ?_)
  exact Finset.sum_congr rfl fun x _ => congrArg₂ (· * ·) (congrArg l (ext2 _ x j rfl rfl)) (congrArg r (ext2 _ x d rfl rfl))

/-- The first element of a row of the sink, down 128 rows. -/
def down (v : FVec Ideal S1x128 .f32) : FVec Ideal S128x1 .f32 :=
  broadcastTo S128x1 (shapeCast S1x1 (extractStridedSlice S1x1 ![0, 0] (shapeCast S1x128 v shapeCasts_S1x128_S1x128) slices_S1x128_o0_0_S1x1) shapeCasts_S1x1_S1x1)
    broadcasts_S1x1_S128x1

include H

theorem Q_apply : T.Q (ix2 (stack g a) d) = (A.q (t0 a) h g d : EReal) :=
  (concat_stack T.q concatenates_S128x128_S128x128_S128x128_S128x128_S512x128_d0 g a d).trans (H.q g a d)

theorem D_apply : T.D (ix2 (stack g a) d) = (A.o (t0 a) h g d : EReal) :=
  (concat_stack T.d concatenates_S128x128_S128x128_S128x128_S128x128_S512x128_d0 g a d).trans (H.d g a d)

theorem S_apply : T.S (ix2 (stack g a) j) = (tileRow A h t0 p0 g a).x j := by
  have e : matmul (φ₂ := .bf16) dot_S512x128_S384x128_S512x384_1_1_0_0_n_n none T.Q T.k (constant S512x384 .f32 0x00000000#32) (ix2 (stack g a) j)
      = ((∑ d, A.k (p0 j) h d * A.q (t0 a) h g d : ℝ) : EReal) := by
    rw [rows_apply, coe_sum]
    exact Finset.sum_congr rfl fun d _ => by rw [Q_apply H, H.k, ← EReal.coe_mul, mul_comm]
  have e' : T.S (ix2 (stack g a) j) = Scalar.select (T.mask (ix2 (stack g a) j))
      (matmul (φ₂ := .bf16) dot_S512x128_S384x128_S512x384_1_1_0_0_n_n none T.Q T.k (constant S512x384 .f32 0x00000000#32) (ix2 (stack g a) j) * Ideal.ofBits .f32 0x3DB504F3#32) ⊥ := rfl
  rw [e', e, scale_eq, ← EReal.coe_mul, Row.x]
  rcases H.mask g a j with ⟨hn, hm⟩ | ⟨hn, hm⟩
  · rw [hm, select_one, if_pos (show (tileRow A h t0 p0 g a).near j from hn)]
    rfl
  · rw [hm, select_zero, if_neg (show ¬(tileRow A h t0 p0 g a).near j from hn)]

omit H in
theorem down_apply (v : FVec Ideal S1x128 .f32) : down v (ix2 a 0) = v (ix2 0 0) := by
  unfold down
  rw [broadcastTo_apply _ _ (ix2 a 0) (ix2 0 0) (fun b => match b with | ⟨0, _⟩ => rfl | ⟨1, _⟩ => rfl), shapeCast_self, shapeCast_self]
  exact extractStridedSlice_apply _ _ _ _ _ fun b => match b with | ⟨0, _⟩ => rfl | ⟨1, _⟩ => rfl

theorem C_apply : T.C (ix2 (stack g a) 0) = (A.c h g : EReal) := by
  have e : T.C = concatenate S512x1 0 [⟨S128x1, down (T.s 0)⟩, ⟨S128x1, down (T.s 1)⟩, ⟨S128x1, down (T.s 2)⟩, ⟨S128x1, down (T.s 3)⟩]
    concatenates_S128x1_S128x1_S128x1_S128x1_S512x1_d0 := rfl
  rw [e]
  exact (concat_stack (fun m => down (T.s m)) concatenates_S128x1_S128x1_S128x1_S128x1_S512x1_d0 g a 0).trans ((down_apply a (T.s g)).trans (H.s g 0))

/-- The maximum of a row's scores and its sink is a real number. -/
theorem M_real : ∃ μ : ℝ, T.M (ix2 (stack g a) 0) = (μ : EReal) := by
  have e : T.M (ix2 (stack g a) 0) = max (shapeCast S512x1 (multiReduction .maximumf [1] S512 T.S 0xFF800000#32 reduces_S512x384_S512 (.inl rfl) rfl)
    shapeCasts_S512_S512x1 (ix2 (stack g a) 0)) (T.C (ix2 (stack g a) 0)) := rfl
  have hb : multiReduction .maximumf [1] S512 T.S 0xFF800000#32 reduces_S512x384_S512 (.inl rfl) rfl (ix1 (stack g a)) ≠ ⊤ := by
    refine ne_of_eq_of_ne (Ideal.multiReduction_maximumf_single T.S _ _ _ _ (ix1 (stack g a))) (ne_of_lt ((Finset.fold_op_rel_iff_and (r := fun x y => y < x) max_lt_iff).mpr ⟨?_, fun j _ => ?_⟩))
    · exact lt_of_eq_of_lt bot_eq bot_lt_top
    · have hl : reduces_S512x384_S512.lift (ix1 (stack g a)) j = ix2 (stack g a) j := ext2 _ _ _ rfl rfl
      exact lt_of_eq_of_lt ((congrArg T.S hl).trans (S_apply H g a j)) (lt_top_iff_ne_top.mpr (Row.x_ne_top _ _))
  rw [e, column_apply, C_apply H]
  exact coe_of_max hb

/-- The gradients of the probabilities. -/
theorem U_apply : k0_pay17 T.v (T.d 0) (T.d 1) (T.d 2) (T.d 3) (ix2 (stack g a) j) = ((tileRow A h t0 p0 g a).u j : EReal) := by
  refine (rows_apply T.D T.v (stack g a) j).trans ?_
  refine Eq.trans ?_ (coe_sum Finset.univ fun d => A.o (t0 a) h g d * A.v (p0 j) h d).symm
  exact Finset.sum_congr rfl fun d _ => by rw [D_apply H, H.v, ← EReal.coe_mul]

section Shifted

variable {μ : ℝ} (hμ : T.M (ix2 (stack g a) 0) = (μ : EReal))

include hμ

theorem E_apply : k0_pay12 T.N (ix2 (stack g a) j) = (((tileRow A h t0 p0 g a).e j * Real.exp (-μ) : ℝ) : EReal) := by
  have e : k0_pay12 T.N (ix2 (stack g a) j) = Ideal.exp (T.S (ix2 (stack g a) j) - broadcastTo S512x384 T.M broadcasts_S512x1_S512x384 (ix2 (stack g a) j)) := rfl
  rw [e, spread_apply, hμ, S_apply H]
  exact Row.exp_x _ μ j

theorem X_apply : k0_pay13 T.C T.M (ix2 (stack g a) 0) = ((Real.exp (tileRow A h t0 p0 g a).c * Real.exp (-μ) : ℝ) : EReal) := by
  have e : k0_pay13 T.C T.M (ix2 (stack g a) 0) = Ideal.exp (T.C (ix2 (stack g a) 0) - T.M (ix2 (stack g a) 0)) := rfl
  rw [e, hμ, C_apply H]
  exact (tileRow A h t0 p0 g a).exp_c μ

theorem Z_apply : k0_pay14 T.C T.M T.N (ix2 (stack g a) 0) = (((tileRow A h t0 p0 g a).z * Real.exp (-μ) : ℝ) : EReal) := by
  have e : k0_pay14 T.C T.M T.N (ix2 (stack g a) 0) = shapeCast S512x1 (multiReduction .add [1] S512 (k0_pay12 T.N) 0x00000000#32 reduces_S512x384_S512 (.inl rfl) rfl)
    shapeCasts_S512_S512x1 (ix2 (stack g a) 0) + k0_pay13 T.C T.M (ix2 (stack g a) 0) := rfl
  rw [e, column_apply, X_apply H g a hμ, rowSum_apply, Finset.sum_congr rfl fun j _ => E_apply H g a j hμ]
  exact Row.sum_shift _ μ

theorem P_apply' : T.P (ix2 (stack g a) j) = ((tileRow A h t0 p0 g a).p j : EReal) := by
  have e : T.P (ix2 (stack g a) j) = Ideal.div (k0_pay12 T.N (ix2 (stack g a) j)) (broadcastTo S512x384 (k0_pay14 T.C T.M T.N) broadcasts_S512x1_S512x384 (ix2 (stack g a) j)) := rfl
  rw [e, spread_apply, E_apply H g a j hμ, Z_apply H g a hμ]
  exact Row.div_p _ μ j

end Shifted

/-- The probabilities. -/
theorem P_apply : T.P (ix2 (stack g a) j) = ((tileRow A h t0 p0 g a).p j : EReal) := by
  obtain ⟨μ, hμ⟩ := M_real H g a
  exact P_apply' H g a j hμ

/-- The row's sum of probability times gradient. -/
theorem delta_apply : k0_pay18 T.v T.C T.M T.N (T.d 0) (T.d 1) (T.d 2) (T.d 3) (ix2 (stack g a) 0) = ((tileRow A h t0 p0 g a).delta : EReal) := by
  have e : k0_pay18 T.v T.C T.M T.N (T.d 0) (T.d 1) (T.d 2) (T.d 3) (ix2 (stack g a) 0)
    = shapeCast S512x1 (multiReduction .add [1] S512 (mulf T.P (k0_pay17 T.v (T.d 0) (T.d 1) (T.d 2) (T.d 3))) 0x00000000#32 reduces_S512x384_S512 (.inl rfl) rfl)
      shapeCasts_S512_S512x1 (ix2 (stack g a) 0) := rfl
  rw [e, column_apply, rowSum_apply, Row.delta, coe_sum]
  exact Finset.sum_congr rfl fun j _ => by rw [mulf_apply, P_apply H, U_apply H, EReal.coe_mul]

/-- The gradients of the scaled products. -/
theorem DS_apply : T.DS (ix2 (stack g a) j) = (((A.row h g (t0 a)).ds (p0 j) * scale : ℝ) : EReal) := by
  have e : T.DS (ix2 (stack g a) j) = T.P (ix2 (stack g a) j) * (k0_pay17 T.v (T.d 0) (T.d 1) (T.d 2) (T.d 3) (ix2 (stack g a) j)
    - broadcastTo S512x384 (k0_pay18 T.v T.C T.M T.N (T.d 0) (T.d 1) (T.d 2) (T.d 3)) broadcasts_S512x1_S512x384 (ix2 (stack g a) j)) * Ideal.ofBits .f32 0x3DB504F3#32 := rfl
  rw [e, spread_apply, P_apply H, U_apply H, delta_apply H, scale_eq, ← EReal.coe_sub, ← EReal.coe_mul, ← EReal.coe_mul,
    ← (A.row h g (t0 a)).pull_ds p0 H.inj (H.cover a)]
  rfl

theorem DQ_apply : T.DQ (ix2 (stack g a) d) = (A.dq (t0 a) h g d : EReal) := by
  refine (cols_apply T.DS T.k (stack g a) d).trans ?_
  rw [Data.dq, ← (A.row h g (t0 a)).sum_pull p0 H.inj (H.cover a) (fun p => (A.row h g (t0 a)).ds p * scale * A.k p h d)
    (fun p hp => by rw [(A.row h g (t0 a)).ds_of_not p hp, zero_mul, zero_mul]), coe_sum]
  exact Finset.sum_congr rfl fun j _ => by rw [DS_apply H, H.k, ← EReal.coe_mul]

theorem W_apply : T.W (ix2 (stack g a) 0) = ((A.row h g (t0 a)).w : EReal) := by
  obtain ⟨μ, hμ⟩ := M_real H g a
  have e : T.W (ix2 (stack g a) 0) = Ideal.div (k0_pay13 T.C T.M (ix2 (stack g a) 0)) (k0_pay14 T.C T.M T.N (ix2 (stack g a) 0))
    * k0_pay18 T.v T.C T.M T.N (T.d 0) (T.d 1) (T.d 2) (T.d 3) (ix2 (stack g a) 0) := rfl
  rw [e, X_apply H g a hμ, Z_apply H g a hμ, delta_apply H, Row.div_sink, ← EReal.coe_mul, ← (A.row h g (t0 a)).pull_w p0 H.inj (H.cover a)]
  rfl

/-- The queries' gradient, head by head. -/
theorem dq_apply : T.dq g (ix2 a d) = (A.dq (t0 a) h g d : EReal) := by
  rw [← DQ_apply H g a d]
  have hd : ∀ (o : ℕ) (hs : S512x128.Slices ![o, 0] S128x128) (ho : o = 128 * g.val),
      extractStridedSlice S128x128 ![o, 0] T.DQ hs (ix2 a d) = T.DQ (ix2 (stack g a) d) := fun o hs ho =>
    extractStridedSlice_apply _ T.DQ _ _ _ fun b => match b with
      | ⟨0, _⟩ => by show 128 * g.val + a.val = o + a.val; rw [ho]
      | ⟨1, _⟩ => (Nat.zero_add _).symm
  match g, hd with
  | 0, hd => exact hd 0 slices_S512x128_o0_0_S128x128 rfl
  | 1, hd => exact hd 128 slices_S512x128_o128_0_S128x128 rfl
  | 2, hd => exact hd 256 slices_S512x128_o256_0_S128x128 rfl
  | 3, hd => exact hd 384 slices_S512x128_o384_0_S128x128 rfl

/-- What the sub-block adds to the keys' gradient at a key of its window. -/
theorem dk_apply (x : FVec Ideal S384x128 .f32) :
    T.dk x (ix2 j d) = x (ix2 j d) + ((∑ a, ∑ g, (A.row h g (t0 a)).ds (p0 j) * scale * A.q (t0 a) h g d : ℝ) : EReal) := by
  have e : T.dk x (ix2 j d) = shapeCast S384x128 x shapeCasts_S384x128_S384x128 (ix2 j d)
    + matmul dot_S512x384_S512x128_S384x128_0_0_1_1_n_n none T.DS T.Q (constant S384x128 .f32 0x00000000#32) (ix2 j d) := rfl
  rw [e, shapeCast_self, turned_apply, sum_stack, Finset.sum_comm, coe_sum]
  congr 1
  refine Finset.sum_congr rfl fun a _ => ?_
  rw [coe_sum]
  exact Finset.sum_congr rfl fun g _ => by rw [DS_apply H, Q_apply H, ← EReal.coe_mul]

/-- What it adds to the values' gradient. -/
theorem dv_apply (x : FVec Ideal S384x128 .f32) :
    T.dv x (ix2 j d) = x (ix2 j d) + ((∑ a, ∑ g, (A.row h g (t0 a)).p (p0 j) * A.o (t0 a) h g d : ℝ) : EReal) := by
  have e : T.dv x (ix2 j d) = shapeCast S384x128 x shapeCasts_S384x128_S384x128 (ix2 j d)
    + matmul (F := Ideal) (φ₁ := .bf16) dot_S512x384_S512x128_S384x128_0_0_1_1_n_n none T.P T.D (constant S384x128 .f32 0x00000000#32) (ix2 j d) := rfl
  rw [e, shapeCast_self, turned_apply, sum_stack, Finset.sum_comm, coe_sum]
  congr 1
  refine Finset.sum_congr rfl fun a _ => ?_
  rw [coe_sum]
  exact Finset.sum_congr rfl fun g _ => by
    rw [P_apply H, D_apply H, ← EReal.coe_mul, ← (A.row h g (t0 a)).pull_p p0 H.inj (H.cover a)]
    rfl

omit H in
/-- The sum of 128 rows of a column, taken off each element of a row. -/
theorem off_apply (o : ℕ) (w : FVec Ideal S512x1 .f32) (hs : S512x1.Slices ![o, 0] S128x1) (x : FVec Ideal S1x128 .f32) (f : Fin 128 → ℝ)
    (hf : ∀ a : Fin 128, extractStridedSlice S128x1 ![o, 0] w hs (ix2 a 0) = (f a : EReal)) :
    addf (shapeCast S1x128 x shapeCasts_S1x128_S1x128) (broadcastTo S1x128 (shapeCast S1x1 (subf (broadcast S1x1 (Scalar.ofBits .f32 0x00000000#32))
      (shapeCast S1x1 (multiReduction .add [0] S1 (extractStridedSlice S128x1 ![o, 0] w hs) 0x00000000#32 reduces_S128x1_S1 (.inl rfl) rfl) shapeCasts_S1_S1x1))
      shapeCasts_S1x1_S1x1) broadcasts_S1x1_S1x128) (ix2 0 d) = x (ix2 0 d) + ((-∑ a, f a : ℝ) : EReal) := by
  rw [addf_apply, shapeCast_self, shapeCast_self,
    broadcastTo_apply _ _ (ix2 0 d) (ix2 0 0) (fun b => match b with | ⟨0, _⟩ => rfl | ⟨1, _⟩ => rfl), subf_apply, broadcast_apply,
    shapeCast_apply _ _ (ix2 0 0) (ix1 0) (by rw [Shape.rowMajor_val_one, Shape.rowMajor_val_two]; rfl)]
  have e : multiReduction .add [0] S1 (extractStridedSlice S128x1 ![o, 0] w hs) 0x00000000#32 reduces_S128x1_S1 (.inl rfl) rfl (ix1 0) = ((∑ a, f a : ℝ) : EReal) := by
    refine (Ideal.multiReduction_add_single (extractStridedSlice S128x1 ![o, 0] w hs) _ _ _ _ (ix1 (0 : Fin 1))).trans ?_
    rw [coe_sum]
    exact Finset.sum_congr rfl fun a _ => (congrArg (extractStridedSlice S128x1 ![o, 0] w hs) (ext2 (n0 := 128) (n1 := 1) _ a 0 rfl rfl)).trans (hf a)
  refine congrArg (x (ix2 0 d) + ·) ((congrArg (Ideal.ofBits .f32 0x00000000#32 - ·) e).trans ?_)
  rw [Ideal.ofBits_zero_f32, EReal.coe_neg]
  exact zero_sub _

/-- What it adds to the sink's gradient, in every column. -/
theorem ds_apply (x : FVec Ideal S1x128 .f32) : T.ds g x (ix2 0 d) = x (ix2 0 d) + ((-∑ a, (A.row h g (t0 a)).w : ℝ) : EReal) := by
  have hw : ∀ (o : ℕ) (hs : S512x1.Slices ![o, 0] S128x1) (ho : o = 128 * g.val) (a : Fin 128),
      extractStridedSlice S128x1 ![o, 0] T.W hs (ix2 a 0) = ((A.row h g (t0 a)).w : EReal) := fun o hs ho a => by
    rw [← W_apply H g a]
    exact extractStridedSlice_apply _ T.W _ _ _ fun b => match b with
      | ⟨0, _⟩ => by show 128 * g.val + a.val = o + a.val; rw [ho]
      | ⟨1, _⟩ => rfl
  match g, hw with
  | 0, hw => exact off_apply d 0 T.W slices_S512x1_o0_0_S128x1 x _ (hw 0 _ rfl)
  | 1, hw => exact off_apply d 128 T.W slices_S512x1_o128_0_S128x1 x _ (hw 128 _ rfl)
  | 2, hw => exact off_apply d 256 T.W slices_S512x1_o256_0_S128x1 x _ (hw 256 _ rfl)
  | 3, hw => exact off_apply d 384 T.W slices_S512x1_o384_0_S128x1 x _ (hw 384 _ rfl)

end Tile

end Attention

end
-- ==== Proof.StepReads.lean ====
/-
  What a grid step of the kernel is given, and what its two sub-blocks load of it, when the kernel's arguments are real
  numbers: each sub-block loads 128 consecutive queries of the step's heads and a window of 384 keys that holds every key
  near one of them.
-/
module

public import proofs.«01_k».proof.Proof.TileValue
public import proofs.«01_k».proof.Proof.Run
public import Idealize.ShloMosaic.Lib.Pipeline.ValueKit
public import Idealize.ShloMosaic.Lib.Claim

@[expose] public section

set_option maxRecDepth 16384

noncomputable section

namespace Attention

open Idealize.ShloMosaic hiding ix1 ix2 ix3 ix4
open Idealize.ShloMosaic.ValueIdx Idealize.ShloMosaic.TcCoe
open Idealize.SL.Sem
open scoped Classical
open Cert.KernelIdeal Cert.KernelIdeal.Gen

/-- The key head and the block of 256 queries of grid step `t`. -/
def hd (t : Fin cfg0.N) : Fin 4 := ⟨t.val / 16, by have : t.val < 64 := t.isLt; omega⟩
def qb (t : Fin cfg0.N) : Fin 16 := ⟨t.val % 16, by omega⟩

/-- The position of query `a` of sub-block `r` of block `n`. -/
def pos (n : Fin 16) (r : Fin 2) (a : Fin 128) : Fin 4096 := ⟨256 * n.val + 128 * r.val + a.val, by omega⟩

/-- The position of key `j` of its window. -/
def key (n : Fin 16) (r : Fin 2) (j : Fin 384) : Fin 4096 := ⟨koff n.val r.val + j.val, by have := j.isLt; unfold koff; omega⟩

theorem idx : ∀ t : Fin cfg0.N, win0_0.index t = ![t.val % 16, t.val / 16] ∧ win0_1.index t = ![0, t.val / 16] ∧ win0_2.index t = ![0, t.val / 16]
    ∧ win0_3.index t = ![0, 0] ∧ win0_4.index t = ![t.val % 16, t.val / 16] ∧ win0_5.index t = ![t.val % 16, t.val / 16] ∧ win0_6.index t = ![0, t.val / 16]
    ∧ win0_7.index t = ![0, t.val / 16] ∧ win0_8.index t = ![0, 0] :=
  (by decide +kernel : ∀ t : Fin grid0.N, _)

/-- Row `y` of a block of 256 queries, column `x` of a head's 512. -/
def rowOf (t : Fin cfg0.N) (y : Fin 256) : Fin 4096 := ⟨256 * (t.val % 16) + y.val, by omega⟩
def colOf (t : Fin cfg0.N) (x : Fin 512) : Fin 2048 := ⟨512 * (t.val / 16) + x.val, by have : t.val < 64 := t.isLt; omega⟩

section Blocks

variable (m : (ℓ : Loc nD τ sig) → Buf (Elt Ideal) ℓ) (c : Dev nD) (t : Fin cfg0.N)

theorem iblk_q (y : Fin 256) (x : Fin 512) : iblk m c 0 t (ix2 y x) = m ((c : Thread nD τ).loc main_arg0) (ix2 (rowOf t y) (colOf t x)) := by
  unfold rowOf colOf
  blk_ext [iblk, V, idx t]
  · show t.val % 16 * 256 + y.val = 256 * (t.val % 16) + y.val; omega
  · show t.val / 16 * 512 + x.val = 512 * (t.val / 16) + x.val; omega

theorem iblk_k (p : Fin 4096) (d : Fin 128) : iblk m c 1 t (ix2 p d) = m ((c : Thread nD τ).loc main_arg1) (ix2 p (kcol (hd t) d)) := by
  unfold kcol hd
  blk_ext [iblk, V, idx t]
  show t.val / 16 * 128 + d.val = 128 * (t.val / 16) + d.val; omega

theorem iblk_v (p : Fin 4096) (d : Fin 128) : iblk m c 2 t (ix2 p d) = m ((c : Thread nD τ).loc main_arg2) (ix2 p (kcol (hd t) d)) := by
  unfold kcol hd
  blk_ext [iblk, V, idx t]
  show t.val / 16 * 128 + d.val = 128 * (t.val / 16) + d.val; omega

theorem iblk_o (y : Fin 256) (x : Fin 512) : iblk m c 4 t (ix2 y x) = m ((c : Thread nD τ).loc main_arg4) (ix2 (rowOf t y) (colOf t x)) := by
  unfold rowOf colOf
  blk_ext [iblk, V, idx t]
  · show t.val % 16 * 256 + y.val = 256 * (t.val % 16) + y.val; omega
  · show t.val / 16 * 512 + x.val = 512 * (t.val / 16) + x.val; omega

theorem iblk_s (y : Fin 16) (x : Fin 128) : iblk m c 3 t (ix2 y x) = m ((c : Thread nD τ).loc main_arg3) (ix1 y) := by
  have e : iblk m c 3 t (ix2 y x) = V m c main_v1 (ix2 y x) := by blk_ext [iblk, idx t]
  rw [e]
  entry_read
  pointwise
  exact congrArg (m ((c : Thread nD τ).loc main_arg3)) (ext1 _ y rfl)

end Blocks

/-! The mask: the kernel's words are the positions. -/

theorem baseW_toNat (t : Fin cfg0.N) (r : Fin 2) : (baseW (grid0.coords t) (BitVec.ofNat 32 (128 * r.val))).toNat = 256 * (t.val % 16) + 128 * r.val := by
  have e : ∀ (n : Fin 16) (r : Fin 2), (Scalar.addi (Scalar.muli (BitVec.ofNat 32 n.val) 256#32) (BitVec.ofNat 32 (128 * r.val))).toNat = 256 * n.val + 128 * r.val := by decide
  unfold baseW
  rw [coords1 t]
  exact e (qb t) r

theorem keysW_toNat (t : Fin cfg0.N) (r : Fin 2) : (keysW (grid0.coords t) (BitVec.ofNat 32 (128 * r.val))).toNat = koff (t.val % 16) r.val := by
  have e : ∀ (n : Fin 16) (r : Fin 2), (Scalar.minsi 3712#32 (Scalar.maxsi 0#32 (Scalar.subi (Scalar.addi (Scalar.muli (BitVec.ofNat 32 n.val) 256#32)
    (BitVec.ofNat 32 (128 * r.val))) 128#32))).toNat = koff n.val r.val := by decide
  unfold keysW baseW
  rw [coords1 t]
  exact e (qb t) r

theorem koff_lt (n : Fin 16) (r : Fin 2) : koff n.val r.val ≤ 3712 := min_le_left _ _

/-- The row of a stacked row within its head. -/
theorem and_toNat (g : Fin 4) (a : Fin 128) : (BitVec.ofNat 32 (stack g a).val &&& 127#32).toNat = a.val := by
  rw [BitVec.toNat_and, BitVec.toNat_ofNat]
  show (128 * g.val + a.val) % 2 ^ 32 &&& 127 = a.val
  rw [show (127 : ℕ) = 2 ^ 7 - 1 from rfl, Nat.and_two_pow_sub_one_eq_mod]
  omega

theorem mask_apply (t : Fin cfg0.N) (r : Fin 2) (g : Fin 4) (a : Fin 128) (j : Fin 384) :
    maskAt (grid0.coords t) (BitVec.ofNat 32 (128 * r.val)) (ix2 (stack g a) j) = if near (pos (qb t) r a).val (key (qb t) r j).val then 1#1 else 0#1 := by
  have e : maskAt (grid0.coords t) (BitVec.ofNat 32 (128 * r.val)) (ix2 (stack g a) j)
    = IntOp.cmpi .sle (IntOp.absi ((keysW (grid0.coords t) (BitVec.ofNat 32 (128 * r.val)) + BitVec.ofNat 32 (0 * 384 + j.val))
      - (baseW (grid0.coords t) (BitVec.ofNat 32 (128 * r.val)) + (BitVec.ofNat 32 (0 * 512 + (stack g a).val) &&& 127#32)))) 128#32 := rfl
  have hk := koff_lt (qb t) r
  rw [e, zero_mul, zero_mul, zero_add, zero_add]
  have hk' : koff (t.val % 16) r.val ≤ 3712 := hk
  refine near_word (pos (qb t) r a).val (key (qb t) r j).val (lt_trans (pos (qb t) r a).isLt (by norm_num)) (lt_trans (key (qb t) r j).isLt (by norm_num)) _ _ ?_ ?_
  · rw [BitVec.toNat_add, keysW_toNat, BitVec.toNat_ofNat]
    show (koff (t.val % 16) r.val + j.val % 2 ^ 32) % 2 ^ 32 = koff (t.val % 16) r.val + j.val
    have := j.isLt
    omega
  · rw [BitVec.toNat_add, baseW_toNat, and_toNat]
    show (256 * (t.val % 16) + 128 * r.val + a.val) % 2 ^ 32 = 256 * (t.val % 16) + 128 * r.val + a.val
    omega

theorem key_injective (n : Fin 16) (r : Fin 2) : Function.Injective (key n r) := fun i j h => by
  have e : koff n.val r.val + i.val = koff n.val r.val + j.val := congrArg Fin.val h
  exact Fin.ext (by omega)

/-- Whether a key is in the window. -/
def inWin (n : Fin 16) (r : Fin 2) (p : Fin 4096) : Prop := koff n.val r.val ≤ p.val ∧ p.val < koff n.val r.val + 384

theorem exists_key {n : Fin 16} {r : Fin 2} {p : Fin 4096} (h : inWin n r p) : ∃ j, key n r j = p :=
  ⟨⟨p.val - koff n.val r.val, by have := h.1; have := h.2; omega⟩, Fin.ext (by have := h.1; show koff n.val r.val + (p.val - koff n.val r.val) = p.val; omega)⟩

/-- A key near a query of the sub-block is in its window. -/
theorem inWin_of_near {n : Fin 16} {r : Fin 2} {a : Fin 128} {p : Fin 4096} (h : near (pos n r a).val p.val) : inWin n r p := by
  have h1 : p.val ≤ 256 * n.val + 128 * r.val + a.val + 128 := h.1
  have h2 : 256 * n.val + 128 * r.val + a.val ≤ p.val + 128 := h.2
  have := p.isLt
  unfold inWin koff
  omega

/-- The sub-blocks of a grid step load the arguments' numbers. -/
theorem loads {A : Data} (m : (ℓ : Loc nD τ sig) → Buf (Elt Ideal) ℓ) (c : Dev nD)
    (H : Reads A (m ((c : Thread nD τ).loc main_arg0)) (m ((c : Thread nD τ).loc main_arg1)) (m ((c : Thread nD τ).loc main_arg2))
      (m ((c : Thread nD τ).loc main_arg3)) (m ((c : Thread nD τ).loc main_arg4))) (t : Fin cfg0.N) (r : Fin 2) :
    Tile.Loads A (hd t) (pos (qb t) r) (key (qb t) r) (insAt m c t r) where
  q g a d := by
    have e : (insAt m c t r).q g (ix2 a d) = iblk m c 0 t (ix2 (⟨128 * r.val + a.val, by omega⟩ : Fin 256) (⟨128 * g.val + d.val, by omega⟩ : Fin 512)) :=
      congrArg (iblk m c 0 t) (ext2 (n0 := 256) (n1 := 512) _ ⟨128 * r.val + a.val, by omega⟩ ⟨128 * g.val + d.val, by omega⟩
        (by show 128 * r.val + 1 * a.val = 128 * r.val + a.val; omega) (by show 128 * g.val + 1 * d.val = 128 * g.val + d.val; omega))
    rw [e, iblk_q, ← H.q]
    exact congrArg (m ((c : Thread nD τ).loc main_arg0)) (ext2 _ (pos (qb t) r a) (col (hd t) g d)
      (by show 256 * (t.val % 16) + (128 * r.val + a.val) = 256 * (t.val % 16) + 128 * r.val + a.val; omega)
      (by show 512 * (t.val / 16) + (128 * g.val + d.val) = 512 * (t.val / 16) + 128 * g.val + d.val; omega))
  k j d := by
    have e : (insAt m c t r).k (ix2 j d) = iblk m c 1 t (ix2 (key (qb t) r j) d) :=
      congrArg (iblk m c 1 t) (ext2 (n0 := 4096) (n1 := 128) _ (key (qb t) r j) d
        (by show koff (grid0.coords t 1).val r.val + 1 * j.val = koff (t.val % 16) r.val + j.val; rw [coords1]; omega) (by show 0 + 1 * d.val = _; omega))
    rw [e, iblk_k, ← H.k]
  v j d := by
    have e : (insAt m c t r).v (ix2 j d) = iblk m c 2 t (ix2 (key (qb t) r j) d) :=
      congrArg (iblk m c 2 t) (ext2 (n0 := 4096) (n1 := 128) _ (key (qb t) r j) d
        (by show koff (grid0.coords t 1).val r.val + 1 * j.val = koff (t.val % 16) r.val + j.val; rw [coords1]; omega) (by show 0 + 1 * d.val = _; omega))
    rw [e, iblk_v, ← H.v]
  s g j := by
    have e : (insAt m c t r).s g (ix2 0 j) = iblk m c 3 t (ix2 (head (hd t) g) j) :=
      congrArg (iblk m c 3 t) (ext2 (n0 := 16) (n1 := 128) _ (head (hd t) g) j
        (by show 4 * (grid0.coords t 0).val + g.val + 1 * 0 = 4 * (t.val / 16) + g.val; rw [coords0]; omega) (by show 0 + 1 * j.val = _; omega))
    rw [e, iblk_s, ← H.c]
  d g a d := by
    have e : (insAt m c t r).d g (ix2 a d) = iblk m c 4 t (ix2 (⟨128 * r.val + a.val, by omega⟩ : Fin 256) (⟨128 * g.val + d.val, by omega⟩ : Fin 512)) :=
      congrArg (iblk m c 4 t) (ext2 (n0 := 256) (n1 := 512) _ ⟨128 * r.val + a.val, by omega⟩ ⟨128 * g.val + d.val, by omega⟩
        (by show 128 * r.val + 1 * a.val = 128 * r.val + a.val; omega) (by show 128 * g.val + 1 * d.val = 128 * g.val + d.val; omega))
    rw [e, iblk_o, ← H.o]
    exact congrArg (m ((c : Thread nD τ).loc main_arg4)) (ext2 _ (pos (qb t) r a) (col (hd t) g d)
      (by show 256 * (t.val % 16) + (128 * r.val + a.val) = 256 * (t.val % 16) + 128 * r.val + a.val; omega)
      (by show 512 * (t.val / 16) + (128 * g.val + d.val) = 512 * (t.val / 16) + 128 * g.val + d.val; omega))
  mask g a j := by
    have e : (insAt m c t r).mask (ix2 (stack g a) j) = maskAt (grid0.coords t) (BitVec.ofNat 32 (128 * r.val)) (ix2 (stack g a) j) := rfl
    rw [e, mask_apply]
    by_cases h : near (pos (qb t) r a).val (key (qb t) r j).val
    · exact Or.inl ⟨h, if_pos h⟩
    · exact Or.inr ⟨h, if_neg h⟩
  inj := key_injective _ _
  cover a p h := exists_key (inWin_of_near h)

end Attention

end
-- ==== Proof.Totals.lean ====
/-
  The three accumulated results over the grid: what a grid step adds to a block at an index, and the sum of what the steps
  of a run add, which is the gradient over every query.
-/
module

public import proofs.«01_k».proof.Proof.StepReads

@[expose] public section

set_option maxRecDepth 16384

noncomputable section

namespace Attention

open Idealize.ShloMosaic hiding ix1 ix2 ix3 ix4
open Idealize.ShloMosaic.ValueIdx Idealize.ShloMosaic.TcCoe
open Idealize.SL.Sem
open scoped BigOperators
open Cert.KernelIdeal Cert.KernelIdeal.Gen

/-- A sum over positions, by block, sub-block and query. -/
theorem sum_pos {M : Type} [AddCommMonoid M] (f : Fin 4096 → M) : ∑ t, f t = ∑ n : Fin 16, ∑ r : Fin 2, ∑ a : Fin 128, f (pos n r a) := by
  rw [sum_blocks (n := 16) (m := 256) rfl f]
  refine Finset.sum_congr rfl fun n _ => ?_
  rw [sum_blocks (n := 2) (m := 128) rfl]
  exact Finset.sum_congr rfl fun r _ => Finset.sum_congr rfl fun a _ => congrArg f (Fin.ext (by
    show 256 * n.val + (128 * r.val + a.val) = 256 * n.val + 128 * r.val + a.val; omega))

/-! What one sub-block adds. -/

variable (A : Data) (h : Fin 4) (n : Fin 16) (r : Fin 2)

def tileDk (p : Fin 4096) (d : Fin 128) : ℝ := ∑ a, ∑ g, (A.row h g (pos n r a)).ds p * scale * A.q (pos n r a) h g d

def tileDv (p : Fin 4096) (d : Fin 128) : ℝ := ∑ a, ∑ g, (A.row h g (pos n r a)).p p * A.o (pos n r a) h g d

def tileDs (g : Fin 4) : ℝ := -∑ a, (A.row h g (pos n r a)).w

theorem tileDk_of_not (p : Fin 4096) (d : Fin 128) (hp : ¬inWin n r p) : tileDk A h n r p d = 0 :=
  Finset.sum_eq_zero fun a _ => Finset.sum_eq_zero fun g _ => by
    rw [(A.row h g (pos n r a)).ds_of_not p fun hn => hp (inWin_of_near hn), zero_mul, zero_mul]

theorem tileDv_of_not (p : Fin 4096) (d : Fin 128) (hp : ¬inWin n r p) : tileDv A h n r p d = 0 :=
  Finset.sum_eq_zero fun a _ => Finset.sum_eq_zero fun g _ => by
    rw [(A.row h g (pos n r a)).p_of_not p fun hn => hp (inWin_of_near hn), zero_mul]

theorem sum_tileDk (A : Data) (h : Fin 4) (p : Fin 4096) (d : Fin 128) : ∑ n, ∑ r, tileDk A h n r p d = A.dk p h d := by
  have e := sum_pos fun t => ∑ g, (A.row h g t).ds p * scale * A.q t h g d
  unfold Data.dk tileDk
  exact e.symm

theorem sum_tileDv (A : Data) (h : Fin 4) (p : Fin 4096) (d : Fin 128) : ∑ n, ∑ r, tileDv A h n r p d = A.dv p h d := by
  have e := sum_pos fun t => ∑ g, (A.row h g t).p p * A.o t h g d
  unfold Data.dv tileDv
  exact e.symm

theorem sum_tileDs (A : Data) (h : Fin 4) (g : Fin 4) : ∑ n, ∑ r, tileDs A h n r g = A.dc h g := by
  have e := sum_pos fun t => (A.row h g t).w
  unfold Data.dc tileDs
  rw [e]
  simp only [Finset.sum_neg_distrib]

/-! A block after one update. -/

/-- Rows updated by adding, and the others kept, are every row with something added, zero outside the window. -/
theorem put_add {n0 k : ℕ} (x : (⟨2, ![n0, 128]⟩ : Shape).Idx → EReal) (o : ℕ)
    (hb : ∀ a : Fin 2, (![o, 0] : Fin 2 → ℕ) a + (⟨2, ![k, 128]⟩ : Shape).size a ≤ (⟨2, ![n0, 128]⟩ : Shape).size a)
    (u : ((⟨2, ![k, 128]⟩ : Shape).Idx → EReal) → (⟨2, ![k, 128]⟩ : Shape).Idx → EReal) (f : Fin n0 → Fin 128 → ℝ) (ho : o + k ≤ n0)
    (hu : ∀ y (j : Fin k) d, u y (ix2 j d) = y (ix2 j d) + (f ⟨o + j.val, by omega⟩ d : EReal))
    (hf : ∀ p d, ¬(o ≤ p.val ∧ p.val < o + k) → f p d = 0) (p : Fin n0) (d : Fin 128) :
    VecWindow.put (s := ⟨2, ![n0, 128]⟩) x ![o, 0] (⟨2, ![k, 128]⟩ : Shape).size
      (u (VecWindow.window (s := ⟨2, ![n0, 128]⟩) x ![o, 0] (⟨2, ![k, 128]⟩ : Shape).size hb)) (ix2 p d) = x (ix2 p d) + (f p d : EReal) := by
  unfold VecWindow.put
  split_ifs with hw
  · have h0 : o ≤ p.val ∧ p.val < o + k := hw 0
    have e : (Rect.unitLocal (s := ⟨2, ![n0, 128]⟩) (off := ![o, 0]) (size := (⟨2, ![k, 128]⟩ : Shape).size) (ix2 p d) hw : (⟨2, ![k, 128]⟩ : Shape).Idx)
        = ix2 (⟨p.val - o, by omega⟩ : Fin k) d :=
      ext2 (n0 := k) (n1 := 128) _ _ _ rfl (by show d.val - 0 = d.val; omega)
    have hp : (⟨o + (p.val - o), by omega⟩ : Fin n0) = p := Fin.ext (by show o + (p.val - o) = p.val; omega)
    refine (congrArg _ e).trans ((hu _ _ _).trans ?_)
    refine congrArg₂ (· + ·) (congrArg x (ext2 _ _ _ ?_ ?_)) (by rw [hp])
    · show o + 1 * (p.val - o) = p.val; omega
    · show 0 + 1 * d.val = d.val; omega
  · rw [hf p d fun h0 => hw fun a => match a with
      | ⟨0, _⟩ => h0
      | ⟨1, _⟩ => ⟨Nat.zero_le _, by show d.val < 0 + 128; omega⟩, EReal.coe_zero, add_zero]

section Steps

variable {A} (m : (ℓ : Loc nD τ sig) → Buf (Elt Ideal) ℓ) (c : Dev nD)
  (H : Reads A (m ((c : Thread nD τ).loc main_arg0)) (m ((c : Thread nD τ).loc main_arg1)) (m ((c : Thread nD τ).loc main_arg2))
      (m ((c : Thread nD τ).loc main_arg3)) (m ((c : Thread nD τ).loc main_arg4))) (t : Fin cfg0.N)

include H

/-- What a grid step adds to the keys' gradient. -/
theorem dk_add (x : FVec Ideal S4096x128 .f32) (p : Fin 4096) (d : Fin 128) :
    keyOut (grid0.coords t) (fun r => (insAt m c t r).dk) x (ix2 p d) = x (ix2 p d) + ((∑ r, tileDk A (hd t) (qb t) r p d : ℝ) : EReal) := by
  have step : ∀ (r : Fin 2) (y : FVec Ideal S4096x128 .f32),
      VecWindow.put y ![koff (grid0.coords t 1).val r.val, 0] S384x128.size ((insAt m c t r).dk
        (VecWindow.window y ![koff (grid0.coords t 1).val r.val, 0] S384x128.size (kbox (grid0.coords t 1) r))) (ix2 p d)
        = y (ix2 p d) + (tileDk A (hd t) (qb t) r p d : EReal) := fun r y => by
    have ho : koff (grid0.coords t 1).val r.val = koff (qb t).val r.val := by rw [coords1]; rfl
    have hk := koff_lt (qb t) r
    exact put_add y _ (kbox (grid0.coords t 1) r) (insAt m c t r).dk (tileDk A (hd t) (qb t) r) (by omega)
      (fun y j d => (Tile.dk_apply (loads m c H t r) j d y).trans (congrArg (fun p => y (ix2 j d) + (tileDk A (hd t) (qb t) r p d : EReal)) (Fin.ext (by
        show koff (qb t).val r.val + j.val = koff (grid0.coords t 1).val r.val + j.val; omega))))
      (fun p d hp => tileDk_of_not A _ _ _ p d fun hw => hp (by rw [ho]; exact hw)) p d
  have e : keyOut (grid0.coords t) (fun r => (insAt m c t r).dk) x (ix2 p d) = _ := step 1 _
  rw [e]
  refine (congrArg (· + _) (step 0 x)).trans ?_
  rw [add_assoc, ← EReal.coe_add, Fin.sum_univ_two]

/-- What a grid step adds to the values' gradient. -/
theorem dv_add (x : FVec Ideal S4096x128 .f32) (p : Fin 4096) (d : Fin 128) :
    keyOut (grid0.coords t) (fun r => (insAt m c t r).dv) x (ix2 p d) = x (ix2 p d) + ((∑ r, tileDv A (hd t) (qb t) r p d : ℝ) : EReal) := by
  have step : ∀ (r : Fin 2) (y : FVec Ideal S4096x128 .f32),
      VecWindow.put y ![koff (grid0.coords t 1).val r.val, 0] S384x128.size ((insAt m c t r).dv
        (VecWindow.window y ![koff (grid0.coords t 1).val r.val, 0] S384x128.size (kbox (grid0.coords t 1) r))) (ix2 p d)
        = y (ix2 p d) + (tileDv A (hd t) (qb t) r p d : EReal) := fun r y => by
    have ho : koff (grid0.coords t 1).val r.val = koff (qb t).val r.val := by rw [coords1]; rfl
    have hk := koff_lt (qb t) r
    exact put_add y _ (kbox (grid0.coords t 1) r) (insAt m c t r).dv (tileDv A (hd t) (qb t) r) (by omega)
      (fun y j d => (Tile.dv_apply (loads m c H t r) j d y).trans (congrArg (fun p => y (ix2 j d) + (tileDv A (hd t) (qb t) r p d : EReal)) (Fin.ext (by
        show koff (qb t).val r.val + j.val = koff (grid0.coords t 1).val r.val + j.val; omega))))
      (fun p d hp => tileDv_of_not A _ _ _ p d fun hw => hp (by rw [ho]; exact hw)) p d
  have e : keyOut (grid0.coords t) (fun r => (insAt m c t r).dv) x (ix2 p d) = _ := step 1 _
  rw [e]
  refine (congrArg (· + _) (step 0 x)).trans ?_
  rw [add_assoc, ← EReal.coe_add, Fin.sum_univ_two]

/-- What a sub-block adds to row `y` of the sink's gradient through head `g`'s row. -/
def rowDs (A : Data) (t : Fin cfg0.N) (r : Fin 2) (g : Fin 4) (y : Fin 16) : ℝ := if y = head (hd t) g then tileDs A (hd t) (qb t) r g else 0

theorem dsRow_add (r : Fin 2) (g : Fin 4) (x : FVec Ideal S16x128 .f32) (y : Fin 16) (d : Fin 128) :
    dsRow (grid0.coords t) (insAt m c t r) g x (ix2 y d) = x (ix2 y d) + (rowDs A t r g y : EReal) := by
  have ho : 4 * (grid0.coords t 0).val + g.val = (head (hd t) g).val := by rw [coords0]; rfl
  have hl := (head (hd t) g).isLt
  refine put_add x _ (sbox (grid0.coords t 0) g) ((insAt m c t r).ds g) (fun y _ => rowDs A t r g y) (by omega) (fun y j d => ?_) (fun p _ hp => if_neg fun e => hp ?_) y d
  · match j with
    | ⟨0, _⟩ =>
      refine (Tile.ds_apply (loads m c H t r) g d y).trans ?_
      have e : (⟨4 * (grid0.coords t 0).val + g.val + 0, by omega⟩ : Fin 16) = head (hd t) g := Fin.ext ho
      exact congrArg (fun z : ℝ => y (ix2 0 d) + (z : EReal)) ((if_pos e).symm)
  · rw [e, ho]; omega

/-- What a grid step adds to the sink's gradient. -/
theorem ds_add (x : FVec Ideal S16x128 .f32) (y : Fin 16) (d : Fin 128) :
    dsOut (grid0.coords t) (insAt m c t) x (ix2 y d) = x (ix2 y d) + ((∑ r, ∑ g, rowDs A t r g y : ℝ) : EReal) := by
  unfold dsOut
  rw [dsRow_add m c H, dsRow_add m c H, dsRow_add m c H, dsRow_add m c H, dsRow_add m c H, dsRow_add m c H, dsRow_add m c H, dsRow_add m c H]
  simp only [add_assoc, ← EReal.coe_add, Fin.sum_univ_two, Fin.sum_univ_four]

end Steps

/-! The runs. -/

/-- A block stepped by adding, over a run of `J` steps, holds what it was reset to and the sum of what the run's steps added. -/
theorem accBy_add {s : Shape} (J : ℕ) (hJ : J = 16 ∨ J = 64) (z : s.Idx → EReal) (g : (n : ℕ) → n < cfg0.N → (s.Idx → EReal) → s.Idx → EReal)
    (f : ℕ → ℝ) (i : s.Idx) (hg : ∀ n hn x, g n hn x i = x i + (f n : EReal)) :
    ∀ (n : ℕ) (hn : n < cfg0.N), accBy J z g n hn i = z i + ((∑ k ∈ Finset.range (n % J + 1), f (n - n % J + k) : ℝ) : EReal)
  | 0, hn => by
    rw [accBy_reset J z g 0 hn (Nat.zero_mod J), hg, Nat.zero_mod]
    simp
  | n + 1, hn => by
    by_cases h : (n + 1) % J = 0
    · rw [accBy_reset J z g (n + 1) hn h, hg, h]
      simp
    · have h1 : (n + 1) % J = n % J + 1 := by rcases hJ with rfl | rfl <;> omega
      have h2 : n + 1 - (n % J + 1) = n - n % J := by omega
      have h3 : n - n % J + (n % J + 1) = n + 1 := by have := Nat.mod_le n J; omega
      rw [accBy_step J z g (n + 1) hn h, hg, h1, h2, Finset.sum_range_succ, h3, EReal.coe_add, ← add_assoc]
      exact congrArg (· + (f (n + 1) : EReal)) (accBy_add J hJ z g f i hg n _)

/-- The step of key head `h` and block `n`. -/
def stepOf (h : Fin 4) (n : Fin 16) : Fin cfg0.N := ⟨16 * h.val + n.val, by show 16 * h.val + n.val < 64; omega⟩

theorem hd_stepOf : hd (stepOf h n) = h := Fin.ext (by show (16 * h.val + n.val) / 16 = h.val; omega)
theorem qb_stepOf : qb (stepOf h n) = n := Fin.ext (by show (16 * h.val + n.val) % 16 = n.val; omega)

/-- A number per step, as a sequence. -/
def seqOf (f : Fin cfg0.N → ℝ) (k : ℕ) : ℝ := if h : k < cfg0.N then f ⟨k, h⟩ else 0

theorem seqOf_val (f : Fin cfg0.N → ℝ) (t : Fin cfg0.N) : seqOf f t.val = f t := dif_pos t.isLt

section Runs

variable {A} (m : (ℓ : Loc nD τ sig) → Buf (Elt Ideal) ℓ) (c : Dev nD)
  (H : Reads A (m ((c : Thread nD τ).loc main_arg0)) (m ((c : Thread nD τ).loc main_arg1)) (m ((c : Thread nD τ).loc main_arg2))
      (m ((c : Thread nD τ).loc main_arg3)) (m ((c : Thread nD τ).loc main_arg4)))

/-- A run of sixteen steps of one head, added up. -/
theorem run16 {s : Shape} (z : s.Idx → EReal) (g : (n : ℕ) → n < cfg0.N → (s.Idx → EReal) → s.Idx → EReal) (f : Fin cfg0.N → ℝ) (i : s.Idx) (hz : z i = 0)
    (hg : ∀ t x, g t.val t.isLt x i = x i + (f t : EReal)) (t : Fin cfg0.N) (ht : t.val % 16 = 15) :
    accBy 16 z g t.val t.isLt i = ((∑ n, f (stepOf (hd t) n) : ℝ) : EReal) := by
  rw [accBy_add 16 (Or.inl rfl) z g (seqOf f) i (fun n hn x => (hg ⟨n, hn⟩ x).trans (by rw [← seqOf_val f ⟨n, hn⟩])) t.val t.isLt, hz, zero_add, ht, Finset.sum_range]
  refine congrArg _ (Finset.sum_congr rfl fun n _ => ?_)
  rw [← seqOf_val f]
  exact congrArg (seqOf f) (by show t.val - 15 + n.val = 16 * (t.val / 16) + n.val; omega)

/-- The whole grid, added up. -/
theorem run64 {s : Shape} (z : s.Idx → EReal) (g : (n : ℕ) → n < cfg0.N → (s.Idx → EReal) → s.Idx → EReal) (f : Fin cfg0.N → ℝ) (i : s.Idx) (hz : z i = 0)
    (hg : ∀ t x, g t.val t.isLt x i = x i + (f t : EReal)) (t : Fin cfg0.N) (ht : t.val % 64 = 63) :
    accBy 64 z g t.val t.isLt i = ((∑ h, ∑ n, f (stepOf h n) : ℝ) : EReal) := by
  have hl : t.val < 64 := t.isLt
  have h0 : t.val - 63 = 0 := by omega
  rw [accBy_add 64 (Or.inr rfl) z g (seqOf f) i (fun n hn x => (hg ⟨n, hn⟩ x).trans (by rw [← seqOf_val f ⟨n, hn⟩])) t.val t.isLt, hz, zero_add, ht, h0, Finset.sum_range,
    sum_blocks (n := 4) (m := 16) rfl]
  refine congrArg _ (Finset.sum_congr rfl fun h _ => Finset.sum_congr rfl fun n _ => ?_)
  rw [← seqOf_val f]
  exact congrArg (seqOf f) (Nat.zero_add _)

theorem zero_fill {s : Shape} (i : s.Idx) : (broadcast s (Scalar.ofBits (F := Ideal) .f32 0x00000000#32) : s.Idx → EReal) i = 0 := Ideal.ofBits_zero_f32

include H

theorem dkAt_apply (t : Fin cfg0.N) (ht : t.val % 16 = 15) (p : Fin 4096) (d : Fin 128) :
    dkAt m c t.val t.isLt (ix2 p d) = (A.dk p (hd t) d : EReal) := by
  refine (run16 (s := S4096x128) (zeroK (F := Ideal)) (fun n h => keyOut (grid0.coords ⟨n, h⟩) fun r => (insAt m c ⟨n, h⟩ r).dk) (fun t => ∑ r, tileDk A (hd t) (qb t) r p d) (ix2 p d) (zero_fill (s := S4096x128) _)
    (fun t x => dk_add m c H t x p d) t ht).trans (congrArg _ ?_)
  rw [← sum_tileDk]
  exact Finset.sum_congr rfl fun n _ => by rw [hd_stepOf, qb_stepOf]

theorem dvAt_apply (t : Fin cfg0.N) (ht : t.val % 16 = 15) (p : Fin 4096) (d : Fin 128) :
    dvAt m c t.val t.isLt (ix2 p d) = (A.dv p (hd t) d : EReal) := by
  refine (run16 (s := S4096x128) (zeroK (F := Ideal)) (fun n h => keyOut (grid0.coords ⟨n, h⟩) fun r => (insAt m c ⟨n, h⟩ r).dv) (fun t => ∑ r, tileDv A (hd t) (qb t) r p d) (ix2 p d) (zero_fill (s := S4096x128) _)
    (fun t x => dv_add m c H t x p d) t ht).trans (congrArg _ ?_)
  rw [← sum_tileDv]
  exact Finset.sum_congr rfl fun n _ => by rw [hd_stepOf, qb_stepOf]

theorem head_inj {h h' g g' : Fin 4} : head h g = head h' g' ↔ h = h' ∧ g = g' := by
  refine ⟨fun e => ?_, fun e => by rw [e.1, e.2]⟩
  have e : 4 * h.val + g.val = 4 * h'.val + g'.val := congrArg Fin.val e
  exact ⟨Fin.ext (by omega), Fin.ext (by omega)⟩

theorem dsAt_apply (t : Fin cfg0.N) (ht : t.val % 64 = 63) (h g : Fin 4) (d : Fin 128) :
    dsAt m c t.val t.isLt (ix2 (head h g) d) = (A.dc h g : EReal) := by
  refine (run64 (s := S16x128) (zeroS (F := Ideal)) (fun n h => dsOut (grid0.coords ⟨n, h⟩) (insAt m c ⟨n, h⟩)) (fun t => ∑ r, ∑ g', rowDs A t r g' (head h g)) (ix2 (head h g) d) (zero_fill (s := S16x128) _)
    (fun t x => ds_add m c H t x (head h g) d) t ht).trans (congrArg _ ?_)
  rw [← sum_tileDs]
  have e : ∀ h' n r, ∑ g', rowDs A (stepOf h' n) r g' (head h g) = if h = h' then tileDs A h' n r g else 0 := fun h' n r => by
    simp only [rowDs, hd_stepOf, qb_stepOf, head_inj (H := H)]
    by_cases hh : h = h'
    · simp only [hh, true_and, if_true]
      rw [Finset.sum_ite_eq Finset.univ g, if_pos (Finset.mem_univ _)]
    · simp only [hh, false_and, if_false, Finset.sum_const_zero]
  simp only [e]
  rw [Finset.sum_eq_single h]
  · simp only [if_true]
  · intro h' _ hh
    simp only [if_neg (Ne.symm hh), Finset.sum_const_zero]
  · intro hh; exact absurd (Finset.mem_univ _) hh

end Runs

end Attention

end
-- ==== Proof.RefGrads.lean ====
/-
  The reference's gradients, read at an index: each is the real number `Proof.Dense` gives.
-/
module

public import proofs.«01_k».proof.Proof.RefScores

@[expose] public section

noncomputable section

namespace Attention

open Idealize.ShloMosaic Idealize.ShloMosaic.ValueIdx
open scoped BigOperators

/-- An index of two axes, its extents given as a list, is the pair of its coordinates. -/
def pairs (n m : ℕ) : (Shape.ofList [n, m]).Idx ≃ Fin n × Fin m where
  toFun i := (i ⟨0, Nat.zero_lt_two⟩, i ⟨1, Nat.one_lt_two⟩)
  invFun p := fun a => match a with
    | ⟨0, _⟩ => p.1
    | ⟨1, _⟩ => p.2
  left_inv i := by funext a; match a with | ⟨0, _⟩ => rfl | ⟨1, _⟩ => rfl
  right_inv _ := rfl

namespace Ref

open Cert.ReferenceIdeal Cert.ReferenceIdeal.Read Cert.ReferenceIdeal.Gen

variable {A : Data} {x0 : FVec Ideal S4096x2048 .bf16} {x1 x2 : FVec Ideal S4096x512 .bf16} {x3 : FVec Ideal S16 .f32}
  {x4 : FVec Ideal S4096x2048 .bf16} (H : Reads A x0 x1 x2 x3 x4) (h g : Fin 4) (t p : Fin 4096) (d : Fin 128)

include H

/-- The gradient of a probability. -/
theorem u68 : val_main_v68 (F := Ideal) x2 x4 (ix4 h g t p) = ((A.row h g t).u p : EReal) := by
  rw [val_main_v68_apply]
  have e : ∀ k : Fin 128, val_main_v67 (F := Ideal) x4 (lidx_main_v68 (ix4 h g t p) k) * val_main_v5 (F := Ideal) x2 (ridx_main_v68 (ix4 h g t p) k)
      = ((A.o t h g k * A.v p h k : ℝ) : EReal) := fun k => by
    rw [ext4 (lidx_main_v68 (ix4 h g t p) k) h k g t rfl rfl rfl rfl, ext3 (ridx_main_v68 (ix4 h g t p) k) p h k rfl rfl rfl, o67 H, v5 H, EReal.coe_mul]
  rw [Finset.sum_congr rfl fun k _ => e k, ← coe_sum]
  rfl

section Shifted

variable {μ : ℝ} (hμ : val_main_v28 (F := Ideal) x0 x1 x3 (ix3 h g t) = (μ : EReal))

include hμ

theorem e50 : val_main_v50 (F := Ideal) x0 x1 x3 (ix4 h g t p) = (((A.row h g t).e p * Real.exp (-μ) : ℝ) : EReal) := by
  rw [val_main_v50_apply, Ideal.hostUnary_exp_def, val_main_v49_apply, Ideal.subf_def, val_main_v48_apply, val_main_v47_apply,
    ext3 (idx_main_v47 (idx_main_v48 (ix4 h g t p))) h g t rfl rfl rfl, hμ, x19 H]
  exact (A.row h g t).exp_x μ p

theorem c54 : val_main_v54 (F := Ideal) x0 x1 x3 (ix3 h g t) = ((Real.exp (A.row h g t).c * Real.exp (-μ) : ℝ) : EReal) := by
  rw [val_main_v54_apply, Ideal.hostUnary_exp_def, val_main_v53_apply, Ideal.subf_def, val_main_v52_apply,
    ext3 (idx_main_v52 (ix3 h g t)) h g 0 rfl rfl rfl, hμ, c20 H]
  exact (A.row h g t).exp_c μ

theorem z55 : val_main_v55 (F := Ideal) x0 x1 x3 (ix3 h g t) = (((A.row h g t).z * Real.exp (-μ) : ℝ) : EReal) := by
  rw [val_main_v55_apply, Ideal.addf_def, c54 H h g t hμ, val_main_v51_apply, val_main_cst_9_apply, zero_bits, zero_add,
    Finset.sum_congr rfl fun k _ => (congrArg (val_main_v50 (F := Ideal) x0 x1 x3) (ext4 (idx_main_v51 (ix3 h g t) k) h g t k rfl rfl rfl rfl)).trans (e50 H h g t k hμ)]
  exact (A.row h g t).sum_shift μ

/-- A probability. -/
theorem p58 : val_main_v58 (F := Ideal) x0 x1 x3 (ix4 h g t p) = ((A.row h g t).p p : EReal) := by
  rw [val_main_v58_apply, Ideal.hostDivf_def, e50 H h g t p hμ, val_main_v57_apply, val_main_v56_apply,
    ext3 (idx_main_v56 (idx_main_v57 (ix4 h g t p))) h g t rfl rfl rfl, z55 H h g t hμ]
  exact (A.row h g t).div_p μ p

/-- The gradient of the denominator. -/
theorem n79 : val_main_v79 (F := Ideal) x0 x1 x2 x3 x4 (ix3 h g t) = ((-((A.row h g t).delta / ((A.row h g t).z * Real.exp (-μ))) : ℝ) : EReal) := by
  have hn := (A.row h g t).shift_ne μ
  have e : ∀ k : Fin 4096, val_main_v73 (F := Ideal) x0 x1 x2 x3 x4 (idx_main_v74 (ix3 h g t) k)
      = (((A.row h g t).u k * (1 * (1 / ((A.row h g t).z * Real.exp (-μ) * ((A.row h g t).z * Real.exp (-μ))))) * ((A.row h g t).e k * Real.exp (-μ)) : ℝ) : EReal) := fun k => by
    rw [ext4 (idx_main_v74 (ix3 h g t) k) h g t k rfl rfl rfl rfl, val_main_v73_apply, Ideal.mulf_def, e50 H h g t k hμ, val_main_v72_apply, Ideal.mulf_def,
      u68 H, val_main_v71_apply, val_main_v61_apply, Ideal.hostDivf_def, val_main_v60_apply, val_main_cst_10_apply, val_main_v59_apply, Ideal.mulf_def,
      val_main_v56_apply, ext3 (idx_main_v56 (idx_main_v71 (ix4 h g t k))) h g t rfl rfl rfl, z55 H h g t hμ, ← EReal.coe_mul, Ideal.div_coe (mul_ne_zero hn hn)]
    show _ * (Ideal.ofBits .f32 0x3F800000#32 * _) * _ = _
    rw [one_eq, ← EReal.coe_mul, ← EReal.coe_mul, ← EReal.coe_mul]
  rw [val_main_v79_apply, val_main_cst_12_apply, zero_bits, zero_add, Fin.sum_univ_one, val_main_v76_apply, Ideal.hostNegf_def, Ideal.negf_def, val_main_v75_apply,
    ext3 (idx_main_v75 (idx_main_v79 (ix3 h g t) 0)) h g t
      (by show (((h.val * 4 + g.val) * 4096 + t.val) * 1 + 0) / 16384 = h.val; omega)
      (by show (((h.val * 4 + g.val) * 4096 + t.val) * 1 + 0) / 4096 % 4 = g.val; omega)
      (by show (((h.val * 4 + g.val) * 4096 + t.val) * 1 + 0) % 4096 = t.val; omega),
    val_main_v74_apply, val_main_cst_11_apply, zero_bits, zero_add, Finset.sum_congr rfl fun k _ => e k, ← coe_sum, ← EReal.coe_neg,
    (A.row h g t).shift_delta μ]

/-- What the sink takes of the denominator's gradient. -/
theorem w80 : val_main_v80 (F := Ideal) x0 x1 x2 x3 x4 (ix3 h g t) = ((-(A.row h g t).w : ℝ) : EReal) := by
  rw [val_main_v80_apply, Ideal.mulf_def, n79 H h g t hμ, c54 H h g t hμ, ← EReal.coe_mul, (A.row h g t).shift_w μ]

/-- The gradient of a score, what the maximum passes on left out. -/
theorem ds86 : val_main_v86 (F := Ideal) x0 x1 x2 x3 x4 (ix4 h g t p) = ((A.row h g t).ds p : EReal) := by
  rw [val_main_v86_apply, Ideal.mulf_def, e50 H h g t p hμ, val_main_v85_apply, Ideal.addf_def, val_main_v84_apply,
    ext3 (idx_main_v84 (ix4 h g t p)) h g t rfl rfl rfl, n79 H h g t hμ, val_main_v78_apply, Ideal.hostDivf_def, u68 H, val_main_v77_apply, val_main_v56_apply,
    ext3 (idx_main_v56 (idx_main_v77 (ix4 h g t p))) h g t rfl rfl rfl, z55 H h g t hμ, Ideal.div_coe ((A.row h g t).shift_ne μ), ← EReal.coe_mul, ← EReal.coe_add,
    ← EReal.coe_mul, (A.row h g t).shift_ds μ p]

/-- The maximum's gradient is zero. -/
theorem m91 : val_main_v91 (F := Ideal) x0 x1 x2 x3 x4 (ix3 h g t) = 0 := by
  have e : ∀ k : Fin 4096, val_main_v87 (F := Ideal) x0 x1 x2 x3 x4 (idx_main_v88 (ix3 h g t) k) = ((-(A.row h g t).ds k : ℝ) : EReal) := fun k => by
    rw [ext4 (idx_main_v88 (ix3 h g t) k) h g t k rfl rfl rfl rfl, val_main_v87_apply, Ideal.hostNegf_def, Ideal.negf_def, ds86 H h g t k hμ, EReal.coe_neg]
  rw [val_main_v91_apply, Ideal.addf_def, val_main_v83_apply, Ideal.hostNegf_def, Ideal.negf_def, w80 H h g t hμ, val_main_v90_apply, val_main_cst_15_apply, zero_bits,
    zero_add, Fin.sum_univ_one, val_main_v89_apply,
    ext3 (idx_main_v89 (idx_main_v90 (ix3 h g t) 0)) h g t
      (by show (((h.val * 4 + g.val) * 4096 + t.val) * 1 + 0) / 16384 = h.val; omega)
      (by show (((h.val * 4 + g.val) * 4096 + t.val) * 1 + 0) / 4096 % 4 = g.val; omega)
      (by show (((h.val * 4 + g.val) * 4096 + t.val) * 1 + 0) % 4096 = t.val; omega),
    val_main_v88_apply, val_main_cst_14_apply, zero_bits, zero_add, Finset.sum_congr rfl fun k _ => e k, ← coe_sum, ← EReal.coe_neg, neg_neg, ← EReal.coe_add,
    (A.row h g t).shift_max]
  rfl

end Shifted

/-- The gradient of a scaled product of query and key. -/
theorem ds104 : val_main_v104 (F := Ideal) x0 x1 x2 x3 x4 (ix4 h g t p) = (((A.row h g t).ds p * scale : ℝ) : EReal) := by
  obtain ⟨μ, hμ⟩ := max28 H h g t
  have e : val_main_v102 (F := Ideal) x0 x1 x2 x3 x4 (ix4 h g t p) = ((A.row h g t).ds p : EReal) := by
    rw [val_main_v102_apply, mask19]
    by_cases c : near t.val p.val
    · rw [if_pos c, select_one, val_main_v100_apply, Ideal.addf_def, ds86 H h g t p hμ, val_main_v99_apply, Ideal.mulf_def, val_main_v98_apply,
        ext3 (idx_main_v98 (ix4 h g t p)) h g t rfl rfl rfl, val_main_v97_apply, Ideal.hostDivf_def, val_main_v96_apply, Ideal.mulf_def, m91 H h g t hμ, zero_mul,
        Ideal.div, if_neg (count26 H h g t), zero_mul, zero_mul, add_zero]
    · rw [if_neg c, select_zero, (A.row h g t).ds_of_not p c, val_main_call1_v0_apply, val_main_call1_cst_apply, zero_bits]
      rfl
  rw [val_main_v104_apply, Ideal.mulf_def, e, val_main_v103_apply, val_main_cst_17_apply]
  show _ * Ideal.ofBits .f32 0x3DB504F3#32 = _
  rw [scale_eq, ← EReal.coe_mul]

theorem ds105 : val_main_v105 (F := Ideal) x0 x1 x2 x3 x4 (ix4 h p t g) = (((A.row h g t).ds p * scale : ℝ) : EReal) := by
  rw [val_main_v105_apply, ext4 (idx_main_v105 (ix4 h p t g)) h g t p rfl rfl rfl rfl, ds104 H]

/-- The gradient of the queries. -/
theorem dq112 : val_main_v112 (F := Ideal) x0 x1 x2 x3 x4 (ix2 t (col h g d)) = (A.dq t h g d : EReal) := by
  rw [val_main_v112_apply, ext4 (idx_main_v112 (ix2 t (col h g d))) t h g d
      (by show (t.val * 2048 + (512 * h.val + 128 * g.val + d.val)) / 2048 = t.val; omega)
      (by show (t.val * 2048 + (512 * h.val + 128 * g.val + d.val)) / 512 % 4 = h.val; omega)
      (by show (t.val * 2048 + (512 * h.val + 128 * g.val + d.val)) / 128 % 4 = g.val; omega)
      (by show (t.val * 2048 + (512 * h.val + 128 * g.val + d.val)) % 128 = d.val; omega),
    val_main_v107_apply, ext4 (idx_main_v107 (ix4 t h g d)) h t g d rfl rfl rfl rfl, val_main_v106_apply]
  have e : ∀ k : Fin 4096, val_main_v105 (F := Ideal) x0 x1 x2 x3 x4 (lidx_main_v106 (ix4 h t g d) k) * val_main_v4 (F := Ideal) x1 (ridx_main_v106 (ix4 h t g d) k)
      = (((A.row h g t).ds k * scale * A.k k h d : ℝ) : EReal) := fun k => by
    rw [ext4 (lidx_main_v106 (ix4 h t g d) k) h k t g rfl rfl rfl rfl, ext3 (ridx_main_v106 (ix4 h t g d) k) k h d rfl rfl rfl, ds105 H, k4 H, ← EReal.coe_mul]
  rw [Finset.sum_congr rfl fun k _ => e k, ← coe_sum]
  rfl

/-- The gradient of the keys. -/
theorem dk111 : val_main_v111 (F := Ideal) x0 x1 x2 x3 x4 (ix2 p (kcol h d)) = (A.dk p h d : EReal) := by
  rw [val_main_v111_apply, ext3 (idx_main_v111 (ix2 p (kcol h d))) p h d
      (by show (p.val * 512 + (128 * h.val + d.val)) / 512 = p.val; omega)
      (by show (p.val * 512 + (128 * h.val + d.val)) / 128 % 4 = h.val; omega)
      (by show (p.val * 512 + (128 * h.val + d.val)) % 128 = d.val; omega),
    val_main_v109_apply, ext3 (idx_main_v109 (ix3 p h d)) h p d rfl rfl rfl]
  unfold val_main_v108
  simp only [Host.dotGeneral]
  rw [Ideal.dotGeneral_apply]
  refine (Equiv.sum_comp (pairs 4096 4).symm _).symm.trans ?_
  rw [Fintype.sum_prod_type, Data.dk, coe_sum]
  refine Finset.sum_congr rfl fun t _ => ?_
  rw [coe_sum]
  refine Finset.sum_congr rfl fun g _ => ?_
  refine (congrArg₂ (· * ·) ((congrArg (val_main_v105 (F := Ideal) x0 x1 x2 x3 x4) (ext4 _ h p t g ?_ ?_ ?_ ?_)).trans (ds105 H h g t p))
    ((congrArg (val_main_v3 (F := Ideal) x0) (ext4 _ t h g d ?_ ?_ ?_ ?_)).trans (q3 H h g t d))).trans (EReal.coe_mul _ _).symm
  all_goals rfl

/-- The gradient of the values. -/
theorem dv110 : val_main_v110 (F := Ideal) x0 x1 x3 x4 (ix2 p (kcol h d)) = (A.dv p h d : EReal) := by
  rw [val_main_v110_apply, ext3 (idx_main_v110 (ix2 p (kcol h d))) p h d
      (by show (p.val * 512 + (128 * h.val + d.val)) / 512 = p.val; omega)
      (by show (p.val * 512 + (128 * h.val + d.val)) / 128 % 4 = h.val; omega)
      (by show (p.val * 512 + (128 * h.val + d.val)) % 128 = d.val; omega),
    val_main_v70_apply, ext3 (idx_main_v70 (ix3 p h d)) h d p rfl rfl rfl]
  unfold val_main_v69
  simp only [Host.dotGeneral]
  rw [Ideal.dotGeneral_apply]
  refine (Equiv.sum_comp (pairs 4 4096).symm _).symm.trans ?_
  rw [Fintype.sum_prod_type, Finset.sum_comm, Data.dv, coe_sum]
  refine Finset.sum_congr rfl fun t _ => ?_
  rw [coe_sum]
  refine Finset.sum_congr rfl fun g _ => ?_
  obtain ⟨μ, hμ⟩ := max28 H h g t
  refine (congrArg₂ (· * ·) ((congrArg (val_main_v67 (F := Ideal) x4) (ext4 _ h d g t ?_ ?_ ?_ ?_)).trans (o67 H h g t d))
    ((congrArg (val_main_v58 (F := Ideal) x0 x1 x3) (ext4 _ h g t p ?_ ?_ ?_ ?_)).trans (p58 H h g t p hμ))).trans ?_
  all_goals first | rfl | exact (EReal.coe_mul _ _).symm.trans (congrArg _ (mul_comm _ _))

/-- The gradient of the sinks, the same in every column. -/
theorem dc114 (j : Fin 128) : val_main_v114 (F := Ideal) x0 x1 x2 x3 x4 (ix2 (head h g) j) = (A.dc h g : EReal) := by
  have e : ∀ t : Fin 4096, val_main_v80 (F := Ideal) x0 x1 x2 x3 x4 (ix3 h g t) = ((-(A.row h g t).w : ℝ) : EReal)
      ∧ val_main_v92 (F := Ideal) x0 x1 x2 x3 x4 (ix3 h g t) = ((0 : ℝ) : EReal) := fun t => by
    obtain ⟨μ, hμ⟩ := max28 H h g t
    exact ⟨w80 H h g t hμ, by rw [val_main_v92_apply, Ideal.mulf_def, m91 H h g t hμ, zero_mul]; rfl⟩
  have i2 : ∀ i : S4x4x1.Idx, i = ix3 h g 0 → idx_main_v82 i = ix2 h g ∧ idx_main_v94 i = ix2 h g := fun i hi => by
    subst hi
    exact ⟨ext2 _ h g (by show ((h.val * 4 + g.val) * 1 + 0) / 4 = h.val; omega) (by show ((h.val * 4 + g.val) * 1 + 0) % 4 = g.val; omega),
      ext2 _ h g (by show ((h.val * 4 + g.val) * 1 + 0) / 4 = h.val; omega) (by show ((h.val * 4 + g.val) * 1 + 0) % 4 = g.val; omega)⟩
  rw [val_main_v114_apply, val_main_v113_apply, val_main_v101_apply, val_main_v95_apply, Ideal.addf_def, val_main_v82_apply, val_main_v94_apply]
  obtain ⟨i8, i9⟩ := i2 (idx_main_v101 (idx_main_v113 (idx_main_v114 (ix2 (head h g) j)))) (ext3 _ h g 0
    (by show (4 * h.val + g.val) / 4 = h.val; omega) (by show (4 * h.val + g.val) / 1 % 4 = g.val; omega) rfl)
  rw [i8, i9, val_main_v81_apply, val_main_v93_apply, val_main_cst_13_apply, val_main_cst_16_apply, zero_bits, zero_add, zero_add,
    Finset.sum_congr rfl fun k _ => (congrArg (val_main_v80 (F := Ideal) x0 x1 x2 x3 x4) (ext3 (idx_main_v81 (ix2 h g) k) h g k rfl rfl rfl)).trans (e k).1,
    Finset.sum_congr rfl fun k _ => (congrArg (val_main_v92 (F := Ideal) x0 x1 x2 x3 x4) (ext3 (idx_main_v93 (ix2 h g) k) h g k rfl rfl rfl)).trans (e k).2,
    ← coe_sum, ← coe_sum, Finset.sum_const_zero, ← EReal.coe_add, add_zero, Finset.sum_neg_distrib]
  rfl

end Ref

end Attention

end
-- ==== Proof.Outputs.lean ====
/-
  What the kernel leaves in its four results, when its arguments are real numbers: element by element, what the reference
  computes of the same arguments.
-/
module

public import proofs.«01_k».proof.Proof.Totals
public import proofs.«01_k».proof.Proof.RefGrads

@[expose] public section

set_option maxRecDepth 16384

noncomputable section

namespace Attention

open Idealize.ShloMosaic hiding ix1 ix2 ix3 ix4
open Idealize.ShloMosaic.ValueIdx Idealize.ShloMosaic.TcCoe
open Idealize.SL.Sem Idealize.ShloMosaic.Pipeline
open scoped BigOperators
open Cert.KernelIdeal Cert.KernelIdeal.Gen

variable {A : Data} (m : (ℓ : Loc nD τ sig) → Buf (Elt Ideal) ℓ) (c : Dev nD)
  (H : Reads A (m ((c : Thread nD τ).loc main_arg0)) (m ((c : Thread nD τ).loc main_arg1)) (m ((c : Thread nD τ).loc main_arg2))
      (m ((c : Thread nD τ).loc main_arg3)) (m ((c : Thread nD τ).loc main_arg4)))

/-- The reference's four results of the kernel's arguments. -/
def refQ : S4096x2048.Idx → EReal := Cert.ReferenceIdeal.Read.val_main_v112 (F := Ideal) (m ((c : Thread nD τ).loc main_arg0))
  (m ((c : Thread nD τ).loc main_arg1)) (m ((c : Thread nD τ).loc main_arg2)) (m ((c : Thread nD τ).loc main_arg3)) (m ((c : Thread nD τ).loc main_arg4))
def refK : S4096x512.Idx → EReal := Cert.ReferenceIdeal.Read.val_main_v111 (F := Ideal) (m ((c : Thread nD τ).loc main_arg0))
  (m ((c : Thread nD τ).loc main_arg1)) (m ((c : Thread nD τ).loc main_arg2)) (m ((c : Thread nD τ).loc main_arg3)) (m ((c : Thread nD τ).loc main_arg4))
def refV : S4096x512.Idx → EReal := Cert.ReferenceIdeal.Read.val_main_v110 (F := Ideal) (m ((c : Thread nD τ).loc main_arg0))
  (m ((c : Thread nD τ).loc main_arg1)) (m ((c : Thread nD τ).loc main_arg3)) (m ((c : Thread nD τ).loc main_arg4))
def refS : S16x128.Idx → EReal := Cert.ReferenceIdeal.Read.val_main_v114 (F := Ideal) (m ((c : Thread nD τ).loc main_arg0))
  (m ((c : Thread nD τ).loc main_arg1)) (m ((c : Thread nD τ).loc main_arg2)) (m ((c : Thread nD τ).loc main_arg3)) (m ((c : Thread nD τ).loc main_arg4))

section Pieces

variable (t : Fin cfg0.N)

/-- Where an element of grid step `t`'s block of the queries' gradient lies in the result. -/
def place (y : S256x512.Idx) : S4096x2048.Idx := ix2 (rowOf t (y 0)) (colOf t (y 1))

include H

/-- Each store of the queries' gradient holds the reference's. -/
theorem piece (r : Fin 2) (g : Fin 4) (x : S128x128.Idx) :
    (insAt m c t r).dq g x = refQ m c (place t ((Rect.unit (s := S256x512) ![128 * r.val, 128 * g.val] S128x128.size (qbox r g)).emb x)) := by
  obtain ⟨a, d, rfl⟩ : ∃ a d, x = ix2 a d := ⟨x 0, x 1, ext2 _ _ _ rfl rfl⟩
  refine (Tile.dq_apply (loads m c H t r) g a d).trans ?_
  have e : place t ((Rect.unit (s := S256x512) ![128 * r.val, 128 * g.val] S128x128.size (qbox r g)).emb (ix2 a d)) = ix2 (pos (qb t) r a) (col (hd t) g d) := by
    have ht : t.val < 64 := t.isLt
    refine ext2 _ _ _ ?_ ?_
    · show 256 * (t.val % 16) + (128 * r.val + 1 * a.val) = 256 * (t.val % 16) + 128 * r.val + a.val; omega
    · show 512 * (t.val / 16) + (128 * g.val + 1 * d.val) = 512 * (t.val / 16) + 128 * g.val + d.val; omega
  rw [e]
  exact (Ref.dq112 H (hd t) g (pos (qb t) r a) d).symm

/-- So the block of the queries' gradient holds the reference's. -/
theorem dq_block (y : S256x512.Idx) : View.canon (dqPieces (insAt m c t)) y = refQ m c (place t y) := by
  refine View.canon_apply_of_pieces (Val := Elt Ideal) (e := .f32) (fun y => refQ m c (place t y)) _ (fun p hp => ?_) y (dq_cover _ y)
  simp only [dqPieces, List.mem_cons, List.not_mem_nil, or_false] at hp
  rcases hp with rfl | rfl | rfl | rfl | rfl | rfl | rfl | rfl
  · exact piece m c H t 1 3
  · exact piece m c H t 1 2
  · exact piece m c H t 1 1
  · exact piece m c H t 1 0
  · exact piece m c H t 0 3
  · exact piece m c H t 0 2
  · exact piece m c H t 0 1
  · exact piece m c H t 0 0

end Pieces

include H

theorem final_q : (dats m 0 c).arrAt 5 (cfgs 0).N = refQ m c := by
  refine (dats m 0 c).arrAt_eq_of_covers 5 _ (by decide +kernel) fun t hf y => ?_
  blk_simp
  rw [after0_5]
  refine (dq_block m c H t y).trans (congrArg _ ?_)
  blk_ext [idx t, place, rowOf, colOf] <;> omega

theorem final_k : (dats m 0 c).arrAt 6 (cfgs 0).N = refK m c := by
  refine (dats m 0 c).arrAt_eq_of_covers 6 _ (by decide +kernel) fun t hf y => ?_
  blk_simp
  rw [after0_6]
  obtain ⟨p, d, rfl⟩ : ∃ (p : Fin 4096) (d : Fin 128), y = ix2 p d := ⟨y 0, y 1, ext2 _ _ _ rfl rfl⟩
  refine (dkAt_apply m c H t ((flush0_6 t).mp hf) p d).trans ((Ref.dk111 H (hd t) p d).symm.trans (congrArg (refK m c) ?_))
  blk_ext [idx t, kcol, hd]
  show 128 * (t.val / 16) + d.val = t.val / 16 * 128 + d.val; omega

theorem final_v : (dats m 0 c).arrAt 7 (cfgs 0).N = refV m c := by
  refine (dats m 0 c).arrAt_eq_of_covers 7 _ (by decide +kernel) fun t hf y => ?_
  blk_simp
  rw [after0_7]
  obtain ⟨p, d, rfl⟩ : ∃ (p : Fin 4096) (d : Fin 128), y = ix2 p d := ⟨y 0, y 1, ext2 _ _ _ rfl rfl⟩
  refine (dvAt_apply m c H t ((flush0_7 t).mp hf) p d).trans ((Ref.dv110 H (hd t) p d).symm.trans (congrArg (refV m c) ?_))
  blk_ext [idx t, kcol, hd]
  show 128 * (t.val / 16) + d.val = t.val / 16 * 128 + d.val; omega

theorem final_s : (dats m 0 c).arrAt 8 (cfgs 0).N = refS m c := by
  refine (dats m 0 c).arrAt_eq_of_covers 8 _ (by decide +kernel) fun t hf y => ?_
  blk_simp
  rw [after0_8]
  obtain ⟨p, d, rfl⟩ : ∃ (p : Fin 16) (d : Fin 128), y = ix2 p d := ⟨y 0, y 1, ext2 _ _ _ rfl rfl⟩
  obtain ⟨h, g, rfl⟩ := exists_head p
  refine (dsAt_apply m c H t ((flush0_8 t).mp hf) h g d).trans ((Ref.dc114 H h g d).symm.trans (congrArg (refS m c) ?_))
  blk_ext [idx t] <;> omega

omit H in
/-- The kernel ends with the reference's results in its four and its arguments as they were. -/
theorem results (ρ : Dev nD → PrngReg) (A : Dev nD → Data)
    (H : ∀ c : Dev nD, Reads (A c) (m ((c : Thread nD τ).loc main_arg0)) (m ((c : Thread nD τ).loc main_arg1)) (m ((c : Thread nD τ).loc main_arg2))
      (m ((c : Thread nD τ).loc main_arg3)) (m ((c : Thread nD τ).loc main_arg4))) :
    θ_run defs (onTc (τ := τ) (main (F := Ideal))) ⟨m, fun _ => 0, ρ⟩ (fun r => ∀ c : Dev nD,
      r.2.mem ((c : Thread nD τ).loc main_v2_0) = refQ m c ∧ r.2.mem ((c : Thread nD τ).loc main_v2_1) = refK m c
      ∧ r.2.mem ((c : Thread nD τ).loc main_v2_2) = refV m c ∧ r.2.mem ((c : Thread nD τ).loc main_v2_3) = refS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨((h.1 c).1 5).trans (final_q m c (H c)), ((h.1 c).1 6).trans (final_k m c (H c)),
      ((h.1 c).1 7).trans (final_v m c (H c)), ((h.1 c).1 8).trans (final_s m c (H c)),
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).2 main_arg3 (Pipeline.mem_restRefs_of main_arg3 (by decide) (by decide))).trans (V_main_arg3 m c),
      ((h.1 c).1 4).trans (((dats m 0 c).arrAt_in 4 rfl _).trans (V_main_arg4 m c))⟩)
    (run_main m ρ)

end Attention

end
-- ==== Proof.Finite.lean ====
/-
  The precondition: where every element of the five arguments is finite, the arguments hold real numbers.
-/
module

public import proofs.«01_k».proof.Proof.RefScores
public import proofs.«01_k».proof.Pre_finite
public import Idealize.ShloMosaic.Lib.ReduceAll

@[expose] public section

set_option maxRecDepth 16384

noncomputable section

namespace Attention

open Idealize.ShloMosaic
open Idealize.ShloMosaic.ValueIdx

/-- The shape relations of the precondition. -/
instance finiteFacts : Cert.Pre_finite.Facts where
  bitsLt_bf16_f32 := by decide
  bcast_S_S4096x2048 := by decide
  reducesTo_S4096x2048_S_d0_1 := by decide
  h_S_ := by decide
  bcast_S_S4096x512 := by decide
  reducesTo_S4096x512_S_d0_1 := by decide
  bcast_S_S16 := by decide
  reducesTo_S16_S_d0 := by decide

/-- A number whose absolute value is below infinity is real. -/
theorem real_of_lt (x : EReal) (h : max x (-x) < ⊤) : x = ((x.toReal : ℝ) : EReal) := by
  refine (EReal.coe_toReal (fun e => ?_) fun e => ?_).symm
  · rw [e] at h; simp at h
  · rw [e] at h; simp at h

theorem bits_one : ∀ x y : BitVec 1, x &&& y = 1#1 → x = 1#1 ∧ y = 1#1 := by decide

/-- Both conjuncts of two bits whose `and` is 1. -/
theorem andi_one {s : Shape} (a b : IVec s 1) (i : s.Idx) (h : andi a b i = 1#1) : a i = 1#1 ∧ b i = 1#1 := by
  have h : a i &&& b i = 1#1 := h
  exact bits_one (a i) (b i) h

/-- An array whose elements' absolute values are all below infinity holds real numbers. -/
theorem real_of_reduce {s z : Shape} {dims : List (Fin s.rank)} (x : s.Idx → EReal) (w : s.Idx → EReal) (hw : ∀ i, w i = ⊤)
    (init : IVec z 1) (h : s.ReducesTo dims z) (hu : 0 < z.numel) (j : z.Idx) (hj : ∀ k : z.Idx, k = j)
    (e : Host.reduce IntOp.andi (cmpf (F := Ideal) (φ := .f32) .olt (Host.absf (F := Ideal) (φ := .f32) x) w) init h hu j = 1#1) (i : s.Idx) :
    x i = (((x i).toReal : ℝ) : EReal) := by
  have h1 := Host.reduce_andi_eq_one _ init h hu j e i (hj _)
  have h2 : BitVec.ofBool (decide (max (x i) (-(x i)) < w i)) = 1#1 := h1
  rw [hw] at h2
  refine real_of_lt _ ?_
  by_contra hn
  rw [decide_eq_false hn] at h2
  exact absurd h2 (by decide)

variable (x0 x4 : (⟨2, ![4096, 2048]⟩ : Shape).Idx → EReal) (x1 x2 : (⟨2, ![4096, 512]⟩ : Shape).Idx → EReal) (x3 : (⟨1, ![16]⟩ : Shape).Idx → EReal)

/-- The real numbers of arguments that hold such. -/
def dataOf : Data where
  q t h g d := (x0 (ix2 t (col h g d))).toReal
  k t h d := (x1 (ix2 t (kcol h d))).toReal
  v t h d := (x2 (ix2 t (kcol h d))).toReal
  c h g := (x3 (ix1 (head h g))).toReal
  o t h g d := (x4 (ix2 t (col h g d))).toReal

/-- Arguments that meet the precondition hold real numbers. -/
theorem reads_of_finite (h : Cert.Pre_finite.fn (F := Ideal) x0 x1 x2 x3 x4 = fun _ => 1#1) : Reads (dataOf x0 x4 x1 x2 x3) x0 x1 x2 x3 x4 := by
  have hz : ∀ k j : Cert.Pre_finite.S_.Idx, k = j := fun k j => funext fun a => a.elim0
  have h := congrFun h (Shape.Idx.first (by decide))
  unfold Cert.Pre_finite.fn Cert.Pre_finite.fn_part1 at h
  dsimp only at h
  obtain ⟨h, h4⟩ := andi_one _ _ _ h
  obtain ⟨h, h3⟩ := andi_one _ _ _ h
  obtain ⟨h, h2⟩ := andi_one _ _ _ h
  obtain ⟨h0, h1⟩ := andi_one _ _ _ h
  exact {
    q := fun t h g d => real_of_reduce x0 _ (fun _ => top_eq) _ _ _ _ (fun k => hz k _) h0 _
    k := fun t h d => real_of_reduce x1 _ (fun _ => top_eq) _ _ _ _ (fun k => hz k _) h1 _
    v := fun t h d => real_of_reduce x2 _ (fun _ => top_eq) _ _ _ _ (fun k => hz k _) h2 _
    c := fun h g => real_of_reduce x3 _ (fun _ => top_eq) _ _ _ _ (fun k => hz k _) h3 _
    o := fun t h g d => real_of_reduce x4 _ (fun _ => top_eq) _ _ _ _ (fun k => hz k _) h4 _ }

end Attention

end
-- ==== Proof.Algebraic.lean ====
/-
  The value claim: on arguments that are finite numbers the kernel with its mask named and the reference end with the same
  four results.
-/
module

public import proofs.«01_k».proof.Proof.Frames
public import proofs.«01_k».proof.Proof.Outputs
public import proofs.«01_k».proof.Proof.Finite
public import proofs.«01_k».proof.Proof.Gen.ReferenceIdeal.Read

@[expose] public section

noncomputable section

namespace Cert.Proof

open Idealize.ShloMosaic Idealize.SL.Sem
open Idealize.ShloMosaic.TcCoe

/-- The frames again, under the precondition. -/
theorem frame_kernelIdeal_finite : Cert.quiescent_KernelIdeal_pre_finite := fun m ρ _ => frame_kernelIdeal m ρ trivial
theorem frame_referenceIdeal_finite : Cert.quiescent_ReferenceIdeal_pre_finite := fun m ρ _ => frame_referenceIdeal m ρ trivial

/-- The kernel computes what the reference computes. -/
theorem algebraic : Cert.algebraic_KernelIdeal_ReferenceIdeal_pre_finite := fun m ρ m' ρ' hfin hargs => by
  refine ⟨Attention.refQ m, Attention.refK m, Attention.refV m, Attention.refS m,
    Attention.results m ρ (fun c => Attention.dataOf _ _ _ _ _) (fun c => Attention.reads_of_finite _ _ _ _ _ (hfin c)), ?_⟩
  refine (θ_run Cert.ReferenceIdeal.defs _ _).mono (fun r h c => ?_) (Cert.ReferenceIdeal.Value.run (F := Ideal) m' ρ')
  obtain ⟨e0, e1, e2, e3, e4⟩ := hargs c
  obtain ⟨h0, h1, h2, h3, ha⟩ := h c
  refine ⟨?_, ?_, ?_, ?_, ha⟩
  · rw [h0, Cert.ReferenceIdeal.Read.val_main_v112_eq, e0, e1, e2, e3, e4]; rfl
  · rw [h1, Cert.ReferenceIdeal.Read.val_main_v111_eq, e0, e1, e2, e3, e4]; rfl
  · rw [h2, Cert.ReferenceIdeal.Read.val_main_v110_eq, e0, e1, e3, e4]; rfl
  · rw [h3, Cert.ReferenceIdeal.Read.val_main_v114_eq, e0, e1, e2, e3, e4]; rfl

end Cert.Proof

end
-- ==== Proof.SquareDx.lean ====
/-
  The gradient of a product's rows through a square weight: the kernel writes, block by block, what the reference computes.
-/
module

public import proofs.«01_k».proof.Proof.Gen.SquareDxIdeal.Value
public import proofs.«01_k».proof.Proof.Gen.RefSquareDxIdeal.Read
public import proofs.«01_k».proof.Defs
import Idealize.ShloMosaic.Lib.Pipeline.ValueKit
import Idealize.ShloMosaic.Lib.Claim

@[expose] public section

set_option maxRecDepth 16384

noncomputable section

namespace Products.SquareDx

open Idealize.ShloMosaic Idealize.ShloMosaic.TcCoe Idealize.SL.Sem
open Idealize.ShloMosaic.Pipeline (Dat)
open Cert.SquareDxIdeal Cert.SquareDxIdeal.Gen
open Cert.RefSquareDxIdeal.Read

variable (m : (ℓ : Loc nD τ sig) → Buf (Elt Ideal) ℓ) (c : Dev nD)

/-- The reference's result of the kernel's arguments. -/
abbrev ref : S4096x2048.Idx → EReal := val_main_v4 (F := Ideal) (m ((c : Thread nD τ).loc main_arg0)) (m ((c : Thread nD τ).loc main_arg1))

/-- Which blocks a grid step works on. -/
theorem blocks : ∀ t : Fin cfg0.N, win0_0.index t = ![t.val / 2, 0] ∧ win0_1.index t = ![t.val % 2, 0] ∧ win0_2.index t = ![t.val / 2, t.val % 2] :=
  (by decide +kernel : ∀ t : Fin grid0.N, _)

/-- An element of the block a grid step stores. -/
theorem stored (t : Fin cfg0.N) (y : S1024x1024.Idx) : k0_pay1 (iblk m c 0 t) (iblk m c 1 t) y = ref m c (((cfg0.win 2).blk t).view.emb y) := by
  pointwise [k0_pay1, ref, val_main_v4, val_main_v3, val_main_v2, val_main_v1, val_main_v0]
  blk_point [iblk, V, blocks t]

/-- The result array. -/
theorem final : (dats m 0 c).arrAt 2 cfg0.N = ref m c := by
  refine (dats m 0 c).arrAt_eq_of_covers 2 _ (by decide +kernel) fun t _ y => ?_
  blk_simp
  rw [after0_2]; frame_out
  exact stored m c t y

/-- The reference runs to its end. -/
theorem frame_ref : Cert.quiescent_RefSquareDxIdeal := fun m ρ _ =>
  (θ_run Cert.RefSquareDxIdeal.defs _ _).mono (fun r h => ⟨fun c => (h c).2, sem_eq_zero_of_no_sems (by decide) r.2⟩)
    (Cert.RefSquareDxIdeal.Value.run (F := Ideal) m ρ)

/-- The kernel computes what the reference computes. -/
theorem algebraic : Cert.algebraic_SquareDxIdeal_RefSquareDxIdeal := fun m ρ m' ρ' _ args =>
  ⟨ref m, (θ_run defs _ _).mono (fun r h c => ⟨(h c).1.trans (final m c), (h c).2⟩) (Cert.SquareDxIdeal.Value.run_blocks m ρ),
    (θ_run Cert.RefSquareDxIdeal.defs _ _).mono
      (fun r h c => ⟨by rw [(h c).1, (args c).1, (args c).2]; exact val_main_v4_eq _ _, (h c).2⟩)
      (Cert.RefSquareDxIdeal.Value.run (F := Ideal) m' ρ')⟩

end Products.SquareDx

end
-- ==== Proof.DownDx.lean ====
/-
  The gradient of a product's rows through the weight of the second feed-forward product: block by block, what the reference computes.
-/
module

public import proofs.«01_k».proof.Proof.Gen.DownDxIdeal.Value
public import proofs.«01_k».proof.Proof.Gen.RefDownDxIdeal.Read
public import proofs.«01_k».proof.Defs
import Idealize.ShloMosaic.Lib.Pipeline.ValueKit
import Idealize.ShloMosaic.Lib.Claim

@[expose] public section

set_option maxRecDepth 16384

noncomputable section

namespace Products.DownDx

open Idealize.ShloMosaic Idealize.ShloMosaic.TcCoe Idealize.SL.Sem
open Idealize.ShloMosaic.Pipeline (Dat)
open Cert.DownDxIdeal Cert.DownDxIdeal.Gen
open Cert.RefDownDxIdeal.Read

variable (m : (ℓ : Loc nD τ sig) → Buf (Elt Ideal) ℓ) (c : Dev nD)

/-- The reference's result of the kernel's arguments. -/
abbrev ref : S4096x5632.Idx → EReal := val_main_v4 (F := Ideal) (m ((c : Thread nD τ).loc main_arg0)) (m ((c : Thread nD τ).loc main_arg1))

/-- Which blocks a grid step works on. -/
theorem blocks : ∀ t : Fin cfg0.N, win0_0.index t = ![t.val / 11, 0] ∧ win0_1.index t = ![t.val % 11, 0] ∧ win0_2.index t = ![t.val / 11, t.val % 11] :=
  (by decide +kernel : ∀ t : Fin grid0.N, _)

/-- An element of the block a grid step stores. -/
theorem stored (t : Fin cfg0.N) (y : S1024x512.Idx) : k0_pay1 (iblk m c 0 t) (iblk m c 1 t) y = ref m c (((cfg0.win 2).blk t).view.emb y) := by
  pointwise [k0_pay1, ref, val_main_v4, val_main_v3, val_main_v2, val_main_v1, val_main_v0]
  blk_point [iblk, V, blocks t]

/-- The result array. -/
theorem final : (dats m 0 c).arrAt 2 cfg0.N = ref m c := by
  refine (dats m 0 c).arrAt_eq_of_covers 2 _ (by decide +kernel) fun t _ y => ?_
  blk_simp
  rw [after0_2]; frame_out
  exact stored m c t y

/-- The reference runs to its end. -/
theorem frame_ref : Cert.quiescent_RefDownDxIdeal := fun m ρ _ =>
  (θ_run Cert.RefDownDxIdeal.defs _ _).mono (fun r h => ⟨fun c => (h c).2, sem_eq_zero_of_no_sems (by decide) r.2⟩)
    (Cert.RefDownDxIdeal.Value.run (F := Ideal) m ρ)

/-- The kernel computes what the reference computes. -/
theorem algebraic : Cert.algebraic_DownDxIdeal_RefDownDxIdeal := fun m ρ m' ρ' _ args =>
  ⟨ref m, (θ_run defs _ _).mono (fun r h c => ⟨(h c).1.trans (final m c), (h c).2⟩) (Cert.DownDxIdeal.Value.run_blocks m ρ),
    (θ_run Cert.RefDownDxIdeal.defs _ _).mono
      (fun r h c => ⟨by rw [(h c).1, (args c).1, (args c).2]; exact val_main_v4_eq _ _, (h c).2⟩)
      (Cert.RefDownDxIdeal.Value.run (F := Ideal) m' ρ')⟩

end Products.DownDx

end
-- ==== Proof.WideDx.lean ====
/-
  The gradient of the first feed-forward product's input: four steps add up the four quarters of each sum, and together
  they are what the reference computes.
-/
module

public import proofs.«01_k».proof.Proof.Gen.WideDxIdeal.Value
public import proofs.«01_k».proof.Proof.Gen.RefWideDxIdeal.Read
public import proofs.«01_k».proof.Defs
import Idealize.ShloMosaic.Lib.Pipeline.ValueKit
import Idealize.ShloMosaic.Lib.Claim

@[expose] public section

set_option maxRecDepth 16384

noncomputable section

namespace Products.WideDx

open Idealize.ShloMosaic Idealize.ShloMosaic.TcCoe Idealize.SL.Sem
open Idealize.ShloMosaic.Pipeline (Dat)
open Cert.WideDxIdeal Cert.WideDxIdeal.Gen
open Cert.RefWideDxIdeal.Read

variable (m : (ℓ : Loc nD τ sig) → Buf (Elt Ideal) ℓ) (c : Dev nD)

/-- The reference's result of the kernel's arguments. -/
abbrev ref : S4096x2048.Idx → EReal := val_main_v4 (F := Ideal) (m ((c : Thread nD τ).loc main_arg0)) (m ((c : Thread nD τ).loc main_arg1))

/-- Which blocks a grid step works on. -/
theorem blocks : ∀ t : Fin cfg0.N, win0_0.index t = ![t.val / 8, t.val % 4] ∧ win0_1.index t = ![t.val / 4 % 2, t.val % 4] ∧
    win0_2.index t = ![t.val / 8, t.val / 4 % 2] :=
  (by decide +kernel : ∀ t : Fin grid0.N, _)

/-- The first step of a block stores its product. -/
theorem first (t : Fin cfg0.N) (h : t.val % 4 = 0) (y : S1024x1024.Idx) :
    (outsAt0 m c t.val t.isLt).2 y = k0_pay1 (iblk m c 0 t) (iblk m c 1 t) y := by
  rw [outsAt0_A m c t h (by omega) (by omega)]
  frame_out
  pointwise [k0_pay2]

/-- Each further step adds its product to what the step before it stored. -/
theorem next (t : Fin cfg0.N) (h : ¬t.val % 4 = 0) (y : S1024x1024.Idx) :
    (outsAt0 m c t.val t.isLt).2 y =
      (outsAt0 m c (t.val - 1) (Nat.lt_of_le_of_lt (Nat.sub_le _ _) t.isLt)).2 y + k0_pay1 (iblk m c 0 t) (iblk m c 1 t) y := by
  by_cases h3 : t.val % 4 = 3
  · rw [outsAt0_C m c t h (by omega) h3]
    frame_out
    pointwise [k0_pay3]
    exact congrArg (· + _) (congrFun ((Memref.isWhole_whole cc0_scratch0).read_unread _) y)
  · rw [outsAt0_B m c t h (by omega) h3]
    frame_out
    pointwise [k0_pay3]
    exact congrArg (· + _) (congrFun ((Memref.isWhole_whole cc0_scratch0).read_unread _) y)

/-- The last step writes the sum out. -/
theorem last (t : Fin cfg0.N) (h : t.val % 4 = 3) (y : S1024x1024.Idx) :
    (outsAt0 m c t.val t.isLt).1 y = (outsAt0 m c t.val t.isLt).2 y := by
  rw [outsAt0_C m c t (by omega) (by omega) h]
  frame_out
  pointwise [k0_pay4]

/-- An element of the block the last step writes. -/
theorem stored (t : Fin cfg0.N) (h : t.val % 4 = 3) (y : S1024x1024.Idx) :
    (outsAt0 m c t.val t.isLt).1 y = ref m c (((cfg0.win 2).blk t).view.emb y) := by
  rw [last m c t h, Pipeline.eq_sum_fin_of_reset_step_apply_of_flush (fun n h => (outsAt0 m c n h).2) 4 (fun _ => 0)
    (fun t => k0_pay1 (iblk m c 0 t) (iblk m c 1 t)) (fun t h y => by rw [first m c t h, zero_add]) (fun t h y => next m c t h y) t h y,
    zero_add]
  pointwise [k0_pay1, ref, val_main_v4, val_main_v3, val_main_v2, val_main_v1, val_main_v0]
  refine Fin.sum_mul_add_congr fun s k hl => ?_
  blk_point [iblk, V, blocks t, blocks ⟨_, Pipeline.run_point_lt_of_flush t h s⟩]

/-- The result array. -/
theorem final : (dats m 0 c).arrAt 2 cfg0.N = ref m c := by
  refine (dats m 0 c).arrAt_eq_of_covers 2 _ (by decide +kernel) fun t hf y => ?_
  blk_simp
  rw [after0_2]
  exact stored m c t ((flush0_2 t).mp hf) y

/-- The reference runs to its end. -/
theorem frame_ref : Cert.quiescent_RefWideDxIdeal := fun m ρ _ =>
  (θ_run Cert.RefWideDxIdeal.defs _ _).mono (fun r h => ⟨fun c => (h c).2, sem_eq_zero_of_no_sems (by decide) r.2⟩)
    (Cert.RefWideDxIdeal.Value.run (F := Ideal) m ρ)

/-- The kernel computes what the reference computes. -/
theorem algebraic : Cert.algebraic_WideDxIdeal_RefWideDxIdeal := fun m ρ m' ρ' _ args =>
  ⟨ref m, (θ_run defs _ _).mono (fun r h c => ⟨(h c).1.trans (final m c), (h c).2⟩) (Cert.WideDxIdeal.Value.run_blocks m ρ),
    (θ_run Cert.RefWideDxIdeal.defs _ _).mono
      (fun r h c => ⟨by rw [(h c).1, (args c).1, (args c).2]; exact val_main_v4_eq _ _, (h c).2⟩)
      (Cert.RefWideDxIdeal.Value.run (F := Ideal) m' ρ')⟩

end Products.WideDx

end
-- ==== Proof.Split.lean ====
/-
  A weight gradient is kept as two halves, and a word that names the core (0 or 1) says which half comes first: the
  core's own. Here, of that word, what the three split products share.
-/
module

public import Idealize.ShloMosaic.PureOps

@[expose] public section

namespace Products.Split

open Idealize.ShloMosaic

/-- Where half `j` goes when the core is `w`: first if it is the core's own, second if not. -/
abbrev slot (w : BitVec 32) (j : Nat) : BitVec 32 := Scalar.select (Scalar.cmpi .eq (BitVec.ofNat 32 j) w) 0#32 1#32

/-- There are two places. -/
theorem slot_lt (w : BitVec 32) (j : Nat) : ∃ s : Fin 2, (slot w j).toNat = s.val := by
  unfold slot Scalar.select
  split
  · exact ⟨0, rfl⟩
  · exact ⟨1, rfl⟩

/-- An array of one word holds that word. -/
theorem one_word (x : Shape.Idx ⟨1, ![1]⟩ → BitVec 32) : ∃ w, x = fun _ => w :=
  ⟨x fun | 0 => (0 : Fin 1), funext fun i => congrArg x (funext fun | 0 => Subsingleton.elim (α := Fin 1) _ _)⟩

/-- A word that equals 0 or equals 1 names one of the two cores. -/
theorem core_of (w : BitVec 32) (h : IntOp.ori (IntOp.cmpi .eq w 0#32) (IntOp.cmpi .eq w 1#32) = 1#1) : ∃ s : Fin 2, w = BitVec.ofNat 32 s.val := by
  by_cases h0 : w = 0#32
  · exact ⟨0, h0⟩
  by_cases h1 : w = 1#32
  · exact ⟨1, h1⟩
  simp only [IntOp.ori, IntOp.cmpi, beq_eq_false_iff_ne.mpr h0, beq_eq_false_iff_ne.mpr h1] at h
  exact absurd h (by decide)

end Products.Split

end
-- ==== Proof.SquareDw.lean ====
/-
  The gradient of the square projections' weight, kept as its two halves of columns, the core's own first: block by
  block, what the reference computes.
-/
module

public import proofs.«01_k».proof.Proof.Gen.SquareDw.Frame
public import proofs.«01_k».proof.Proof.Gen.SquareDwIdeal.Frame
public import proofs.«01_k».proof.Proof.Gen.RefSquareDwIdeal.Read
public import proofs.«01_k».proof.Proof.Split
public import proofs.«01_k».proof.Defs
public import Idealize.ShloMosaic.Lib.Pipeline.ValueKit
import Idealize.ShloMosaic.Lib.Claim

@[expose] public section

set_option maxRecDepth 16384

noncomputable section

namespace Products.SquareDw

open Idealize.ShloMosaic Idealize.ShloMosaic.TcCoe Idealize.SL.Sem
open Idealize.ShloMosaic.Pipeline (Dat)
open Cert.SquareDwIdeal Cert.SquareDwIdeal.Gen
open Cert.RefSquareDwIdeal.Read
open Products.Split

/-! ## The table, and where the blocks go -/

/-- Where a grid step's block goes, whatever word the table holds. -/
theorem place {F : FTy → Type} [FloatOps F] (T : pre0.Contents (Elt F)) (i : grid0.Coords) :
    cc0_transform_2 inb_S1_S1_0 numel1_S1 T i =
      ![(slot (T.at 0 (Rect.unit (s := S1) ![0] S1.size inb_S1_S1_0) numel1_S1) (i 1).val).toNat, (i 0).val, 0] := by
  unfold cc0_transform_2
  have h0 : (i 0).val < 2 := (i 0).isLt
  have h1 : (i 1).val < 2 := (i 1).isLt
  generalize (i 0).val = a at *
  generalize (i 1).val = b at *
  interval_cases a <;> interval_cases b <;> rfl

/-- In either half every block is inside the result. -/
theorem inside (i : grid0.Coords) (s : Fin 2) :
    ∃ h : (∀ a, ((![s.val, (i 0).val, 0] : Fin 3 → Nat) a + 1) * S1x1024x1024.size a ≤ S2x2048x1024.size a), EltTy.bits .bf16 = 32 ∨
      (Rect.block (s := S2x2048x1024) S1x1024x1024.size ![s.val, (i 0).val, 0] h).WholeWords (EltTy.packing .bf16) := by
  revert i s
  decide +kernel

/-- So the blocks are inside the result whatever the table holds. -/
theorem ok {F : FTy → Type} [FloatOps F] (T : pre0.Contents (Elt F)) : ok0 T := fun i => by
  obtain ⟨s, hs⟩ := slot_lt (T.at 0 (Rect.unit (s := S1) ![0] S1.size inb_S1_S1_0) numel1_S1) (i 1).val
  rw [place, hs]
  exact inside i s

theorem ok_bits (T : Cert.SquareDw.pre0.Contents (Elt Bits)) : Cert.SquareDw.ok0 T := ok (F := Bits) T

/-- The table that holds the word `w`. -/
def table (w : BitVec 32) : pre0.Contents (Elt Ideal) := fun | ⟨0, _⟩ => fun _ => w | ⟨_ + 1, h⟩ => absurd h (by simp)

/-- On either core the blocks make up the result. -/
theorem covers (s : Fin 2) : ((cfg0 ⟨table (BitVec.ofNat 32 s.val), ok _⟩).win 2).Covers := by
  revert s
  decide +kernel

/-- Which blocks a grid step works on. -/
theorem blocks (s : Fin 2) : ∀ t : Fin grid0.N, cc0_transform_0 (grid0.coords t) = ![0, t.val / 2] ∧
    cc0_transform_1 (grid0.coords t) = ![0, t.val % 2] ∧
    cc0_transform_2 inb_S1_S1_0 numel1_S1 (table (BitVec.ofNat 32 s.val)) (grid0.coords t) = ![(s.val + t.val) % 2, t.val / 2, 0] := by
  revert s
  decide +kernel

/-! ## The reference -/

/-- The reference, element by element. -/
theorem ref_at (s : Fin 2) (x d : FVec Ideal S4096x2048 .bf16) (i : S2x2048x1024.Idx) (j : Fin 2048)
    (h : j.val = ((i 0).val + s.val) % 2 * 1024 + (i 2).val) :
    val_main_v15 (F := Ideal) x d (fun _ => BitVec.ofNat 32 s.val) i = ∑ k : Fin 4096, x (ix2 k (i 1)) * d (ix2 k j) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_c]
  have at_column (n : Nat) (hn : n < 2048) (e : j.val = n) :
      ∑ k : Fin 4096, x (ix2 k (i 1)) * d (ix2 k (⟨n, hn⟩ : Fin 2048)) = ∑ k : Fin 4096, x (ix2 k (i 1)) * d (ix2 k j) := by
    obtain rfl : j = ⟨n, hn⟩ := Fin.ext e
    rfl
  have hs : s = 0 ∨ s = 1 := by omega
  have h2 : (i 0).val < 2 := (i 0).isLt
  have hi : (i 0).val = 0 ∨ (i 0).val = 1 := by omega
  rcases hs with rfl | rfl <;> rcases hi with e | e <;> simp only [e] at h ⊢ <;>
    exact at_column _ _ (by rw [h]; simp)

/-- The reference runs to its end. -/
theorem frame_ref : Cert.quiescent_RefSquareDwIdeal := fun m ρ _ =>
  (θ_run Cert.RefSquareDwIdeal.defs _ _).mono (fun r h => ⟨fun c => (h c).2, sem_eq_zero_of_no_sems (by decide) r.2⟩)
    (Cert.RefSquareDwIdeal.Value.run (F := Ideal) m ρ)

/-! ## The kernel -/

/-- The kernel runs to its end, on bits and on reals. -/
theorem frame_kernel : Cert.quiescent_SquareDw := fun m ρ _ => Cert.SquareDw.Gen.frame m ρ (ok_bits _)

theorem frame_ideal : Cert.quiescent_SquareDwIdeal := fun m ρ _ => frame m ρ (ok _)

variable (m : (ℓ : Loc nD τ sig) → Buf (Elt Ideal) ℓ) (c : Dev nD)

/-- The reference's result of the kernel's arguments. -/
abbrev ref : S2x2048x1024.Idx → EReal := val_main_v15 (F := Ideal) (m ((c : Thread nD τ).loc main_arg0)) (m ((c : Thread nD τ).loc main_arg1))
  (m ((c : Thread nD τ).loc main_arg2))

/-- The blocks of the two operands at a grid step. -/
abbrev block0 (hO : Ok m) (t : Fin grid0.N) : S4096x1024.Idx → EReal := iblk m hO c 0 t
abbrev block1 (hO : Ok m) (t : Fin grid0.N) : S4096x1024.Idx → EReal := iblk m hO c 1 t

/-- An element of a block, at its place in the operand. -/
theorem read0 (hO : Ok m) (t : Fin grid0.N) (x : S4096x1024.Idx) (i : S4096x2048.Idx)
    (h : ∀ a, (i a).val = cc0_transform_0 (grid0.coords t) a * S4096x1024.size a + (x a).val) :
    block0 m c hO t x = m ((c : Thread nD τ).loc main_arg0) i :=
  congrArg (m ((c : Thread nD τ).loc main_arg0))
    (funext fun a => Fin.ext ((Pipeline.Window.rect_emb_val ((cfgM m hO).win 0) t x a rfl).trans (h a).symm))

theorem read1 (hO : Ok m) (t : Fin grid0.N) (x : S4096x1024.Idx) (i : S4096x2048.Idx)
    (h : ∀ a, (i a).val = cc0_transform_1 (grid0.coords t) a * S4096x1024.size a + (x a).val) :
    block1 m c hO t x = m ((c : Thread nD τ).loc main_arg1) i :=
  congrArg (m ((c : Thread nD τ).loc main_arg1))
    (funext fun a => Fin.ext ((Pipeline.Window.rect_emb_val ((cfgM m hO).win 1) t x a rfl).trans (h a).symm))

/-- The place in the result of an element of a stored block. -/
theorem written (hO : Ok m) (t : Fin grid0.N) (y : S1x1024x1024.Idx) (a : Fin 3) :
    ((((cfgM m hO).win 2).blk t).view.emb y a).val =
      cc0_transform_2 inb_S1_S1_0 numel1_S1 (tbl m) (grid0.coords t) a * S1x1024x1024.size a + (y a).val :=
  Pipeline.Window.rect_emb_val ((cfgM m hO).win 2) t y a rfl

/-- What one run of the body stores. -/
theorem body (i : grid0.Coords) (a4 : Memref sig .tc .vmem S4096x1024 .bf16) (h4 : a4.IsWhole) (a5 : Memref sig .tc .vmem S4096x1024 .bf16)
    (h5 : a5.IsWhole) (a6 : Memref sig .tc .vmem S1x1024x1024 .bf16) (h6 : a6.IsWhole) (x d : Vec Ideal S4096x1024 .bf16)
    (T : TbBuf0 (F := Ideal) c tbM0_0) (y : S1x1024x1024.Idx) :
    out0_A_2 (F := Ideal) c i a4 h4 a5 h5 a6 h6 x d T y = ∑ k : Fin 4096, x (ix2 k (y 1)) * d (ix2 k (y 2)) := by
  frame_out
  pointwise [k0_pay1]

/-- An element of the block a grid step stores, at its place in the result. -/
theorem stored (hO : Ok m) (s : Fin 2) (t : Fin grid0.N) (y : S1x1024x1024.Idx) (i : S2x2048x1024.Idx)
    (at_i : ∀ a : Fin 3, (i a).val = (![(s.val + t.val) % 2, t.val / 2, 0] : Fin 3 → Nat) a * S1x1024x1024.size a + (y a).val) :
    ∑ k : Fin 4096, block0 m c hO t (ix2 k (y 1)) * block1 m c hO t (ix2 k (y 2)) =
      val_main_v15 (F := Ideal) (m ((c : Thread nD τ).loc main_arg0)) (m ((c : Thread nD τ).loc main_arg1)) (fun _ => BitVec.ofNat 32 s.val) i := by
  have e0 : (i 0).val = (s.val + t.val) % 2 * 1 + (y 0).val := at_i 0
  have e1 : (i 1).val = t.val / 2 * 1024 + (y 1).val := at_i 1
  have e2 : (i 2).val = 0 * 1024 + (y 2).val := at_i 2
  have y0 : (y 0).val < 1 := (y 0).isLt
  have y2 : (y 2).val < 1024 := (y 2).isLt
  have ht : t.val < 4 := t.isLt
  rw [ref_at s _ _ i ⟨t.val % 2 * 1024 + (y 2).val, by omega⟩ (by show t.val % 2 * 1024 + (y 2).val = _; omega)]
  refine Finset.sum_congr rfl fun k _ => congrArg₂ (· * ·) (read0 m c hO t _ _ fun a => ?_) (read1 m c hO t _ _ fun a => ?_)
  · rw [(blocks s t).1]
    match a with
    | 0 => exact (Nat.zero_add _).symm.trans (congrArg (· + k.val) (Nat.zero_mul 4096).symm)
    | 1 => exact e1
  · rw [(blocks s t).2.1]
    match a with
    | 0 => exact (Nat.zero_add _).symm.trans (congrArg (· + k.val) (Nat.zero_mul 4096).symm)
    | 1 => rfl

/-- The result array. -/
theorem final (hO : Ok m) (s : Fin 2) (hs : tbl m = table (BitVec.ofNat 32 s.val)) : (dats m hO 0 c).arrAt 2 (cfgM m hO).N = ref m c := by
  have word : m ((c : Thread nD τ).loc main_arg2) = fun _ => BitVec.ofNat 32 s.val := by
    obtain rfl : c = 0 := Subsingleton.elim _ _
    exact congrFun hs 0
  refine (dats m hO 0 c).arrAt_eq_of_covers 2 _ ?_ fun t _ y => ?_
  · show ((cfg0 (adm m hO)).win 2).Covers
    rw [show adm m hO = ⟨table (BitVec.ofNat 32 s.val), ok _⟩ from Subtype.ext hs]
    exact covers s
  blk_simp
  rw [after0_2, ref, word]
  refine (body c _ _ _ _ _ _ _ _ _ _ y).trans (stored m c hO s t y _ fun a => ?_)
  rw [← (blocks s t).2.2, ← hs]
  exact written m hO t y a

/-! ## The claim -/

/-- The shape relation of the precondition. -/
instance coreFacts : Cert.Pre_square_core.Facts where
  shapeCasts_S1_S_ := by decide

/-- The precondition says which core it is. -/
theorem core (h : Cert.Pre_SquareDwIdeal_square_core m) : ∃ s : Fin 2, tbl m = table (BitVec.ofNat 32 s.val) := by
  obtain ⟨w, hw⟩ := one_word (m (((0 : Dev nD) : Thread nD τ).loc main_arg2))
  have e := congrFun (h 0) (fun a => a.elim0)
  rw [hw] at e
  obtain ⟨s, rfl⟩ := core_of w e
  refine ⟨s, funext fun j => ?_⟩
  match j with
  | ⟨0, _⟩ => exact hw

/-- The kernel computes what the reference computes, on either core. -/
theorem algebraic : Cert.algebraic_SquareDwIdeal_RefSquareDwIdeal_pre_square_core := fun m ρ m' ρ' h args => by
  obtain ⟨s, hs⟩ := core m h
  exact ⟨ref m, (θ_run defs _ _).mono (fun r h c => ⟨((h.1 c).1 2).trans (final m c (ok _) s hs), h.2 c⟩)
      (θ_run_and (run_main m ρ (ok _)) (unchanged m ρ (ok _))),
    (θ_run Cert.RefSquareDwIdeal.defs _ _).mono
      (fun r h c => ⟨by rw [(h c).1, (args c).1, (args c).2.1, (args c).2.2]; exact val_main_v15_eq _ _ _, (h c).2⟩)
      (Cert.RefSquareDwIdeal.Value.run (F := Ideal) m' ρ')⟩

end Products.SquareDw

end
-- ==== Proof.DownDw.lean ====
/-
  The gradient of the weight of the feed-forward block's second product, kept as its two halves of columns, the core's own first: block by
  block, what the reference computes.
-/
module

public import proofs.«01_k».proof.Proof.Gen.DownDw.Frame
public import proofs.«01_k».proof.Proof.Gen.DownDwIdeal.Frame
public import proofs.«01_k».proof.Proof.Gen.RefDownDwIdeal.Read
public import proofs.«01_k».proof.Proof.Split
public import proofs.«01_k».proof.Defs
public import Idealize.ShloMosaic.Lib.Pipeline.ValueKit
import Idealize.ShloMosaic.Lib.Claim

@[expose] public section

set_option maxRecDepth 16384

noncomputable section

namespace Products.DownDw

open Idealize.ShloMosaic Idealize.ShloMosaic.TcCoe Idealize.SL.Sem
open Idealize.ShloMosaic.Pipeline (Dat)
open Cert.DownDwIdeal Cert.DownDwIdeal.Gen
open Cert.RefDownDwIdeal.Read
open Products.Split

/-! ## The table, and where the blocks go -/

/-- Where a grid step's block goes, whatever word the table holds. -/
theorem place {F : FTy → Type} [FloatOps F] (T : pre0.Contents (Elt F)) (i : grid0.Coords) :
    cc0_transform_2 inb_S1_S1_0 numel1_S1 T i =
      ![(slot (T.at 0 (Rect.unit (s := S1) ![0] S1.size inb_S1_S1_0) numel1_S1) (i 1).val).toNat, (i 0).val, 0] := by
  unfold cc0_transform_2
  have h0 : (i 0).val < 11 := (i 0).isLt
  have h1 : (i 1).val < 2 := (i 1).isLt
  generalize (i 0).val = a at *
  generalize (i 1).val = b at *
  interval_cases a <;> interval_cases b <;> rfl

/-- In either half every block is inside the result. -/
theorem inside (i : grid0.Coords) (s : Fin 2) :
    ∃ h : (∀ a, ((![s.val, (i 0).val, 0] : Fin 3 → Nat) a + 1) * S1x512x1024.size a ≤ S2x5632x1024.size a), EltTy.bits .bf16 = 32 ∨
      (Rect.block (s := S2x5632x1024) S1x512x1024.size ![s.val, (i 0).val, 0] h).WholeWords (EltTy.packing .bf16) := by
  revert i s
  decide +kernel

/-- So the blocks are inside the result whatever the table holds. -/
theorem ok {F : FTy → Type} [FloatOps F] (T : pre0.Contents (Elt F)) : ok0 T := fun i => by
  obtain ⟨s, hs⟩ := slot_lt (T.at 0 (Rect.unit (s := S1) ![0] S1.size inb_S1_S1_0) numel1_S1) (i 1).val
  rw [place, hs]
  exact inside i s

theorem ok_bits (T : Cert.DownDw.pre0.Contents (Elt Bits)) : Cert.DownDw.ok0 T := ok (F := Bits) T

/-- The table that holds the word `w`. -/
def table (w : BitVec 32) : pre0.Contents (Elt Ideal) := fun | ⟨0, _⟩ => fun _ => w | ⟨_ + 1, h⟩ => absurd h (by simp)

/-- On either core the blocks make up the result. -/
theorem covers (s : Fin 2) : ((cfg0 ⟨table (BitVec.ofNat 32 s.val), ok _⟩).win 2).Covers := by
  revert s
  decide +kernel

/-- Which blocks a grid step works on. -/
theorem blocks (s : Fin 2) : ∀ t : Fin grid0.N, cc0_transform_0 (grid0.coords t) = ![0, t.val / 2] ∧
    cc0_transform_1 (grid0.coords t) = ![0, t.val % 2] ∧
    cc0_transform_2 inb_S1_S1_0 numel1_S1 (table (BitVec.ofNat 32 s.val)) (grid0.coords t) = ![(s.val + t.val) % 2, t.val / 2, 0] := by
  revert s
  decide +kernel

/-! ## The reference -/

/-- The reference, element by element. -/
theorem ref_at (s : Fin 2) (x : FVec Ideal S4096x5632 .bf16) (d : FVec Ideal S4096x2048 .bf16) (i : S2x5632x1024.Idx) (j : Fin 2048)
    (h : j.val = ((i 0).val + s.val) % 2 * 1024 + (i 2).val) :
    val_main_v15 (F := Ideal) x d (fun _ => BitVec.ofNat 32 s.val) i = ∑ k : Fin 4096, x (ix2 k (i 1)) * d (ix2 k j) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_c]
  have at_column (n : Nat) (hn : n < 2048) (e : j.val = n) :
      ∑ k : Fin 4096, x (ix2 k (i 1)) * d (ix2 k (⟨n, hn⟩ : Fin 2048)) = ∑ k : Fin 4096, x (ix2 k (i 1)) * d (ix2 k j) := by
    obtain rfl : j = ⟨n, hn⟩ := Fin.ext e
    rfl
  have hs : s = 0 ∨ s = 1 := by omega
  have h2 : (i 0).val < 2 := (i 0).isLt
  have hi : (i 0).val = 0 ∨ (i 0).val = 1 := by omega
  rcases hs with rfl | rfl <;> rcases hi with e | e <;> simp only [e] at h ⊢ <;>
    exact at_column _ _ (by rw [h]; simp)

/-- The reference runs to its end. -/
theorem frame_ref : Cert.quiescent_RefDownDwIdeal := fun m ρ _ =>
  (θ_run Cert.RefDownDwIdeal.defs _ _).mono (fun r h => ⟨fun c => (h c).2, sem_eq_zero_of_no_sems (by decide) r.2⟩)
    (Cert.RefDownDwIdeal.Value.run (F := Ideal) m ρ)

/-! ## The kernel -/

/-- The kernel runs to its end, on bits and on reals. -/
theorem frame_kernel : Cert.quiescent_DownDw := fun m ρ _ => Cert.DownDw.Gen.frame m ρ (ok_bits _)

theorem frame_ideal : Cert.quiescent_DownDwIdeal := fun m ρ _ => frame m ρ (ok _)

variable (m : (ℓ : Loc nD τ sig) → Buf (Elt Ideal) ℓ) (c : Dev nD)

/-- The reference's result of the kernel's arguments. -/
abbrev ref : S2x5632x1024.Idx → EReal := val_main_v15 (F := Ideal) (m ((c : Thread nD τ).loc main_arg0)) (m ((c : Thread nD τ).loc main_arg1))
  (m ((c : Thread nD τ).loc main_arg2))

/-- The blocks of the two operands at a grid step. -/
abbrev block0 (hO : Ok m) (t : Fin grid0.N) : S4096x512.Idx → EReal := iblk m hO c 0 t
abbrev block1 (hO : Ok m) (t : Fin grid0.N) : S4096x1024.Idx → EReal := iblk m hO c 1 t

/-- An element of a block, at its place in the operand. -/
theorem read0 (hO : Ok m) (t : Fin grid0.N) (x : S4096x512.Idx) (i : S4096x5632.Idx)
    (h : ∀ a, (i a).val = cc0_transform_0 (grid0.coords t) a * S4096x512.size a + (x a).val) :
    block0 m c hO t x = m ((c : Thread nD τ).loc main_arg0) i :=
  congrArg (m ((c : Thread nD τ).loc main_arg0))
    (funext fun a => Fin.ext ((Pipeline.Window.rect_emb_val ((cfgM m hO).win 0) t x a rfl).trans (h a).symm))

theorem read1 (hO : Ok m) (t : Fin grid0.N) (x : S4096x1024.Idx) (i : S4096x2048.Idx)
    (h : ∀ a, (i a).val = cc0_transform_1 (grid0.coords t) a * S4096x1024.size a + (x a).val) :
    block1 m c hO t x = m ((c : Thread nD τ).loc main_arg1) i :=
  congrArg (m ((c : Thread nD τ).loc main_arg1))
    (funext fun a => Fin.ext ((Pipeline.Window.rect_emb_val ((cfgM m hO).win 1) t x a rfl).trans (h a).symm))

/-- The place in the result of an element of a stored block. -/
theorem written (hO : Ok m) (t : Fin grid0.N) (y : S1x512x1024.Idx) (a : Fin 3) :
    ((((cfgM m hO).win 2).blk t).view.emb y a).val =
      cc0_transform_2 inb_S1_S1_0 numel1_S1 (tbl m) (grid0.coords t) a * S1x512x1024.size a + (y a).val :=
  Pipeline.Window.rect_emb_val ((cfgM m hO).win 2) t y a rfl

/-- What one run of the body stores. -/
theorem body (i : grid0.Coords) (a4 : Memref sig .tc .vmem S4096x512 .bf16) (h4 : a4.IsWhole) (a5 : Memref sig .tc .vmem S4096x1024 .bf16)
    (h5 : a5.IsWhole) (a6 : Memref sig .tc .vmem S1x512x1024 .bf16) (h6 : a6.IsWhole) (x : Vec Ideal S4096x512 .bf16) (d : Vec Ideal S4096x1024 .bf16)
    (T : TbBuf0 (F := Ideal) c tbM0_0) (y : S1x512x1024.Idx) :
    out0_A_2 (F := Ideal) c i a4 h4 a5 h5 a6 h6 x d T y = ∑ k : Fin 4096, x (ix2 k (y 1)) * d (ix2 k (y 2)) := by
  frame_out
  pointwise [k0_pay1]

/-- An element of the block a grid step stores, at its place in the result. -/
theorem stored (hO : Ok m) (s : Fin 2) (t : Fin grid0.N) (y : S1x512x1024.Idx) (i : S2x5632x1024.Idx)
    (at_i : ∀ a : Fin 3, (i a).val = (![(s.val + t.val) % 2, t.val / 2, 0] : Fin 3 → Nat) a * S1x512x1024.size a + (y a).val) :
    ∑ k : Fin 4096, block0 m c hO t (ix2 k (y 1)) * block1 m c hO t (ix2 k (y 2)) =
      val_main_v15 (F := Ideal) (m ((c : Thread nD τ).loc main_arg0)) (m ((c : Thread nD τ).loc main_arg1)) (fun _ => BitVec.ofNat 32 s.val) i := by
  have e0 : (i 0).val = (s.val + t.val) % 2 * 1 + (y 0).val := at_i 0
  have e1 : (i 1).val = t.val / 2 * 512 + (y 1).val := at_i 1
  have e2 : (i 2).val = 0 * 1024 + (y 2).val := at_i 2
  have y0 : (y 0).val < 1 := (y 0).isLt
  have y2 : (y 2).val < 1024 := (y 2).isLt
  have ht : t.val < 22 := t.isLt
  rw [ref_at s _ _ i ⟨t.val % 2 * 1024 + (y 2).val, by omega⟩ (by show t.val % 2 * 1024 + (y 2).val = _; omega)]
  refine Finset.sum_congr rfl fun k _ => congrArg₂ (· * ·) (read0 m c hO t _ _ fun a => ?_) (read1 m c hO t _ _ fun a => ?_)
  · rw [(blocks s t).1]
    match a with
    | 0 => exact (Nat.zero_add _).symm.trans (congrArg (· + k.val) (Nat.zero_mul 4096).symm)
    | 1 => exact e1
  · rw [(blocks s t).2.1]
    match a with
    | 0 => exact (Nat.zero_add _).symm.trans (congrArg (· + k.val) (Nat.zero_mul 4096).symm)
    | 1 => rfl

/-- The result array. -/
theorem final (hO : Ok m) (s : Fin 2) (hs : tbl m = table (BitVec.ofNat 32 s.val)) : (dats m hO 0 c).arrAt 2 (cfgM m hO).N = ref m c := by
  have word : m ((c : Thread nD τ).loc main_arg2) = fun _ => BitVec.ofNat 32 s.val := by
    obtain rfl : c = 0 := Subsingleton.elim _ _
    exact congrFun hs 0
  refine (dats m hO 0 c).arrAt_eq_of_covers 2 _ ?_ fun t _ y => ?_
  · show ((cfg0 (adm m hO)).win 2).Covers
    rw [show adm m hO = ⟨table (BitVec.ofNat 32 s.val), ok _⟩ from Subtype.ext hs]
    exact covers s
  blk_simp
  rw [after0_2, ref, word]
  refine (body c _ _ _ _ _ _ _ _ _ _ y).trans (stored m c hO s t y _ fun a => ?_)
  rw [← (blocks s t).2.2, ← hs]
  exact written m hO t y a

/-! ## The claim -/

/-- The shape relation of the precondition. -/
instance coreFacts : Cert.Pre_down_core.Facts where
  shapeCasts_S1_S_ := by decide

/-- The precondition says which core it is. -/
theorem core (h : Cert.Pre_DownDwIdeal_down_core m) : ∃ s : Fin 2, tbl m = table (BitVec.ofNat 32 s.val) := by
  obtain ⟨w, hw⟩ := one_word (m (((0 : Dev nD) : Thread nD τ).loc main_arg2))
  have e := congrFun (h 0) (fun a => a.elim0)
  rw [hw] at e
  obtain ⟨s, rfl⟩ := core_of w e
  refine ⟨s, funext fun j => ?_⟩
  match j with
  | ⟨0, _⟩ => exact hw

/-- The kernel computes what the reference computes, on either core. -/
theorem algebraic : Cert.algebraic_DownDwIdeal_RefDownDwIdeal_pre_down_core := fun m ρ m' ρ' h args => by
  obtain ⟨s, hs⟩ := core m h
  exact ⟨ref m, (θ_run defs _ _).mono (fun r h c => ⟨((h.1 c).1 2).trans (final m c (ok _) s hs), h.2 c⟩)
      (θ_run_and (run_main m ρ (ok _)) (unchanged m ρ (ok _))),
    (θ_run Cert.RefDownDwIdeal.defs _ _).mono
      (fun r h c => ⟨by rw [(h c).1, (args c).1, (args c).2.1, (args c).2.2]; exact val_main_v15_eq _ _ _, (h c).2⟩)
      (Cert.RefDownDwIdeal.Value.run (F := Ideal) m' ρ')⟩

end Products.DownDw

end
-- ==== Proof.WideDw.lean ====
/-
  The gradient of the wide products' weight, kept as its two halves of rows, the core's own first: block by
  block, what the reference computes.
-/
module

public import proofs.«01_k».proof.Proof.Gen.WideDw.Frame
public import proofs.«01_k».proof.Proof.Gen.WideDwIdeal.Frame
public import proofs.«01_k».proof.Proof.Gen.RefWideDwIdeal.Read
public import proofs.«01_k».proof.Proof.Split
public import proofs.«01_k».proof.Defs
public import Idealize.ShloMosaic.Lib.Pipeline.ValueKit
import Idealize.ShloMosaic.Lib.Claim

@[expose] public section

set_option maxRecDepth 16384

noncomputable section

namespace Products.WideDw

open Idealize.ShloMosaic Idealize.ShloMosaic.TcCoe Idealize.SL.Sem
open Idealize.ShloMosaic.Pipeline (Dat)
open Cert.WideDwIdeal Cert.WideDwIdeal.Gen
open Cert.RefWideDwIdeal.Read
open Products.Split

/-! ## The table, and where the blocks go -/

/-- Where a grid step's block goes, whatever word the table holds. -/
theorem place {F : FTy → Type} [FloatOps F] (T : pre0.Contents (Elt F)) (i : grid0.Coords) :
    cc0_transform_2 inb_S1_S1_0 numel1_S1 T i =
      ![(slot (T.at 0 (Rect.unit (s := S1) ![0] S1.size inb_S1_S1_0) numel1_S1) (i 0).val).toNat, 0, (i 1).val] := by
  unfold cc0_transform_2
  have h0 : (i 0).val < 2 := (i 0).isLt
  have h1 : (i 1).val < 11 := (i 1).isLt
  generalize (i 0).val = a at *
  generalize (i 1).val = b at *
  interval_cases a <;> interval_cases b <;> rfl

/-- In either half every block is inside the result. -/
theorem inside (i : grid0.Coords) (s : Fin 2) :
    ∃ h : (∀ a, ((![s.val, 0, (i 1).val] : Fin 3 → Nat) a + 1) * S1x1024x1024.size a ≤ S2x1024x11264.size a), EltTy.bits .bf16 = 32 ∨
      (Rect.block (s := S2x1024x11264) S1x1024x1024.size ![s.val, 0, (i 1).val] h).WholeWords (EltTy.packing .bf16) := by
  revert i s
  decide +kernel

/-- So the blocks are inside the result whatever the table holds. -/
theorem ok {F : FTy → Type} [FloatOps F] (T : pre0.Contents (Elt F)) : ok0 T := fun i => by
  obtain ⟨s, hs⟩ := slot_lt (T.at 0 (Rect.unit (s := S1) ![0] S1.size inb_S1_S1_0) numel1_S1) (i 0).val
  rw [place, hs]
  exact inside i s

theorem ok_bits (T : Cert.WideDw.pre0.Contents (Elt Bits)) : Cert.WideDw.ok0 T := ok (F := Bits) T

/-- The table that holds the word `w`. -/
def table (w : BitVec 32) : pre0.Contents (Elt Ideal) := fun | ⟨0, _⟩ => fun _ => w | ⟨_ + 1, h⟩ => absurd h (by simp)

/-- On either core the blocks make up the result. -/
theorem covers (s : Fin 2) : ((cfg0 ⟨table (BitVec.ofNat 32 s.val), ok _⟩).win 2).Covers := by
  revert s
  decide +kernel

/-- Which blocks a grid step works on. -/
theorem blocks (s : Fin 2) : ∀ t : Fin grid0.N, cc0_transform_0 (grid0.coords t) = ![0, t.val / 11] ∧
    cc0_transform_1 (grid0.coords t) = ![0, t.val % 11] ∧
    cc0_transform_2 inb_S1_S1_0 numel1_S1 (table (BitVec.ofNat 32 s.val)) (grid0.coords t) = ![(s.val + t.val / 11) % 2, 0, t.val % 11] := by
  revert s
  decide +kernel

/-! ## The reference -/

/-- The reference, element by element. -/
theorem ref_at (s : Fin 2) (x : FVec Ideal S4096x2048 .bf16) (d : FVec Ideal S4096x11264 .bf16) (i : S2x1024x11264.Idx) (j : Fin 2048)
    (h : j.val = ((i 0).val + s.val) % 2 * 1024 + (i 1).val) :
    val_main_v15 (F := Ideal) x d (fun _ => BitVec.ofNat 32 s.val) i = ∑ k : Fin 4096, x (ix2 k j) * d (ix2 k (i 2)) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_c]
  have at_row (n : Nat) (hn : n < 2048) (e : j.val = n) :
      ∑ k : Fin 4096, x (ix2 k (⟨n, hn⟩ : Fin 2048)) * d (ix2 k (i 2)) = ∑ k : Fin 4096, x (ix2 k j) * d (ix2 k (i 2)) := by
    obtain rfl : j = ⟨n, hn⟩ := Fin.ext e
    rfl
  have hs : s = 0 ∨ s = 1 := by omega
  have h2 : (i 0).val < 2 := (i 0).isLt
  have hi : (i 0).val = 0 ∨ (i 0).val = 1 := by omega
  rcases hs with rfl | rfl <;> rcases hi with e | e <;> simp only [e] at h ⊢ <;>
    exact at_row _ _ (by rw [h]; simp)

/-- The reference runs to its end. -/
theorem frame_ref : Cert.quiescent_RefWideDwIdeal := fun m ρ _ =>
  (θ_run Cert.RefWideDwIdeal.defs _ _).mono (fun r h => ⟨fun c => (h c).2, sem_eq_zero_of_no_sems (by decide) r.2⟩)
    (Cert.RefWideDwIdeal.Value.run (F := Ideal) m ρ)

/-! ## The kernel -/

/-- The kernel runs to its end, on bits and on reals. -/
theorem frame_kernel : Cert.quiescent_WideDw := fun m ρ _ => Cert.WideDw.Gen.frame m ρ (ok_bits _)

theorem frame_ideal : Cert.quiescent_WideDwIdeal := fun m ρ _ => frame m ρ (ok _)

variable (m : (ℓ : Loc nD τ sig) → Buf (Elt Ideal) ℓ) (c : Dev nD)

/-- The reference's result of the kernel's arguments. -/
abbrev ref : S2x1024x11264.Idx → EReal := val_main_v15 (F := Ideal) (m ((c : Thread nD τ).loc main_arg0)) (m ((c : Thread nD τ).loc main_arg1))
  (m ((c : Thread nD τ).loc main_arg2))

/-- The blocks of the two operands at a grid step. -/
abbrev block0 (hO : Ok m) (t : Fin grid0.N) : S4096x1024.Idx → EReal := iblk m hO c 0 t
abbrev block1 (hO : Ok m) (t : Fin grid0.N) : S4096x1024.Idx → EReal := iblk m hO c 1 t

/-- An element of a block, at its place in the operand. -/
theorem read0 (hO : Ok m) (t : Fin grid0.N) (x : S4096x1024.Idx) (i : S4096x2048.Idx)
    (h : ∀ a, (i a).val = cc0_transform_0 (grid0.coords t) a * S4096x1024.size a + (x a).val) :
    block0 m c hO t x = m ((c : Thread nD τ).loc main_arg0) i :=
  congrArg (m ((c : Thread nD τ).loc main_arg0))
    (funext fun a => Fin.ext ((Pipeline.Window.rect_emb_val ((cfgM m hO).win 0) t x a rfl).trans (h a).symm))

theorem read1 (hO : Ok m) (t : Fin grid0.N) (x : S4096x1024.Idx) (i : S4096x11264.Idx)
    (h : ∀ a, (i a).val = cc0_transform_1 (grid0.coords t) a * S4096x1024.size a + (x a).val) :
    block1 m c hO t x = m ((c : Thread nD τ).loc main_arg1) i :=
  congrArg (m ((c : Thread nD τ).loc main_arg1))
    (funext fun a => Fin.ext ((Pipeline.Window.rect_emb_val ((cfgM m hO).win 1) t x a rfl).trans (h a).symm))

/-- The place in the result of an element of a stored block. -/
theorem written (hO : Ok m) (t : Fin grid0.N) (y : S1x1024x1024.Idx) (a : Fin 3) :
    ((((cfgM m hO).win 2).blk t).view.emb y a).val =
      cc0_transform_2 inb_S1_S1_0 numel1_S1 (tbl m) (grid0.coords t) a * S1x1024x1024.size a + (y a).val :=
  Pipeline.Window.rect_emb_val ((cfgM m hO).win 2) t y a rfl

/-- What one run of the body stores. -/
theorem body (i : grid0.Coords) (a4 : Memref sig .tc .vmem S4096x1024 .bf16) (h4 : a4.IsWhole) (a5 : Memref sig .tc .vmem S4096x1024 .bf16)
    (h5 : a5.IsWhole) (a6 : Memref sig .tc .vmem S1x1024x1024 .bf16) (h6 : a6.IsWhole) (x d : Vec Ideal S4096x1024 .bf16)
    (T : TbBuf0 (F := Ideal) c tbM0_0) (y : S1x1024x1024.Idx) :
    out0_A_2 (F := Ideal) c i a4 h4 a5 h5 a6 h6 x d T y = ∑ k : Fin 4096, x (ix2 k (y 1)) * d (ix2 k (y 2)) := by
  frame_out
  pointwise [k0_pay1]

/-- An element of the block a grid step stores, at its place in the result. -/
theorem stored (hO : Ok m) (s : Fin 2) (t : Fin grid0.N) (y : S1x1024x1024.Idx) (i : S2x1024x11264.Idx)
    (at_i : ∀ a : Fin 3, (i a).val = (![(s.val + t.val / 11) % 2, 0, t.val % 11] : Fin 3 → Nat) a * S1x1024x1024.size a + (y a).val) :
    ∑ k : Fin 4096, block0 m c hO t (ix2 k (y 1)) * block1 m c hO t (ix2 k (y 2)) =
      val_main_v15 (F := Ideal) (m ((c : Thread nD τ).loc main_arg0)) (m ((c : Thread nD τ).loc main_arg1)) (fun _ => BitVec.ofNat 32 s.val) i := by
  have e0 : (i 0).val = (s.val + t.val / 11) % 2 * 1 + (y 0).val := at_i 0
  have e1 : (i 1).val = 0 * 1024 + (y 1).val := at_i 1
  have e2 : (i 2).val = t.val % 11 * 1024 + (y 2).val := at_i 2
  have y0 : (y 0).val < 1 := (y 0).isLt
  have y1 : (y 1).val < 1024 := (y 1).isLt
  have ht : t.val < 22 := t.isLt
  rw [ref_at s _ _ i ⟨t.val / 11 * 1024 + (y 1).val, by omega⟩ (by show t.val / 11 * 1024 + (y 1).val = _; omega)]
  refine Finset.sum_congr rfl fun k _ => congrArg₂ (· * ·) (read0 m c hO t _ _ fun a => ?_) (read1 m c hO t _ _ fun a => ?_)
  · rw [(blocks s t).1]
    match a with
    | 0 => exact (Nat.zero_add _).symm.trans (congrArg (· + k.val) (Nat.zero_mul 4096).symm)
    | 1 => rfl
  · rw [(blocks s t).2.1]
    match a with
    | 0 => exact (Nat.zero_add _).symm.trans (congrArg (· + k.val) (Nat.zero_mul 4096).symm)
    | 1 => exact e2

/-- The result array. -/
theorem final (hO : Ok m) (s : Fin 2) (hs : tbl m = table (BitVec.ofNat 32 s.val)) : (dats m hO 0 c).arrAt 2 (cfgM m hO).N = ref m c := by
  have word : m ((c : Thread nD τ).loc main_arg2) = fun _ => BitVec.ofNat 32 s.val := by
    obtain rfl : c = 0 := Subsingleton.elim _ _
    exact congrFun hs 0
  refine (dats m hO 0 c).arrAt_eq_of_covers 2 _ ?_ fun t _ y => ?_
  · show ((cfg0 (adm m hO)).win 2).Covers
    rw [show adm m hO = ⟨table (BitVec.ofNat 32 s.val), ok _⟩ from Subtype.ext hs]
    exact covers s
  blk_simp
  rw [after0_2, ref, word]
  refine (body c _ _ _ _ _ _ _ _ _ _ y).trans (stored m c hO s t y _ fun a => ?_)
  rw [← (blocks s t).2.2, ← hs]
  exact written m hO t y a

/-! ## The claim -/

/-- The shape relation of the precondition. -/
instance coreFacts : Cert.Pre_wide_core.Facts where
  shapeCasts_S1_S_ := by decide

/-- The precondition says which core it is. -/
theorem core (h : Cert.Pre_WideDwIdeal_wide_core m) : ∃ s : Fin 2, tbl m = table (BitVec.ofNat 32 s.val) := by
  obtain ⟨w, hw⟩ := one_word (m (((0 : Dev nD) : Thread nD τ).loc main_arg2))
  have e := congrFun (h 0) (fun a => a.elim0)
  rw [hw] at e
  obtain ⟨s, rfl⟩ := core_of w e
  refine ⟨s, funext fun j => ?_⟩
  match j with
  | ⟨0, _⟩ => exact hw

/-- The kernel computes what the reference computes, on either core. -/
theorem algebraic : Cert.algebraic_WideDwIdeal_RefWideDwIdeal_pre_wide_core := fun m ρ m' ρ' h args => by
  obtain ⟨s, hs⟩ := core m h
  exact ⟨ref m, (θ_run defs _ _).mono (fun r h c => ⟨((h.1 c).1 2).trans (final m c (ok _) s hs), h.2 c⟩)
      (θ_run_and (run_main m ρ (ok _)) (unchanged m ρ (ok _))),
    (θ_run Cert.RefWideDwIdeal.defs _ _).mono
      (fun r h c => ⟨by rw [(h c).1, (args c).1, (args c).2.1, (args c).2.2]; exact val_main_v15_eq _ _ _, (h c).2⟩)
      (Cert.RefWideDwIdeal.Value.run (F := Ideal) m' ρ')⟩

end Products.WideDw

end
-- ==== Proof.Square.lean ====
/-
  The product with a square weight: the kernel writes, block by block, what the reference computes.
-/
module

public import proofs.«01_k».proof.Proof.Gen.SquareIdeal.Value
public import proofs.«01_k».proof.Proof.Gen.RefSquareIdeal.Read
public import proofs.«01_k».proof.Defs
import Idealize.ShloMosaic.Lib.Pipeline.ValueKit
import Idealize.ShloMosaic.Lib.Claim

@[expose] public section

set_option maxRecDepth 16384

noncomputable section

namespace Products.Square

open Idealize.ShloMosaic Idealize.ShloMosaic.TcCoe Idealize.SL.Sem
open Idealize.ShloMosaic.Pipeline (Dat)
open Cert.SquareIdeal Cert.SquareIdeal.Gen
open Cert.RefSquareIdeal.Read

variable (m : (ℓ : Loc nD τ sig) → Buf (Elt Ideal) ℓ) (c : Dev nD)

/-- The reference's result of the kernel's arguments. -/
abbrev ref : S4096x2048.Idx → EReal := val_main_v3 (F := Ideal) (m ((c : Thread nD τ).loc main_arg0)) (m ((c : Thread nD τ).loc main_arg1))

/-- Which blocks a grid step works on. -/
theorem blocks : ∀ t : Fin cfg0.N, win0_0.index t = ![t.val / 2, 0] ∧ win0_1.index t = ![0, t.val % 2] ∧ win0_2.index t = ![t.val / 2, t.val % 2] :=
  (by decide +kernel : ∀ t : Fin grid0.N, _)

/-- An element of the block a grid step stores. -/
theorem stored (t : Fin cfg0.N) (y : S1024x1024.Idx) : k0_pay1 (iblk m c 0 t) (iblk m c 1 t) y = ref m c (((cfg0.win 2).blk t).view.emb y) := by
  pointwise [k0_pay1, ref, val_main_v3, val_main_v2, val_main_v1, val_main_v0]
  blk_point [iblk, V, blocks t]

/-- The result array. -/
theorem final : (dats m 0 c).arrAt 2 cfg0.N = ref m c := by
  refine (dats m 0 c).arrAt_eq_of_covers 2 _ (by decide +kernel) fun t _ y => ?_
  blk_simp
  rw [after0_2]; frame_out
  exact stored m c t y

/-- The reference runs to its end. -/
theorem frame_ref : Cert.quiescent_RefSquareIdeal := fun m ρ _ =>
  (θ_run Cert.RefSquareIdeal.defs _ _).mono (fun r h => ⟨fun c => (h c).2, sem_eq_zero_of_no_sems (by decide) r.2⟩)
    (Cert.RefSquareIdeal.Value.run (F := Ideal) m ρ)

/-- The kernel computes what the reference computes. -/
theorem algebraic : Cert.algebraic_SquareIdeal_RefSquareIdeal := fun m ρ m' ρ' _ args =>
  ⟨ref m, (θ_run defs _ _).mono (fun r h c => ⟨(h c).1.trans (final m c), (h c).2⟩) (Cert.SquareIdeal.Value.run_blocks m ρ),
    (θ_run Cert.RefSquareIdeal.defs _ _).mono
      (fun r h c => ⟨by rw [(h c).1, (args c).1, (args c).2]; exact val_main_v3_eq _ _, (h c).2⟩)
      (Cert.RefSquareIdeal.Value.run (F := Ideal) m' ρ')⟩

end Products.Square

end
-- ==== Proof.Wide.lean ====
/-
  The product with the weight of the first feed-forward product: block by block, what the reference computes.
-/
module

public import proofs.«01_k».proof.Proof.Gen.WideIdeal.Value
public import proofs.«01_k».proof.Proof.Gen.RefWideIdeal.Read
public import proofs.«01_k».proof.Defs
import Idealize.ShloMosaic.Lib.Pipeline.ValueKit
import Idealize.ShloMosaic.Lib.Claim

@[expose] public section

set_option maxRecDepth 16384

noncomputable section

namespace Products.Wide

open Idealize.ShloMosaic Idealize.ShloMosaic.TcCoe Idealize.SL.Sem
open Idealize.ShloMosaic.Pipeline (Dat)
open Cert.WideIdeal Cert.WideIdeal.Gen
open Cert.RefWideIdeal.Read

variable (m : (ℓ : Loc nD τ sig) → Buf (Elt Ideal) ℓ) (c : Dev nD)

/-- The reference's result of the kernel's arguments. -/
abbrev ref : S4096x11264.Idx → EReal := val_main_v3 (F := Ideal) (m ((c : Thread nD τ).loc main_arg0)) (m ((c : Thread nD τ).loc main_arg1))

/-- Which blocks a grid step works on. -/
theorem blocks : ∀ t : Fin cfg0.N, win0_0.index t = ![t.val / 11, 0] ∧ win0_1.index t = ![0, t.val % 11] ∧ win0_2.index t = ![t.val / 11, t.val % 11] :=
  (by decide +kernel : ∀ t : Fin grid0.N, _)

/-- An element of the block a grid step stores. -/
theorem stored (t : Fin cfg0.N) (y : S1024x1024.Idx) : k0_pay1 (iblk m c 0 t) (iblk m c 1 t) y = ref m c (((cfg0.win 2).blk t).view.emb y) := by
  pointwise [k0_pay1, ref, val_main_v3, val_main_v2, val_main_v1, val_main_v0]
  blk_point [iblk, V, blocks t]

/-- The result array. -/
theorem final : (dats m 0 c).arrAt 2 cfg0.N = ref m c := by
  refine (dats m 0 c).arrAt_eq_of_covers 2 _ (by decide +kernel) fun t _ y => ?_
  blk_simp
  rw [after0_2]; frame_out
  exact stored m c t y

/-- The reference runs to its end. -/
theorem frame_ref : Cert.quiescent_RefWideIdeal := fun m ρ _ =>
  (θ_run Cert.RefWideIdeal.defs _ _).mono (fun r h => ⟨fun c => (h c).2, sem_eq_zero_of_no_sems (by decide) r.2⟩)
    (Cert.RefWideIdeal.Value.run (F := Ideal) m ρ)

/-- The kernel computes what the reference computes. -/
theorem algebraic : Cert.algebraic_WideIdeal_RefWideIdeal := fun m ρ m' ρ' _ args =>
  ⟨ref m, (θ_run defs _ _).mono (fun r h c => ⟨(h c).1.trans (final m c), (h c).2⟩) (Cert.WideIdeal.Value.run_blocks m ρ),
    (θ_run Cert.RefWideIdeal.defs _ _).mono
      (fun r h c => ⟨by rw [(h c).1, (args c).1, (args c).2]; exact val_main_v3_eq _ _, (h c).2⟩)
      (Cert.RefWideIdeal.Value.run (F := Ideal) m' ρ')⟩

end Products.Wide

end
-- ==== Proof.Down.lean ====
/-
  The product with the weight of the second feed-forward product: two steps add up the two halves of each sum, and
  together they are what the reference computes.
-/
module

public import proofs.«01_k».proof.Proof.Gen.DownIdeal.Value
public import proofs.«01_k».proof.Proof.Gen.RefDownIdeal.Read
public import proofs.«01_k».proof.Defs
import Idealize.ShloMosaic.Lib.Pipeline.ValueKit
import Idealize.ShloMosaic.Lib.Claim

@[expose] public section

set_option maxRecDepth 16384

noncomputable section

namespace Products.Down

open Idealize.ShloMosaic Idealize.ShloMosaic.TcCoe Idealize.SL.Sem
open Idealize.ShloMosaic.Pipeline (Dat)
open Cert.DownIdeal Cert.DownIdeal.Gen
open Cert.RefDownIdeal.Read

variable (m : (ℓ : Loc nD τ sig) → Buf (Elt Ideal) ℓ) (c : Dev nD)

/-- The reference's result of the kernel's arguments. -/
abbrev ref : S4096x2048.Idx → EReal := val_main_v3 (F := Ideal) (m ((c : Thread nD τ).loc main_arg0)) (m ((c : Thread nD τ).loc main_arg1))

/-- Which blocks a grid step works on. -/
theorem blocks : ∀ t : Fin cfg0.N, win0_0.index t = ![t.val / 4, t.val % 2] ∧ win0_1.index t = ![t.val % 2, t.val / 2 % 2] ∧
    win0_2.index t = ![t.val / 4, t.val / 2 % 2] :=
  (by decide +kernel : ∀ t : Fin grid0.N, _)

/-- The first step of a block stores its product. -/
theorem first (t : Fin cfg0.N) (h : t.val % 2 = 0) (y : S1024x1024.Idx) :
    (outsAt0 m c t.val t.isLt).2 y = k0_pay1 (iblk m c 0 t) (iblk m c 1 t) y := by
  rw [outsAt0_A m c t h (by omega) (by omega)]
  frame_out
  pointwise [k0_pay2]

/-- The other step adds its product to what the step before it stored. -/
theorem next (t : Fin cfg0.N) (h : ¬t.val % 2 = 0) (y : S1024x1024.Idx) :
    (outsAt0 m c t.val t.isLt).2 y =
      (outsAt0 m c (t.val - 1) (Nat.lt_of_le_of_lt (Nat.sub_le _ _) t.isLt)).2 y + k0_pay1 (iblk m c 0 t) (iblk m c 1 t) y := by
  rw [outsAt0_B m c t h (by omega) (by omega)]
  frame_out
  pointwise [k0_pay3]
  exact congrArg (· + _) (congrFun ((Memref.isWhole_whole cc0_scratch0).read_unread _) y)

/-- The last step writes the sum out. -/
theorem last (t : Fin cfg0.N) (h : t.val % 2 = 1) (y : S1024x1024.Idx) :
    (outsAt0 m c t.val t.isLt).1 y = (outsAt0 m c t.val t.isLt).2 y := by
  rw [outsAt0_B m c t (by omega) h h]
  frame_out
  pointwise [k0_pay4]

/-- An element of the block the last step writes. -/
theorem stored (t : Fin cfg0.N) (h : t.val % 2 = 1) (y : S1024x1024.Idx) :
    (outsAt0 m c t.val t.isLt).1 y = ref m c (((cfg0.win 2).blk t).view.emb y) := by
  rw [last m c t h, Pipeline.eq_sum_fin_of_reset_step_apply_of_flush (fun n h => (outsAt0 m c n h).2) 2 (fun _ => 0)
    (fun t => k0_pay1 (iblk m c 0 t) (iblk m c 1 t)) (fun t h y => by rw [first m c t h, zero_add]) (fun t h y => next m c t h y) t h y,
    zero_add]
  pointwise [k0_pay1, ref, val_main_v3, val_main_v2, val_main_v1, val_main_v0]
  refine Fin.sum_mul_add_congr fun s k hl => ?_
  blk_point [iblk, V, blocks t, blocks ⟨_, Pipeline.run_point_lt_of_flush t h s⟩]

/-- The result array. -/
theorem final : (dats m 0 c).arrAt 2 cfg0.N = ref m c := by
  refine (dats m 0 c).arrAt_eq_of_covers 2 _ (by decide +kernel) fun t hf y => ?_
  blk_simp
  rw [after0_2]
  exact stored m c t ((flush0_2 t).mp hf) y

/-- The reference runs to its end. -/
theorem frame_ref : Cert.quiescent_RefDownIdeal := fun m ρ _ =>
  (θ_run Cert.RefDownIdeal.defs _ _).mono (fun r h => ⟨fun c => (h c).2, sem_eq_zero_of_no_sems (by decide) r.2⟩)
    (Cert.RefDownIdeal.Value.run (F := Ideal) m ρ)

/-- The kernel computes what the reference computes. -/
theorem algebraic : Cert.algebraic_DownIdeal_RefDownIdeal := fun m ρ m' ρ' _ args =>
  ⟨ref m, (θ_run defs _ _).mono (fun r h c => ⟨(h c).1.trans (final m c), (h c).2⟩) (Cert.DownIdeal.Value.run_blocks m ρ),
    (θ_run Cert.RefDownIdeal.defs _ _).mono
      (fun r h c => ⟨by rw [(h c).1, (args c).1, (args c).2]; exact val_main_v3_eq _ _, (h c).2⟩)
      (Cert.RefDownIdeal.Value.run (F := Ideal) m' ρ')⟩

end Products.Down

end
-- ==== Proof.SwigluBwd.lean ====
/-
  The gradient of the gated product of the MLP: the kernel writes, block by block, what the reference computes.
-/
module

public import Idealize.ShloMosaic.Lib.Pointwise.Index
public import proofs.«01_k».proof.Proof.Gen.SwigluBwdIdeal.Value
public import proofs.«01_k».proof.Proof.Gen.RefSwigluBwdIdeal.Read
public import proofs.«01_k».proof.Defs
import Idealize.ShloMosaic.Lib.Pipeline.ValueKit
import Idealize.ShloMosaic.Lib.Claim

@[expose] public section

set_option maxRecDepth 16384

noncomputable section

namespace Products.SwigluBwd

open Idealize.ShloMosaic Idealize.ShloMosaic.TcCoe Idealize.SL.Sem
open Idealize.ShloMosaic.Pipeline (Dat)
open Cert.SwigluBwdIdeal Cert.SwigluBwdIdeal.Gen
open Cert.RefSwigluBwdIdeal.Read

/-- The gradients of `silu g * u`, of `g` and of `u`, from that of the product. -/
def dGate (d g u : EReal) : EReal := d * u * Ideal.logistic g + g * (d * u) * (Ideal.logistic g * (1 - Ideal.logistic g))
def dUp (d g : EReal) : EReal := g * Ideal.logistic g * d

/-- What the body computes, element by element. -/
theorem pay_at (d g u : FVec Ideal S128x5632 .bf16) (y : S128x11264.Idx) : k0_pay1 (F := Ideal) d g u y =
    if h : (y 1).val < 5632 then dGate (d (ix2 (y 0) ⟨y 1, h⟩)) (g (ix2 (y 0) ⟨y 1, h⟩)) (u (ix2 (y 0) ⟨y 1, h⟩))
    else dUp (d (ix2 (y 0) (⟨(y 1).val - 5632, by have : (y 1).val < 11264 := (y 1).isLt; omega⟩ : Fin 5632)))
      (g (ix2 (y 0) (⟨(y 1).val - 5632, by have : (y 1).val < 11264 := (y 1).isLt; omega⟩ : Fin 5632))) := by
  pointwise [k0_pay1, dGate, dUp]

/-- The reference, element by element. -/
theorem ref_at (d : FVec Ideal S4096x5632 .bf16) (gu : FVec Ideal S4096x11264 .bf16) (i : S4096x11264.Idx) : val_main_v10 (F := Ideal) d gu i =
    if h : (i 1).val < 5632 then dGate (d (ix2 (i 0) ⟨i 1, h⟩)) (gu i) (gu (ix2 (i 0) (⟨5632 + (i 1).val, by omega⟩ : Fin 11264)))
    else dUp (d (ix2 (i 0) (⟨(i 1).val - 5632, by have : (i 1).val < 11264 := (i 1).isLt; omega⟩ : Fin 5632)))
      (gu (ix2 (i 0) (⟨(i 1).val - 5632, by have : (i 1).val < 11264 := (i 1).isLt; omega⟩ : Fin 11264))) := by
  pointwise [val_main_v10, val_main_v9, val_main_v8, val_main_call1_v2, val_main_call1_v1, val_main_call1_v0, val_main_v7,
    val_main_v6, val_main_v5, val_main_v4, val_main_v3_0, val_main_v3_1, val_main_v3_2, val_main_call0_v7, val_main_call0_v6, val_main_call0_cst_1,
    val_main_call0_v4, val_main_call0_cst_0, val_main_call0_v3, val_main_call0_v2, val_main_call0_cst, val_main_call0_v1, val_main_call0_v0,
    val_main_v2, val_main_v1, val_main_v0, dGate, dUp, Ideal.logistic]

variable (m : (ℓ : Loc nD τ sig) → Buf (Elt Ideal) ℓ) (c : Dev nD)

/-- The reference's result of the kernel's arguments. -/
abbrev ref : S4096x11264.Idx → EReal := val_main_v10 (F := Ideal) (m ((c : Thread nD τ).loc main_arg0)) (m ((c : Thread nD τ).loc main_arg1))

/-- Which blocks a grid step works on: its rows of the gradient, of the gates, of what they multiply, and of the result. -/
theorem blocks : ∀ t : Fin cfg0.N, win0_0.index t = ![t.val, 0] ∧ win0_1.index t = ![t.val, 0] ∧ win0_2.index t = ![t.val, 1] ∧
    win0_3.index t = ![t.val, 0] :=
  (by decide +kernel : ∀ t : Fin grid0.N, _)

/-- An element of the block a grid step stores. -/
theorem stored (t : Fin cfg0.N) (y : S128x11264.Idx) :
    k0_pay1 (iblk m c 0 t) (iblk m c 1 t) (iblk m c 2 t) y = ref m c (((cfg0.win 3).blk t).view.emb y) := by
  have e1 : (((cfg0.win 3).blk t).view.emb y 1).val = (y 1).val := by
    blk_point [blocks t]
  refine (pay_at _ _ _ y).trans (Eq.trans ?_ (ref_at _ _ _).symm)
  by_cases h : (y 1).val < 5632
  · rw [dif_pos h, dif_pos (by rw [e1]; exact h)]
    congr 1 <;> blk_point [iblk, V, blocks t]
  · rw [dif_neg h, dif_neg (by rw [e1]; exact h)]
    congr 1 <;> blk_point [iblk, V, blocks t]

/-- The result array. -/
theorem final : (dats m 0 c).arrAt 3 cfg0.N = ref m c := by
  refine (dats m 0 c).arrAt_eq_of_covers 3 _ (by decide +kernel) fun t _ y => ?_
  blk_simp
  rw [after0_3]; frame_out
  exact stored m c t y

/-- The reference runs to its end. -/
theorem frame_ref : Cert.quiescent_RefSwigluBwdIdeal := fun m ρ _ =>
  (θ_run Cert.RefSwigluBwdIdeal.defs _ _).mono (fun r h => ⟨fun c => (h c).2, sem_eq_zero_of_no_sems (by decide) r.2⟩)
    (Cert.RefSwigluBwdIdeal.Value.run (F := Ideal) m ρ)

/-- The kernel computes what the reference computes. -/
theorem algebraic : Cert.algebraic_SwigluBwdIdeal_RefSwigluBwdIdeal := fun m ρ m' ρ' _ args =>
  ⟨ref m, (θ_run defs _ _).mono (fun r h c => ⟨(h c).1.trans (final m c), (h c).2⟩) (Cert.SwigluBwdIdeal.Value.run_blocks m ρ),
    (θ_run Cert.RefSwigluBwdIdeal.defs _ _).mono
      (fun r h c => ⟨by rw [(h c).1, (args c).1, (args c).2]; exact val_main_v10_eq _ _, (h c).2⟩)
      (Cert.RefSwigluBwdIdeal.Value.run (F := Ideal) m' ρ')⟩

end Products.SwigluBwd

end
-- ==== Proof.MergeBwd.lean ====
/-
  The gradient of the gated sum of the two branches: the kernel writes, block by block, what the reference computes.
-/
module

public import Idealize.ShloMosaic.Lib.Pointwise.Index
public import proofs.«01_k».proof.Proof.Gen.MergeBwdIdeal.Value
public import proofs.«01_k».proof.Proof.Gen.RefMergeBwdIdeal.Read
public import proofs.«01_k».proof.Defs
import Idealize.ShloMosaic.Lib.Pipeline.ValueKit
import Idealize.ShloMosaic.Lib.Claim

@[expose] public section

set_option maxRecDepth 16384

noncomputable section

namespace Products.MergeBwd

open Idealize.ShloMosaic Idealize.ShloMosaic.TcCoe Idealize.SL.Sem
open Idealize.ShloMosaic.Pipeline (Dat)
open Cert.MergeBwdIdeal Cert.MergeBwdIdeal.Gen
open Cert.RefMergeBwdIdeal.Read

/-- The element of two blocks side by side. -/
def two (a b : FVec Ideal S256x1024 .bf16) (y : S256x2048.Idx) : EReal :=
  if h : (y 1).val < 1024 then a (ix2 (y 0) ⟨y 1, h⟩)
  else b (ix2 (y 0) (⟨(y 1).val - 1024, by have : (y 1).val < 2048 := (y 1).isLt; omega⟩ : Fin 1024))

/-- The gradient of a gate, from that of the sum, the branch it multiplies and itself. -/
def dGate (d x g : EReal) : EReal := d * x * (Ideal.logistic g * (1 - Ideal.logistic g))

/-- What the body computes, element by element. -/
theorem first_at (d : FVec Ideal S256x2048 .bf16) (a b : FVec Ideal S256x1024 .bf16) (y : S256x2048.Idx) :
    k0_pay4 (F := Ideal) d a b y = Ideal.logistic (two a b y) * d y := by
  pointwise [k0_pay4, k0_pay2, k0_pay1, two]

theorem second_at (d : FVec Ideal S256x2048 .bf16) (a b : FVec Ideal S256x1024 .bf16) (y : S256x2048.Idx) :
    k0_pay5 (F := Ideal) d a b y = Ideal.logistic (two a b y) * d y := by
  pointwise [k0_pay5, k0_pay3, k0_pay1, two]

theorem gates_at (d p q : FVec Ideal S256x2048 .bf16) (a b a' b' : FVec Ideal S256x1024 .bf16) (y : S256x4096.Idx) :
    k0_pay6 (F := Ideal) d p q a b a' b' y =
    if h : (y 1).val < 2048 then dGate (d (ix2 (y 0) ⟨y 1, h⟩)) (p (ix2 (y 0) ⟨y 1, h⟩)) (two a b (ix2 (y 0) ⟨y 1, h⟩))
    else dGate (d (ix2 (y 0) (⟨(y 1).val - 2048, by have : (y 1).val < 4096 := (y 1).isLt; omega⟩ : Fin 2048)))
      (q (ix2 (y 0) (⟨(y 1).val - 2048, by have : (y 1).val < 4096 := (y 1).isLt; omega⟩ : Fin 2048)))
      (two a' b' (ix2 (y 0) (⟨(y 1).val - 2048, by have : (y 1).val < 4096 := (y 1).isLt; omega⟩ : Fin 2048))) := by
  pointwise [k0_pay6, k0_pay1, k0_pay2, k0_pay3, two, dGate]

/-- The reference, element by element. -/
theorem ref_first_at (d : FVec Ideal S4096x2048 .bf16) (z : FVec Ideal S4096x11264 .bf16) (i : S4096x2048.Idx) :
    val_main_v34 (F := Ideal) d z i =
      Ideal.logistic (z (ix2 (i 0) (⟨7168 + (i 1).val, by have : (i 1).val < 2048 := (i 1).isLt; omega⟩ : Fin 11264))) * d i := by
  pointwise [val_main_v34, val_main_v31, val_main_v27, val_main_v11, val_main_v10, val_main_cst_0, val_main_v9, val_main_v8, val_main_cst, val_main_v7, val_main_v6, val_main_v2, val_main_v1, val_main_v0, Ideal.logistic]

theorem ref_second_at (d : FVec Ideal S4096x2048 .bf16) (z : FVec Ideal S4096x11264 .bf16) (i : S4096x2048.Idx) :
    val_main_v35 (F := Ideal) d z i =
      Ideal.logistic (z (ix2 (i 0) (⟨7168 + (2048 + (i 1).val), by have : (i 1).val < 2048 := (i 1).isLt; omega⟩ : Fin 11264))) * d i := by
  pointwise [val_main_v35, val_main_v28, val_main_v27, val_main_v21, val_main_v20, val_main_cst_3, val_main_v19, val_main_v18, val_main_cst_2, val_main_v17, val_main_v16, val_main_v3, val_main_v1, val_main_v0, Ideal.logistic]

theorem ref_gates_at (d p q : FVec Ideal S4096x2048 .bf16) (z : FVec Ideal S4096x11264 .bf16) (i : S4096x4096.Idx) :
    val_main_v37 (F := Ideal) d p q z i =
    if h : (i 1).val < 2048 then dGate (d (ix2 (i 0) ⟨i 1, h⟩)) (p (ix2 (i 0) ⟨i 1, h⟩)) (z (ix2 (i 0) (⟨7168 + (i 1).val, by omega⟩ : Fin 11264)))
    else dGate (d (ix2 (i 0) (⟨(i 1).val - 2048, by have : (i 1).val < 4096 := (i 1).isLt; omega⟩ : Fin 2048)))
      (q (ix2 (i 0) (⟨(i 1).val - 2048, by have : (i 1).val < 4096 := (i 1).isLt; omega⟩ : Fin 2048)))
      (z (ix2 (i 0) (⟨7168 + (2048 + ((i 1).val - 2048)), by have : (i 1).val < 4096 := (i 1).isLt; omega⟩ : Fin 11264))) := by
  pointwise [val_main_v37, val_main_v36, val_main_v33, val_main_v32, val_main_v30, val_main_v29, val_main_v27, val_main_v24, val_main_v23, val_main_v22, val_main_cst_4, val_main_v14, val_main_v13, val_main_v12, val_main_cst_1, val_main_v11, val_main_v10, val_main_cst_0, val_main_v9, val_main_v8, val_main_cst, val_main_v7, val_main_v6, val_main_v2, val_main_v21, val_main_v20, val_main_cst_3, val_main_v19, val_main_v18, val_main_cst_2, val_main_v17, val_main_v16, val_main_v3, val_main_v1, val_main_v0, val_main_v4, val_main_v5, Ideal.logistic, dGate]

variable (m : (ℓ : Loc nD τ sig) → Buf (Elt Ideal) ℓ) (c : Dev nD)

/-- The kernel's arguments: the gradient, the two branches, and the projection that holds the gates. -/
abbrev dmg : FVec Ideal S4096x2048 .bf16 := m ((c : Thread nD τ).loc main_arg0)
abbrev ya : FVec Ideal S4096x2048 .bf16 := m ((c : Thread nD τ).loc main_arg1)
abbrev yb : FVec Ideal S4096x2048 .bf16 := m ((c : Thread nD τ).loc main_arg2)
abbrev zs : FVec Ideal S4096x11264 .bf16 := m ((c : Thread nD τ).loc main_arg3)

/-- Which blocks a grid step works on: its rows of every array, and the four column blocks of the gates. -/
theorem blocks : ∀ t : Fin cfg0.N, (win0_0.index t = ![t.val, 0] ∧ win0_1.index t = ![t.val, 0] ∧ win0_2.index t = ![t.val, 0]) ∧
    (win0_3.index t = ![t.val, 7] ∧ win0_4.index t = ![t.val, 8] ∧ win0_5.index t = ![t.val, 9] ∧ win0_6.index t = ![t.val, 10]) ∧
    win0_7.index t = ![t.val, 0] ∧ win0_8.index t = ![t.val, 0] ∧ win0_9.index t = ![t.val, 0] :=
  (by decide +kernel : ∀ t : Fin grid0.N, _)

/-- A grid step's two blocks of a gate are the gate's columns of its rows. -/
theorem gate_first (t : Fin cfg0.N) (y : S256x2048.Idx) : two (iblk m c 3 t) (iblk m c 4 t) y =
    zs m c (ix2 (((cfg0.win 7).blk t).view.emb y 0) (⟨7168 + (y 1).val, by have : (y 1).val < 2048 := (y 1).isLt; omega⟩ : Fin 11264)) := by
  unfold two
  by_cases h : (y 1).val < 1024
  · rw [dif_pos h]; blk_point [iblk, V, blocks t]
  · rw [dif_neg h]; blk_point [iblk, V, blocks t]

theorem gate_second (t : Fin cfg0.N) (y : S256x2048.Idx) : two (iblk m c 5 t) (iblk m c 6 t) y =
    zs m c (ix2 (((cfg0.win 7).blk t).view.emb y 0) (⟨7168 + (2048 + (y 1).val), by have : (y 1).val < 2048 := (y 1).isLt; omega⟩ : Fin 11264)) := by
  unfold two
  by_cases h : (y 1).val < 1024
  · rw [dif_pos h]; blk_point [iblk, V, blocks t]
  · rw [dif_neg h]; blk_point [iblk, V, blocks t]

/-- An element of each of the blocks a grid step stores. -/
theorem first_stored (t : Fin cfg0.N) (y : S256x2048.Idx) : k0_pay4 (F := Ideal) (iblk m c 0 t) (iblk m c 3 t) (iblk m c 4 t) y =
    val_main_v34 (F := Ideal) (dmg m c) (zs m c) (((cfg0.win 7).blk t).view.emb y) := by
  refine (first_at _ _ _ y).trans (Eq.trans ?_ (ref_first_at _ _ _).symm)
  rw [gate_first m c t y]
  congr 2 <;> blk_point [iblk, V, blocks t]

theorem second_stored (t : Fin cfg0.N) (y : S256x2048.Idx) : k0_pay5 (F := Ideal) (iblk m c 0 t) (iblk m c 5 t) (iblk m c 6 t) y =
    val_main_v35 (F := Ideal) (dmg m c) (zs m c) (((cfg0.win 8).blk t).view.emb y) := by
  refine (second_at _ _ _ y).trans (Eq.trans ?_ (ref_second_at _ _ _).symm)
  rw [gate_second m c t y]
  congr 2 <;> blk_point [iblk, V, blocks t]

theorem gates_stored (t : Fin cfg0.N) (y : S256x4096.Idx) :
    k0_pay6 (F := Ideal) (iblk m c 0 t) (iblk m c 1 t) (iblk m c 2 t) (iblk m c 3 t) (iblk m c 4 t) (iblk m c 5 t) (iblk m c 6 t) y =
    val_main_v37 (F := Ideal) (dmg m c) (ya m c) (yb m c) (zs m c) (((cfg0.win 9).blk t).view.emb y) := by
  have e1 : (((cfg0.win 9).blk t).view.emb y 1).val = (y 1).val := by blk_point [blocks t]
  refine (gates_at _ _ _ _ _ _ _ y).trans (Eq.trans ?_ (ref_gates_at _ _ _ _ _).symm)
  have same {d d' x x' g g' : EReal} (hd : d = d') (hx : x = x') (hg : g = g') : dGate d x g = dGate d' x' g' := by rw [hd, hx, hg]
  by_cases h : (y 1).val < 2048
  · rw [dif_pos h, dif_pos (by rw [e1]; exact h)]
    refine same ?_ ?_ ((gate_first m c t _).trans ?_) <;> blk_point [iblk, V, blocks t]
  · rw [dif_neg h, dif_neg (by rw [e1]; exact h)]
    refine same ?_ ?_ ((gate_second m c t _).trans ?_) <;> blk_point [iblk, V, blocks t]

/-- The result arrays. -/
theorem first_final : (dats m 0 c).arrAt 7 cfg0.N = val_main_v34 (F := Ideal) (dmg m c) (zs m c) := by
  refine (dats m 0 c).arrAt_eq_of_covers 7 _ (by decide +kernel) fun t _ y => ?_
  blk_simp
  rw [after0_7]; frame_out
  exact first_stored m c t y

theorem second_final : (dats m 0 c).arrAt 8 cfg0.N = val_main_v35 (F := Ideal) (dmg m c) (zs m c) := by
  refine (dats m 0 c).arrAt_eq_of_covers 8 _ (by decide +kernel) fun t _ y => ?_
  blk_simp
  rw [after0_8]; frame_out
  exact second_stored m c t y

theorem gates_final : (dats m 0 c).arrAt 9 cfg0.N = val_main_v37 (F := Ideal) (dmg m c) (ya m c) (yb m c) (zs m c) := by
  refine (dats m 0 c).arrAt_eq_of_covers 9 _ (by decide +kernel) fun t _ y => ?_
  blk_simp
  rw [after0_9]; frame_out
  exact gates_stored m c t y

/-- The reference runs to its end. -/
theorem frame_ref : Cert.quiescent_RefMergeBwdIdeal := fun m ρ _ =>
  (θ_run Cert.RefMergeBwdIdeal.defs _ _).mono (fun r h => ⟨fun c => (h c).2.2.2, sem_eq_zero_of_no_sems (by decide) r.2⟩)
    (Cert.RefMergeBwdIdeal.Value.run (F := Ideal) m ρ)

/-- The kernel computes what the reference computes. -/
theorem algebraic : Cert.algebraic_MergeBwdIdeal_RefMergeBwdIdeal := fun m ρ m' ρ' _ args =>
  ⟨fun c => val_main_v34 (F := Ideal) (dmg m c) (zs m c), fun c => val_main_v35 (F := Ideal) (dmg m c) (zs m c),
    fun c => val_main_v37 (F := Ideal) (dmg m c) (ya m c) (yb m c) (zs m c),
    (θ_run defs _ _).mono
      (fun r h c => ⟨(h c).1.trans (first_final m c), (h c).2.1.trans (second_final m c), (h c).2.2.1.trans (gates_final m c), (h c).2.2.2⟩)
      (Cert.MergeBwdIdeal.Value.run_blocks m ρ),
    (θ_run Cert.RefMergeBwdIdeal.defs _ _).mono
      (fun r h c => ⟨by rw [(h c).1, (args c).1, (args c).2.2.2]; exact val_main_v34_eq _ _,
        by rw [(h c).2.1, (args c).1, (args c).2.2.2]; exact val_main_v35_eq _ _,
        by rw [(h c).2.2.1, (args c).1, (args c).2.1, (args c).2.2.1, (args c).2.2.2]; exact val_main_v37_eq _ _ _ _, (h c).2.2.2⟩)
      (Cert.RefMergeBwdIdeal.Value.run (F := Ideal) m' ρ')⟩

end Products.MergeBwd

end
-- ==== Proof.ModulateBwd.lean ====
/-
  The gradient of the scale and shift of the first layer's input: the rows, block by block, and the gradients of the scale and of
  the shift, added up over the steps, are what the reference computes.
-/
module

public import Idealize.ShloMosaic.Lib.Pointwise.Index
public import proofs.«01_k».proof.Proof.Gen.ModulateBwdIdeal.Value
public import proofs.«01_k».proof.Proof.Gen.RefModulateBwdIdeal.Read
public import proofs.«01_k».proof.Defs
import Idealize.ShloMosaic.Lib.Pipeline.ValueKit
import Idealize.ShloMosaic.Lib.Claim

@[expose] public section

set_option maxRecDepth 16384

noncomputable section

namespace Products.ModulateBwd

open Idealize.ShloMosaic Idealize.ShloMosaic.TcCoe Idealize.SL.Sem
open Idealize.ShloMosaic.Pipeline (Dat)
open Cert.ModulateBwdIdeal Cert.ModulateBwdIdeal.Gen
open Cert.RefModulateBwdIdeal.Read

/-- What the body computes, element by element: the rows, and what it adds to each vector. -/
theorem rows_at (d : FVec Ideal S256x2048 .bf16) (e : FVec Ideal S256x2048 .f32) (s : FVec Ideal S1x2048 .f32) (y : S256x2048.Idx) :
    k0_pay2 (F := Ideal) d e s y = e y + d y * (1 + s (ix2 0 (y 1))) := by
  pointwise [k0_pay2, k0_pay1]

theorem scale_at (x : FVec Ideal S256x2048 .f32) (d : FVec Ideal S256x2048 .bf16) (v : FVec Ideal S1x2048 .f32) (y : S1x2048.Idx) :
    k0_pay5 (F := Ideal) x d v y = v y + ∑ k : Fin 256, d (ix2 k (y 1)) * x (ix2 k (y 1)) := by
  pointwise [k0_pay5, k0_pay1]

theorem shift_at (d : FVec Ideal S256x2048 .bf16) (v : FVec Ideal S1x2048 .f32) (y : S1x2048.Idx) :
    k0_pay6 (F := Ideal) d v y = v y + ∑ k : Fin 256, d (ix2 k (y 1)) := by
  pointwise [k0_pay6, k0_pay1]

variable (m : (ℓ : Loc nD τ sig) → Buf (Elt Ideal) ℓ) (c : Dev nD)

/-- The reference's results of the kernel's arguments. -/
abbrev rows : S4096x2048.Idx → EReal :=
  val_main_v15 (F := Ideal) (m ((c : Thread nD τ).loc main_arg1)) (m ((c : Thread nD τ).loc main_arg2)) (m ((c : Thread nD τ).loc main_arg3))

abbrev scales : S1x2048.Idx → EReal := val_main_v12 (F := Ideal) (m ((c : Thread nD τ).loc main_arg0)) (m ((c : Thread nD τ).loc main_arg1))

abbrev shifts : S1x2048.Idx → EReal := val_main_v9 (F := Ideal) (m ((c : Thread nD τ).loc main_arg1))

/-- Which blocks a grid step works on: its rows of the arrays, and the vectors whole. -/
theorem blocks : ∀ t : Fin cfg0.N, (win0_0.index t = ![t.val, 0] ∧ win0_1.index t = ![t.val, 0] ∧ win0_2.index t = ![t.val, 0]) ∧
    win0_3.index t = ![0, 0] ∧ win0_4.index t = ![t.val, 0] ∧ win0_5.index t = ![0, 0] ∧ win0_6.index t = ![0, 0] :=
  (by decide +kernel : ∀ t : Fin grid0.N, _)

/-- The rows a grid step stores. -/
theorem rows_of (t : Fin cfg0.N) (y : S256x2048.Idx) : (outsAt0 m c t.val t.isLt).1 y = k0_pay2 (iblk m c 1 t) (iblk m c 2 t) (iblk m c 3 t) y := by
  by_cases h : t.val % 16 = 0
  · rw [outsAt0_A m c t h]; frame_out
  · rw [outsAt0_B m c t h]; frame_out

/-- The first step stores its part of each vector. -/
theorem scale_first (t : Fin cfg0.N) (h : t.val % 16 = 0) (y : S1x2048.Idx) :
    (outsAt0 m c t.val t.isLt).2.1 y = k0_pay5 (iblk m c 0 t) (iblk m c 1 t) (fun _ => 0) y := by
  rw [outsAt0_A m c t h]
  frame_out
  pointwise [k0_pay5, k0_pay3]

theorem shift_first (t : Fin cfg0.N) (h : t.val % 16 = 0) (y : S1x2048.Idx) :
    (outsAt0 m c t.val t.isLt).2.2 y = k0_pay6 (iblk m c 1 t) (fun _ => 0) y := by
  rw [outsAt0_A m c t h]
  frame_out
  pointwise [k0_pay6, k0_pay4]

/-- Every other step adds its part to what the step before it stored. -/
theorem scale_next (t : Fin cfg0.N) (h : ¬t.val % 16 = 0) (y : S1x2048.Idx) :
    (outsAt0 m c t.val t.isLt).2.1 y =
      k0_pay5 (iblk m c 0 t) (iblk m c 1 t) (outsAt0 m c (t.val - 1) (Nat.lt_of_le_of_lt (Nat.sub_le _ _) t.isLt)).2.1 y := by
  rw [outsAt0_B m c t h]
  frame_out

theorem shift_next (t : Fin cfg0.N) (h : ¬t.val % 16 = 0) (y : S1x2048.Idx) :
    (outsAt0 m c t.val t.isLt).2.2 y =
      k0_pay6 (iblk m c 1 t) (outsAt0 m c (t.val - 1) (Nat.lt_of_le_of_lt (Nat.sub_le _ _) t.isLt)).2.2 y := by
  rw [outsAt0_B m c t h]
  frame_out

/-- What a step adds to each vector, of its blocks. -/
def scalePart (d : FVec Ideal S256x2048 .bf16) (x : FVec Ideal S256x2048 .f32) (y : S1x2048.Idx) : EReal := ∑ k : Fin 256, d (ix2 k (y 1)) * x (ix2 k (y 1))

def shiftPart (d : FVec Ideal S256x2048 .bf16) (y : S1x2048.Idx) : EReal := ∑ k : Fin 256, d (ix2 k (y 1))

/-- An element of each array as it is written out. -/
theorem rows_stored (t : Fin cfg0.N) (y : S256x2048.Idx) : (outsAt0 m c t.val t.isLt).1 y = rows m c (((cfg0.win 4).blk t).view.emb y) := by
  rw [rows_of, rows_at]
  pointwise [rows, val_main_v15, val_main_v14, val_main_v13, val_main_v7, val_main_v2, val_main_v1, val_main_cst_0]
  have same {e e' d d' s s' : EReal} (he : e = e') (hd : d = d') (hs : s = s') : e + d * (1 + s) = e' + d' * (1 + s') := by rw [he, hd, hs]
  refine same ?_ ?_ ?_ <;> blk_point [iblk, V, blocks t]

theorem scales_stored (t : Fin cfg0.N) (h : t.val % 16 = 15) (y : S1x2048.Idx) :
    (outsAt0 m c t.val t.isLt).2.1 y = scales m c (((cfg0.win 5).blk t).view.emb y) := by
  rw [Pipeline.eq_sum_fin_of_reset_step_apply_of_flush (fun n h => (outsAt0 m c n h).2.1) 16 (fun _ => 0) (fun t => scalePart (iblk m c 1 t) (iblk m c 0 t))
    (fun t h y => (scale_first m c t h y).trans (scale_at _ _ _ y)) (fun t h y => (scale_next m c t h y).trans (scale_at _ _ _ y)) t h y, zero_add]
  pointwise [scales, val_main_v12, val_main_v11, val_main_v10, val_main_v7, val_main_cst_2]
  unfold scalePart
  refine Fin.sum_mul_add_congr fun s k hl => ?_
  rw [mul_comm]
  congr 1 <;> blk_point [iblk, V, blocks t, blocks ⟨_, Pipeline.run_point_lt_of_flush t h s⟩]

theorem shifts_stored (t : Fin cfg0.N) (h : t.val % 16 = 15) (y : S1x2048.Idx) :
    (outsAt0 m c t.val t.isLt).2.2 y = shifts m c (((cfg0.win 6).blk t).view.emb y) := by
  rw [Pipeline.eq_sum_fin_of_reset_step_apply_of_flush (fun n h => (outsAt0 m c n h).2.2) 16 (fun _ => 0) (fun t => shiftPart (iblk m c 1 t))
    (fun t h y => (shift_first m c t h y).trans (shift_at _ _ y)) (fun t h y => (shift_next m c t h y).trans (shift_at _ _ y)) t h y, zero_add]
  pointwise [shifts, val_main_v9, val_main_v8, val_main_v7, val_main_cst_1]
  unfold shiftPart
  refine Fin.sum_mul_add_congr fun s k hl => ?_
  blk_point [iblk, V, blocks t, blocks ⟨_, Pipeline.run_point_lt_of_flush t h s⟩]

/-- The result arrays. -/
theorem rows_final : (dats m 0 c).arrAt 4 cfg0.N = rows m c := by
  refine (dats m 0 c).arrAt_eq_of_covers 4 _ (by decide +kernel) fun t _ y => ?_
  blk_simp
  rw [after0_4]
  exact rows_stored m c t y

theorem scales_final : (dats m 0 c).arrAt 5 cfg0.N = scales m c := by
  refine (dats m 0 c).arrAt_eq_of_covers 5 _ (by decide +kernel) fun t hf y => ?_
  blk_simp
  rw [after0_5]
  exact scales_stored m c t ((flush0_5 t).mp hf) y

theorem shifts_final : (dats m 0 c).arrAt 6 cfg0.N = shifts m c := by
  refine (dats m 0 c).arrAt_eq_of_covers 6 _ (by decide +kernel) fun t hf y => ?_
  blk_simp
  rw [after0_6]
  exact shifts_stored m c t ((flush0_6 t).mp hf) y

/-- The reference runs to its end. -/
theorem frame_ref : Cert.quiescent_RefModulateBwdIdeal := fun m ρ _ =>
  (θ_run Cert.RefModulateBwdIdeal.defs _ _).mono (fun r h => ⟨fun c => (h c).2.2.2, sem_eq_zero_of_no_sems (by decide) r.2⟩)
    (Cert.RefModulateBwdIdeal.Value.run (F := Ideal) m ρ)

/-- The kernel computes what the reference computes. -/
theorem algebraic : Cert.algebraic_ModulateBwdIdeal_RefModulateBwdIdeal := fun m ρ m' ρ' _ args =>
  ⟨rows m, scales m, shifts m,
    (θ_run defs _ _).mono
      (fun r h c => ⟨(h c).1.trans (rows_final m c), (h c).2.1.trans (scales_final m c), (h c).2.2.1.trans (shifts_final m c), (h c).2.2.2⟩)
      (Cert.ModulateBwdIdeal.Value.run_blocks m ρ),
    (θ_run Cert.RefModulateBwdIdeal.defs _ _).mono
      (fun r h c => by
        obtain ⟨a0, a1, a2, a3⟩ := args c
        exact ⟨by rw [(h c).1, a1, a2, a3]; exact val_main_v15_eq _ _ _, by rw [(h c).2.1, a0, a1]; exact val_main_v12_eq _ _,
          by rw [(h c).2.2.1, a1]; exact val_main_v9_eq _, (h c).2.2.2⟩)
      (Cert.RefModulateBwdIdeal.Value.run (F := Ideal) m' ρ')⟩

end Products.ModulateBwd

end
-- ==== Proof.Rotary.lean ====
/-
  The rotation of a head's first 32 components in pairs, and its gradient, written two ways: by the pairs, and by three tables
  of 128 numbers with which a row of several heads and its two shifts by 16 places are multiplied.
-/
module

public import Idealize.ShloMosaic.Lib.Pointwise.Index
public import Idealize.ShloMosaic.Lib.Pointwise.ShapeOpsCore
public import Idealize.ShloMosaic.Lib.Pipeline.Value
public import Mathlib.Data.EReal.Operations

@[expose] public section

noncomputable section

namespace Rotary

open Idealize.ShloMosaic

/-- The place in a row of the component `l` of the head that the place `j` is in. -/
abbrev sameHead {W : Nat} (hW : W % 128 = 0) (j : Fin W) (l : Fin 128) : Fin W := ⟨128 * (j.val / 128) + l.val, by omega⟩

/-- The place within its head. -/
abbrev inHead {W : Nat} (j : Fin W) : Fin 128 := ⟨j.val % 128, Nat.mod_lt _ (by decide)⟩

/-- The table of cosines: twice the 16 cosines of a position, then ones. -/
def cosines (c : Fin 16 → EReal) (l : Fin 128) : EReal := if h : l.val < 16 then c ⟨l, h⟩ else if h : l.val < 32 then c ⟨l.val - 16, by omega⟩ else 1

/-- The table of the sines of the first of each pair, negated, and zeros. -/
def sinesUp (s : Fin 16 → EReal) (l : Fin 128) : EReal := if h : l.val < 16 then -s ⟨l, h⟩ else 0

/-- The table of the sines of the second of each pair, and zeros. -/
def sinesDown (s : Fin 16 → EReal) (l : Fin 128) : EReal := if h : l.val < 16 then 0 else if h : l.val < 32 then s ⟨l.val - 16, by omega⟩ else 0

/-- The rotation of the components of a head. -/
def turned (t : Fin 128 → EReal) (c s : Fin 16 → EReal) (l : Fin 128) : EReal :=
  if h : l.val < 16 then t l * c ⟨l, h⟩ - t ⟨l.val + 16, by omega⟩ * s ⟨l, h⟩
  else if h : l.val < 32 then t l * c ⟨l.val - 16, by omega⟩ + t ⟨l.val - 16, by omega⟩ * s ⟨l.val - 16, by omega⟩ else t l

/-- Its gradient. -/
def turnedBack (t : Fin 128 → EReal) (c s : Fin 16 → EReal) (l : Fin 128) : EReal :=
  if h : l.val < 16 then t ⟨l.val + 16, by omega⟩ * s ⟨l, h⟩ + t l * c ⟨l, h⟩
  else if h : l.val < 32 then t l * c ⟨l.val - 16, by omega⟩ + -t ⟨l.val - 16, by omega⟩ * s ⟨l.val - 16, by omega⟩ else t l

/-- The rotation as three parts side by side. -/
theorem of_parts (c s : Fin 16 → EReal) (t : Fin 128 → EReal) (l : Fin 128) :
    (if h : l.val < 16 then t ⟨l.val, l.isLt⟩ * c ⟨l.val, h⟩ - t ⟨16 + l.val, by omega⟩ * s ⟨l.val, h⟩
      else if h' : l.val - 16 < 16 then t ⟨16 + (l.val - 16), by omega⟩ * c ⟨l.val - 16, h'⟩ + t ⟨l.val - 16, by omega⟩ * s ⟨l.val - 16, h'⟩
      else t ⟨32 + (l.val - 16 - 16), by omega⟩) = turned t c s l := by
  unfold turned
  by_cases h : l.val < 16
  · rw [dif_pos h, dif_pos h, show (⟨16 + l.val, by omega⟩ : Fin 128) = ⟨l.val + 16, by omega⟩ from Fin.ext (Nat.add_comm _ _)]
  · by_cases h' : l.val < 32
    · rw [dif_neg h, dif_neg h, dif_pos (show l.val - 16 < 16 by omega), dif_pos h', show (⟨16 + (l.val - 16), by omega⟩ : Fin 128) = l from Fin.ext (by show 16 + (l.val - 16) = l.val; omega)]
    · rw [dif_neg h, dif_neg h, dif_neg (show ¬l.val - 16 < 16 by omega), dif_neg h']
      exact congrArg t (Fin.ext (by show 32 + (l.val - 16 - 16) = l.val; omega))

/-- The gradient as a sum of three parts, each padded with zeros. -/
theorem of_pads (c s : Fin 16 → EReal) (t : Fin 128 → EReal) (l : Fin 128) :
    ((if h : 32 ≤ l.val ∧ l.val - 32 < 96 then t ⟨32 + (l.val - 32), by omega⟩ else 0)
      + (if h : 16 ≤ l.val ∧ l.val - 16 < 16 then t ⟨16 + (l.val - 16), by omega⟩ * c ⟨l.val - 16, h.2⟩ + -t ⟨l.val - 16, by omega⟩ * s ⟨l.val - 16, h.2⟩ else 0))
      + (if h : 0 ≤ l.val ∧ l.val - 0 < 16 then t ⟨16 + (l.val - 0), by omega⟩ * s ⟨l.val - 0, h.2⟩ + t ⟨l.val - 0, by omega⟩ * c ⟨l.val - 0, h.2⟩ else 0)
    = turnedBack t c s l := by
  unfold turnedBack
  by_cases h : l.val < 16
  · rw [dif_neg (by omega), dif_neg (by omega), dif_pos ⟨Nat.zero_le _, h⟩, dif_pos h, zero_add, zero_add,
      show (⟨16 + (l.val - 0), by omega⟩ : Fin 128) = ⟨l.val + 16, by omega⟩ from Fin.ext (Nat.add_comm _ _)]
    rfl
  · by_cases h' : l.val < 32
    · rw [dif_neg (by omega), dif_pos (by omega), dif_neg (by omega), dif_neg h, dif_pos h', zero_add, add_zero,
        show (⟨16 + (l.val - 16), by omega⟩ : Fin 128) = l from Fin.ext (by show 16 + (l.val - 16) = l.val; omega)]
    · rw [dif_pos (by omega), dif_neg (by omega), dif_neg (by omega), dif_neg h, dif_neg h', add_zero, add_zero]
      exact congrArg t (Fin.ext (by show 32 + (l.val - 32) = l.val; omega))

variable {W : Nat} (hW : W % 128 = 0) (x : Fin W → EReal) (c s : Fin 16 → EReal) (j p n : Fin W)

/-- The tables make the rotation: `p` is the place 16 before `j`, and `n` the place 16 after it, around the row. -/
theorem by_tables (hp : 16 ≤ j.val → p.val = j.val - 16) (hn : j.val + 16 < W → n.val = j.val + 16) :
    x j * cosines c (inHead j) + x n * sinesUp s (inHead j) + x p * sinesDown s (inHead j) = turned (fun l => x (sameHead hW j l)) c s (inHead j) := by
  have ej : sameHead hW j (inHead j) = j := Fin.ext (by show 128 * (j.val / 128) + j.val % 128 = j.val; omega)
  unfold cosines sinesUp sinesDown turned
  by_cases h : j.val % 128 < 16
  · have en : sameHead hW j ⟨j.val % 128 + 16, by omega⟩ = n := Fin.ext (by rw [hn (by omega)]; show 128 * (j.val / 128) + (j.val % 128 + 16) = _; omega)
    simp only [dif_pos h, ej, en, mul_zero, add_zero, mul_neg, sub_eq_add_neg]
  · by_cases h' : j.val % 128 < 32
    · have ep : sameHead hW j ⟨j.val % 128 - 16, by omega⟩ = p := Fin.ext (by rw [hp (by omega)]; show 128 * (j.val / 128) + (j.val % 128 - 16) = _; omega)
      simp only [dif_neg h, dif_pos h', ej, ep, mul_zero, add_zero]
    · simp only [dif_neg h, dif_neg h', ej, mul_zero, add_zero, mul_one]

/-- They make its gradient, multiplied with before the shifts. -/
theorem by_tables_back (hp : 16 ≤ j.val → p.val = j.val - 16) (hp' : p.val % 128 = (j.val + 112) % 128)
    (hn : j.val + 16 < W → n.val = j.val + 16) (hn' : n.val % 128 = (j.val + 16) % 128) :
    x j * cosines c (inHead j) + x p * sinesUp s (inHead p) + x n * sinesDown s (inHead n) = turnedBack (fun l => x (sameHead hW j l)) c s (inHead j) := by
  have ej : sameHead hW j (inHead j) = j := Fin.ext (by show 128 * (j.val / 128) + j.val % 128 = j.val; omega)
  unfold cosines sinesUp sinesDown turnedBack
  by_cases h : j.val % 128 < 16
  · have en : sameHead hW j ⟨j.val % 128 + 16, by omega⟩ = n := Fin.ext (by rw [hn (by omega)]; show 128 * (j.val / 128) + (j.val % 128 + 16) = _; omega)
    have h1 : ¬p.val % 128 < 16 := by omega
    have h2 : ¬n.val % 128 < 16 := by omega
    have h3 : n.val % 128 < 32 := by omega
    have e : (⟨n.val % 128 - 16, by omega⟩ : Fin 16) = ⟨j.val % 128, h⟩ := Fin.ext (by show n.val % 128 - 16 = j.val % 128; omega)
    simp only [dif_pos h, dif_neg h1, dif_neg h2, dif_pos h3, e, ej, en, mul_zero, add_zero]
    exact add_comm _ _
  · by_cases h' : j.val % 128 < 32
    · have ep : sameHead hW j ⟨j.val % 128 - 16, by omega⟩ = p := Fin.ext (by rw [hp (by omega)]; show 128 * (j.val / 128) + (j.val % 128 - 16) = _; omega)
      have h1 : p.val % 128 < 16 := by omega
      have h2 : ¬n.val % 128 < 16 := by omega
      have h3 : ¬n.val % 128 < 32 := by omega
      have e : (⟨p.val % 128, h1⟩ : Fin 16) = ⟨j.val % 128 - 16, by omega⟩ := Fin.ext (by show p.val % 128 = j.val % 128 - 16; omega)
      simp only [dif_neg h, dif_pos h', dif_pos h1, dif_neg h2, dif_neg h3, e, ej, ep, mul_zero, add_zero, mul_neg, EReal.neg_mul]
    · have h1 : ¬p.val % 128 < 16 := by omega
      by_cases h2 : n.val % 128 < 16
      · simp only [dif_neg h, dif_neg h', dif_neg h1, dif_pos h2, ej, mul_zero, add_zero, mul_one]
      · have h3 : ¬n.val % 128 < 32 := by omega
        simp only [dif_neg h, dif_neg h', dif_neg h1, dif_neg h2, dif_neg h3, ej, mul_zero, add_zero, mul_one]

/-- An element of a table laid side by side. -/
theorem table_at {R W : Nat} (N : Nat) (v : (⟨2, ![R, 128]⟩ : Shape).Idx → EReal)
    (h : Shape.Concatenates ((List.replicate N (⟨⟨2, ![R, 128]⟩, v⟩ : (s : Shape) × (s.Idx → EReal))).map (·.1)) ⟨2, ![R, W]⟩ 1) (r : Fin R) (j : Fin W) :
    concatenate ⟨2, ![R, W]⟩ 1 (List.replicate N (⟨⟨2, ![R, 128]⟩, v⟩ : (s : Shape) × (s.Idx → EReal))) h (ix2 r j) = v (ix2 r (inHead j)) :=
  concatenate_replicate_apply (t := ⟨2, ![R, W]⟩) (s₁ := ⟨2, ![R, 128]⟩) 1 N v h rfl (ix2 r j) (ix2 r (inHead j)) rfl fun b hb => by
    match b with
    | ⟨0, _⟩ => rfl
    | ⟨1, _⟩ => exact absurd rfl hb

/-- An element of an array of heads whose last coordinate is padded to 128. -/
theorem pad_at {A B w lo hi : Nat} (x : (⟨3, ![A, B, w]⟩ : Shape).Idx → EReal) {u : Shape} (v : u.Idx → EReal)
    (h : (⟨3, ![A, B, w]⟩ : Shape).Pads ![0, 0, lo] ![0, 0, hi] ![0, 0, 0] ⟨3, ![A, B, 128]⟩) (hu : 0 < u.numel) (a : Fin A) (b : Fin B) (l : Fin 128) :
    pad ⟨3, ![A, B, 128]⟩ ![0, 0, lo] ![0, 0, hi] ![0, 0, 0] x v h hu (ix3 a b l) =
    if h : lo ≤ l.val ∧ l.val - lo < w then x (ix3 a b ⟨l.val - lo, h.2⟩) else v (Shape.Idx.first hu) := by
  rw [pad_apply]
  by_cases hl : lo ≤ l.val ∧ l.val - lo < w
  · rw [dif_pos hl, dif_pos]
    · refine congrArg x (funext fun d => ?_)
      match d with
      | ⟨0, _⟩ => exact Fin.ext (Nat.div_one _)
      | ⟨1, _⟩ => exact Fin.ext (Nat.div_one _)
      | ⟨2, _⟩ => exact Fin.ext (Nat.div_one _)
    · intro d
      match d with
      | ⟨0, _⟩ => exact ⟨Nat.zero_le _, Nat.mod_one _, lt_of_eq_of_lt (Nat.div_one _) a.isLt⟩
      | ⟨1, _⟩ => exact ⟨Nat.zero_le _, Nat.mod_one _, lt_of_eq_of_lt (Nat.div_one _) b.isLt⟩
      | ⟨2, _⟩ => exact ⟨hl.1, Nat.mod_one _, lt_of_eq_of_lt (Nat.div_one _) hl.2⟩
  · rw [dif_neg hl, dif_neg]
    intro hd
    have h2 := hd 2
    exact hl ⟨h2.1, lt_of_eq_of_lt (Nat.div_one _).symm h2.2.2⟩

end Rotary

end
-- ==== Proof.QkvBwd.lean ====
/-
  The gradient of the rotation of queries and keys, with that of the values beside it: the kernel writes, block by block, what
  the reference computes.
-/
module

public import Idealize.ShloMosaic.Lib.Pointwise.Index
public import proofs.«01_k».proof.Proof.Rotary
public import proofs.«01_k».proof.Proof.Gen.QkvBwdIdeal.Value
public import proofs.«01_k».proof.Proof.Gen.RefQkvBwdIdeal.Read
public import proofs.«01_k».proof.Defs
import Idealize.ShloMosaic.Lib.Pipeline.ValueKit
import Idealize.ShloMosaic.Lib.Claim

@[expose] public section

set_option maxRecDepth 16384

noncomputable section

namespace Products.QkvBwd

open Idealize.ShloMosaic Idealize.ShloMosaic.TcCoe Idealize.SL.Sem
open Idealize.ShloMosaic.Pipeline (Dat)
open Cert.QkvBwdIdeal Cert.QkvBwdIdeal.Gen
open Cert.RefQkvBwdIdeal.Read
open Rotary

/-- A block of rows of 16 heads by three tables of the rows' width, two of the products turned by 16 places. -/
def sum16 (x a b c : FVec Ideal S256x2048 .f32) : FVec Ideal S256x2048 .f32 :=
  addf (addf (mulf x a) (dynamicRotate 1 16#32 none (mulf x b) rotates_S256x2048_d1)) (dynamicRotate 1 2032#32 none (mulf x c) rotates_S256x2048_d1)

/-- The same of 4 heads. -/
def sum4 (x a b c : FVec Ideal S256x512 .f32) : FVec Ideal S256x512 .f32 :=
  addf (addf (mulf x a) (dynamicRotate 1 16#32 none (mulf x b) rotates_S256x512_d1)) (dynamicRotate 1 496#32 none (mulf x c) rotates_S256x512_d1)

/-- A table of one head, laid side by side for 16 heads and for 4. -/
def wide16 (v : FVec Ideal S256x128 .f32) : FVec Ideal S256x2048 .f32 :=
  concatenate S256x2048 1 (List.replicate 16 ⟨S256x128, v⟩) concatenates_S256x128_S256x128_S256x128_S256x128_S256x128_S256x128_S256x128_S256x128_S256x128_S256x128_S256x128_S256x128_S256x128_S256x128_S256x128_S256x128_S256x2048_d1

def wide4 (v : FVec Ideal S256x128 .f32) : FVec Ideal S256x512 .f32 :=
  concatenate S256x512 1 (List.replicate 4 ⟨S256x128, v⟩) concatenates_S256x128_S256x128_S256x128_S256x128_S256x512_d1

/-- Three blocks side by side. -/
def beside (q : FVec Ideal S256x2048 .f32) (k v : FVec Ideal S256x512 .f32) : FVec Ideal S256x3072 .bf16 :=
  truncf .bf16 (concatenate S256x3072 1 [⟨S256x2048, q⟩, ⟨S256x512, k⟩, ⟨S256x512, v⟩] concatenates_S256x2048_S256x512_S256x512_S256x3072_d1) bitsLt_bf16_f32

theorem cast_same (v : FVec Ideal S256x128 .f32) : shapeCast S256x128 v shapeCasts_S256x128_S256x128 = v := by
  funext y
  pointwise

/-- What the body computes. -/
theorem body_eq (q : FVec Ideal S256x2048 .f32) (k v : FVec Ideal S256x512 .f32) (a b c : FVec Ideal S256x128 .f32) :
    k0_pay1 (F := Ideal) q k v a b c = beside (sum16 q (wide16 a) (wide16 b) (wide16 c)) (sum4 k (wide4 a) (wide4 b) (wide4 c)) v := by
  unfold k0_pay1
  rw [cast_same a, cast_same b, cast_same c]
  rfl

theorem sum16_at (x a b c : FVec Ideal S256x2048 .f32) (r : Fin 256) (j : Fin 2048) : sum16 x a b c (ix2 r j) =
    x (ix2 r j) * a (ix2 r j) + x (ix2 r ⟨(j.val + 2048 - 16) % 2048, Nat.mod_lt _ (by decide)⟩) * b (ix2 r ⟨(j.val + 2048 - 16) % 2048, Nat.mod_lt _ (by decide)⟩)
      + x (ix2 r ⟨(j.val + 2048 - 2032) % 2048, Nat.mod_lt _ (by decide)⟩) * c (ix2 r ⟨(j.val + 2048 - 2032) % 2048, Nat.mod_lt _ (by decide)⟩) := by
  pointwise [sum16]

theorem sum4_at (x a b c : FVec Ideal S256x512 .f32) (r : Fin 256) (j : Fin 512) : sum4 x a b c (ix2 r j) =
    x (ix2 r j) * a (ix2 r j) + x (ix2 r ⟨(j.val + 512 - 16) % 512, Nat.mod_lt _ (by decide)⟩) * b (ix2 r ⟨(j.val + 512 - 16) % 512, Nat.mod_lt _ (by decide)⟩)
      + x (ix2 r ⟨(j.val + 512 - 496) % 512, Nat.mod_lt _ (by decide)⟩) * c (ix2 r ⟨(j.val + 512 - 496) % 512, Nat.mod_lt _ (by decide)⟩) := by
  pointwise [sum4]

theorem wide16_at (v : FVec Ideal S256x128 .f32) (r : Fin 256) (j : Fin 2048) : wide16 v (ix2 r j) = v (ix2 r (inHead j)) := table_at 16 v _ r j

theorem wide4_at (v : FVec Ideal S256x128 .f32) (r : Fin 256) (j : Fin 512) : wide4 v (ix2 r j) = v (ix2 r (inHead j)) := table_at 4 v _ r j

theorem beside_at (q : FVec Ideal S256x2048 .f32) (k v : FVec Ideal S256x512 .f32) (r : Fin 256) (j : Fin 3072) : beside q k v (ix2 r j) =
    if h : j.val < 2048 then q (ix2 r ⟨j, h⟩) else if h' : j.val - 2048 < 512 then k (ix2 r ⟨j.val - 2048, h'⟩)
    else v (ix2 r ⟨j.val - 2048 - 512, by omega⟩) := by
  pointwise [beside]

/-- The reference: the gradient of the rotation of 16 heads and of 4, and the three beside each other. -/
theorem ref_heads16 (x0 : FVec Ideal S4096x2048 .f32) (x3 x4 : FVec Ideal S4096x16 .f32) (r : Fin 4096) (h : Fin 16) (l : Fin 128) :
    val_main_v38 (F := Ideal) x0 x3 x4 (ix3 r h l) =
    turnedBack (fun l => x0 (ix2 r ⟨h.val * 128 + l.val, by omega⟩)) (fun a => x3 (ix2 r a)) (fun a => x4 (ix2 r a)) l := by
  have first (a : Fin 16) : val_main_v34 (F := Ideal) x0 x3 x4 (ix3 r h a) =
      x0 (ix2 r ⟨h.val * 128 + (16 + a.val), by omega⟩) * x4 (ix2 r a) + x0 (ix2 r ⟨h.val * 128 + a.val, by omega⟩) * x3 (ix2 r a) := by
    pointwise [val_main_v34, val_main_v25, val_main_v33, val_main_v21, val_main_v24, val_main_v20, val_main_v32, val_main_v19, val_main_v5, val_main_v4]
  have second (a : Fin 16) : val_main_v31 (F := Ideal) x0 x3 x4 (ix3 r h a) =
      x0 (ix2 r ⟨h.val * 128 + (16 + a.val), by omega⟩) * x3 (ix2 r a) + -x0 (ix2 r ⟨h.val * 128 + a.val, by omega⟩) * x4 (ix2 r a) := by
    pointwise [val_main_v31, val_main_v27, val_main_v30, val_main_v28, val_main_v29, val_main_v21, val_main_v26, val_main_v20, val_main_v19, val_main_v5, val_main_v4]
  have rest (a : Fin 96) : val_main_v22 (F := Ideal) x0 (ix3 r h a) = x0 (ix2 r ⟨h.val * 128 + (32 + a.val), by omega⟩) := by
    pointwise [val_main_v22, val_main_v19]
  have z0 (i : S_.Idx) : val_main_cst_0 (F := Ideal) i = (0 : EReal) := by pointwise [val_main_cst_0]
  have z1 (i : S_.Idx) : val_main_cst_1 (F := Ideal) i = (0 : EReal) := by pointwise [val_main_cst_1]
  have z2 (i : S_.Idx) : val_main_cst_2 (F := Ideal) i = (0 : EReal) := by pointwise [val_main_cst_2]
  show (val_main_v23 (F := Ideal) x0 (ix3 r h l) + val_main_v35 (F := Ideal) x0 x3 x4 (ix3 r h l)) + val_main_v37 (F := Ideal) x0 x3 x4 (ix3 r h l) = _
  unfold val_main_v23 val_main_v35 val_main_v37
  rw [pad_at, pad_at, pad_at]
  simp only [first, second, rest, z0, z1, z2]
  exact of_pads (fun a => x3 (ix2 r a)) (fun a => x4 (ix2 r a)) (fun l => x0 (ix2 r ⟨h.val * 128 + l.val, by omega⟩)) l

theorem ref_heads4 (x1 : FVec Ideal S4096x512 .f32) (x3 x4 : FVec Ideal S4096x16 .f32) (r : Fin 4096) (h : Fin 4) (l : Fin 128) :
    val_main_v78 (F := Ideal) x1 x3 x4 (ix3 r h l) =
    turnedBack (fun l => x1 (ix2 r ⟨h.val * 128 + l.val, by omega⟩)) (fun a => x3 (ix2 r a)) (fun a => x4 (ix2 r a)) l := by
  have first (a : Fin 16) : val_main_v74 (F := Ideal) x1 x3 x4 (ix3 r h a) =
      x1 (ix2 r ⟨h.val * 128 + (16 + a.val), by omega⟩) * x4 (ix2 r a) + x1 (ix2 r ⟨h.val * 128 + a.val, by omega⟩) * x3 (ix2 r a) := by
    pointwise [val_main_v74, val_main_v65, val_main_v73, val_main_v61, val_main_v64, val_main_v60, val_main_v72, val_main_v59, val_main_v45, val_main_v44]
  have second (a : Fin 16) : val_main_v71 (F := Ideal) x1 x3 x4 (ix3 r h a) =
      x1 (ix2 r ⟨h.val * 128 + (16 + a.val), by omega⟩) * x3 (ix2 r a) + -x1 (ix2 r ⟨h.val * 128 + a.val, by omega⟩) * x4 (ix2 r a) := by
    pointwise [val_main_v71, val_main_v67, val_main_v70, val_main_v68, val_main_v69, val_main_v61, val_main_v66, val_main_v60, val_main_v59, val_main_v45, val_main_v44]
  have rest (a : Fin 96) : val_main_v62 (F := Ideal) x1 (ix3 r h a) = x1 (ix2 r ⟨h.val * 128 + (32 + a.val), by omega⟩) := by
    pointwise [val_main_v62, val_main_v59]
  have z0 (i : S_.Idx) : val_main_cst_4 (F := Ideal) i = (0 : EReal) := by pointwise [val_main_cst_4]
  have z1 (i : S_.Idx) : val_main_cst_5 (F := Ideal) i = (0 : EReal) := by pointwise [val_main_cst_5]
  have z2 (i : S_.Idx) : val_main_cst_6 (F := Ideal) i = (0 : EReal) := by pointwise [val_main_cst_6]
  show (val_main_v63 (F := Ideal) x1 (ix3 r h l) + val_main_v75 (F := Ideal) x1 x3 x4 (ix3 r h l)) + val_main_v77 (F := Ideal) x1 x3 x4 (ix3 r h l) = _
  unfold val_main_v63 val_main_v75 val_main_v77
  rw [pad_at, pad_at, pad_at]
  simp only [first, second, rest, z0, z1, z2]
  exact of_pads (fun a => x3 (ix2 r a)) (fun a => x4 (ix2 r a)) (fun l => x1 (ix2 r ⟨h.val * 128 + l.val, by omega⟩)) l

theorem ref_at (x0 : FVec Ideal S4096x2048 .f32) (x1 x2 : FVec Ideal S4096x512 .f32) (x3 x4 : FVec Ideal S4096x16 .f32) (r : Fin 4096) (j : Fin 3072) :
    val_main_v81 (F := Ideal) x0 x1 x2 x3 x4 (ix2 r j) =
    if h : j.val < 2048 then turnedBack (fun l => x0 (ix2 r (sameHead (by decide) (⟨j, h⟩ : Fin 2048) l))) (fun a => x3 (ix2 r a)) (fun a => x4 (ix2 r a)) (inHead (⟨j, h⟩ : Fin 2048))
    else if h' : j.val - 2048 < 512 then
      turnedBack (fun l => x1 (ix2 r (sameHead (by decide) (⟨j.val - 2048, h'⟩ : Fin 512) l))) (fun a => x3 (ix2 r a)) (fun a => x4 (ix2 r a)) (inHead (⟨j.val - 2048, h'⟩ : Fin 512))
    else x2 (ix2 r ⟨j.val - 2048 - 512, by omega⟩) := by
  have e16 (j : Fin 2048) : val_main_v39 (F := Ideal) x0 x3 x4 (ix2 r j) = val_main_v38 (F := Ideal) x0 x3 x4 (ix3 r ⟨j.val / 128, by omega⟩ (inHead j)) := by
    pointwise [val_main_v39]
  have e4 (j : Fin 512) : val_main_v79 (F := Ideal) x1 x3 x4 (ix2 r j) = val_main_v78 (F := Ideal) x1 x3 x4 (ix3 r ⟨j.val / 128, by omega⟩ (inHead j)) := by
    pointwise [val_main_v79]
  have e : val_main_v81 (F := Ideal) x0 x1 x2 x3 x4 (ix2 r j) = if h : j.val < 2048 then val_main_v39 (F := Ideal) x0 x3 x4 (ix2 r ⟨j, h⟩)
      else if h' : j.val - 2048 < 512 then val_main_v79 (F := Ideal) x1 x3 x4 (ix2 r ⟨j.val - 2048, h'⟩) else x2 (ix2 r ⟨j.val - 2048 - 512, by omega⟩) := by
    pointwise [val_main_v81, val_main_v80]
  rw [e]
  simp only [e16, e4, ref_heads16, ref_heads4, Nat.mul_comm]

variable (m : (ℓ : Loc nD τ sig) → Buf (Elt Ideal) ℓ) (c : Dev nD)

/-- The kernel's arguments: the gradients of the rotated queries and keys and of the values, the cosines and the sines. -/
abbrev dq : FVec Ideal S4096x2048 .f32 := m ((c : Thread nD τ).loc main_arg0)
abbrev dk : FVec Ideal S4096x512 .f32 := m ((c : Thread nD τ).loc main_arg1)
abbrev dv : FVec Ideal S4096x512 .f32 := m ((c : Thread nD τ).loc main_arg2)
abbrev cosArg : FVec Ideal S4096x16 .f32 := m ((c : Thread nD τ).loc main_arg3)
abbrev sinArg : FVec Ideal S4096x16 .f32 := m ((c : Thread nD τ).loc main_arg4)

/-- Which blocks a grid step works on: its rows of every array. -/
theorem blocks : ∀ t : Fin cfg0.N, (win0_0.index t = ![t.val, 0] ∧ win0_1.index t = ![t.val, 0] ∧ win0_2.index t = ![t.val, 0]) ∧
    (win0_3.index t = ![t.val, 0] ∧ win0_4.index t = ![t.val, 0] ∧ win0_5.index t = ![t.val, 0]) ∧ win0_6.index t = ![t.val, 0] :=
  (by decide +kernel : ∀ t : Fin grid0.N, _)

/-- The rows of a grid step. -/
def row (t : Fin cfg0.N) (r : Fin 256) : Fin 4096 := ⟨t.val * 256 + r.val, by have : t.val < 16 := t.isLt; omega⟩

variable (t : Fin cfg0.N) (r : Fin 256)

theorem block_q (j : Fin 2048) : iblk m c 0 t (ix2 r j) = dq m c (ix2 (row t r) j) := by
  unfold row
  blk_ext [iblk, V, blocks t]

theorem block_k (j : Fin 512) : iblk m c 1 t (ix2 r j) = dk m c (ix2 (row t r) j) := by
  unfold row
  blk_ext [iblk, V, blocks t]

theorem block_v (j : Fin 512) : iblk m c 2 t (ix2 r j) = dv m c (ix2 (row t r) j) := by
  unfold row
  blk_ext [iblk, V, blocks t]

/-- Two arrays of 16 columns and one of 96, side by side. -/
def side (x y : FVec Ideal S4096x16 .f32) (z : FVec Ideal S4096x96 .f32) : FVec Ideal S4096x128 .f32 :=
  concatenate S4096x128 1 [⟨S4096x16, x⟩, ⟨S4096x16, y⟩, ⟨S4096x96, z⟩] concatenates_S4096x16_S4096x16_S4096x96_S4096x128_d1

theorem side_congr {x x' y y' : FVec Ideal S4096x16 .f32} {z z' : FVec Ideal S4096x96 .f32} (hx : x = x') (hy : y = y') (hz : z = z') :
    side x y z = side x' y' z' := by rw [hx, hy, hz]

/-- The tables, as the arrays they are made of side by side. -/
def cosTable (x : FVec Ideal S4096x16 .f32) : FVec Ideal S4096x128 .f32 :=
  side x x (broadcastInDim S4096x96 ![] bcast_S_S4096x96 (constant (F := Ideal) S_ .f32 0x3F800000#32))

def downTable (x : FVec Ideal S4096x16 .f32) : FVec Ideal S4096x128 .f32 :=
  side (broadcastInDim S4096x16 ![] bcast_S_S4096x16 (constant (F := Ideal) S_ .f32 0x00000000#32)) x
    (broadcastInDim S4096x96 ![] bcast_S_S4096x96 (constant (F := Ideal) S_ .f32 0x00000000#32))

theorem cosTable_at (x : FVec Ideal S4096x16 .f32) (p : Fin 4096) (l : Fin 128) : cosTable x (ix2 p l) = cosines (fun a => x (ix2 p a)) l := by
  unfold cosines
  by_cases h : l.val < 16
  · pointwise [cosTable, side, h]
  · by_cases h' : l.val < 32
    · have h1 : l.val - 16 < 16 := by omega
      pointwise [cosTable, side, h, h', h1]
    · have h1 : ¬l.val - 16 < 16 := by omega
      pointwise [cosTable, side, h, h', h1]

theorem downTable_at (x : FVec Ideal S4096x16 .f32) (p : Fin 4096) (l : Fin 128) : downTable x (ix2 p l) = sinesDown (fun a => x (ix2 p a)) l := by
  unfold sinesDown
  by_cases h : l.val < 16
  · pointwise [downTable, side, h]
  · by_cases h' : l.val < 32
    · have h1 : l.val - 16 < 16 := by omega
      pointwise [downTable, side, h, h', h1]
    · have h1 : ¬l.val - 16 < 16 := by omega
      pointwise [downTable, side, h, h', h1]

/-- The tables when the region is entered. -/
theorem entry_cos : V m c main_v1 = cosTable (cosArg m c) := by
  unfold V
  rw [StableHlo.after_cons, StableHlo.after_cons, StableHlo.after_cons]
  rw [StableHlo.after_of_forall_not_mem (b := Proc.devRef .tc main_v1) _ _ (List.forall_iff_forall_mem.mp (by
    simp only [List.Forall, StableHlo.nullary_writes, StableHlo.unary_writes, StableHlo.binary_writes, StableHlo.nary_writes, Finset.mem_singleton]
    repeat' apply And.intro
    all_goals exact StableHlo.devRef_ne_of_ne (by decide)))]
  refine (StableHlo.nary_result _ _ _ _ _ _).trans ?_
  refine side_congr ?_ ?_ ?_
  · show HloOp.result _ _ (Proc.devRef .tc main_arg3) = _
    after_results_steps
  · show HloOp.result _ _ (Proc.devRef .tc main_arg3) = _
    after_results_steps
  · show HloOp.result _ _ (Proc.devRef .tc main_v0) = _
    after_results_steps

theorem entry_down : V m c main_v7 = downTable (sinArg m c) := by
  unfold V
  simp only [StableHlo.after_cons, StableHlo.after_nil]
  refine (StableHlo.nary_result _ _ _ _ _ _).trans ?_
  refine side_congr ?_ ?_ ?_
  · show HloOp.result _ _ (Proc.devRef .tc main_v5) = _
    after_results_steps
  · show HloOp.result _ _ (Proc.devRef .tc main_arg4) = _
    after_results_steps
  · show HloOp.result _ _ (Proc.devRef .tc main_v6) = _
    after_results_steps

theorem block_cos (l : Fin 128) : iblk m c 3 t (ix2 r l) = cosines (fun a => cosArg m c (ix2 (row t r) a)) l := by
  have e : iblk m c 3 t (ix2 r l) = V m c main_v1 (ix2 (row t r) l) := by unfold row; blk_ext [iblk, blocks t]
  rw [e, entry_cos, cosTable_at]

theorem block_up (l : Fin 128) : iblk m c 4 t (ix2 r l) = sinesUp (fun a => sinArg m c (ix2 (row t r) a)) l := by
  have e : iblk m c 4 t (ix2 r l) = V m c main_v4 (ix2 (row t r) l) := by unfold row; blk_ext [iblk, blocks t]
  rw [e]
  entry_read
  pointwise [sinesUp]

theorem block_down (l : Fin 128) : iblk m c 5 t (ix2 r l) = sinesDown (fun a => sinArg m c (ix2 (row t r) a)) l := by
  have e : iblk m c 5 t (ix2 r l) = V m c main_v7 (ix2 (row t r) l) := by unfold row; blk_ext [iblk, blocks t]
  rw [e, entry_down, downTable_at]

/-- An element of the block a grid step stores. -/
theorem stored (j : Fin 3072) : k0_pay1 (F := Ideal) (iblk m c 0 t) (iblk m c 1 t) (iblk m c 2 t) (iblk m c 3 t) (iblk m c 4 t) (iblk m c 5 t) (ix2 r j) =
    val_main_v81 (F := Ideal) (dq m c) (dk m c) (dv m c) (cosArg m c) (sinArg m c) (ix2 (row t r) j) := by
  refine (congrFun (body_eq _ _ _ _ _ _) _).trans ((beside_at _ _ _ r j).trans (Eq.trans ?_ (ref_at _ _ _ _ _ _ j).symm))
  by_cases h : j.val < 2048
  · rw [dif_pos h, dif_pos h, sum16_at]
    simp only [wide16_at, block_q, block_cos, block_up, block_down]
    exact by_tables_back (W := 2048) (by decide) (fun j => dq m c (ix2 (row t r) j)) _ _ ⟨j, h⟩ _ _
      (fun (g : 16 ≤ j.val) => by show (j.val + 2048 - 16) % 2048 = j.val - 16; omega) (by show (j.val + 2048 - 16) % 2048 % 128 = (j.val + 112) % 128; omega)
      (fun (g : j.val + 16 < 2048) => by show (j.val + 2048 - 2032) % 2048 = j.val + 16; omega) (by show (j.val + 2048 - 2032) % 2048 % 128 = (j.val + 16) % 128; omega)
  · rw [dif_neg h, dif_neg h]
    by_cases h' : j.val - 2048 < 512
    · rw [dif_pos h', dif_pos h', sum4_at]
      simp only [wide4_at, block_k, block_cos, block_up, block_down]
      exact by_tables_back (W := 512) (by decide) (fun j => dk m c (ix2 (row t r) j)) _ _ ⟨j.val - 2048, h'⟩ _ _
        (fun (g : 16 ≤ j.val - 2048) => by show (j.val - 2048 + 512 - 16) % 512 = j.val - 2048 - 16; omega) (by show (j.val - 2048 + 512 - 16) % 512 % 128 = (j.val - 2048 + 112) % 128; omega)
        (fun (g : j.val - 2048 + 16 < 512) => by show (j.val - 2048 + 512 - 496) % 512 = j.val - 2048 + 16; omega) (by show (j.val - 2048 + 512 - 496) % 512 % 128 = (j.val - 2048 + 16) % 128; omega)
    · rw [dif_neg h', dif_neg h']
      exact block_v m c t r _

/-- The result array. -/
theorem final : (dats m 0 c).arrAt 6 cfg0.N = val_main_v81 (F := Ideal) (dq m c) (dk m c) (dv m c) (cosArg m c) (sinArg m c) := by
  refine (dats m 0 c).arrAt_eq_of_covers 6 _ (by decide +kernel) fun t _ y => ?_
  blk_simp
  rw [after0_6]; frame_out
  have ey : y = ix2 (n0 := 256) (n1 := 3072) (y 0) (y 1) := eq_ix2 (n0 := 256) (n1 := 3072) y
  have e : ((cfg0.win 6).blk t).view.emb (ix2 (n0 := 256) (n1 := 3072) (y 0) (y 1)) = ix2 (row t (y 0)) (y 1) := by
    unfold row
    blk_ext [blocks t]
  rw [ey]
  exact (stored m c t (y 0) (y 1)).trans (congrArg _ e.symm)

/-- The reference runs to its end. -/
theorem frame_ref : Cert.quiescent_RefQkvBwdIdeal := fun m ρ _ =>
  (θ_run Cert.RefQkvBwdIdeal.defs _ _).mono (fun r h => ⟨fun c => (h c).2, sem_eq_zero_of_no_sems (by decide) r.2⟩)
    (Cert.RefQkvBwdIdeal.Value.run (F := Ideal) m ρ)

/-- The kernel computes what the reference computes. -/
theorem algebraic : Cert.algebraic_QkvBwdIdeal_RefQkvBwdIdeal := fun m ρ m' ρ' _ args =>
  ⟨fun c => val_main_v81 (F := Ideal) (dq m c) (dk m c) (dv m c) (cosArg m c) (sinArg m c),
    (θ_run defs _ _).mono (fun r h c => ⟨(h c).1.trans (final m c), (h c).2⟩) (Cert.QkvBwdIdeal.Value.run_blocks m ρ),
    (θ_run Cert.RefQkvBwdIdeal.defs _ _).mono
      (fun r h c => ⟨(h c).1.trans ((val_main_v81_eq m' c).trans
        (by rw [(args c).1, (args c).2.1, (args c).2.2.1, (args c).2.2.2.1, (args c).2.2.2.2])), (h c).2⟩)
      (Cert.RefQkvBwdIdeal.Value.run (F := Ideal) m' ρ')⟩

end Products.QkvBwd

end
-- ==== Proof.Swiglu.lean ====
/-
  The gated product of the MLP: the kernel writes, block by block, what the reference computes.
-/
module

public import Idealize.ShloMosaic.Lib.Pointwise.Index
public import proofs.«01_k».proof.Proof.Gen.SwigluIdeal.Value
public import proofs.«01_k».proof.Proof.Gen.RefSwigluIdeal.Read
public import proofs.«01_k».proof.Defs
import Idealize.ShloMosaic.Lib.Pipeline.ValueKit
import Idealize.ShloMosaic.Lib.Claim

@[expose] public section

set_option maxRecDepth 16384

noncomputable section

namespace Products.Swiglu

open Idealize.ShloMosaic Idealize.ShloMosaic.TcCoe Idealize.SL.Sem
open Idealize.ShloMosaic.Pipeline (Dat)
open Cert.SwigluIdeal Cert.SwigluIdeal.Gen
open Cert.RefSwigluIdeal.Read

/-- What the body computes, element by element. -/
theorem pay_at (g u : FVec Ideal S256x5632 .bf16) (y : S256x5632.Idx) : k0_pay1 (F := Ideal) g u y = g y * Ideal.logistic (g y) * u y := by
  pointwise [k0_pay1]

/-- The reference, element by element. -/
theorem ref_at (gu : FVec Ideal S4096x11264 .bf16) (i : S4096x5632.Idx) : val_main_v5 (F := Ideal) gu i =
    gu (ix2 (i 0) (⟨(i 1).val, by have : (i 1).val < 5632 := (i 1).isLt; omega⟩ : Fin 11264))
      * Ideal.logistic (gu (ix2 (i 0) (⟨(i 1).val, by have : (i 1).val < 5632 := (i 1).isLt; omega⟩ : Fin 11264)))
      * gu (ix2 (i 0) (⟨5632 + (i 1).val, by have : (i 1).val < 5632 := (i 1).isLt; omega⟩ : Fin 11264)) := by
  pointwise [val_main_v5, val_main_v4, val_main_v3, val_main_call0_v5, val_main_call0_v4, val_main_call0_cst_0, val_main_call0_v3, val_main_call0_v2,
    val_main_call0_cst, val_main_call0_v1, val_main_call0_v0, val_main_v2, val_main_v1, val_main_v0, Ideal.logistic]

variable (m : (ℓ : Loc nD τ sig) → Buf (Elt Ideal) ℓ) (c : Dev nD)

/-- The reference's result of the kernel's argument. -/
abbrev ref : S4096x5632.Idx → EReal := val_main_v5 (F := Ideal) (m ((c : Thread nD τ).loc main_arg0))

/-- Which blocks a grid step works on: its rows of the gates, of what they multiply, and of the result. -/
theorem blocks : ∀ t : Fin cfg0.N, win0_0.index t = ![t.val, 0] ∧ win0_1.index t = ![t.val, 1] ∧ win0_2.index t = ![t.val, 0] :=
  (by decide +kernel : ∀ t : Fin grid0.N, _)

/-- An element of the block a grid step stores. -/
theorem stored (t : Fin cfg0.N) (y : S256x5632.Idx) : k0_pay1 (iblk m c 0 t) (iblk m c 1 t) y = ref m c (((cfg0.win 2).blk t).view.emb y) := by
  refine (pay_at _ _ y).trans (Eq.trans ?_ (ref_at _ _).symm)
  congr 2 <;> blk_point [iblk, V, blocks t]

/-- The result array. -/
theorem final : (dats m 0 c).arrAt 2 cfg0.N = ref m c := by
  refine (dats m 0 c).arrAt_eq_of_covers 2 _ (by decide +kernel) fun t _ y => ?_
  blk_simp
  rw [after0_2]; frame_out
  exact stored m c t y

/-- The reference runs to its end. -/
theorem frame_ref : Cert.quiescent_RefSwigluIdeal := fun m ρ _ =>
  (θ_run Cert.RefSwigluIdeal.defs _ _).mono (fun r h => ⟨fun c => (h c).2, sem_eq_zero_of_no_sems (by decide) r.2⟩)
    (Cert.RefSwigluIdeal.Value.run (F := Ideal) m ρ)

/-- The kernel computes what the reference computes. -/
theorem algebraic : Cert.algebraic_SwigluIdeal_RefSwigluIdeal := fun m ρ m' ρ' _ args =>
  ⟨ref m, (θ_run defs _ _).mono (fun r h c => ⟨(h c).1.trans (final m c), (h c).2⟩) (Cert.SwigluIdeal.Value.run_blocks m ρ),
    (θ_run Cert.RefSwigluIdeal.defs _ _).mono
      (fun r h c => ⟨by rw [(h c).1, args c]; exact val_main_v5_eq _, (h c).2⟩)
      (Cert.RefSwigluIdeal.Value.run (F := Ideal) m' ρ')⟩

end Products.Swiglu

end
-- ==== Proof.Merge.lean ====
/-
  The gated sum of the two branches: the kernel writes, block by block, what the reference computes.
-/
module

public import Idealize.ShloMosaic.Lib.Pointwise.Index
public import proofs.«01_k».proof.Proof.Gen.MergeIdeal.Value
public import proofs.«01_k».proof.Proof.Gen.RefMergeIdeal.Read
public import proofs.«01_k».proof.Defs
import Idealize.ShloMosaic.Lib.Pipeline.ValueKit
import Idealize.ShloMosaic.Lib.Claim

@[expose] public section

set_option maxRecDepth 16384

noncomputable section

namespace Products.Merge

open Idealize.ShloMosaic Idealize.ShloMosaic.TcCoe Idealize.SL.Sem
open Idealize.ShloMosaic.Pipeline (Dat)
open Cert.MergeIdeal Cert.MergeIdeal.Gen
open Cert.RefMergeIdeal.Read

/-- What the body computes, element by element, of two branches and of two gates in two pieces each. -/
theorem pay_at (a b : FVec Ideal S256x2048 .bf16) (s s' t t' : FVec Ideal S256x1024 .bf16) (y : S256x2048.Idx) : k0_pay1 (F := Ideal) a b s s' t t' y =
    if h : (y 1).val < 1024 then Ideal.logistic (s (ix2 (y 0) ⟨y 1, h⟩)) * a y + Ideal.logistic (t (ix2 (y 0) ⟨y 1, h⟩)) * b y
    else Ideal.logistic (s' (ix2 (y 0) (⟨(y 1).val - 1024, by have : (y 1).val < 2048 := (y 1).isLt; omega⟩ : Fin 1024))) * a y
      + Ideal.logistic (t' (ix2 (y 0) (⟨(y 1).val - 1024, by have : (y 1).val < 2048 := (y 1).isLt; omega⟩ : Fin 1024))) * b y := by
  by_cases h : (y 1).val < 1024
  · pointwise [k0_pay1, h]
  · pointwise [k0_pay1, h]

/-- The reference, element by element. -/
theorem ref_at (a b : FVec Ideal S4096x2048 .bf16) (z : FVec Ideal S4096x11264 .bf16) (i : S4096x2048.Idx) : val_main_v21 (F := Ideal) a b z i =
    Ideal.logistic (z (ix2 (i 0) (⟨7168 + (i 1).val, by have : (i 1).val < 2048 := (i 1).isLt; omega⟩ : Fin 11264))) * a i
      + Ideal.logistic (z (ix2 (i 0) (⟨7168 + (2048 + (i 1).val), by have : (i 1).val < 2048 := (i 1).isLt; omega⟩ : Fin 11264))) * b i := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0, val_main_cst_1, val_main_cst_2, Ideal.logistic]

variable (m : (ℓ : Loc nD τ sig) → Buf (Elt Ideal) ℓ) (c : Dev nD)

/-- The reference's result of the kernel's arguments. -/
abbrev ref : S4096x2048.Idx → EReal :=
  val_main_v21 (F := Ideal) (m ((c : Thread nD τ).loc main_arg0)) (m ((c : Thread nD τ).loc main_arg1)) (m ((c : Thread nD τ).loc main_arg2))

/-- Which blocks a grid step works on: its rows of the branches, of the gates, each in two pieces, and of the result. -/
theorem blocks : ∀ t : Fin cfg0.N, win0_0.index t = ![t.val, 0] ∧ win0_1.index t = ![t.val, 0] ∧ win0_2.index t = ![t.val, 7] ∧
    win0_3.index t = ![t.val, 8] ∧ win0_4.index t = ![t.val, 9] ∧ win0_5.index t = ![t.val, 10] ∧ win0_6.index t = ![t.val, 0] :=
  (by decide +kernel : ∀ t : Fin grid0.N, _)

/-- An element of the block a grid step stores. -/
theorem stored (t : Fin cfg0.N) (y : S256x2048.Idx) :
    k0_pay1 (iblk m c 0 t) (iblk m c 1 t) (iblk m c 2 t) (iblk m c 3 t) (iblk m c 4 t) (iblk m c 5 t) y = ref m c (((cfg0.win 6).blk t).view.emb y) := by
  have hy : (y 1).val < 2048 := (y 1).isLt
  refine (pay_at _ _ _ _ _ _ y).trans (Eq.trans ?_ (ref_at _ _ _ _).symm)
  by_cases h : (y 1).val < 1024
  · rw [dif_pos h]
    congr 3 <;> blk_point [iblk, V, blocks t]
  · rw [dif_neg h]
    congr 3 <;> blk_point [iblk, V, blocks t]

/-- The result array. -/
theorem final : (dats m 0 c).arrAt 6 cfg0.N = ref m c := by
  refine (dats m 0 c).arrAt_eq_of_covers 6 _ (by decide +kernel) fun t _ y => ?_
  blk_simp
  rw [after0_6]; frame_out
  exact stored m c t y

/-- The reference runs to its end. -/
theorem frame_ref : Cert.quiescent_RefMergeIdeal := fun m ρ _ =>
  (θ_run Cert.RefMergeIdeal.defs _ _).mono (fun r h => ⟨fun c => (h c).2, sem_eq_zero_of_no_sems (by decide) r.2⟩)
    (Cert.RefMergeIdeal.Value.run (F := Ideal) m ρ)

/-- The kernel computes what the reference computes. -/
theorem algebraic : Cert.algebraic_MergeIdeal_RefMergeIdeal := fun m ρ m' ρ' _ args =>
  ⟨ref m, (θ_run defs _ _).mono (fun r h c => ⟨(h c).1.trans (final m c), (h c).2⟩) (Cert.MergeIdeal.Value.run_blocks m ρ),
    (θ_run Cert.RefMergeIdeal.defs _ _).mono
      (fun r h c => ⟨by rw [(h c).1, (args c).1, (args c).2.1, (args c).2.2]; exact val_main_v21_eq _ _ _, (h c).2⟩)
      (Cert.RefMergeIdeal.Value.run (F := Ideal) m' ρ')⟩

end Products.Merge

end
-- ==== Proof.Glu.lean ====
/-
  The gated half of the convolution's input: the kernel writes, block by block, what the reference computes.
-/
module

public import Idealize.ShloMosaic.Lib.Pointwise.Index
public import proofs.«01_k».proof.Proof.Gen.GluIdeal.Value
public import proofs.«01_k».proof.Proof.Gen.RefGluIdeal.Read
public import proofs.«01_k».proof.Defs
import Idealize.ShloMosaic.Lib.Pipeline.ValueKit
import Idealize.ShloMosaic.Lib.Claim

@[expose] public section

set_option maxRecDepth 16384

noncomputable section

namespace Products.Glu

open Idealize.ShloMosaic Idealize.ShloMosaic.TcCoe Idealize.SL.Sem
open Idealize.ShloMosaic.Pipeline (Dat)
open Cert.GluIdeal Cert.GluIdeal.Gen
open Cert.RefGluIdeal.Read

/-- What the body computes, element by element, of four blocks of 1024 columns. -/
theorem pay_at (a a' b b' : FVec Ideal S256x1024 .bf16) (y : S256x2048.Idx) : k0_pay1 (F := Ideal) a a' b b' y =
    if h : (y 1).val < 1024 then a (ix2 (y 0) ⟨y 1, h⟩) * Ideal.logistic (b (ix2 (y 0) ⟨y 1, h⟩))
    else a' (ix2 (y 0) (⟨(y 1).val - 1024, by have : (y 1).val < 2048 := (y 1).isLt; omega⟩ : Fin 1024))
      * Ideal.logistic (b' (ix2 (y 0) (⟨(y 1).val - 1024, by have : (y 1).val < 2048 := (y 1).isLt; omega⟩ : Fin 1024))) := by
  by_cases h : (y 1).val < 1024
  · pointwise [k0_pay1, h]
  · pointwise [k0_pay1, h]

/-- The reference, element by element. -/
theorem ref_at (z : FVec Ideal S4096x11264 .bf16) (i : S4096x2048.Idx) : val_main_v10 (F := Ideal) z i =
    z (ix2 (i 0) (⟨3072 + (i 1).val, by have : (i 1).val < 2048 := (i 1).isLt; omega⟩ : Fin 11264))
      * Ideal.logistic (z (ix2 (i 0) (⟨3072 + (2048 + (i 1).val), by have : (i 1).val < 2048 := (i 1).isLt; omega⟩ : Fin 11264))) := by
  pointwise [val_main_v10, val_main_v9, val_main_v8, val_main_v7, val_main_v6, val_main_v5, val_main_v4, val_main_v3, val_main_v2, val_main_v1, val_main_v0,
    val_main_cst, val_main_cst_0, Ideal.logistic]

variable (m : (ℓ : Loc nD τ sig) → Buf (Elt Ideal) ℓ) (c : Dev nD)

/-- The reference's result of the kernel's argument. -/
abbrev ref : S4096x2048.Idx → EReal := val_main_v10 (F := Ideal) (m ((c : Thread nD τ).loc main_arg0))

/-- Which blocks a grid step works on: its rows of what is gated, of the gates, each in two pieces, and of the result. -/
theorem blocks : ∀ t : Fin cfg0.N, win0_0.index t = ![t.val, 3] ∧ win0_1.index t = ![t.val, 4] ∧ win0_2.index t = ![t.val, 5] ∧
    win0_3.index t = ![t.val, 6] ∧ win0_4.index t = ![t.val, 0] :=
  (by decide +kernel : ∀ t : Fin grid0.N, _)

/-- An element of the block a grid step stores. -/
theorem stored (t : Fin cfg0.N) (y : S256x2048.Idx) :
    k0_pay1 (iblk m c 0 t) (iblk m c 1 t) (iblk m c 2 t) (iblk m c 3 t) y = ref m c (((cfg0.win 4).blk t).view.emb y) := by
  have hy : (y 1).val < 2048 := (y 1).isLt
  refine (pay_at _ _ _ _ y).trans (Eq.trans ?_ (ref_at _ _).symm)
  by_cases h : (y 1).val < 1024
  · rw [dif_pos h]
    congr 2 <;> blk_point [iblk, V, blocks t]
  · rw [dif_neg h]
    congr 2 <;> blk_point [iblk, V, blocks t]

/-- The result array. -/
theorem final : (dats m 0 c).arrAt 4 cfg0.N = ref m c := by
  refine (dats m 0 c).arrAt_eq_of_covers 4 _ (by decide +kernel) fun t _ y => ?_
  blk_simp
  rw [after0_4]; frame_out
  exact stored m c t y

/-- The reference runs to its end. -/
theorem frame_ref : Cert.quiescent_RefGluIdeal := fun m ρ _ =>
  (θ_run Cert.RefGluIdeal.defs _ _).mono (fun r h => ⟨fun c => (h c).2, sem_eq_zero_of_no_sems (by decide) r.2⟩)
    (Cert.RefGluIdeal.Value.run (F := Ideal) m ρ)

/-- The kernel computes what the reference computes. -/
theorem algebraic : Cert.algebraic_GluIdeal_RefGluIdeal := fun m ρ m' ρ' _ args =>
  ⟨ref m, (θ_run defs _ _).mono (fun r h c => ⟨(h c).1.trans (final m c), (h c).2⟩) (Cert.GluIdeal.Value.run_blocks m ρ),
    (θ_run Cert.RefGluIdeal.defs _ _).mono
      (fun r h c => ⟨by rw [(h c).1, args c]; exact val_main_v10_eq _, (h c).2⟩)
      (Cert.RefGluIdeal.Value.run (F := Ideal) m' ρ')⟩

end Products.Glu

end
-- ==== Proof.Modulate.lean ====
/-
  The scale and shift of the first layer's input: the kernel writes, block by block, what the reference computes.
-/
module

public import Idealize.ShloMosaic.Lib.Pointwise.Index
public import proofs.«01_k».proof.Proof.Gen.ModulateIdeal.Value
public import proofs.«01_k».proof.Proof.Gen.RefModulateIdeal.Read
public import proofs.«01_k».proof.Defs
import Idealize.ShloMosaic.Lib.Pipeline.ValueKit
import Idealize.ShloMosaic.Lib.Claim

@[expose] public section

set_option maxRecDepth 16384

noncomputable section

namespace Products.Modulate

open Idealize.ShloMosaic Idealize.ShloMosaic.TcCoe Idealize.SL.Sem
open Idealize.ShloMosaic.Pipeline (Dat)
open Cert.ModulateIdeal Cert.ModulateIdeal.Gen
open Cert.RefModulateIdeal.Read

/-- What the body computes, element by element. -/
theorem pay_at (x : FVec Ideal S256x2048 .f32) (s b : FVec Ideal S1x2048 .f32) (y : S256x2048.Idx) : k0_pay1 (F := Ideal) x s b y =
    x y * (1 + s (ix2 0 (y 1))) + b (ix2 0 (y 1)) := by
  pointwise [k0_pay1]

/-- The reference, element by element. -/
theorem ref_at (x : FVec Ideal S4096x2048 .f32) (s b : FVec Ideal S1x2048 .f32) (i : S4096x2048.Idx) : val_main_v6 (F := Ideal) x s b i =
    x i * (1 + s (ix2 0 (i 1))) + b (ix2 0 (i 1)) := by
  pointwise [val_main_v6, val_main_v5, val_main_v4, val_main_v3, val_main_v2, val_main_v1, val_main_v0, val_main_cst]

variable (m : (ℓ : Loc nD τ sig) → Buf (Elt Ideal) ℓ) (c : Dev nD)

/-- The reference's result of the kernel's arguments. -/
abbrev ref : S4096x2048.Idx → EReal :=
  val_main_v6 (F := Ideal) (m ((c : Thread nD τ).loc main_arg0)) (m ((c : Thread nD τ).loc main_arg1)) (m ((c : Thread nD τ).loc main_arg2))

/-- Which blocks a grid step works on: its rows of the input and of the result, and the two vectors whole. -/
theorem blocks : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- An element of the block a grid step stores. -/
theorem stored (t : Fin cfg0.N) (y : S256x2048.Idx) :
    k0_pay1 (iblk m c 0 t) (iblk m c 1 t) (iblk m c 2 t) y = ref m c (((cfg0.win 3).blk t).view.emb y) := by
  refine (pay_at _ _ _ y).trans (Eq.trans ?_ (ref_at _ _ _ _).symm)
  congr 3 <;> blk_point [iblk, V, blocks t]

/-- The result array. -/
theorem final : (dats m 0 c).arrAt 3 cfg0.N = ref m c := by
  refine (dats m 0 c).arrAt_eq_of_covers 3 _ (by decide +kernel) fun t _ y => ?_
  blk_simp
  rw [after0_3]; frame_out
  exact stored m c t y

/-- The reference runs to its end. -/
theorem frame_ref : Cert.quiescent_RefModulateIdeal := fun m ρ _ =>
  (θ_run Cert.RefModulateIdeal.defs _ _).mono (fun r h => ⟨fun c => (h c).2, sem_eq_zero_of_no_sems (by decide) r.2⟩)
    (Cert.RefModulateIdeal.Value.run (F := Ideal) m ρ)

/-- The kernel computes what the reference computes. -/
theorem algebraic : Cert.algebraic_ModulateIdeal_RefModulateIdeal := fun m ρ m' ρ' _ args =>
  ⟨ref m, (θ_run defs _ _).mono (fun r h c => ⟨(h c).1.trans (final m c), (h c).2⟩) (Cert.ModulateIdeal.Value.run_blocks m ρ),
    (θ_run Cert.RefModulateIdeal.defs _ _).mono
      (fun r h c => ⟨by rw [(h c).1, (args c).1, (args c).2.1, (args c).2.2]; exact val_main_v6_eq _ _ _, (h c).2⟩)
      (Cert.RefModulateIdeal.Value.run (F := Ideal) m' ρ')⟩

end Products.Modulate

end
-- ==== Proof.Qkv.lean ====
/-
  The rotation of queries and keys, with the values as they are: the kernel writes, block by block, what the reference computes.
-/
module

public import Idealize.ShloMosaic.Lib.Pointwise.Index
public import proofs.«01_k».proof.Proof.Rotary
public import proofs.«01_k».proof.Proof.QkvBwd
public import proofs.«01_k».proof.Proof.Gen.QkvIdeal.Value
public import proofs.«01_k».proof.Proof.Gen.RefQkvIdeal.Read
public import proofs.«01_k».proof.Defs
import Idealize.ShloMosaic.Lib.Pipeline.ValueKit
import Idealize.ShloMosaic.Lib.Claim

@[expose] public section

set_option maxRecDepth 16384

noncomputable section

namespace Products.Qkv

open Idealize.ShloMosaic Idealize.ShloMosaic.TcCoe Idealize.SL.Sem
open Idealize.ShloMosaic.Pipeline (Dat)
open Cert.QkvIdeal Cert.QkvIdeal.Gen
open Cert.RefQkvIdeal.Read
open Rotary
open Products.QkvBwd (wide16 wide4 wide16_at wide4_at cast_same side side_congr cosTable downTable cosTable_at downTable_at)

/-- A block of rows of 16 heads, and the same rows turned by 16 places either way, by three tables of the rows' width. -/
def sum16 (x a b c : FVec Ideal S256x2048 .f32) : FVec Ideal S256x2048 .f32 :=
  addf (addf (mulf x a) (mulf (dynamicRotate 1 2032#32 none x rotates_S256x2048_d1) b)) (mulf (dynamicRotate 1 16#32 none x rotates_S256x2048_d1) c)

/-- The same of 4 heads. -/
def sum4 (x a b c : FVec Ideal S256x512 .f32) : FVec Ideal S256x512 .f32 :=
  addf (addf (mulf x a) (mulf (dynamicRotate 1 496#32 none x rotates_S256x512_d1) b)) (mulf (dynamicRotate 1 16#32 none x rotates_S256x512_d1) c)

/-- What the body computes. -/
theorem body_q (q : FVec Ideal S256x2048 .bf16) (a b c : FVec Ideal S256x128 .f32) :
    k0_pay4 (F := Ideal) q a b c = truncf .bf16 (sum16 (extf .f32 q bitsLt_bf16_f32) (wide16 a) (wide16 b) (wide16 c)) bitsLt_bf16_f32 := by
  unfold k0_pay4 k0_pay1 k0_pay2 k0_pay3
  rw [show shapeCast S256x128 a shapeCasts_S256x128_S256x128 = a from cast_same a, show shapeCast S256x128 b shapeCasts_S256x128_S256x128 = b from cast_same b,
    show shapeCast S256x128 c shapeCasts_S256x128_S256x128 = c from cast_same c]
  rfl

theorem body_k (k : FVec Ideal S256x512 .bf16) (a b c : FVec Ideal S256x128 .f32) :
    k0_pay5 (F := Ideal) k a b c = truncf .bf16 (sum4 (extf .f32 k bitsLt_bf16_f32) (wide4 a) (wide4 b) (wide4 c)) bitsLt_bf16_f32 := by
  unfold k0_pay5 k0_pay1 k0_pay2 k0_pay3
  rw [show shapeCast S256x128 a shapeCasts_S256x128_S256x128 = a from cast_same a, show shapeCast S256x128 b shapeCasts_S256x128_S256x128 = b from cast_same b,
    show shapeCast S256x128 c shapeCasts_S256x128_S256x128 = c from cast_same c]
  rfl

theorem sum16_at (q : FVec Ideal S256x2048 .bf16) (a b c : FVec Ideal S256x2048 .f32) (r : Fin 256) (j : Fin 2048) :
    truncf (F := Ideal) .bf16 (sum16 (extf .f32 q bitsLt_bf16_f32) a b c) bitsLt_bf16_f32 (ix2 r j) =
    (q (ix2 r j) : EReal) * a (ix2 r j) + (q (ix2 r ⟨(j.val + 2048 - 2032) % 2048, Nat.mod_lt _ (by decide)⟩) : EReal) * b (ix2 r j)
      + (q (ix2 r ⟨(j.val + 2048 - 16) % 2048, Nat.mod_lt _ (by decide)⟩) : EReal) * c (ix2 r j) := by
  pointwise [sum16]

theorem sum4_at (k : FVec Ideal S256x512 .bf16) (a b c : FVec Ideal S256x512 .f32) (r : Fin 256) (j : Fin 512) :
    truncf (F := Ideal) .bf16 (sum4 (extf .f32 k bitsLt_bf16_f32) a b c) bitsLt_bf16_f32 (ix2 r j) =
    (k (ix2 r j) : EReal) * a (ix2 r j) + (k (ix2 r ⟨(j.val + 512 - 496) % 512, Nat.mod_lt _ (by decide)⟩) : EReal) * b (ix2 r j)
      + (k (ix2 r ⟨(j.val + 512 - 16) % 512, Nat.mod_lt _ (by decide)⟩) : EReal) * c (ix2 r j) := by
  pointwise [sum4]

/-- The reference: the rotation of 16 heads and of 4, and the values. -/
theorem ref_heads16 (x0 : FVec Ideal S4096x11264 .bf16) (x1 x2 : FVec Ideal S4096x16 .f32) (r : Fin 4096) (h : Fin 16) (l : Fin 128) :
    val_main_v20 (F := Ideal) x0 x1 x2 (ix3 r h l) =
    turned (fun l => x0 (ix2 r ⟨h.val * 128 + l.val, by omega⟩)) (fun a => x1 (ix2 r a)) (fun a => x2 (ix2 r a)) l := by
  have first (a : Fin 16) : val_main_v13 (F := Ideal) x0 x1 x2 (ix3 r h a) =
      (x0 (ix2 r ⟨h.val * 128 + a.val, by omega⟩) : EReal) * x1 (ix2 r a) - (x0 (ix2 r ⟨h.val * 128 + (16 + a.val), by omega⟩) : EReal) * x2 (ix2 r a) := by
    pointwise [val_main_v13, val_main_v10, val_main_v12, val_main_v5, val_main_v9, val_main_v6, val_main_v11, val_main_v7, val_main_v8, val_main_v4, val_main_v1, val_main_v0]
  have second (a : Fin 16) : val_main_v18 (F := Ideal) x0 x1 x2 (ix3 r h a) =
      (x0 (ix2 r ⟨h.val * 128 + (16 + a.val), by omega⟩) : EReal) * x1 (ix2 r a) + (x0 (ix2 r ⟨h.val * 128 + a.val, by omega⟩) : EReal) * x2 (ix2 r a) := by
    pointwise [val_main_v18, val_main_v15, val_main_v17, val_main_v5, val_main_v14, val_main_v6, val_main_v16, val_main_v7, val_main_v8, val_main_v4, val_main_v1, val_main_v0]
  have rest (a : Fin 96) : val_main_v19 (F := Ideal) x0 (ix3 r h a) = (x0 (ix2 r ⟨h.val * 128 + (32 + a.val), by omega⟩) : EReal) := by
    pointwise [val_main_v19, val_main_v4, val_main_v1, val_main_v0]
  have e : val_main_v20 (F := Ideal) x0 x1 x2 (ix3 r h l) = if h1 : l.val < 16 then val_main_v13 (F := Ideal) x0 x1 x2 (ix3 r h ⟨l, h1⟩)
      else if h2 : l.val - 16 < 16 then val_main_v18 (F := Ideal) x0 x1 x2 (ix3 r h ⟨l.val - 16, h2⟩)
      else val_main_v19 (F := Ideal) x0 (ix3 r h ⟨l.val - 16 - 16, by omega⟩) := by
    pointwise [val_main_v20]
  rw [e]
  simp only [first, second, rest]
  exact of_parts (fun a => x1 (ix2 r a)) (fun a => x2 (ix2 r a)) (fun l => x0 (ix2 r ⟨h.val * 128 + l.val, by omega⟩)) l

theorem ref_heads4 (x0 : FVec Ideal S4096x11264 .bf16) (x1 x2 : FVec Ideal S4096x16 .f32) (r : Fin 4096) (h : Fin 4) (l : Fin 128) :
    val_main_v39 (F := Ideal) x0 x1 x2 (ix3 r h l) =
    turned (fun l => x0 (ix2 r ⟨2048 + (h.val * 128 + l.val), by omega⟩)) (fun a => x1 (ix2 r a)) (fun a => x2 (ix2 r a)) l := by
  have first (a : Fin 16) : val_main_v32 (F := Ideal) x0 x1 x2 (ix3 r h a) =
      (x0 (ix2 r ⟨2048 + (h.val * 128 + a.val), by omega⟩) : EReal) * x1 (ix2 r a) - (x0 (ix2 r ⟨2048 + (h.val * 128 + (16 + a.val)), by omega⟩) : EReal) * x2 (ix2 r a) := by
    pointwise [val_main_v32, val_main_v29, val_main_v31, val_main_v24, val_main_v28, val_main_v25, val_main_v30, val_main_v26, val_main_v27, val_main_v23, val_main_v2, val_main_v0]
  have second (a : Fin 16) : val_main_v37 (F := Ideal) x0 x1 x2 (ix3 r h a) =
      (x0 (ix2 r ⟨2048 + (h.val * 128 + (16 + a.val)), by omega⟩) : EReal) * x1 (ix2 r a) + (x0 (ix2 r ⟨2048 + (h.val * 128 + a.val), by omega⟩) : EReal) * x2 (ix2 r a) := by
    pointwise [val_main_v37, val_main_v34, val_main_v36, val_main_v24, val_main_v33, val_main_v25, val_main_v35, val_main_v26, val_main_v27, val_main_v23, val_main_v2, val_main_v0]
  have rest (a : Fin 96) : val_main_v38 (F := Ideal) x0 (ix3 r h a) = (x0 (ix2 r ⟨2048 + (h.val * 128 + (32 + a.val)), by omega⟩) : EReal) := by
    pointwise [val_main_v38, val_main_v23, val_main_v2, val_main_v0]
  have e : val_main_v39 (F := Ideal) x0 x1 x2 (ix3 r h l) = if h1 : l.val < 16 then val_main_v32 (F := Ideal) x0 x1 x2 (ix3 r h ⟨l, h1⟩)
      else if h2 : l.val - 16 < 16 then val_main_v37 (F := Ideal) x0 x1 x2 (ix3 r h ⟨l.val - 16, h2⟩)
      else val_main_v38 (F := Ideal) x0 (ix3 r h ⟨l.val - 16 - 16, by omega⟩) := by
    pointwise [val_main_v39]
  rw [e]
  simp only [first, second, rest]
  exact of_parts (fun a => x1 (ix2 r a)) (fun a => x2 (ix2 r a)) (fun l => x0 (ix2 r ⟨2048 + (h.val * 128 + l.val), by omega⟩)) l

theorem ref_q_at (x0 : FVec Ideal S4096x11264 .bf16) (x1 x2 : FVec Ideal S4096x16 .f32) (r : Fin 4096) (j : Fin 2048) :
    val_main_v22 (F := Ideal) x0 x1 x2 (ix2 r j) = turned (fun l => x0 (ix2 r ⟨(sameHead (by decide) j l).val, by omega⟩)) (fun a => x1 (ix2 r a)) (fun a => x2 (ix2 r a)) (inHead j) := by
  have e : val_main_v22 (F := Ideal) x0 x1 x2 (ix2 r j) = val_main_v20 (F := Ideal) x0 x1 x2 (ix3 r ⟨j.val / 128, by omega⟩ (inHead j)) := by
    pointwise [val_main_v22, val_main_v21]
  rw [e, ref_heads16]
  simp only [sameHead, Nat.mul_comm]

theorem ref_k_at (x0 : FVec Ideal S4096x11264 .bf16) (x1 x2 : FVec Ideal S4096x16 .f32) (r : Fin 4096) (j : Fin 512) :
    val_main_v41 (F := Ideal) x0 x1 x2 (ix2 r j) =
    turned (fun l => x0 (ix2 r ⟨2048 + (sameHead (by decide) j l).val, by omega⟩)) (fun a => x1 (ix2 r a)) (fun a => x2 (ix2 r a)) (inHead j) := by
  have e : val_main_v41 (F := Ideal) x0 x1 x2 (ix2 r j) = val_main_v39 (F := Ideal) x0 x1 x2 (ix3 r ⟨j.val / 128, by omega⟩ (inHead j)) := by
    pointwise [val_main_v41, val_main_v40]
  rw [e, ref_heads4]
  simp only [sameHead, Nat.mul_comm]

theorem ref_v_at (x0 : FVec Ideal S4096x11264 .bf16) (r : Fin 4096) (j : Fin 512) :
    val_main_v42 (F := Ideal) x0 (ix2 r j) = (x0 (ix2 r ⟨2560 + j.val, by omega⟩) : EReal) := by
  pointwise [val_main_v42, val_main_v3, val_main_v0]

variable (m : (ℓ : Loc nD τ sig) → Buf (Elt Ideal) ℓ) (c : Dev nD)

/-- The kernel's arguments: the rows whose first columns are queries, keys and values, the cosines and the sines. -/
abbrev rowsArg : FVec Ideal S4096x11264 .bf16 := m ((c : Thread nD τ).loc main_arg0)
abbrev cosArg : FVec Ideal S4096x16 .f32 := m ((c : Thread nD τ).loc main_arg1)
abbrev sinArg : FVec Ideal S4096x16 .f32 := m ((c : Thread nD τ).loc main_arg2)

/-- Which blocks a grid step works on: its rows of every array, and of the first the columns of queries, keys and values. -/
theorem blocks : ∀ t : Fin cfg0.N, (win0_0.index t = ![t.val, 0] ∧ win0_1.index t = ![t.val, 4] ∧ win0_2.index t = ![t.val, 5]) ∧
    (win0_3.index t = ![t.val, 0] ∧ win0_4.index t = ![t.val, 0] ∧ win0_5.index t = ![t.val, 0]) ∧
    win0_6.index t = ![t.val, 0] ∧ win0_7.index t = ![t.val, 0] ∧ win0_8.index t = ![t.val, 0] :=
  (by decide +kernel : ∀ t : Fin grid0.N, _)

/-- The rows of a grid step. -/
def row (t : Fin cfg0.N) (r : Fin 256) : Fin 4096 := ⟨t.val * 256 + r.val, by have : t.val < 16 := t.isLt; omega⟩

variable (t : Fin cfg0.N) (r : Fin 256)

theorem block_q (j : Fin 2048) : X0_0 m c t (ix2 (n0 := 256) (n1 := 2048) r j) = rowsArg m c (ix2 (row t r) ⟨j.val, by omega⟩) := by
  unfold X0_0 Pipeline.Window.fill
  rw [dif_pos (moved0_0 t _)]
  unfold row
  blk_ext [iblk, V, blocks t]

theorem block_k (j : Fin 512) : iblk m c 1 t (ix2 r j) = rowsArg m c (ix2 (row t r) ⟨2048 + j.val, by omega⟩) := by
  unfold row
  blk_ext [iblk, V, blocks t]

theorem block_v (j : Fin 512) : iblk m c 2 t (ix2 r j) = rowsArg m c (ix2 (row t r) ⟨2560 + j.val, by omega⟩) := by
  unfold row
  blk_ext [iblk, V, blocks t]

/-- The tables when the region is entered. -/
theorem entry_cos : V m c main_v1 = cosTable (cosArg m c) := by
  unfold V
  rw [StableHlo.after_cons, StableHlo.after_cons, StableHlo.after_cons]
  rw [StableHlo.after_of_forall_not_mem (b := Proc.devRef .tc main_v1) _ _ (List.forall_iff_forall_mem.mp (by
    simp only [List.Forall, StableHlo.nullary_writes, StableHlo.unary_writes, StableHlo.binary_writes, StableHlo.nary_writes, Finset.mem_singleton]
    repeat' apply And.intro
    all_goals exact StableHlo.devRef_ne_of_ne (by decide)))]
  refine (StableHlo.nary_result _ _ _ _ _ _).trans ?_
  refine side_congr ?_ ?_ ?_
  · show HloOp.result _ _ (Proc.devRef .tc main_arg1) = _
    after_results_steps
  · show HloOp.result _ _ (Proc.devRef .tc main_arg1) = _
    after_results_steps
  · show HloOp.result _ _ (Proc.devRef .tc main_v0) = _
    after_results_steps

theorem entry_down : V m c main_v7 = downTable (sinArg m c) := by
  unfold V
  simp only [StableHlo.after_cons, StableHlo.after_nil]
  refine (StableHlo.nary_result _ _ _ _ _ _).trans ?_
  refine side_congr ?_ ?_ ?_
  · show HloOp.result _ _ (Proc.devRef .tc main_v5) = _
    after_results_steps
  · show HloOp.result _ _ (Proc.devRef .tc main_arg2) = _
    after_results_steps
  · show HloOp.result _ _ (Proc.devRef .tc main_v6) = _
    after_results_steps

theorem block_cos (l : Fin 128) : iblk m c 3 t (ix2 r l) = cosines (fun a => cosArg m c (ix2 (row t r) a)) l := by
  have e : iblk m c 3 t (ix2 r l) = V m c main_v1 (ix2 (row t r) l) := by unfold row; blk_ext [iblk, blocks t]
  rw [e, entry_cos]
  exact cosTable_at _ _ _

theorem block_up (l : Fin 128) : iblk m c 4 t (ix2 r l) = sinesUp (fun a => sinArg m c (ix2 (row t r) a)) l := by
  have e : iblk m c 4 t (ix2 r l) = V m c main_v4 (ix2 (row t r) l) := by unfold row; blk_ext [iblk, blocks t]
  rw [e]
  entry_read
  pointwise [sinesUp]

theorem block_down (l : Fin 128) : iblk m c 5 t (ix2 r l) = sinesDown (fun a => sinArg m c (ix2 (row t r) a)) l := by
  have e : iblk m c 5 t (ix2 r l) = V m c main_v7 (ix2 (row t r) l) := by unfold row; blk_ext [iblk, blocks t]
  rw [e, entry_down]
  exact downTable_at _ _ _

/-- An element of each of the blocks a grid step stores. -/
theorem stored_q (j : Fin 2048) : k0_pay4 (F := Ideal) (X0_0 m c t) (iblk m c 3 t) (iblk m c 4 t) (iblk m c 5 t) (ix2 r j) =
    val_main_v22 (F := Ideal) (rowsArg m c) (cosArg m c) (sinArg m c) (ix2 (row t r) j) := by
  refine (congrFun (body_q _ _ _ _) _).trans ((sum16_at _ _ _ _ r j).trans (Eq.trans ?_ (ref_q_at _ _ _ _ j).symm))
  rw [wide16_at, wide16_at, wide16_at]
  simp only [block_q, block_cos, block_up, block_down]
  exact by_tables (W := 2048) (by decide) (fun j => rowsArg m c (ix2 (row t r) ⟨j.val, by omega⟩)) _ _ j ⟨(j.val + 2048 - 16) % 2048, Nat.mod_lt _ (by decide)⟩
    ⟨(j.val + 2048 - 2032) % 2048, Nat.mod_lt _ (by decide)⟩
    (fun (g : 16 ≤ j.val) => by show (j.val + 2048 - 16) % 2048 = j.val - 16; omega)
    (fun (g : j.val + 16 < 2048) => by show (j.val + 2048 - 2032) % 2048 = j.val + 16; omega)

theorem stored_k (j : Fin 512) : k0_pay5 (F := Ideal) (iblk m c 1 t) (iblk m c 3 t) (iblk m c 4 t) (iblk m c 5 t) (ix2 r j) =
    val_main_v41 (F := Ideal) (rowsArg m c) (cosArg m c) (sinArg m c) (ix2 (row t r) j) := by
  refine (congrFun (body_k _ _ _ _) _).trans ((sum4_at _ _ _ _ r j).trans (Eq.trans ?_ (ref_k_at _ _ _ _ j).symm))
  rw [wide4_at, wide4_at, wide4_at]
  simp only [block_k, block_cos, block_up, block_down]
  exact by_tables (W := 512) (by decide) (fun j => rowsArg m c (ix2 (row t r) ⟨2048 + j.val, by omega⟩)) _ _ j ⟨(j.val + 512 - 16) % 512, Nat.mod_lt _ (by decide)⟩
    ⟨(j.val + 512 - 496) % 512, Nat.mod_lt _ (by decide)⟩
    (fun (g : 16 ≤ j.val) => by show (j.val + 512 - 16) % 512 = j.val - 16; omega)
    (fun (g : j.val + 16 < 512) => by show (j.val + 512 - 496) % 512 = j.val + 16; omega)

theorem stored_v (j : Fin 512) : k0_pay6 (F := Ideal) (iblk m c 2 t) (ix2 r j) = val_main_v42 (F := Ideal) (rowsArg m c) (ix2 (row t r) j) :=
  (block_v m c t r j).trans (ref_v_at _ _ _).symm

/-- The result arrays. -/
theorem final_q : (dats m 0 c).arrAt 6 cfg0.N = val_main_v22 (F := Ideal) (rowsArg m c) (cosArg m c) (sinArg m c) := by
  refine (dats m 0 c).arrAt_eq_of_covers 6 _ (by decide +kernel) fun t _ y => ?_
  blk_simp
  rw [after0_6]; unfold outsAt0; frame_out
  have ey : y = ix2 (n0 := 256) (n1 := 2048) (y 0) (y 1) := eq_ix2 (n0 := 256) (n1 := 2048) y
  have e : ((cfg0.win 6).blk t).view.emb (ix2 (n0 := 256) (n1 := 2048) (y 0) (y 1)) = ix2 (row t (y 0)) (y 1) := by
    unfold row
    blk_ext [blocks t]
  rw [ey]
  exact (stored_q m c t (y 0) (y 1)).trans (congrArg _ e.symm)

theorem final_k : (dats m 0 c).arrAt 7 cfg0.N = val_main_v41 (F := Ideal) (rowsArg m c) (cosArg m c) (sinArg m c) := by
  refine (dats m 0 c).arrAt_eq_of_covers 7 _ (by decide +kernel) fun t _ y => ?_
  blk_simp
  rw [after0_7]; unfold outsAt0; frame_out
  have ey : y = ix2 (n0 := 256) (n1 := 512) (y 0) (y 1) := eq_ix2 (n0 := 256) (n1 := 512) y
  have e : ((cfg0.win 7).blk t).view.emb (ix2 (n0 := 256) (n1 := 512) (y 0) (y 1)) = ix2 (row t (y 0)) (y 1) := by
    unfold row
    blk_ext [blocks t]
  rw [ey]
  exact (stored_k m c t (y 0) (y 1)).trans (congrArg _ e.symm)

theorem final_v : (dats m 0 c).arrAt 8 cfg0.N = val_main_v42 (F := Ideal) (rowsArg m c) := by
  refine (dats m 0 c).arrAt_eq_of_covers 8 _ (by decide +kernel) fun t _ y => ?_
  blk_simp
  rw [after0_8]; unfold outsAt0; frame_out
  have ey : y = ix2 (n0 := 256) (n1 := 512) (y 0) (y 1) := eq_ix2 (n0 := 256) (n1 := 512) y
  have e : ((cfg0.win 8).blk t).view.emb (ix2 (n0 := 256) (n1 := 512) (y 0) (y 1)) = ix2 (row t (y 0)) (y 1) := by
    unfold row
    blk_ext [blocks t]
  rw [ey]
  exact (stored_v m c t (y 0) (y 1)).trans (congrArg _ e.symm)

/-- The reference runs to its end. -/
theorem frame_ref : Cert.quiescent_RefQkvIdeal := fun m ρ _ =>
  (θ_run Cert.RefQkvIdeal.defs _ _).mono (fun r h => ⟨fun c => (h c).2.2.2, sem_eq_zero_of_no_sems (by decide) r.2⟩)
    (Cert.RefQkvIdeal.Value.run (F := Ideal) m ρ)

/-- The kernel computes what the reference computes. -/
theorem algebraic : Cert.algebraic_QkvIdeal_RefQkvIdeal := fun m ρ m' ρ' _ args =>
  ⟨fun c => val_main_v22 (F := Ideal) (rowsArg m c) (cosArg m c) (sinArg m c), fun c => val_main_v41 (F := Ideal) (rowsArg m c) (cosArg m c) (sinArg m c),
    fun c => val_main_v42 (F := Ideal) (rowsArg m c),
    (θ_run defs _ _).mono (fun r h c => ⟨(h c).1.trans (final_q m c), (h c).2.1.trans (final_k m c), (h c).2.2.1.trans (final_v m c), (h c).2.2.2⟩)
      (Cert.QkvIdeal.Value.run_blocks m ρ),
    (θ_run Cert.RefQkvIdeal.defs _ _).mono
      (fun r h c => by
        obtain ⟨a0, a1, a2⟩ := args c
        refine ⟨?_, ?_, ?_, (h c).2.2.2⟩
        · rw [(h c).1, a0, a1, a2]; exact val_main_v22_eq _ _ _
        · rw [(h c).2.1, a0, a1, a2]; exact val_main_v41_eq _ _ _
        · rw [(h c).2.2.1, a0]; exact val_main_v42_eq _)
      (Cert.RefQkvIdeal.Value.run (F := Ideal) m' ρ')⟩

end Products.Qkv

end
-- ==== Proof.ResLn.lean ====
/-
  The residual sum, its normalisation, and the scale and shift of the next layer's input: the kernel writes, block by block,
  what the reference computes.
-/
module

public import Idealize.ShloMosaic.Lib.Pointwise.Index
public import proofs.«01_k».proof.Proof.Gen.ResLnIdeal.Value
public import proofs.«01_k».proof.Proof.Gen.RefResLnIdeal.Read
public import proofs.«01_k».proof.Defs
import Idealize.ShloMosaic.Lib.Pipeline.ValueKit
import Idealize.ShloMosaic.Lib.Claim

@[expose] public section

set_option maxRecDepth 16384

noncomputable section

namespace Products.ResLn

open Idealize.ShloMosaic Idealize.ShloMosaic.TcCoe Idealize.SL.Sem
open Idealize.ShloMosaic.Pipeline (Dat)
open Cert.ResLnIdeal Cert.ResLnIdeal.Gen
open Cert.RefResLnIdeal.Read

/-- An element of the residual sum: the row scaled, and the branch scaled by its gate. -/
def joined (x d s : EReal) : EReal := Ideal.ofBits .f32 1071072509#32 * x + (1 + s) * d

/-- An element of a row less the row's mean. -/
def centred (h : Fin 2048 → EReal) (k : Fin 2048) : EReal := h k - Ideal.div (∑ j, h j) (Ideal.ofBits .f32 1157627904#32)

/-- An element of a row normalised, scaled and shifted. -/
def normalised (h : Fin 2048 → EReal) (k : Fin 2048) (g b : EReal) : EReal :=
  centred h k * Ideal.rsqrt (Ideal.div (∑ j, centred h j * centred h j) (Ideal.ofBits .f32 1157627904#32) + Ideal.ofBits .f32 925353388#32) * g + b

theorem normalised_congr {h h' : Fin 2048 → EReal} {k k' : Fin 2048} {g g' b b' : EReal} (eh : ∀ j, h j = h' j) (ek : k = k') (eg : g = g') (eb : b = b') :
    normalised h k g b = normalised h' k' g' b' := by
  rw [show h = h' from funext eh, ek, eg, eb]

/-- What the body computes, element by element. -/
theorem norm_at (x : FVec Ideal S256x2048 .f32) (d : FVec Ideal S256x2048 .bf16) (s g b : FVec Ideal S1x2048 .f32) (y : S256x2048.Idx) :
    k0_pay2 (F := Ideal) x d s g b y =
      normalised (fun k => joined (x (ix2 (y 0) k)) (d (ix2 (y 0) k)) (s (ix2 0 k))) (y 1) (g (ix2 0 (y 1))) (b (ix2 0 (y 1))) := by
  pointwise [k0_pay2, normalised, centred, joined]

theorem shift_at (v : FVec Ideal S256x2048 .f32) (s b : FVec Ideal S1x2048 .f32) (y : S256x2048.Idx) :
    k0_pay1 (F := Ideal) b v (k0_pay3 s) y = v y * (1 + s (ix2 0 (y 1))) + b (ix2 0 (y 1)) := by
  pointwise [k0_pay1, k0_pay3]

/-- The reference, element by element. -/
theorem ref_joined_at (x : FVec Ideal S4096x2048 .f32) (d : FVec Ideal S4096x2048 .bf16) (s : FVec Ideal S1x2048 .f32) (i : S4096x2048.Idx) :
    val_main_v7 (F := Ideal) x d s i = joined (x i) (d i) (s (ix2 0 (i 1))) := by
  pointwise [val_main_v7, val_main_v6, val_main_v5, val_main_v4, val_main_v3, val_main_v2, val_main_v1, val_main_v0, val_main_cst, val_main_cst_0, joined]

theorem ref_centred_at (x : FVec Ideal S4096x2048 .f32) (d : FVec Ideal S4096x2048 .bf16) (s : FVec Ideal S1x2048 .f32) (i : S4096x2048.Idx) :
    val_main_v13 (F := Ideal) x d s i = centred (fun k => joined (x (ix2 (i 0) k)) (d (ix2 (i 0) k)) (s (ix2 0 k))) (i 1) := by
  pointwise [val_main_v13, val_main_v12, val_main_v11, val_main_v10, val_main_v9, val_main_v8, val_main_cst_1, val_main_cst_2, ref_joined_at, centred]

theorem ref_norm_at (x : FVec Ideal S4096x2048 .f32) (d : FVec Ideal S4096x2048 .bf16) (s g b : FVec Ideal S1x2048 .f32) (i : S4096x2048.Idx) :
    val_main_v27 (F := Ideal) x d s g b i =
      normalised (fun k => joined (x (ix2 (i 0) k)) (d (ix2 (i 0) k)) (s (ix2 0 k))) (i 1) (g (ix2 0 (i 1))) (b (ix2 0 (i 1))) := by
  pointwise [val_main_v27, val_main_v26, val_main_v25, val_main_v24, val_main_v23, val_main_v22, val_main_v21, val_main_v20, val_main_v19, val_main_v18,
    val_main_v17, val_main_v16, val_main_v15, val_main_v14, val_main_cst_3, val_main_cst_4, val_main_cst_5, ref_centred_at, normalised]

theorem ref_shift_at (x : FVec Ideal S4096x2048 .f32) (d : FVec Ideal S4096x2048 .bf16) (s g b s' b' : FVec Ideal S1x2048 .f32) (i : S4096x2048.Idx) :
    val_main_v34 (F := Ideal) x d s g b s' b' i = val_main_v27 (F := Ideal) x d s g b i * (1 + s' (ix2 0 (i 1))) + b' (ix2 0 (i 1)) := by
  pointwise [val_main_v34, val_main_v33, val_main_v32, val_main_v31, val_main_v30, val_main_v29, val_main_v28, val_main_cst_6]

variable (m : (ℓ : Loc nD τ sig) → Buf (Elt Ideal) ℓ) (c : Dev nD)

/-- The reference's results of the kernel's arguments. -/
abbrev rows : S4096x2048.Idx → EReal :=
  val_main_v27 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

abbrev shifted : S4096x2048.Idx → EReal :=
  val_main_v34 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Which blocks a grid step works on: its rows of the input, of the branch and of the results, and the vectors whole. -/
theorem blocks : ∀ t : Fin cfg0.N, (win0_0.index t = ![t.val, 0] ∧ win0_1.index t = ![t.val, 0]) ∧
    (win0_2.index t = ![0, 0] ∧ win0_3.index t = ![0, 0] ∧ win0_4.index t = ![0, 0] ∧ win0_5.index t = ![0, 0] ∧ win0_6.index t = ![0, 0]) ∧
    win0_7.index t = ![t.val, 0] ∧ win0_8.index t = ![t.val, 0] :=
  (by decide +kernel : ∀ t : Fin grid0.N, _)

/-- An element of each of the blocks a grid step stores. -/
theorem rows_stored (t : Fin cfg0.N) (y : S256x2048.Idx) : k0_pay2 (F := Ideal) (iblk m c 0 t) (iblk m c 1 t) (iblk m c 2 t) (iblk m c 3 t) (iblk m c 4 t) y =
    rows m c (((cfg0.win 7).blk t).view.emb y) := by
  refine (norm_at _ _ _ _ _ y).trans (Eq.trans ?_ (ref_norm_at _ _ _ _ _ _).symm)
  have same {x x' d d' s s' : EReal} (hx : x = x') (hd : d = d') (hs : s = s') : joined x d s = joined x' d' s' := by rw [hx, hd, hs]
  refine normalised_congr (fun j => same ?_ ?_ ?_) (Fin.ext ?_) ?_ ?_
  · blk_point [iblk, V, blocks t]
  · blk_point [iblk, V, blocks t]
  · blk_point [iblk, V, blocks t]
  · blk_simp [blocks t]
  · blk_point [iblk, V, blocks t]
  · blk_point [iblk, V, blocks t]

theorem shifted_stored (t : Fin cfg0.N) (y : S256x2048.Idx) :
    k0_pay1 (F := Ideal) (iblk m c 6 t) (k0_pay2 (iblk m c 0 t) (iblk m c 1 t) (iblk m c 2 t) (iblk m c 3 t) (iblk m c 4 t)) (k0_pay3 (iblk m c 5 t)) y =
    shifted m c (((cfg0.win 8).blk t).view.emb y) := by
  refine (shift_at _ _ _ y).trans (Eq.trans ?_ (ref_shift_at _ _ _ _ _ _ _ _).symm)
  have same {x x' s s' b b' : EReal} (hx : x = x') (hs : s = s') (hb : b = b') : x * (1 + s) + b = x' * (1 + s') + b' := by rw [hx, hs, hb]
  refine same ((rows_stored m c t y).trans (congrArg (rows m c) ?_)) ?_ ?_
  · blk_ext [blocks t]
  · blk_point [iblk, V, blocks t]
  · blk_point [iblk, V, blocks t]

/-- The result arrays. -/
theorem rows_final : (dats m 0 c).arrAt 7 cfg0.N = rows m c := by
  refine (dats m 0 c).arrAt_eq_of_covers 7 _ (by decide +kernel) fun t _ y => ?_
  blk_simp
  rw [after0_7]; unfold_out out0_7; frame_out
  exact rows_stored m c t y

theorem shifted_final : (dats m 0 c).arrAt 8 cfg0.N = shifted m c := by
  refine (dats m 0 c).arrAt_eq_of_covers 8 _ (by decide +kernel) fun t _ y => ?_
  blk_simp
  rw [after0_8]; unfold_out out0_8; frame_out
  exact shifted_stored m c t y

/-- The reference runs to its end. -/
theorem frame_ref : Cert.quiescent_RefResLnIdeal := fun m ρ _ =>
  (θ_run Cert.RefResLnIdeal.defs _ _).mono (fun r h => ⟨fun c => (h c).2.2, sem_eq_zero_of_no_sems (by decide) r.2⟩)
    (Cert.RefResLnIdeal.Value.run (F := Ideal) m ρ)

/-- The kernel computes what the reference computes. -/
theorem algebraic : Cert.algebraic_ResLnIdeal_RefResLnIdeal := fun m ρ m' ρ' _ args =>
  ⟨rows m, shifted m,
    (θ_run defs _ _).mono (fun r h c => ⟨(h c).1.trans (rows_final m c), (h c).2.1.trans (shifted_final m c), (h c).2.2⟩)
      (Cert.ResLnIdeal.Value.run_blocks m ρ),
    (θ_run Cert.RefResLnIdeal.defs _ _).mono
      (fun r h c => by
        obtain ⟨a0, a1, a2, a3, a4, a5, a6⟩ := args c
        exact ⟨by rw [(h c).1, a0, a1, a2, a3, a4]; exact val_main_v27_eq _ _ _ _ _,
          (h c).2.1.trans ((val_main_v34_eq m' c).trans (by rw [a0, a1, a2, a3, a4, a5, a6])), (h c).2.2⟩)
      (Cert.RefResLnIdeal.Value.run (F := Ideal) m' ρ')⟩

end Products.ResLn

end
-- ==== Proof.ForwardTile.lean ====
/-
  The forward attention of one sub-block: the probabilities of its 512 stacked rows, which are those the backward pass
  computes again, times the window of values. The values may be any extended reals: a key that is not near a query has
  probability zero, and zero times anything is zero.
-/
module

public import proofs.«01_k».proof.Proof.StepReads
public import proofs.«01_k».proof.Proof.Gen.AttnIdeal.Frame

@[expose] public section

set_option maxRecDepth 16384

noncomputable section

namespace Attention.Forward

open Idealize.ShloMosaic hiding ix1 ix2 ix3 ix4
open Idealize.ShloMosaic.ValueIdx Idealize.ShloMosaic.TcCoe
open scoped BigOperators
open Cert.KernelIdeal (Ins insOf qbox kbox sbox koff maskAt off1_zero off1_one off2_eq)
open Cert.AttnIdeal Cert.AttnIdeal.Gen

/-- The stacked rows' attention: probabilities times values. -/
def fwd (T : Ins Ideal) (W : FVec Ideal S384x128 .bf16) : FVec Ideal S512x128 .bf16 :=
  matmul (φ₁ := .bf16) (φ₂ := .bf16) Cert.KernelIdeal.dot_S512x384_S384x128_S512x128_1_0_0_1_n_n none T.P W (constant S512x128 .f32 0x00000000#32)

theorem slices (g : Fin 4) : S512x128.Slices ![128 * g.val, 0] S128x128 := by revert g; decide

/-- Head `g`'s rows of it. -/
def fwdHead (T : Ins Ideal) (W : FVec Ideal S384x128 .bf16) (g : Fin 4) : FVec Ideal S128x128 .bf16 :=
  extractStridedSlice S128x128 ![128 * g.val, 0] (fwd T W) (slices g)

/-- The stores of a grid step, the last first. -/
def pieces (T : Fin 2 → Ins Ideal) (W : Fin 2 → FVec Ideal S384x128 .bf16) : List (View.Piece (Elt Ideal) S256x512 .bf16) :=
  [⟨Rect.unit ![128, 384] S128x128.size (qbox 1 3), fwdHead (T 1) (W 1) 3⟩, ⟨Rect.unit ![128, 256] S128x128.size (qbox 1 2), fwdHead (T 1) (W 1) 2⟩,
   ⟨Rect.unit ![128, 128] S128x128.size (qbox 1 1), fwdHead (T 1) (W 1) 1⟩, ⟨Rect.unit ![128, 0] S128x128.size (qbox 1 0), fwdHead (T 1) (W 1) 0⟩,
   ⟨Rect.unit ![0, 384] S128x128.size (qbox 0 3), fwdHead (T 0) (W 0) 3⟩, ⟨Rect.unit ![0, 256] S128x128.size (qbox 0 2), fwdHead (T 0) (W 0) 2⟩,
   ⟨Rect.unit ![0, 128] S128x128.size (qbox 0 1), fwdHead (T 0) (W 0) 1⟩, ⟨Rect.unit ![0, 0] S128x128.size (qbox 0 0), fwdHead (T 0) (W 0) 0⟩]

section Payloads

/-! The kernel's values are the sub-block's, of what it loads. -/

variable (T : Ins Ideal) (W : FVec Ideal S384x128 .bf16) (i : grid0.Coords)

/-- The sub-block with its mask computed `o` queries into the step. -/
def At (o : BitVec 32) : Prop := T.mask = maskAt i o

theorem scores_first (h : At T i 0#32) : k0_pay6 (F := Ideal) i T.k (T.q 0) (T.q 1) (T.q 2) (T.q 3) = T.S := by
  unfold Ins.S; rw [h]; rfl

theorem scores_second (h : At T i 128#32) : k0_pay13 (F := Ideal) T.k (k0_pay12 (BitVec.ofNat 32 (i 1).val)) (T.q 0) (T.q 1) (T.q 2) (T.q 3) = T.S := by
  unfold Ins.S; rw [h]; rfl

theorem first_eq : k0_pay7 (F := Ideal) W T.S (T.s 0) (T.s 1) (T.s 2) (T.s 3) = fwd T W := by exact rfl

theorem second_eq (h : At T i 128#32) : k0_pay1 (F := Ideal) W T.S (k0_pay14 (T.s 0) (T.s 1) (T.s 2) (T.s 3))
    (k0_pay15 T.k (k0_pay12 (BitVec.ofNat 32 (i 1).val)) (T.q 0) (T.q 1) (T.q 2) (T.q 3) (T.s 0) (T.s 1) (T.s 2) (T.s 3))
    (k0_pay16 T.k (k0_pay12 (BitVec.ofNat 32 (i 1).val)) (T.q 0) (T.q 1) (T.q 2) (T.q 3) (T.s 0) (T.s 1) (T.s 2) (T.s 3)) = fwd T W := by
  unfold k0_pay16 k0_pay15
  rw [scores_second T i h]
  exact rfl

end Payloads

section Value

variable {A : Data} {h : Fin 4} {t0 : Fin 128 → Fin 4096} {p0 : Fin 384 → Fin 4096} {T : Ins Ideal} (H : Tile.Loads A h t0 p0 T)
  {V : Fin 4096 → Fin 128 → EReal} {W : FVec Ideal S384x128 .bf16} (hW : ∀ j d, W (ix2 j d) = V (p0 j) d)

include H hW

/-- A head's rows: over all keys, the probability times the value. -/
theorem fwdHead_apply (g : Fin 4) (a d : Fin 128) : fwdHead T W g (ix2 a d) = ∑ p : Fin 4096, ((A.row h g (t0 a)).p p : EReal) * V p d := by
  have e : fwdHead T W g (ix2 a d) = fwd T W (ix2 (stack g a) d) := by
    unfold fwdHead
    exact extractStridedSlice_apply _ (fwd T W) _ _ _ fun b => match b with
      | ⟨0, _⟩ => rfl
      | ⟨1, _⟩ => (Nat.zero_add _).symm
  refine e.trans ((Tile.cols_apply T.P W (stack g a) d).trans ?_)
  refine (Finset.sum_congr rfl fun j _ => ?_).trans (Fintype.sum_of_injective p0 H.inj (fun j => ((A.row h g (t0 a)).p (p0 j) : EReal) * V (p0 j) d) _ (fun p hp => ?_) fun _ => rfl)
  · rw [hW, Tile.P_apply H, ← (A.row h g (t0 a)).pull_p p0 H.inj (H.cover a)]
    rfl
  · rw [(A.row h g (t0 a)).p_of_not p fun hn => hp (H.cover a p hn), EReal.coe_zero, zero_mul]

end Value

end Attention.Forward

end
-- ==== Proof.RefForward.lean ====
/-
  The reference of the forward attention, read at an index: over all keys, the probability times the value.
-/
module

public import proofs.«01_k».proof.Proof.RefGrads
public import proofs.«01_k».proof.Proof.Gen.RefAttnIdeal.Read

@[expose] public section

noncomputable section

namespace Attention.Forward

open Idealize.ShloMosaic Idealize.ShloMosaic.ValueIdx
open scoped BigOperators
open Cert.RefAttnIdeal Cert.RefAttnIdeal.Read Cert.RefAttnIdeal.Gen

variable {A : Data} {x0 : FVec Ideal S4096x2048 .bf16} {x1 : FVec Ideal S4096x512 .bf16} {x3 : FVec Ideal S16 .f32}

/-- The probabilities are those the gradient's reference computes. -/
theorem probs_eq : val_main_v35 (F := Ideal) x0 x1 x3 = Cert.ReferenceIdeal.Read.val_main_v58 (F := Ideal) x0 x1 x3 := by exact rfl

theorem values (x2 : FVec Ideal S4096x512 .bf16) (t : Fin 4096) (h : Fin 4) (d : Fin 128) : val_main_v5 (F := Ideal) x2 (ix3 t h d) = x2 (ix2 t (kcol h d)) := by
  rw [val_main_v5_apply, val_main_v2_apply, ext2 (idx_main_v5 (ix3 t h d)) t (kcol h d)
    (by show ((t.val * 4 + h.val) * 128 + d.val) / 512 = t.val; omega)
    (by show ((t.val * 4 + h.val) * 128 + d.val) % 512 = 128 * h.val + d.val; omega)]
  rfl

/-- The reference's result. -/
theorem ref_apply {y2 : FVec Ideal S4096x512 .bf16} {y4 : FVec Ideal S4096x2048 .bf16} (H : Reads A x0 x1 y2 x3 y4) (x2 : FVec Ideal S4096x512 .bf16)
    (t : Fin 4096) (h g : Fin 4) (d : Fin 128) :
    val_main_v39 (F := Ideal) x0 x1 x2 x3 (ix2 t (col h g d)) = ∑ p : Fin 4096, ((A.row h g t).p p : EReal) * x2 (ix2 p (kcol h d)) := by
  rw [val_main_v39_apply, val_main_v38_apply, ext4 (idx_main_v38 (ix2 t (col h g d))) t h g d
    (by show (t.val * 2048 + (512 * h.val + 128 * g.val + d.val)) / 2048 = t.val; omega)
    (by show (t.val * 2048 + (512 * h.val + 128 * g.val + d.val)) / 512 % 4 = h.val; omega)
    (by show (t.val * 2048 + (512 * h.val + 128 * g.val + d.val)) / 128 % 4 = g.val; omega)
    (by show (t.val * 2048 + (512 * h.val + 128 * g.val + d.val)) % 128 = d.val; omega),
    val_main_v37_apply, ext4 (idx_main_v37 (ix4 t h g d)) h d g t rfl rfl rfl rfl, val_main_v36_apply]
  refine Finset.sum_congr rfl fun p _ => ?_
  rw [ext3 (lidx_main_v36 (ix4 h d g t) p) p h d rfl rfl rfl, ext4 (ridx_main_v36 (ix4 h d g t) p) h g t p rfl rfl rfl rfl, values, probs_eq]
  obtain ⟨μ, hμ⟩ := Ref.max28 H h g t
  rw [Ref.p58 H h g t p hμ, mul_comm]

end Attention.Forward

end
-- ==== Proof.Forward.lean ====
/-
  The forward attention: where the queries, the keys and the sinks are finite numbers, the kernel, which takes each block of
  queries against a window of keys, and the reference, which takes every query against every key, end with the same result.
-/
module

public import proofs.«01_k».proof.Proof.ForwardTile
public import proofs.«01_k».proof.Proof.RefForward
public import proofs.«01_k».proof.Proof.Finite
public import proofs.«01_k».proof.Proof.Gen.AttnIdeal.Value
public import proofs.«01_k».proof.Proof.Gen.RefAttnIdeal.Run
public import proofs.«01_k».proof.Proof.Gen.RefAttnIdeal.Read
public import proofs.«01_k».proof.Proof.Gen.Attn.Frame
public import proofs.«01_k».proof.Pre_finite_scores
public import proofs.«01_k».proof.Defs

@[expose] public section

set_option maxRecDepth 16384

noncomputable section

namespace Attention.Forward

open Idealize.ShloMosaic hiding ix1 ix2 ix3 ix4
open Idealize.ShloMosaic.ValueIdx Idealize.ShloMosaic.TcCoe
open Idealize.SL.Sem
open scoped BigOperators Classical
open Cert.KernelIdeal (Ins insOf qbox kbox sbox koff maskAt off1_zero off1_one off2_eq)
open Cert.AttnIdeal Cert.AttnIdeal.Gen

theorem off1 (i : grid0.Coords) (r : Fin 2) : k0_off1 i (BitVec.ofNat 32 (128 * r.val)) = ![koff (i 1).val r.val, 0] := by
  fin_cases r
  · exact off1_zero i
  · exact off1_one i

theorem off2 (i : grid0.Coords) (g : Fin 4) : k0_off2 i (BitVec.ofNat 32 g.val) = ![4 * (i 0).val + g.val, 0] := off2_eq i g

theorem box1 (i : grid0.Coords) (r : Fin 2) : ∀ a, k0_off1 i (BitVec.ofNat 32 (128 * r.val)) a + S384x128.size a ≤ S4096x128.size a := by
  rw [off1]; exact kbox (i 1) r

theorem box2 (i : grid0.Coords) (g : Fin 4) : ∀ a, k0_off2 i (BitVec.ofNat 32 g.val) a + S1x128.size a ≤ S16x128.size a := by
  rw [off2]; exact sbox (i 0) g

section Body

variable (c : Dev nD) (i : grid0.Coords) (M2 : Memref sig .tc .vmem S256x512 .bf16) (w2 : M2.IsWhole) (M3 M4 : Memref sig .tc .vmem S4096x128 .bf16)
  (w3 : M3.IsWhole) (w4 : M4.IsWhole) (M5 : Memref sig .tc .vmem S16x128 .f32) (w5 : M5.IsWhole) (M6 : Memref sig .tc .vmem S256x512 .bf16) (w6 : M6.IsWhole)
  (q : Vec Ideal S256x512 .bf16) (k v : Vec Ideal S4096x128 .bf16) (s : Vec Ideal S16x128 .f32)

/-- What sub-block `r` loads for its scores; the values and the cotangents, which the scores do not use, are zeros. -/
def load (r : Fin 2) : Ins Ideal where
  q g := M2.view.readAt (Elt Ideal) (Rect.unit (s := S256x512) ![128 * r.val, 128 * g.val] S128x128.size (qbox r g)).toLoadRect (w2.unread q)
  k := M3.view.readAt (Elt Ideal) (Rect.unit (s := S4096x128) (k0_off1 i (BitVec.ofNat 32 (128 * r.val))) S384x128.size (box1 i r)).toLoadRect (w3.unread k)
  v := fun _ => (0 : EReal)
  s g := M5.view.readAt (Elt Ideal) (Rect.unit (s := S16x128) (k0_off2 i (BitVec.ofNat 32 g.val)) S1x128.size (box2 i g)).toLoadRect (w5.unread s)
  d _ := fun _ => (0 : EReal)
  mask := maskAt i (BitVec.ofNat 32 (128 * r.val))

/-- The window of values it loads. -/
def loadV (r : Fin 2) : FVec Ideal S384x128 .bf16 :=
  M4.view.readAt (Elt Ideal) (Rect.unit (s := S4096x128) (k0_off1 i (BitVec.ofNat 32 (128 * r.val))) S384x128.size (box1 i r)).toLoadRect (w4.unread v)

/-- The same, as windows of the blocks. -/
def ins (r : Fin 2) : Ins Ideal := insOf i r q k (fun _ => (0 : EReal)) s (fun _ => (0 : EReal))
def vals (r : Fin 2) : FVec Ideal S384x128 .bf16 := VecWindow.window v ![koff (i 1).val r.val, 0] S384x128.size (kbox (i 1) r)

theorem load_eq (r : Fin 2) : load i M2 w2 M3 w3 M5 w5 q k s r = ins i q k s r := by
  unfold load ins insOf
  rw [View.readAt_unit M3.view _ _ (off1 i r) (kbox (i 1) r), w3.read_unread]
  congr 1
  · funext g
    rw [View.readAt_unit M2.view _ _ rfl (qbox r g), w2.read_unread]
  · funext g
    rw [View.readAt_unit M5.view _ _ (off2 i g) (sbox (i 0) g), w5.read_unread]

theorem loadV_eq (r : Fin 2) : loadV i M4 w4 v r = vals i v r := by
  unfold loadV vals
  rw [View.readAt_unit M4.view _ _ (off1 i r) (kbox (i 1) r), w4.read_unread]

/-- What the body stores of the first sub-block. -/
theorem found0 : kernelRun0_A.sl.r_2 (F := Ideal) c i M2 w2 M3 w3 M4 w4 M5 w5 q k v s = fwd (ins i q k s 0) (vals i v 0) := by
  rw [← load_eq i M2 w2 M3 w3 M5 w5 q k s 0, ← loadV_eq i M4 w4 v 0]
  have e := first_eq (load i M2 w2 M3 w3 M5 w5 q k s 0) (loadV i M4 w4 v 0)
  rw [← scores_first (load i M2 w2 M3 w3 M5 w5 q k s 0) i rfl] at e
  exact e

/-- What the body stores of the second. -/
theorem found1 : k0_pay1 (F := Ideal) (kernelRun0_A.sl.r_5 c i M4 w4 v) (kernelRun0_A.sl.r_10 c i M2 w2 M3 w3 q k) (kernelRun0_A.sl.r_11 c i M5 w5 s)
    (kernelRun0_A.sl.r_12 c i M2 w2 M3 w3 M5 w5 q k s) (kernelRun0_A.sl.r_13 c i M2 w2 M3 w3 M5 w5 q k s) = fwd (ins i q k s 1) (vals i v 1) := by
  rw [← load_eq i M2 w2 M3 w3 M5 w5 q k s 1, ← loadV_eq i M4 w4 v 1]
  have e := second_eq (load i M2 w2 M3 w3 M5 w5 q k s 1) (loadV i M4 w4 v 1) i rfl
  rw [← scores_second (load i M2 w2 M3 w3 M5 w5 q k s 1) i rfl] at e
  exact e

theorem found2 : kernelRun0_A.sl.r_3 (F := Ideal) c i M2 w2 M3 w3 M4 w4 M5 w5 q k v s = fwdHead (ins i q k s 0) (vals i v 0) 0 := by
  unfold fwdHead
  rw [← found0 c i M2 w2 M3 M4 w3 w4 M5 w5 q k v s]
  exact rfl

set_option maxHeartbeats 4000000 in
/-- The body's stores are the two sub-blocks' heads. -/
theorem found : (kernelRun0_A (F := Ideal) c i M2 w2 M3 w3 M4 w4 M5 w5 M6 w6 q k v s).1 = pieces (ins i q k s) (vals i v) := by
  unfold kernelRun0_A pieces
  simp only [k0_pay2, k0_pay3, k0_pay4, k0_pay5, found1, found2, found0]
  exact rfl

end Body

theorem coords0 : ∀ t : Fin cfg0.N, (grid0.coords t 0).val = t.val / 16 := by decide
theorem coords1 : ∀ t : Fin cfg0.N, (grid0.coords t 1).val = t.val % 16 := by decide

theorem idx : ∀ t : Fin cfg0.N, win0_0.index t = ![t.val % 16, t.val / 16] ∧ win0_1.index t = ![0, t.val / 16] ∧ win0_2.index t = ![0, t.val / 16]
    ∧ win0_3.index t = ![0, 0] ∧ win0_4.index t = ![t.val % 16, t.val / 16] :=
  (by decide +kernel : ∀ t : Fin grid0.N, _)

variable (m : (ℓ : Loc nD τ sig) → Buf (Elt Ideal) ℓ) (c : Dev nD)

/-- The kernel's arguments: queries, keys, values and sinks. -/
abbrev qs : FVec Ideal S4096x2048 .bf16 := m ((c : Thread nD τ).loc main_arg0)
abbrev ks : FVec Ideal S4096x512 .bf16 := m ((c : Thread nD τ).loc main_arg1)
abbrev vs : FVec Ideal S4096x512 .bf16 := m ((c : Thread nD τ).loc main_arg2)
abbrev cs : FVec Ideal S16 .f32 := m ((c : Thread nD τ).loc main_arg3)

section Blocks

variable (t : Fin cfg0.N)

theorem iblk_q (y : Fin 256) (x : Fin 512) : iblk m c 0 t (ix2 y x) = qs m c (ix2 (rowOf t y) (colOf t x)) := by
  unfold rowOf colOf
  blk_ext [iblk, V, idx t]
  · show t.val % 16 * 256 + y.val = 256 * (t.val % 16) + y.val; omega
  · show t.val / 16 * 512 + x.val = 512 * (t.val / 16) + x.val; omega

theorem iblk_k (p : Fin 4096) (d : Fin 128) : iblk m c 1 t (ix2 p d) = ks m c (ix2 p (kcol (hd t) d)) := by
  unfold kcol hd
  blk_ext [iblk, V, idx t]
  show t.val / 16 * 128 + d.val = 128 * (t.val / 16) + d.val; omega

theorem iblk_v (p : Fin 4096) (d : Fin 128) : iblk m c 2 t (ix2 p d) = vs m c (ix2 p (kcol (hd t) d)) := by
  unfold kcol hd
  blk_ext [iblk, V, idx t]
  show t.val / 16 * 128 + d.val = 128 * (t.val / 16) + d.val; omega

theorem iblk_s (y : Fin 16) (x : Fin 128) : iblk m c 3 t (ix2 y x) = cs m c (ix1 y) := by
  have e : iblk m c 3 t (ix2 y x) = V m c main_v1 (ix2 y x) := by blk_ext [iblk, idx t]
  rw [e]
  entry_read
  pointwise
  exact congrArg (cs m c) (ext1 _ y rfl)

/-- What sub-block `r` of grid step `t` loads for its scores, and its window of values. -/
abbrev insT (r : Fin 2) : Ins Ideal := ins (grid0.coords t) (iblk m c 0 t) (iblk m c 1 t) (iblk m c 3 t) r
abbrev valsT (r : Fin 2) : FVec Ideal S384x128 .bf16 := vals (grid0.coords t) (iblk m c 2 t) r

theorem valsT_apply (r : Fin 2) (j : Fin 384) (d : Fin 128) : valsT m c t r (ix2 j d) = vs m c (ix2 (key (qb t) r j) (kcol (hd t) d)) := by
  rw [← iblk_v]
  exact congrArg (iblk m c 2 t) (ext2 (n0 := 4096) (n1 := 128) _ (key (qb t) r j) d
    (by show koff (grid0.coords t 1).val r.val + 1 * j.val = koff (t.val % 16) r.val + j.val; rw [coords1]; omega) (by show 0 + 1 * d.val = _; omega))

/-- The sub-blocks load the arguments' numbers. -/
theorem loads {A : Data} (H : Reads A (qs m c) (ks m c) (fun _ => 0) (cs m c) (fun _ => 0)) (r : Fin 2) :
    Tile.Loads A (hd t) (pos (qb t) r) (key (qb t) r) (insT m c t r) where
  q g a d := by
    have e : (insT m c t r).q g (ix2 a d) = iblk m c 0 t (ix2 (⟨128 * r.val + a.val, by omega⟩ : Fin 256) (⟨128 * g.val + d.val, by omega⟩ : Fin 512)) :=
      congrArg (iblk m c 0 t) (ext2 (n0 := 256) (n1 := 512) _ ⟨128 * r.val + a.val, by omega⟩ ⟨128 * g.val + d.val, by omega⟩
        (by show 128 * r.val + 1 * a.val = 128 * r.val + a.val; omega) (by show 128 * g.val + 1 * d.val = 128 * g.val + d.val; omega))
    rw [e, iblk_q, ← H.q]
    exact congrArg (qs m c) (ext2 _ (pos (qb t) r a) (col (hd t) g d)
      (by show 256 * (t.val % 16) + (128 * r.val + a.val) = 256 * (t.val % 16) + 128 * r.val + a.val; omega)
      (by show 512 * (t.val / 16) + (128 * g.val + d.val) = 512 * (t.val / 16) + 128 * g.val + d.val; omega))
  k j d := by
    have e : (insT m c t r).k (ix2 j d) = iblk m c 1 t (ix2 (key (qb t) r j) d) :=
      congrArg (iblk m c 1 t) (ext2 (n0 := 4096) (n1 := 128) _ (key (qb t) r j) d
        (by show koff (grid0.coords t 1).val r.val + 1 * j.val = koff (t.val % 16) r.val + j.val; rw [coords1]; omega) (by show 0 + 1 * d.val = _; omega))
    rw [e, iblk_k, ← H.k]
  v j d := H.v (key (qb t) r j) (hd t) d
  s g j := by
    have e : (insT m c t r).s g (ix2 0 j) = iblk m c 3 t (ix2 (head (hd t) g) j) :=
      congrArg (iblk m c 3 t) (ext2 (n0 := 16) (n1 := 128) _ (head (hd t) g) j
        (by show 4 * (grid0.coords t 0).val + g.val + 1 * 0 = 4 * (t.val / 16) + g.val; rw [coords0]; omega) (by show 0 + 1 * j.val = _; omega))
    rw [e, iblk_s, ← H.c]
  d g a d := H.o (pos (qb t) r a) (hd t) g d
  mask g a j := by
    have e : (insT m c t r).mask (ix2 (stack g a) j) = maskAt (grid0.coords t) (BitVec.ofNat 32 (128 * r.val)) (ix2 (stack g a) j) := rfl
    have e' := e.trans (mask_apply t r g a j)
    by_cases h : near (pos (qb t) r a).val (key (qb t) r j).val
    · exact Or.inl ⟨h, e'.trans (if_pos h)⟩
    · exact Or.inr ⟨h, e'.trans (if_neg h)⟩
  inj := key_injective _ _
  cover a p h := exists_key (inWin_of_near h)

end Blocks

/-- The reference's result of the kernel's arguments. -/
def refO : FVec Ideal S4096x2048 .bf16 := Cert.RefAttnIdeal.Read.val_main_v39 (F := Ideal) (qs m c) (ks m c) (vs m c) (cs m c)

/-- Where an element of grid step `t`'s block lies in the result. -/
def place (t : Fin cfg0.N) (y : S256x512.Idx) : S4096x2048.Idx := ix2 (rowOf t (y 0)) (colOf t (y 1))

section Result

variable {A : Data} (H : Reads A (qs m c) (ks m c) (fun _ => 0) (cs m c) (fun _ => 0))

include H

/-- Each store holds the reference's. -/
theorem piece (t : Fin cfg0.N) (r : Fin 2) (g : Fin 4) (x : S128x128.Idx) :
    fwdHead (insT m c t r) (valsT m c t r) g x
      = refO m c (place t ((Rect.unit (s := S256x512) ![128 * r.val, 128 * g.val] S128x128.size (qbox r g)).emb x)) := by
  obtain ⟨a, d, rfl⟩ : ∃ a d, x = ix2 a d := ⟨x 0, x 1, ext2 _ _ _ rfl rfl⟩
  refine (fwdHead_apply (loads m c t H r) (V := fun p d => vs m c (ix2 p (kcol (hd t) d))) (fun j d => valsT_apply m c t r j d) g a d).trans ?_
  have e : place t ((Rect.unit (s := S256x512) ![128 * r.val, 128 * g.val] S128x128.size (qbox r g)).emb (ix2 a d)) = ix2 (pos (qb t) r a) (col (hd t) g d) := by
    have ht : t.val < 64 := t.isLt
    refine ext2 _ _ _ ?_ ?_
    · show 256 * (t.val % 16) + (128 * r.val + 1 * a.val) = 256 * (t.val % 16) + 128 * r.val + a.val; omega
    · show 512 * (t.val / 16) + (128 * g.val + 1 * d.val) = 512 * (t.val / 16) + 128 * g.val + d.val; omega
  rw [e]
  exact (ref_apply H (vs m c) (pos (qb t) r a) (hd t) g d).symm

/-- So does the block a grid step writes. -/
theorem block (t : Fin cfg0.N) (y : S256x512.Idx) : outsAt0 m c t y = refO m c (place t y) := by
  unfold outsAt0 out0_A_4
  have hc := cover0_A_4 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)
  rw [View.read_writes_eq_canon _ _ _ hc]
  rw [found] at hc ⊢
  refine View.canon_apply_of_pieces (Val := Elt Ideal) (e := .bf16) (fun y => refO m c (place t y)) _ (fun p hp => ?_) y (hc y)
  simp only [pieces, List.mem_cons, List.not_mem_nil, or_false] at hp
  rcases hp with rfl | rfl | rfl | rfl | rfl | rfl | rfl | rfl
  · exact piece m c H t 1 3
  · exact piece m c H t 1 2
  · exact piece m c H t 1 1
  · exact piece m c H t 1 0
  · exact piece m c H t 0 3
  · exact piece m c H t 0 2
  · exact piece m c H t 0 1
  · exact piece m c H t 0 0

/-- The result array. -/
theorem final : (dats m 0 c).arrAt 4 cfg0.N = refO m c := by
  refine (dats m 0 c).arrAt_eq_of_covers 4 _ (by decide +kernel) fun t _ y => ?_
  blk_simp
  rw [after0_4]
  refine (block m c H t y).trans (congrArg _ ?_)
  blk_ext [idx t, place, rowOf, colOf] <;> omega

end Result

/-- The shape relations of the precondition. -/
instance scoresFacts : Cert.Pre_finite_scores.Facts where
  bitsLt_bf16_f32 := by decide
  bcast_S_S4096x2048 := by decide
  reducesTo_S4096x2048_S_d0_1 := by decide
  h_S_ := by decide
  bcast_S_S4096x512 := by decide
  reducesTo_S4096x512_S_d0_1 := by decide
  bcast_S_S16 := by decide
  reducesTo_S16_S_d0 := by decide

/-- Queries, keys and sinks that meet the precondition hold real numbers. -/
theorem reads_of_scores (x0 : (⟨2, ![4096, 2048]⟩ : Shape).Idx → EReal) (x1 x2 : (⟨2, ![4096, 512]⟩ : Shape).Idx → EReal)
    (x3 : (⟨1, ![16]⟩ : Shape).Idx → EReal) (h : Cert.Pre_finite_scores.fn (F := Ideal) x0 x1 x2 x3 = fun _ => 1#1) :
    Reads (dataOf x0 (fun _ => 0) x1 (fun _ => 0) x3) x0 x1 (fun _ => 0) x3 (fun _ => 0) := by
  have hz : ∀ k j : Cert.Pre_finite_scores.S_.Idx, k = j := fun k j => funext fun a => a.elim0
  have h := congrFun h (Shape.Idx.first (by decide))
  unfold Cert.Pre_finite_scores.fn at h
  dsimp only at h
  obtain ⟨h, h3⟩ := andi_one _ _ _ h
  obtain ⟨h0, h1⟩ := andi_one _ _ _ h
  exact {
    q := fun t h g d => real_of_reduce x0 _ (fun _ => top_eq) _ _ _ _ (fun k => hz k _) h0 _
    k := fun t h d => real_of_reduce x1 _ (fun _ => top_eq) _ _ _ _ (fun k => hz k _) h1 _
    v := fun t h d => by show (0 : EReal) = (((0 : EReal).toReal : ℝ) : EReal); rw [EReal.toReal_zero, EReal.coe_zero]
    c := fun h g => real_of_reduce x3 _ (fun _ => top_eq) _ _ _ _ (fun k => hz k _) h3 _
    o := fun t h g d => by show (0 : EReal) = (((0 : EReal).toReal : ℝ) : EReal); rw [EReal.toReal_zero, EReal.coe_zero] }

/-- The reference runs to its end. -/
theorem frame_ref : Cert.quiescent_RefAttnIdeal := fun m ρ _ =>
  (θ_run Cert.RefAttnIdeal.defs _ _).mono (fun r h => ⟨fun c => (h c).2, sem_eq_zero_of_no_sems (by decide) r.2⟩)
    (Cert.RefAttnIdeal.Value.run (F := Ideal) m ρ)

/-- The mask's constant may be named. -/
theorem preserves : Cert.preserves_Attn_AttnIdeal :=
  IdealRules.named_const.statement Cert.AttnIdeal.κ "mask" .f32 0xF149F2CA#32 ⊥ rfl

/-- The kernel computes what the reference computes. -/
theorem algebraic : Cert.algebraic_AttnIdeal_RefAttnIdeal_pre_finite_scores := fun m ρ m' ρ' hfin args =>
  ⟨refO m,
    (θ_run defs _ _).mono (fun r h c => ⟨(h c).1.trans (final m c (reads_of_scores _ _ _ _ (hfin c))), (h c).2⟩) (Cert.AttnIdeal.Value.run_blocks m ρ),
    (θ_run Cert.RefAttnIdeal.defs _ _).mono
      (fun r h c => ⟨by
        rw [(h c).1, Cert.RefAttnIdeal.Read.val_main_v39_eq, (args c).1, (args c).2.1, (args c).2.2.1, (args c).2.2.2]; rfl, (h c).2⟩)
      (Cert.RefAttnIdeal.Value.run (F := Ideal) m' ρ')⟩

end Attention.Forward

end
-- ==== Proof.lean ====
/-
  The claim. Of the attention gradient, of nine matrix products, of calls that work row by row, forward and backward, and of the forward attention:
  the kernel, the kernel read over the reals and the reference run to their end with their arguments unchanged; what was
  renamed to read it over the reals was allowed; and the kernel computes what the reference computes.
-/
module

public import proofs.«01_k».proof.Proof.Algebraic
public import proofs.«01_k».proof.Proof.Gen.ReferenceIdeal.Run
public import proofs.«01_k».proof.Proof.Gen.ReferenceIdeal.Read
public import proofs.«01_k».proof.Proof.SquareDx
public import proofs.«01_k».proof.Proof.Gen.SquareDx.Frame
public import proofs.«01_k».proof.Proof.Gen.SquareDxIdeal.Frame
public import proofs.«01_k».proof.Proof.DownDx
public import proofs.«01_k».proof.Proof.Gen.DownDx.Frame
public import proofs.«01_k».proof.Proof.Gen.DownDxIdeal.Frame
public import proofs.«01_k».proof.Proof.WideDx
public import proofs.«01_k».proof.Proof.Gen.WideDx.Frame
public import proofs.«01_k».proof.Proof.Gen.WideDxIdeal.Frame
public import proofs.«01_k».proof.Proof.SquareDw
public import proofs.«01_k».proof.Proof.DownDw
public import proofs.«01_k».proof.Proof.WideDw
public import proofs.«01_k».proof.Proof.Square
public import proofs.«01_k».proof.Proof.Gen.Square.Frame
public import proofs.«01_k».proof.Proof.Gen.SquareIdeal.Frame
public import proofs.«01_k».proof.Proof.Wide
public import proofs.«01_k».proof.Proof.Gen.Wide.Frame
public import proofs.«01_k».proof.Proof.Gen.WideIdeal.Frame
public import proofs.«01_k».proof.Proof.Down
public import proofs.«01_k».proof.Proof.Gen.Down.Frame
public import proofs.«01_k».proof.Proof.Gen.DownIdeal.Frame
public import proofs.«01_k».proof.Proof.SwigluBwd
public import proofs.«01_k».proof.Proof.Gen.SwigluBwd.Frame
public import proofs.«01_k».proof.Proof.Gen.SwigluBwdIdeal.Frame
public import proofs.«01_k».proof.Proof.MergeBwd
public import proofs.«01_k».proof.Proof.Gen.MergeBwd.Frame
public import proofs.«01_k».proof.Proof.Gen.MergeBwdIdeal.Frame
public import proofs.«01_k».proof.Proof.ModulateBwd
public import proofs.«01_k».proof.Proof.Gen.ModulateBwd.Frame
public import proofs.«01_k».proof.Proof.Gen.ModulateBwdIdeal.Frame
public import proofs.«01_k».proof.Proof.QkvBwd
public import proofs.«01_k».proof.Proof.Gen.QkvBwd.Frame
public import proofs.«01_k».proof.Proof.Gen.QkvBwdIdeal.Frame
public import proofs.«01_k».proof.Proof.Swiglu
public import proofs.«01_k».proof.Proof.Gen.Swiglu.Frame
public import proofs.«01_k».proof.Proof.Gen.SwigluIdeal.Frame
public import proofs.«01_k».proof.Proof.Merge
public import proofs.«01_k».proof.Proof.Gen.Merge.Frame
public import proofs.«01_k».proof.Proof.Gen.MergeIdeal.Frame
public import proofs.«01_k».proof.Proof.Glu
public import proofs.«01_k».proof.Proof.Gen.Glu.Frame
public import proofs.«01_k».proof.Proof.Gen.GluIdeal.Frame
public import proofs.«01_k».proof.Proof.Modulate
public import proofs.«01_k».proof.Proof.Gen.Modulate.Frame
public import proofs.«01_k».proof.Proof.Gen.ModulateIdeal.Frame
public import proofs.«01_k».proof.Proof.Qkv
public import proofs.«01_k».proof.Proof.Gen.Qkv.Frame
public import proofs.«01_k».proof.Proof.Gen.QkvIdeal.Frame
public import proofs.«01_k».proof.Proof.ResLn
public import proofs.«01_k».proof.Proof.Gen.ResLn.Frame
public import proofs.«01_k».proof.Proof.Gen.ResLnIdeal.Frame
public import proofs.«01_k».proof.Proof.Forward
public import proofs.«01_k».proof.Proof.Gen.Attn.Frame
public import proofs.«01_k».proof.Proof.Gen.AttnIdeal.Frame
public import proofs.«01_k».proof.Proof.Gen.AttnIdeal.Value
public import proofs.«01_k».proof.Proof.Gen.RefAttnIdeal.Run
public import proofs.«01_k».proof.Proof.Gen.RefAttnIdeal.Read

@[expose] public section

noncomputable section

namespace Cert.Proof

theorem claim : Cert.Claim :=
  ⟨Cert.Kernel.Gen.facts, Cert.KernelIdeal.Gen.facts, Cert.ReferenceIdeal.Gen.facts,
    Cert.SquareDx.Gen.facts, Cert.SquareDxIdeal.Gen.facts, Cert.RefSquareDxIdeal.Gen.facts,
    Cert.DownDx.Gen.facts, Cert.DownDxIdeal.Gen.facts, Cert.RefDownDxIdeal.Gen.facts,
    Cert.WideDx.Gen.facts, Cert.WideDxIdeal.Gen.facts, Cert.RefWideDxIdeal.Gen.facts,
    Cert.SquareDw.Gen.facts, Cert.SquareDwIdeal.Gen.facts, Cert.RefSquareDwIdeal.Gen.facts,
    Cert.DownDw.Gen.facts, Cert.DownDwIdeal.Gen.facts, Cert.RefDownDwIdeal.Gen.facts,
    Cert.WideDw.Gen.facts, Cert.WideDwIdeal.Gen.facts, Cert.RefWideDwIdeal.Gen.facts,
    Cert.Square.Gen.facts, Cert.SquareIdeal.Gen.facts, Cert.RefSquareIdeal.Gen.facts,
    Cert.Wide.Gen.facts, Cert.WideIdeal.Gen.facts, Cert.RefWideIdeal.Gen.facts,
    Cert.Down.Gen.facts, Cert.DownIdeal.Gen.facts, Cert.RefDownIdeal.Gen.facts,
    Cert.SwigluBwd.Gen.facts, Cert.SwigluBwdIdeal.Gen.facts, Cert.RefSwigluBwdIdeal.Gen.facts,
    Cert.MergeBwd.Gen.facts, Cert.MergeBwdIdeal.Gen.facts, Cert.RefMergeBwdIdeal.Gen.facts,
    Cert.ModulateBwd.Gen.facts, Cert.ModulateBwdIdeal.Gen.facts, Cert.RefModulateBwdIdeal.Gen.facts,
    Cert.QkvBwd.Gen.facts, Cert.QkvBwdIdeal.Gen.facts, Cert.RefQkvBwdIdeal.Gen.facts,
    Cert.Swiglu.Gen.facts, Cert.SwigluIdeal.Gen.facts, Cert.RefSwigluIdeal.Gen.facts,
    Cert.Merge.Gen.facts, Cert.MergeIdeal.Gen.facts, Cert.RefMergeIdeal.Gen.facts,
    Cert.Glu.Gen.facts, Cert.GluIdeal.Gen.facts, Cert.RefGluIdeal.Gen.facts,
    Cert.Modulate.Gen.facts, Cert.ModulateIdeal.Gen.facts, Cert.RefModulateIdeal.Gen.facts,
    Cert.Qkv.Gen.facts, Cert.QkvIdeal.Gen.facts, Cert.RefQkvIdeal.Gen.facts,
    Cert.ResLn.Gen.facts, Cert.ResLnIdeal.Gen.facts, Cert.RefResLnIdeal.Gen.facts,
    Cert.Attn.Gen.facts, Cert.AttnIdeal.Gen.facts, Cert.RefAttnIdeal.Gen.facts,
    Attention.finiteFacts, Products.SquareDw.coreFacts, Products.DownDw.coreFacts, Products.WideDw.coreFacts, Attention.Forward.scoresFacts,
    frame_kernel, frame_kernelIdeal, frame_kernelIdeal_finite, frame_referenceIdeal, frame_referenceIdeal_finite,
    fun m ρ _ => Cert.SquareDx.Gen.frame m ρ, fun m ρ _ => Cert.SquareDxIdeal.Gen.frame m ρ, Products.SquareDx.frame_ref,
    fun m ρ _ => Cert.DownDx.Gen.frame m ρ, fun m ρ _ => Cert.DownDxIdeal.Gen.frame m ρ, Products.DownDx.frame_ref,
    fun m ρ _ => Cert.WideDx.Gen.frame m ρ, fun m ρ _ => Cert.WideDxIdeal.Gen.frame m ρ, Products.WideDx.frame_ref,
    Products.SquareDw.frame_kernel, Products.SquareDw.frame_ideal, fun m ρ _ => Products.SquareDw.frame_ideal m ρ trivial, Products.SquareDw.frame_ref, fun m ρ _ => Products.SquareDw.frame_ref m ρ trivial,
    Products.DownDw.frame_kernel, Products.DownDw.frame_ideal, fun m ρ _ => Products.DownDw.frame_ideal m ρ trivial, Products.DownDw.frame_ref, fun m ρ _ => Products.DownDw.frame_ref m ρ trivial,
    Products.WideDw.frame_kernel, Products.WideDw.frame_ideal, fun m ρ _ => Products.WideDw.frame_ideal m ρ trivial, Products.WideDw.frame_ref, fun m ρ _ => Products.WideDw.frame_ref m ρ trivial,
    fun m ρ _ => Cert.Square.Gen.frame m ρ, fun m ρ _ => Cert.SquareIdeal.Gen.frame m ρ, Products.Square.frame_ref,
    fun m ρ _ => Cert.Wide.Gen.frame m ρ, fun m ρ _ => Cert.WideIdeal.Gen.frame m ρ, Products.Wide.frame_ref,
    fun m ρ _ => Cert.Down.Gen.frame m ρ, fun m ρ _ => Cert.DownIdeal.Gen.frame m ρ, Products.Down.frame_ref,
    fun m ρ _ => Cert.SwigluBwd.Gen.frame m ρ, fun m ρ _ => Cert.SwigluBwdIdeal.Gen.frame m ρ, Products.SwigluBwd.frame_ref,
    fun m ρ _ => Cert.MergeBwd.Gen.frame m ρ, fun m ρ _ => Cert.MergeBwdIdeal.Gen.frame m ρ, Products.MergeBwd.frame_ref,
    fun m ρ _ => Cert.ModulateBwd.Gen.frame m ρ, fun m ρ _ => Cert.ModulateBwdIdeal.Gen.frame m ρ, Products.ModulateBwd.frame_ref,
    fun m ρ _ => Cert.QkvBwd.Gen.frame m ρ, fun m ρ _ => Cert.QkvBwdIdeal.Gen.frame m ρ, Products.QkvBwd.frame_ref,
    fun m ρ _ => Cert.Swiglu.Gen.frame m ρ, fun m ρ _ => Cert.SwigluIdeal.Gen.frame m ρ, Products.Swiglu.frame_ref,
    fun m ρ _ => Cert.Merge.Gen.frame m ρ, fun m ρ _ => Cert.MergeIdeal.Gen.frame m ρ, Products.Merge.frame_ref,
    fun m ρ _ => Cert.Glu.Gen.frame m ρ, fun m ρ _ => Cert.GluIdeal.Gen.frame m ρ, Products.Glu.frame_ref,
    fun m ρ _ => Cert.Modulate.Gen.frame m ρ, fun m ρ _ => Cert.ModulateIdeal.Gen.frame m ρ, Products.Modulate.frame_ref,
    fun m ρ _ => Cert.Qkv.Gen.frame m ρ, fun m ρ _ => Cert.QkvIdeal.Gen.frame m ρ, Products.Qkv.frame_ref,
    fun m ρ _ => Cert.ResLn.Gen.frame m ρ, fun m ρ _ => Cert.ResLnIdeal.Gen.frame m ρ, Products.ResLn.frame_ref,
    fun m ρ _ => Cert.Attn.Gen.frame m ρ, fun m ρ _ => Cert.AttnIdeal.Gen.frame m ρ, fun m ρ _ => Cert.AttnIdeal.Gen.frame m ρ, Attention.Forward.frame_ref, fun m ρ _ => Attention.Forward.frame_ref m ρ trivial,
    preserves, algebraic,
    trivial, Products.SquareDx.algebraic,
    trivial, Products.DownDx.algebraic,
    trivial, Products.WideDx.algebraic,
    trivial, Products.SquareDw.algebraic,
    trivial, Products.DownDw.algebraic,
    trivial, Products.WideDw.algebraic,
    trivial, Products.Square.algebraic,
    trivial, Products.Wide.algebraic,
    trivial, Products.Down.algebraic,
    trivial, Products.SwigluBwd.algebraic,
    trivial, Products.MergeBwd.algebraic,
    trivial, Products.ModulateBwd.algebraic,
    trivial, Products.QkvBwd.algebraic,
    trivial, Products.Swiglu.algebraic,
    trivial, Products.Merge.algebraic,
    trivial, Products.Glu.algebraic,
    trivial, Products.Modulate.algebraic,
    trivial, Products.Qkv.algebraic,
    trivial, Products.ResLn.algebraic,
    Attention.Forward.preserves, Attention.Forward.algebraic⟩

end Cert.Proof

end
